-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_expert_range : Cert.Pre_expert_range.Facts] (m : (ℓ : Loc Cert.Experts.nD Cert.Experts.τ Cert.Experts.sig) → Buf (Elt Bits) ℓ) : Prop :=
  ∀ c : Dev Cert.Experts.nD,
    (Cert.Pre_expert_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_expert_range : Cert.Pre_expert_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_expert_range [hPre_expert_range : Cert.Pre_expert_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_expert_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInReferenceIdeal (m : (ℓ : Loc Cert.MixerInReferenceIdeal.nD Cert.MixerInReferenceIdeal.τ Cert.MixerInReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Prepare (m : (ℓ : Loc Cert.Prepare.nD Cert.Prepare.τ Cert.Prepare.sig) → Buf (Elt Bits) ℓ) : Prop :=
  True

def Pre_PrepareIdeal (m : (ℓ : Loc Cert.PrepareIdeal.nD Cert.PrepareIdeal.τ Cert.PrepareIdeal.sig) → Buf (Elt Ideal) ℓ) : Prop :=
  True

def Pre_PrepareIdeal_finite_rows [hPre_finite_rows : Cert.Pre_finite_rows.Facts] (m : (ℓ : Loc Cert.PrepareIdeal.nD Cert.PrepareIdeal.τ Cert.PrepareIdeal.sig) → Buf (Elt Ideal) ℓ) : Prop :=
  ∀ c : Dev Cert.PrepareIdeal.nD,
    (Cert.Pre_finite_rows.fn (F := Ideal) (m ((c.tc : Thread Cert.PrepareIdeal.nD Cert.PrepareIdeal.τ).loc Cert.PrepareIdeal.main_arg0)) (m ((c.tc : Thread Cert.PrepareIdeal.nD Cert.PrepareIdeal.τ).loc Cert.PrepareIdeal.main_arg1)) (m ((c.tc : Thread Cert.PrepareIdeal.nD Cert.PrepareIdeal.τ).loc Cert.PrepareIdeal.main_arg2))) = (fun _ => 1#1)

def Pre_PrepareReferenceIdeal (m : (ℓ : Loc Cert.PrepareReferenceIdeal.nD Cert.PrepareReferenceIdeal.τ Cert.PrepareReferenceIdeal.sig) → Buf (Elt Ideal) ℓ) : Prop :=
  True

def Pre_PrepareReferenceIdeal_finite_rows [hPre_finite_rows : Cert.Pre_finite_rows.Facts] (m : (ℓ : Loc Cert.PrepareReferenceIdeal.nD Cert.PrepareReferenceIdeal.τ Cert.PrepareReferenceIdeal.sig) → Buf (Elt Ideal) ℓ) : Prop :=
  ∀ c : Dev Cert.PrepareReferenceIdeal.nD,
    (Cert.Pre_finite_rows.fn (F := Ideal) (m ((c.tc : Thread Cert.PrepareReferenceIdeal.nD Cert.PrepareReferenceIdeal.τ).loc Cert.PrepareReferenceIdeal.main_arg0)) (m ((c.tc : Thread Cert.PrepareReferenceIdeal.nD Cert.PrepareReferenceIdeal.τ).loc Cert.PrepareReferenceIdeal.main_arg1)) (m ((c.tc : Thread Cert.PrepareReferenceIdeal.nD Cert.PrepareReferenceIdeal.τ).loc Cert.PrepareReferenceIdeal.main_arg2))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationIdeal_finite_modulation [hPre_finite_modulation : Cert.Pre_finite_modulation.Facts] (m : (ℓ : Loc Cert.ModulationIdeal.nD Cert.ModulationIdeal.τ Cert.ModulationIdeal.sig) → Buf (Elt Ideal) ℓ) : Prop :=
  ∀ c : Dev Cert.ModulationIdeal.nD,
    (Cert.Pre_finite_modulation.fn (F := Ideal) (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2))) = (fun _ => 1#1)

def Pre_ModulationReferenceIdeal (m : (ℓ : Loc Cert.ModulationReferenceIdeal.nD Cert.ModulationReferenceIdeal.τ Cert.ModulationReferenceIdeal.sig) → Buf (Elt Ideal) ℓ) : Prop :=
  True

def Pre_ModulationReferenceIdeal_finite_modulation [hPre_finite_modulation : Cert.Pre_finite_modulation.Facts] (m : (ℓ : Loc Cert.ModulationReferenceIdeal.nD Cert.ModulationReferenceIdeal.τ Cert.ModulationReferenceIdeal.sig) → Buf (Elt Ideal) ℓ) : Prop :=
  ∀ c : Dev Cert.ModulationReferenceIdeal.nD,
    (Cert.Pre_finite_modulation.fn (F := Ideal) (m ((c.tc : Thread Cert.ModulationReferenceIdeal.nD Cert.ModulationReferenceIdeal.τ).loc Cert.ModulationReferenceIdeal.main_arg0)) (m ((c.tc : Thread Cert.ModulationReferenceIdeal.nD Cert.ModulationReferenceIdeal.τ).loc Cert.ModulationReferenceIdeal.main_arg1)) (m ((c.tc : Thread Cert.ModulationReferenceIdeal.nD Cert.ModulationReferenceIdeal.τ).loc Cert.ModulationReferenceIdeal.main_arg2))) = (fun _ => 1#1)

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierIdeal_finite_fourier [hPre_finite_fourier : Cert.Pre_finite_fourier.Facts] (m : (ℓ : Loc Cert.FourierIdeal.nD Cert.FourierIdeal.τ Cert.FourierIdeal.sig) → Buf (Elt Ideal) ℓ) : Prop :=
  ∀ c : Dev Cert.FourierIdeal.nD,
    (Cert.Pre_finite_fourier.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1))) = (fun _ => 1#1)

def Pre_FourierReferenceIdeal (m : (ℓ : Loc Cert.FourierReferenceIdeal.nD Cert.FourierReferenceIdeal.τ Cert.FourierReferenceIdeal.sig) → Buf (Elt Ideal) ℓ) : Prop :=
  True

def Pre_FourierReferenceIdeal_finite_fourier [hPre_finite_fourier : Cert.Pre_finite_fourier.Facts] (m : (ℓ : Loc Cert.FourierReferenceIdeal.nD Cert.FourierReferenceIdeal.τ Cert.FourierReferenceIdeal.sig) → Buf (Elt Ideal) ℓ) : Prop :=
  ∀ c : Dev Cert.FourierReferenceIdeal.nD,
    (Cert.Pre_finite_fourier.fn (F := Ideal) (m ((c.tc : Thread Cert.FourierReferenceIdeal.nD Cert.FourierReferenceIdeal.τ).loc Cert.FourierReferenceIdeal.main_arg0)) (m ((c.tc : Thread Cert.FourierReferenceIdeal.nD Cert.FourierReferenceIdeal.τ).loc Cert.FourierReferenceIdeal.main_arg1))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_expert_range : Cert.Pre_expert_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_expert_range [hExpertsReferenceIdeal : Cert.ExpertsReferenceIdeal.Facts] [hPre_expert_range : Cert.Pre_expert_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_expert_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1)
      ∧ r.2.mem ((c.tc : Thread Cert.MixerIn.nD Cert.MixerIn.τ).loc Cert.MixerIn.main_arg2) = m ((c.tc : Thread Cert.MixerIn.nD Cert.MixerIn.τ).loc Cert.MixerIn.main_arg2)
      ∧ r.2.mem ((c.tc : Thread Cert.MixerIn.nD Cert.MixerIn.τ).loc Cert.MixerIn.main_arg3) = m ((c.tc : Thread Cert.MixerIn.nD Cert.MixerIn.τ).loc Cert.MixerIn.main_arg3)
      ∧ r.2.mem ((c.tc : Thread Cert.MixerIn.nD Cert.MixerIn.τ).loc Cert.MixerIn.main_arg4) = m ((c.tc : Thread Cert.MixerIn.nD Cert.MixerIn.τ).loc Cert.MixerIn.main_arg4))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
      ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
      ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
      ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4))
      ∧ r.2.sem = fun _ => 0)

def quiescent_MixerInReferenceIdeal [hMixerInReferenceIdeal : Cert.MixerInReferenceIdeal.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1)
      ∧ r.2.mem ((c.tc : Thread Cert.MixerInReferenceIdeal.nD Cert.MixerInReferenceIdeal.τ).loc Cert.MixerInReferenceIdeal.main_arg2) = m ((c.tc : Thread Cert.MixerInReferenceIdeal.nD Cert.MixerInReferenceIdeal.τ).loc Cert.MixerInReferenceIdeal.main_arg2)
      ∧ r.2.mem ((c.tc : Thread Cert.MixerInReferenceIdeal.nD Cert.MixerInReferenceIdeal.τ).loc Cert.MixerInReferenceIdeal.main_arg3) = m ((c.tc : Thread Cert.MixerInReferenceIdeal.nD Cert.MixerInReferenceIdeal.τ).loc Cert.MixerInReferenceIdeal.main_arg3)
      ∧ r.2.mem ((c.tc : Thread Cert.MixerInReferenceIdeal.nD Cert.MixerInReferenceIdeal.τ).loc Cert.MixerInReferenceIdeal.main_arg4) = m ((c.tc : Thread Cert.MixerInReferenceIdeal.nD Cert.MixerInReferenceIdeal.τ).loc Cert.MixerInReferenceIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_Prepare [hPrepare : Cert.Prepare.Facts] : Prop :=
  ∀ (m : (ℓ : Loc Cert.Prepare.nD Cert.Prepare.τ Cert.Prepare.sig) → Buf (Elt Bits) ℓ) (g : Dev Cert.Prepare.nD → PrngReg), Pre_Prepare m →
    θ_run (Cert.Prepare.defs (F := Bits)) (onTc (τ := Cert.Prepare.τ) (Cert.Prepare.main (F := Bits))) ⟨m, fun _ => 0, g⟩ (fun r => (∀ c : Dev Cert.Prepare.nD,
      r.2.mem ((c.tc : Thread Cert.Prepare.nD Cert.Prepare.τ).loc Cert.Prepare.main_arg0) = m ((c.tc : Thread Cert.Prepare.nD Cert.Prepare.τ).loc Cert.Prepare.main_arg0)
      ∧ r.2.mem ((c.tc : Thread Cert.Prepare.nD Cert.Prepare.τ).loc Cert.Prepare.main_arg1) = m ((c.tc : Thread Cert.Prepare.nD Cert.Prepare.τ).loc Cert.Prepare.main_arg1)
      ∧ r.2.mem ((c.tc : Thread Cert.Prepare.nD Cert.Prepare.τ).loc Cert.Prepare.main_arg2) = m ((c.tc : Thread Cert.Prepare.nD Cert.Prepare.τ).loc Cert.Prepare.main_arg2))
      ∧ r.2.sem = fun _ => 0)

def quiescent_PrepareIdeal [hPrepareIdeal : Cert.PrepareIdeal.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2))
      ∧ r.2.sem = fun _ => 0)

def quiescent_PrepareIdeal_pre_finite_rows [hPrepareIdeal : Cert.PrepareIdeal.Facts] [hPre_finite_rows : Cert.Pre_finite_rows.Facts] : Prop :=
  ∀ (m : (ℓ : Loc Cert.PrepareIdeal.nD Cert.PrepareIdeal.τ Cert.PrepareIdeal.sig) → Buf (Elt Ideal) ℓ) (g : Dev Cert.PrepareIdeal.nD → PrngReg), Pre_PrepareIdeal_finite_rows m →
    θ_run (Cert.PrepareIdeal.defs (F := Ideal)) (onTc (τ := Cert.PrepareIdeal.τ) (Cert.PrepareIdeal.main (F := Ideal))) ⟨m, fun _ => 0, g⟩ (fun r => (∀ c : Dev Cert.PrepareIdeal.nD,
      r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
      ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
      ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2))
      ∧ r.2.sem = fun _ => 0)

def quiescent_PrepareReferenceIdeal [hPrepareReferenceIdeal : Cert.PrepareReferenceIdeal.Facts] : Prop :=
  ∀ (m : (ℓ : Loc Cert.PrepareReferenceIdeal.nD Cert.PrepareReferenceIdeal.τ Cert.PrepareReferenceIdeal.sig) → Buf (Elt Ideal) ℓ) (g : Dev Cert.PrepareReferenceIdeal.nD → PrngReg), Pre_PrepareReferenceIdeal m →
    θ_run (Cert.PrepareReferenceIdeal.defs (F := Ideal)) (onTc (τ := Cert.PrepareReferenceIdeal.τ) (Cert.PrepareReferenceIdeal.main (F := Ideal))) ⟨m, fun _ => 0, g⟩ (fun r => (∀ c : Dev Cert.PrepareReferenceIdeal.nD,
      r.2.mem ((c.tc : Thread Cert.PrepareReferenceIdeal.nD Cert.PrepareReferenceIdeal.τ).loc Cert.PrepareReferenceIdeal.main_arg0) = m ((c.tc : Thread Cert.PrepareReferenceIdeal.nD Cert.PrepareReferenceIdeal.τ).loc Cert.PrepareReferenceIdeal.main_arg0)
      ∧ r.2.mem ((c.tc : Thread Cert.PrepareReferenceIdeal.nD Cert.PrepareReferenceIdeal.τ).loc Cert.PrepareReferenceIdeal.main_arg1) = m ((c.tc : Thread Cert.PrepareReferenceIdeal.nD Cert.PrepareReferenceIdeal.τ).loc Cert.PrepareReferenceIdeal.main_arg1)
      ∧ r.2.mem ((c.tc : Thread Cert.PrepareReferenceIdeal.nD Cert.PrepareReferenceIdeal.τ).loc Cert.PrepareReferenceIdeal.main_arg2) = m ((c.tc : Thread Cert.PrepareReferenceIdeal.nD Cert.PrepareReferenceIdeal.τ).loc Cert.PrepareReferenceIdeal.main_arg2))
      ∧ r.2.sem = fun _ => 0)

def quiescent_PrepareReferenceIdeal_pre_finite_rows [hPrepareReferenceIdeal : Cert.PrepareReferenceIdeal.Facts] [hPre_finite_rows : Cert.Pre_finite_rows.Facts] : Prop :=
  ∀ (m : (ℓ : Loc Cert.PrepareReferenceIdeal.nD Cert.PrepareReferenceIdeal.τ Cert.PrepareReferenceIdeal.sig) → Buf (Elt Ideal) ℓ) (g : Dev Cert.PrepareReferenceIdeal.nD → PrngReg), Pre_PrepareReferenceIdeal_finite_rows m →
    θ_run (Cert.PrepareReferenceIdeal.defs (F := Ideal)) (onTc (τ := Cert.PrepareReferenceIdeal.τ) (Cert.PrepareReferenceIdeal.main (F := Ideal))) ⟨m, fun _ => 0, g⟩ (fun r => (∀ c : Dev Cert.PrepareReferenceIdeal.nD,
      r.2.mem ((c.tc : Thread Cert.PrepareReferenceIdeal.nD Cert.PrepareReferenceIdeal.τ).loc Cert.PrepareReferenceIdeal.main_arg0) = m ((c.tc : Thread Cert.PrepareReferenceIdeal.nD Cert.PrepareReferenceIdeal.τ).loc Cert.PrepareReferenceIdeal.main_arg0)
      ∧ r.2.mem ((c.tc : Thread Cert.PrepareReferenceIdeal.nD Cert.PrepareReferenceIdeal.τ).loc Cert.PrepareReferenceIdeal.main_arg1) = m ((c.tc : Thread Cert.PrepareReferenceIdeal.nD Cert.PrepareReferenceIdeal.τ).loc Cert.PrepareReferenceIdeal.main_arg1)
      ∧ r.2.mem ((c.tc : Thread Cert.PrepareReferenceIdeal.nD Cert.PrepareReferenceIdeal.τ).loc Cert.PrepareReferenceIdeal.main_arg2) = m ((c.tc : Thread Cert.PrepareReferenceIdeal.nD Cert.PrepareReferenceIdeal.τ).loc Cert.PrepareReferenceIdeal.main_arg2))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationIdeal_pre_finite_modulation [hModulationIdeal : Cert.ModulationIdeal.Facts] [hPre_finite_modulation : Cert.Pre_finite_modulation.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal_finite_modulation m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_ModulationReferenceIdeal_pre_finite_modulation [hModulationReferenceIdeal : Cert.ModulationReferenceIdeal.Facts] [hPre_finite_modulation : Cert.Pre_finite_modulation.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal_finite_modulation m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierIdeal_pre_finite_fourier [hFourierIdeal : Cert.FourierIdeal.Facts] [hPre_finite_fourier : Cert.Pre_finite_fourier.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal_finite_fourier m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierReferenceIdeal [hFourierReferenceIdeal : Cert.FourierReferenceIdeal.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1))
      ∧ r.2.sem = fun _ => 0)

def quiescent_FourierReferenceIdeal_pre_finite_fourier [hFourierReferenceIdeal : Cert.FourierReferenceIdeal.Facts] [hPre_finite_fourier : Cert.Pre_finite_fourier.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal_finite_fourier m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v61) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_MixerIn_MixerInIdeal : Prop :=
  True

def algebraic_MixerInIdeal_MixerInReferenceIdeal [hMixerInIdeal : Cert.MixerInIdeal.Facts] [hMixerInReferenceIdeal : Cert.MixerInReferenceIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInReferenceIdeal.nD Cert.MixerInReferenceIdeal.τ Cert.MixerInReferenceIdeal.sig) → Buf (Elt Ideal) ℓ) (g' : Dev Cert.MixerInReferenceIdeal.nD → PrngReg), Pre_MixerInIdeal m →
    (∀ c : Dev Cert.MixerInIdeal.nD,
      m' ((c.tc : Thread Cert.MixerInReferenceIdeal.nD Cert.MixerInReferenceIdeal.τ).loc Cert.MixerInReferenceIdeal.main_arg0) = m ((c.tc : Thread Cert.MixerInIdeal.nD Cert.MixerInIdeal.τ).loc Cert.MixerInIdeal.main_arg0)
      ∧ m' ((c.tc : Thread Cert.MixerInReferenceIdeal.nD Cert.MixerInReferenceIdeal.τ).loc Cert.MixerInReferenceIdeal.main_arg1) = m ((c.tc : Thread Cert.MixerInIdeal.nD Cert.MixerInIdeal.τ).loc Cert.MixerInIdeal.main_arg1)
      ∧ m' ((c.tc : Thread Cert.MixerInReferenceIdeal.nD Cert.MixerInReferenceIdeal.τ).loc Cert.MixerInReferenceIdeal.main_arg2) = m ((c.tc : Thread Cert.MixerInIdeal.nD Cert.MixerInIdeal.τ).loc Cert.MixerInIdeal.main_arg2)
      ∧ m' ((c.tc : Thread Cert.MixerInReferenceIdeal.nD Cert.MixerInReferenceIdeal.τ).loc Cert.MixerInReferenceIdeal.main_arg3) = m ((c.tc : Thread Cert.MixerInIdeal.nD Cert.MixerInIdeal.τ).loc Cert.MixerInIdeal.main_arg3)
      ∧ m' ((c.tc : Thread Cert.MixerInReferenceIdeal.nD Cert.MixerInReferenceIdeal.τ).loc Cert.MixerInReferenceIdeal.main_arg4) = m ((c.tc : Thread Cert.MixerInIdeal.nD Cert.MixerInIdeal.τ).loc Cert.MixerInIdeal.main_arg4)) →
    ∃ (v0 : (c : Dev Cert.MixerInIdeal.nD) → Buf (Elt Ideal) ((c.tc : Thread Cert.MixerInIdeal.nD Cert.MixerInIdeal.τ).loc Cert.MixerInIdeal.main_v1_0)) (v1 : (c : Dev Cert.MixerInIdeal.nD) → Buf (Elt Ideal) ((c.tc : Thread Cert.MixerInIdeal.nD Cert.MixerInIdeal.τ).loc Cert.MixerInIdeal.main_v1_1)) (v2 : (c : Dev Cert.MixerInIdeal.nD) → Buf (Elt Ideal) ((c.tc : Thread Cert.MixerInIdeal.nD Cert.MixerInIdeal.τ).loc Cert.MixerInIdeal.main_v1_2)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v1_0) = v0 c
          ∧ r.2.mem ((c.tc : Thread Cert.MixerInIdeal.nD Cert.MixerInIdeal.τ).loc Cert.MixerInIdeal.main_v1_1) = v1 c
          ∧ r.2.mem ((c.tc : Thread Cert.MixerInIdeal.nD Cert.MixerInIdeal.τ).loc Cert.MixerInIdeal.main_v1_2) = v2 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
          ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
          ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
          ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4))
      ∧ θ_run (Cert.MixerInReferenceIdeal.defs (F := Ideal)) (onTc (τ := Cert.MixerInReferenceIdeal.τ) (Cert.MixerInReferenceIdeal.main (F := Ideal))) ⟨m', fun _ => 0, g'⟩ (fun r => ∀ c : Dev Cert.MixerInReferenceIdeal.nD,
          r.2.mem ((c.tc : Thread Cert.MixerInReferenceIdeal.nD Cert.MixerInReferenceIdeal.τ).loc Cert.MixerInReferenceIdeal.main_v30) = v0 c
          ∧ r.2.mem ((c.tc : Thread Cert.MixerInReferenceIdeal.nD Cert.MixerInReferenceIdeal.τ).loc Cert.MixerInReferenceIdeal.main_v32) = v1 c
          ∧ r.2.mem ((c.tc : Thread Cert.MixerInReferenceIdeal.nD Cert.MixerInReferenceIdeal.τ).loc Cert.MixerInReferenceIdeal.main_v34) = v2 c
          ∧ r.2.mem ((c.tc : Thread Cert.MixerInReferenceIdeal.nD Cert.MixerInReferenceIdeal.τ).loc Cert.MixerInReferenceIdeal.main_arg0) = m' ((c.tc : Thread Cert.MixerInReferenceIdeal.nD Cert.MixerInReferenceIdeal.τ).loc Cert.MixerInReferenceIdeal.main_arg0)
          ∧ r.2.mem ((c.tc : Thread Cert.MixerInReferenceIdeal.nD Cert.MixerInReferenceIdeal.τ).loc Cert.MixerInReferenceIdeal.main_arg1) = m' ((c.tc : Thread Cert.MixerInReferenceIdeal.nD Cert.MixerInReferenceIdeal.τ).loc Cert.MixerInReferenceIdeal.main_arg1)
          ∧ r.2.mem ((c.tc : Thread Cert.MixerInReferenceIdeal.nD Cert.MixerInReferenceIdeal.τ).loc Cert.MixerInReferenceIdeal.main_arg2) = m' ((c.tc : Thread Cert.MixerInReferenceIdeal.nD Cert.MixerInReferenceIdeal.τ).loc Cert.MixerInReferenceIdeal.main_arg2)
          ∧ r.2.mem ((c.tc : Thread Cert.MixerInReferenceIdeal.nD Cert.MixerInReferenceIdeal.τ).loc Cert.MixerInReferenceIdeal.main_arg3) = m' ((c.tc : Thread Cert.MixerInReferenceIdeal.nD Cert.MixerInReferenceIdeal.τ).loc Cert.MixerInReferenceIdeal.main_arg3)
          ∧ r.2.mem ((c.tc : Thread Cert.MixerInReferenceIdeal.nD Cert.MixerInReferenceIdeal.τ).loc Cert.MixerInReferenceIdeal.main_arg4) = m' ((c.tc : Thread Cert.MixerInReferenceIdeal.nD Cert.MixerInReferenceIdeal.τ).loc Cert.MixerInReferenceIdeal.main_arg4))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v13) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_Prepare_PrepareIdeal : Prop :=
  True

def algebraic_PrepareIdeal_PrepareReferenceIdeal_pre_finite_rows [hPrepareIdeal : Cert.PrepareIdeal.Facts] [hPrepareReferenceIdeal : Cert.PrepareReferenceIdeal.Facts] [hPre_finite_rows : Cert.Pre_finite_rows.Facts] : Prop :=
  ∀ (m : (ℓ : Loc Cert.PrepareIdeal.nD Cert.PrepareIdeal.τ Cert.PrepareIdeal.sig) → Buf (Elt Ideal) ℓ) (g : Dev Cert.PrepareIdeal.nD → PrngReg)
    (m' : (ℓ : Loc Cert.PrepareReferenceIdeal.nD Cert.PrepareReferenceIdeal.τ Cert.PrepareReferenceIdeal.sig) → Buf (Elt Ideal) ℓ) (g' : Dev Cert.PrepareReferenceIdeal.nD → PrngReg), Pre_PrepareIdeal_finite_rows m →
    (∀ c : Dev Cert.PrepareIdeal.nD,
      m' ((c.tc : Thread Cert.PrepareReferenceIdeal.nD Cert.PrepareReferenceIdeal.τ).loc Cert.PrepareReferenceIdeal.main_arg0) = m ((c.tc : Thread Cert.PrepareIdeal.nD Cert.PrepareIdeal.τ).loc Cert.PrepareIdeal.main_arg0)
      ∧ m' ((c.tc : Thread Cert.PrepareReferenceIdeal.nD Cert.PrepareReferenceIdeal.τ).loc Cert.PrepareReferenceIdeal.main_arg1) = m ((c.tc : Thread Cert.PrepareIdeal.nD Cert.PrepareIdeal.τ).loc Cert.PrepareIdeal.main_arg1)
      ∧ m' ((c.tc : Thread Cert.PrepareReferenceIdeal.nD Cert.PrepareReferenceIdeal.τ).loc Cert.PrepareReferenceIdeal.main_arg2) = m ((c.tc : Thread Cert.PrepareIdeal.nD Cert.PrepareIdeal.τ).loc Cert.PrepareIdeal.main_arg2)) →
    ∃ (v0 : (c : Dev Cert.PrepareIdeal.nD) → Buf (Elt Ideal) ((c.tc : Thread Cert.PrepareIdeal.nD Cert.PrepareIdeal.τ).loc Cert.PrepareIdeal.main_v21_0)) (v1 : (c : Dev Cert.PrepareIdeal.nD) → Buf (Elt Ideal) ((c.tc : Thread Cert.PrepareIdeal.nD Cert.PrepareIdeal.τ).loc Cert.PrepareIdeal.main_v21_1)) (v2 : (c : Dev Cert.PrepareIdeal.nD) → Buf (Elt Ideal) ((c.tc : Thread Cert.PrepareIdeal.nD Cert.PrepareIdeal.τ).loc Cert.PrepareIdeal.main_v21_2)) (v3 : (c : Dev Cert.PrepareIdeal.nD) → Buf (Elt Ideal) ((c.tc : Thread Cert.PrepareIdeal.nD Cert.PrepareIdeal.τ).loc Cert.PrepareIdeal.main_v21_3)),
      θ_run (Cert.PrepareIdeal.defs (F := Ideal)) (onTc (τ := Cert.PrepareIdeal.τ) (Cert.PrepareIdeal.main (F := Ideal))) ⟨m, fun _ => 0, g⟩ (fun r => ∀ c : Dev Cert.PrepareIdeal.nD,
          r.2.mem ((c.tc : Thread Cert.PrepareIdeal.nD Cert.PrepareIdeal.τ).loc Cert.PrepareIdeal.main_v21_0) = v0 c
          ∧ r.2.mem ((c.tc : Thread Cert.PrepareIdeal.nD Cert.PrepareIdeal.τ).loc Cert.PrepareIdeal.main_v21_1) = v1 c
          ∧ r.2.mem ((c.tc : Thread Cert.PrepareIdeal.nD Cert.PrepareIdeal.τ).loc Cert.PrepareIdeal.main_v21_2) = v2 c
          ∧ r.2.mem ((c.tc : Thread Cert.PrepareIdeal.nD Cert.PrepareIdeal.τ).loc Cert.PrepareIdeal.main_v21_3) = v3 c
          ∧ r.2.mem ((c.tc : Thread Cert.PrepareIdeal.nD Cert.PrepareIdeal.τ).loc Cert.PrepareIdeal.main_arg0) = m ((c.tc : Thread Cert.PrepareIdeal.nD Cert.PrepareIdeal.τ).loc Cert.PrepareIdeal.main_arg0)
          ∧ r.2.mem ((c.tc : Thread Cert.PrepareIdeal.nD Cert.PrepareIdeal.τ).loc Cert.PrepareIdeal.main_arg1) = m ((c.tc : Thread Cert.PrepareIdeal.nD Cert.PrepareIdeal.τ).loc Cert.PrepareIdeal.main_arg1)
          ∧ r.2.mem ((c.tc : Thread Cert.PrepareIdeal.nD Cert.PrepareIdeal.τ).loc Cert.PrepareIdeal.main_arg2) = m ((c.tc : Thread Cert.PrepareIdeal.nD Cert.PrepareIdeal.τ).loc Cert.PrepareIdeal.main_arg2))
      ∧ θ_run (Cert.PrepareReferenceIdeal.defs (F := Ideal)) (onTc (τ := Cert.PrepareReferenceIdeal.τ) (Cert.PrepareReferenceIdeal.main (F := Ideal))) ⟨m', fun _ => 0, g'⟩ (fun r => ∀ c : Dev Cert.PrepareReferenceIdeal.nD,
          r.2.mem ((c.tc : Thread Cert.PrepareReferenceIdeal.nD Cert.PrepareReferenceIdeal.τ).loc Cert.PrepareReferenceIdeal.main_v37) = v0 c
          ∧ r.2.mem ((c.tc : Thread Cert.PrepareReferenceIdeal.nD Cert.PrepareReferenceIdeal.τ).loc Cert.PrepareReferenceIdeal.main_v38) = v1 c
          ∧ r.2.mem ((c.tc : Thread Cert.PrepareReferenceIdeal.nD Cert.PrepareReferenceIdeal.τ).loc Cert.PrepareReferenceIdeal.main_v40) = v2 c
          ∧ r.2.mem ((c.tc : Thread Cert.PrepareReferenceIdeal.nD Cert.PrepareReferenceIdeal.τ).loc Cert.PrepareReferenceIdeal.main_v32) = v3 c
          ∧ r.2.mem ((c.tc : Thread Cert.PrepareReferenceIdeal.nD Cert.PrepareReferenceIdeal.τ).loc Cert.PrepareReferenceIdeal.main_arg0) = m' ((c.tc : Thread Cert.PrepareReferenceIdeal.nD Cert.PrepareReferenceIdeal.τ).loc Cert.PrepareReferenceIdeal.main_arg0)
          ∧ r.2.mem ((c.tc : Thread Cert.PrepareReferenceIdeal.nD Cert.PrepareReferenceIdeal.τ).loc Cert.PrepareReferenceIdeal.main_arg1) = m' ((c.tc : Thread Cert.PrepareReferenceIdeal.nD Cert.PrepareReferenceIdeal.τ).loc Cert.PrepareReferenceIdeal.main_arg1)
          ∧ r.2.mem ((c.tc : Thread Cert.PrepareReferenceIdeal.nD Cert.PrepareReferenceIdeal.τ).loc Cert.PrepareReferenceIdeal.main_arg2) = m' ((c.tc : Thread Cert.PrepareReferenceIdeal.nD Cert.PrepareReferenceIdeal.τ).loc Cert.PrepareReferenceIdeal.main_arg2))

def preserves_Modulation_ModulationIdeal : Prop :=
  True

def algebraic_ModulationIdeal_ModulationReferenceIdeal_pre_finite_modulation [hModulationIdeal : Cert.ModulationIdeal.Facts] [hModulationReferenceIdeal : Cert.ModulationReferenceIdeal.Facts] [hPre_finite_modulation : Cert.Pre_finite_modulation.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal_finite_modulation m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v5) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Fourier_FourierIdeal : Prop :=
  True

def algebraic_FourierIdeal_FourierReferenceIdeal_pre_finite_fourier [hFourierIdeal : Cert.FourierIdeal.Facts] [hFourierReferenceIdeal : Cert.FourierReferenceIdeal.Facts] [hPre_finite_fourier : Cert.Pre_finite_fourier.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierReferenceIdeal.nD Cert.FourierReferenceIdeal.τ Cert.FourierReferenceIdeal.sig) → Buf (Elt Ideal) ℓ) (g' : Dev Cert.FourierReferenceIdeal.nD → PrngReg), Pre_FourierIdeal_finite_fourier m →
    (∀ c : Dev Cert.FourierIdeal.nD,
      m' ((c.tc : Thread Cert.FourierReferenceIdeal.nD Cert.FourierReferenceIdeal.τ).loc Cert.FourierReferenceIdeal.main_arg0) = m ((c.tc : Thread Cert.FourierIdeal.nD Cert.FourierIdeal.τ).loc Cert.FourierIdeal.main_arg0)
      ∧ m' ((c.tc : Thread Cert.FourierReferenceIdeal.nD Cert.FourierReferenceIdeal.τ).loc Cert.FourierReferenceIdeal.main_arg1) = m ((c.tc : Thread Cert.FourierIdeal.nD Cert.FourierIdeal.τ).loc Cert.FourierIdeal.main_arg1)) →
    ∃ (v0 : (c : Dev Cert.FourierIdeal.nD) → Buf (Elt Ideal) ((c.tc : Thread Cert.FourierIdeal.nD Cert.FourierIdeal.τ).loc Cert.FourierIdeal.main_v71)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v71) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ θ_run (Cert.FourierReferenceIdeal.defs (F := Ideal)) (onTc (τ := Cert.FourierReferenceIdeal.τ) (Cert.FourierReferenceIdeal.main (F := Ideal))) ⟨m', fun _ => 0, g'⟩ (fun r => ∀ c : Dev Cert.FourierReferenceIdeal.nD,
          r.2.mem ((c.tc : Thread Cert.FourierReferenceIdeal.nD Cert.FourierReferenceIdeal.τ).loc Cert.FourierReferenceIdeal.main_v38) = v0 c
          ∧ r.2.mem ((c.tc : Thread Cert.FourierReferenceIdeal.nD Cert.FourierReferenceIdeal.τ).loc Cert.FourierReferenceIdeal.main_arg0) = m' ((c.tc : Thread Cert.FourierReferenceIdeal.nD Cert.FourierReferenceIdeal.τ).loc Cert.FourierReferenceIdeal.main_arg0)
          ∧ r.2.mem ((c.tc : Thread Cert.FourierReferenceIdeal.nD Cert.FourierReferenceIdeal.τ).loc Cert.FourierReferenceIdeal.main_arg1) = m' ((c.tc : Thread Cert.FourierReferenceIdeal.nD Cert.FourierReferenceIdeal.τ).loc Cert.FourierReferenceIdeal.main_arg1))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)) →
    ∃ (v0 : (c : Dev Cert.OutputIdeal.nD) → Buf (Elt Ideal) ((c.tc : Thread Cert.OutputIdeal.nD Cert.OutputIdeal.τ).loc Cert.OutputIdeal.main_v17_0)) (v1 : (c : Dev Cert.OutputIdeal.nD) → Buf (Elt Ideal) ((c.tc : Thread Cert.OutputIdeal.nD Cert.OutputIdeal.τ).loc Cert.OutputIdeal.main_v17_1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v17_0) = v0 c
          ∧ r.2.mem ((c.tc : Thread Cert.OutputIdeal.nD Cert.OutputIdeal.τ).loc Cert.OutputIdeal.main_v17_1) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v34) = v0 c
          ∧ r.2.mem ((c.tc : Thread Cert.OutputReferenceIdeal.nD Cert.OutputReferenceIdeal.τ).loc Cert.OutputReferenceIdeal.main_v36) = v1 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMixerIn : Cert.MixerIn.Facts) (hMixerInIdeal : Cert.MixerInIdeal.Facts) (hMixerInReferenceIdeal : Cert.MixerInReferenceIdeal.Facts) (hCombine : Cert.Combine.Facts) (hCombineIdeal : Cert.CombineIdeal.Facts) (hCombineReferenceIdeal : Cert.CombineReferenceIdeal.Facts) (hPrepare : Cert.Prepare.Facts) (hPrepareIdeal : Cert.PrepareIdeal.Facts) (hPrepareReferenceIdeal : Cert.PrepareReferenceIdeal.Facts) (hModulation : Cert.Modulation.Facts) (hModulationIdeal : Cert.ModulationIdeal.Facts) (hModulationReferenceIdeal : Cert.ModulationReferenceIdeal.Facts) (hFourier : Cert.Fourier.Facts) (hFourierIdeal : Cert.FourierIdeal.Facts) (hFourierReferenceIdeal : Cert.FourierReferenceIdeal.Facts) (hOutput : Cert.Output.Facts) (hOutputIdeal : Cert.OutputIdeal.Facts) (hOutputReferenceIdeal : Cert.OutputReferenceIdeal.Facts) (hPre_finite_values : Cert.Pre_finite_values.Facts) (hPre_expert_range : Cert.Pre_expert_range.Facts) (hPre_finite_rows : Cert.Pre_finite_rows.Facts) (hPre_finite_modulation : Cert.Pre_finite_modulation.Facts) (hPre_finite_fourier : Cert.Pre_finite_fourier.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Experts (hExperts := hExperts) (hPre_expert_range := hPre_expert_range)
    ∧ quiescent_ExpertsIdeal (hExpertsIdeal := hExpertsIdeal) (hPre_expert_range := hPre_expert_range)
    ∧ quiescent_ExpertsReferenceIdeal (hExpertsReferenceIdeal := hExpertsReferenceIdeal)
    ∧ quiescent_ExpertsReferenceIdeal_pre_expert_range (hExpertsReferenceIdeal := hExpertsReferenceIdeal) (hPre_expert_range := hPre_expert_range)
    ∧ quiescent_MixerIn (hMixerIn := hMixerIn)
    ∧ quiescent_MixerInIdeal (hMixerInIdeal := hMixerInIdeal)
    ∧ quiescent_MixerInReferenceIdeal (hMixerInReferenceIdeal := hMixerInReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_Prepare (hPrepare := hPrepare)
    ∧ quiescent_PrepareIdeal (hPrepareIdeal := hPrepareIdeal)
    ∧ quiescent_PrepareIdeal_pre_finite_rows (hPrepareIdeal := hPrepareIdeal) (hPre_finite_rows := hPre_finite_rows)
    ∧ quiescent_PrepareReferenceIdeal (hPrepareReferenceIdeal := hPrepareReferenceIdeal)
    ∧ quiescent_PrepareReferenceIdeal_pre_finite_rows (hPrepareReferenceIdeal := hPrepareReferenceIdeal) (hPre_finite_rows := hPre_finite_rows)
    ∧ quiescent_Modulation (hModulation := hModulation)
    ∧ quiescent_ModulationIdeal (hModulationIdeal := hModulationIdeal)
    ∧ quiescent_ModulationIdeal_pre_finite_modulation (hModulationIdeal := hModulationIdeal) (hPre_finite_modulation := hPre_finite_modulation)
    ∧ quiescent_ModulationReferenceIdeal (hModulationReferenceIdeal := hModulationReferenceIdeal)
    ∧ quiescent_ModulationReferenceIdeal_pre_finite_modulation (hModulationReferenceIdeal := hModulationReferenceIdeal) (hPre_finite_modulation := hPre_finite_modulation)
    ∧ quiescent_Fourier (hFourier := hFourier)
    ∧ quiescent_FourierIdeal (hFourierIdeal := hFourierIdeal)
    ∧ quiescent_FourierIdeal_pre_finite_fourier (hFourierIdeal := hFourierIdeal) (hPre_finite_fourier := hPre_finite_fourier)
    ∧ quiescent_FourierReferenceIdeal (hFourierReferenceIdeal := hFourierReferenceIdeal)
    ∧ quiescent_FourierReferenceIdeal_pre_finite_fourier (hFourierReferenceIdeal := hFourierReferenceIdeal) (hPre_finite_fourier := hPre_finite_fourier)
    ∧ quiescent_Output (hOutput := hOutput)
    ∧ quiescent_OutputIdeal (hOutputIdeal := hOutputIdeal)
    ∧ quiescent_OutputReferenceIdeal (hOutputReferenceIdeal := hOutputReferenceIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Experts_ExpertsIdeal
    ∧ algebraic_ExpertsIdeal_ExpertsReferenceIdeal (hExpertsIdeal := hExpertsIdeal) (hExpertsReferenceIdeal := hExpertsReferenceIdeal) (hPre_expert_range := hPre_expert_range)
    ∧ preserves_MixerIn_MixerInIdeal
    ∧ algebraic_MixerInIdeal_MixerInReferenceIdeal (hMixerInIdeal := hMixerInIdeal) (hMixerInReferenceIdeal := hMixerInReferenceIdeal)
    ∧ preserves_Combine_CombineIdeal
    ∧ algebraic_CombineIdeal_CombineReferenceIdeal (hCombineIdeal := hCombineIdeal) (hCombineReferenceIdeal := hCombineReferenceIdeal)
    ∧ preserves_Prepare_PrepareIdeal
    ∧ algebraic_PrepareIdeal_PrepareReferenceIdeal_pre_finite_rows (hPrepareIdeal := hPrepareIdeal) (hPrepareReferenceIdeal := hPrepareReferenceIdeal) (hPre_finite_rows := hPre_finite_rows)
    ∧ preserves_Modulation_ModulationIdeal
    ∧ algebraic_ModulationIdeal_ModulationReferenceIdeal_pre_finite_modulation (hModulationIdeal := hModulationIdeal) (hModulationReferenceIdeal := hModulationReferenceIdeal) (hPre_finite_modulation := hPre_finite_modulation)
    ∧ preserves_Fourier_FourierIdeal
    ∧ algebraic_FourierIdeal_FourierReferenceIdeal_pre_finite_fourier (hFourierIdeal := hFourierIdeal) (hFourierReferenceIdeal := hFourierReferenceIdeal) (hPre_finite_fourier := hPre_finite_fourier)
    ∧ preserves_Output_OutputIdeal
    ∧ algebraic_OutputIdeal_OutputReferenceIdeal (hOutputIdeal := hOutputIdeal) (hOutputReferenceIdeal := hOutputReferenceIdeal)
-- ==== Pre_expert_range.lean ====
abbrev S608 : Shape := ⟨1, ![608]⟩
abbrev S1 : Shape := ⟨1, ![1]⟩
abbrev S155648x1024 : Shape := ⟨2, ![155648, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S608 : S_.BroadcastsInDim S608 (![] : Fin 0 → Fin S608.rank)
  reducesTo_S608_S_d0 : S608.ReducesTo [0] S_
  h_S_ : 0 < S_.numel

variable [Facts]

def fn {F : FTy → Type} [FloatOps F] (main_arg0 : IVec S608 32) (main_arg1 : IVec S1 32) (main_arg2 : FVec F S155648x1024 .bf16) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S608 32 := broadcastInDim S608 ![] bcast_S_S608 main_c
  let main_v1 : IVec S608 1 := cmpi .sge main_arg0 main_v0
  let main_c_0 : IVec S_ 32 := constantI S_ 32 32#32
  let main_v2 : IVec S608 32 := broadcastInDim S608 ![] bcast_S_S608 main_c_0
  let main_v3 : IVec S608 1 := cmpi .slt main_arg0 main_v2
  let main_v4 : IVec S608 1 := andi main_v1 main_v3
  let main_c_1 : IVec S_ 1 := constantI S_ 1 1#1
  let main_v5 : IVec S_ 1 := (fun x v => Host.reduce IntOp.andi x v reducesTo_S608_S_d0 h_S_) main_v4 main_c_1
  main_v5
-- ==== Pre_finite_fourier.lean ====
abbrev S32768x256 : Shape := ⟨2, ![32768, 256]⟩
abbrev S4x64x64 : Shape := ⟨3, ![4, 64, 64]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_

variable [Facts]

def fn {F : FTy → Type} [FloatOps F] (main_arg0 : FVec F S32768x256 .f32) (main_arg1 : FVec F S4x64x64 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S4x64x64 .f32 := Host.absf main_arg1
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  main_v8
-- ==== Pre_finite_modulation.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S16x1024 .f32) (main_arg1 : FVec F S2x1024x6144 .f32) (main_arg2 : FVec F S2x6144 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S2x1024x6144 .f32 := Host.absf main_arg1
  let main_cst_0 : FVec F S_ .f32 := constant S_ .f32 0x7F800000#32
  let main_v5 : FVec F S2x1024x6144 .f32 := broadcastInDim S2x1024x6144 ![] bcast_S_S2x1024x6144 main_cst_0
  let main_v6 : IVec S2x1024x6144 1 := cmpf .olt main_v4 main_v5
  let main_c_1 : IVec S_ 1 := constantI S_ 1 1#1
  let main_v7 : IVec S_ 1 := (fun x v => Host.reduce IntOp.andi x v reducesTo_S2x1024x6144_S_d0_1_2 h_S_) main_v6 main_c_1
  let main_v8 : IVec S_ 1 := andi main_v3 main_v7
  main_v8
-- ==== Pre_finite_rows.lean ====
abbrev S36864x1792 : Shape := ⟨2, ![36864, 1792]⟩
abbrev S64 : Shape := ⟨1, ![64]⟩
abbrev S4096x1024 : Shape := ⟨2, ![4096, 1024]⟩
abbrev S_ : Shape := ⟨0, ![]⟩

class Facts : Prop where
  slices_S36864x1792_S4096x1024_0_0 : S36864x1792.Slices ![0, 0] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S36864x1792 .f32) (main_arg1 : FVec F S64 .f32) (main_arg2 : FVec F S64 .f32) : IVec S_ 1 :=
  let main_v0 : FVec F S4096x1024 .f32 := (extractStridedSlice S4096x1024 ![0, 0] · slices_S36864x1792_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  main_v4
-- ==== Pre_finite_values.lean ====
abbrev S1 : Shape := ⟨1, ![1]⟩
abbrev S8x512x4096 : Shape := ⟨3, ![8, 512, 4096]⟩
abbrev S8x4608x512 : Shape := ⟨3, ![8, 4608, 512]⟩
abbrev S8x18x512x256 : Shape := ⟨4, ![8, 18, 512, 256]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bitsLt_bf16_f32 : FTy.bits .bf16 < FTy.bits .f32
  bcast_S_S8x512x4096 : S_.BroadcastsInDim S8x512x4096 (![] : Fin 0 → Fin S8x512x4096.rank)
  reducesTo_S8x512x4096_S_d0_1_2 : S8x512x4096.ReducesTo [0, 1, 2] S_
  bcast_S_S8x4608x512 : S_.BroadcastsInDim S8x4608x512 (![] : Fin 0 → Fin S8x4608x512.rank)
  reducesTo_S8x4608x512_S_d0_1_2 : S8x4608x512.ReducesTo [0, 1, 2] S_
  bcast_S_S8x18x512x256 : S_.BroadcastsInDim S8x18x512x256 (![] : Fin 0 → Fin S8x18x512x256.rank)
  reducesTo_S8x18x512x256_S_d0_1_2_3 : S8x18x512x256.ReducesTo [0, 1, 2, 3] S_

variable [Facts]

def fn_part1 {F : FTy → Type} [FloatOps F] (main_v15 : IVec S_ 1) (main_v17 : FVec F S8x18x512x256 .f32) : IVec S_ 1 :=
  let main_cst_4 : FVec F S_ .f32 := constant S_ .f32 0x7F800000#32
  let main_v18 : FVec F S8x18x512x256 .f32 := broadcastInDim S8x18x512x256 ![] bcast_S_S8x18x512x256 main_cst_4
  let main_v19 : IVec S8x18x512x256 1 := cmpf .olt main_v17 main_v18
  let main_c_5 : IVec S_ 1 := constantI S_ 1 1#1
  let main_v20 : IVec S_ 1 := (fun x v => Host.reduce IntOp.andi x v reducesTo_S8x18x512x256_S_d0_1_2_3 h_S_) main_v19 main_c_5
  let main_v21 : IVec S_ 1 := andi main_v15 main_v20
  main_v21

def fn {F : FTy → Type} [FloatOps F] (main_arg0 : FVec F S1 .f32) (main_arg1 : FVec F S8x512x4096 .bf16) (main_arg2 : FVec F S8x4608x512 .bf16) (main_arg3 : FVec F S8x18x512x256 .bf16) (main_arg4 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S8x512x4096 .f32 := (extf .f32 · bitsLt_bf16_f32) main_arg1
  let main_v5 : FVec F S8x512x4096 .f32 := Host.absf main_v4
  let main_cst_0 : FVec F S_ .f32 := constant S_ .f32 0x7F800000#32
  let main_v6 : FVec F S8x512x4096 .f32 := broadcastInDim S8x512x4096 ![] bcast_S_S8x512x4096 main_cst_0
  let main_v7 : IVec S8x512x4096 1 := cmpf .olt main_v5 main_v6
  let main_c_1 : IVec S_ 1 := constantI S_ 1 1#1
  let main_v8 : IVec S_ 1 := (fun x v => Host.reduce IntOp.andi x v reducesTo_S8x512x4096_S_d0_1_2 h_S_) main_v7 main_c_1
  let main_v9 : IVec S_ 1 := andi main_v3 main_v8
  let main_v10 : FVec F S8x4608x512 .f32 := (extf .f32 · bitsLt_bf16_f32) main_arg2
  let main_v11 : FVec F S8x4608x512 .f32 := Host.absf main_v10
  let main_cst_2 : FVec F S_ .f32 := constant S_ .f32 0x7F800000#32
  let main_v12 : FVec F S8x4608x512 .f32 := broadcastInDim S8x4608x512 ![] bcast_S_S8x4608x512 main_cst_2
  let main_v13 : IVec S8x4608x512 1 := cmpf .olt main_v11 main_v12
  let main_c_3 : IVec S_ 1 := constantI S_ 1 1#1
  let main_v14 : IVec S_ 1 := (fun x v => Host.reduce IntOp.andi x v reducesTo_S8x4608x512_S_d0_1_2 h_S_) main_v13 main_c_3
  let main_v15 : IVec S_ 1 := andi main_v9 main_v14
  let main_v16 : FVec F S8x18x512x256 .f32 := (extf .f32 · bitsLt_bf16_f32) main_arg3
  let main_v17 : FVec F S8x18x512x256 .f32 := Host.absf main_v16
  fn_part1 (F := F) main_v15 main_v17
-- ==== Kernel.lean ====
abbrev S1 : Shape := ⟨1, ![1]⟩
abbrev S8x512x4096 : Shape := ⟨3, ![8, 512, 4096]⟩
abbrev S8x4608x512 : Shape := ⟨3, ![8, 4608, 512]⟩
abbrev S8x18x512x256 : Shape := ⟨4, ![8, 18, 512, 256]⟩
abbrev S128 : Shape := ⟨1, ![128]⟩
abbrev S128x1 : Shape := ⟨2, ![128, 1]⟩
abbrev S32768x512 : Shape := ⟨2, ![32768, 512]⟩
abbrev S1x128x256 : Shape := ⟨3, ![1, 128, 256]⟩
abbrev S1x4608x128 : Shape := ⟨3, ![1, 4608, 128]⟩
abbrev S1x18x128x256 : Shape := ⟨4, ![1, 18, 128, 256]⟩
abbrev S256x128 : Shape := ⟨2, ![256, 128]⟩
abbrev S2x1x256 : Shape := ⟨3, ![2, 1, 256]⟩
abbrev S2x128x256 : Shape := ⟨3, ![2, 128, 256]⟩
abbrev S128x256 : Shape := ⟨2, ![128, 256]⟩
abbrev S1x256x128 : Shape := ⟨3, ![1, 256, 128]⟩
abbrev S1x1x128x256 : Shape := ⟨4, ![1, 1, 128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 7
  | .vmem => 12
  | .smem => 1
  | _ => 0

abbrev bufTy : (tb : Table) → Fin (tcTables nBuf tb) → BufTy
  | .hbm, ⟨0, _⟩ => ⟨S1, .f32⟩
  | .hbm, ⟨1, _⟩ => ⟨S8x512x4096, .bf16⟩
  | .hbm, ⟨2, _⟩ => ⟨S8x4608x512, .bf16⟩
  | .hbm, ⟨3, _⟩ => ⟨S8x18x512x256, .bf16⟩
  | .hbm, ⟨4, _⟩ => ⟨S128, .f32⟩
  | .hbm, ⟨5, _⟩ => ⟨S128x1, .f32⟩
  | .hbm, ⟨6, _⟩ => ⟨S32768x512, .bf16⟩
  | .local _ .vmem, ⟨0, _⟩ => ⟨S1x128x256, .bf16⟩
  | .local _ .vmem, ⟨1, _⟩ => ⟨S1x128x256, .bf16⟩
  | .local _ .vmem, ⟨2, _⟩ => ⟨S1x4608x128, .bf16⟩
  | .local _ .vmem, ⟨3, _⟩ => ⟨S1x4608x128, .bf16⟩
  | .local _ .vmem, ⟨4, _⟩ => ⟨S1x18x128x256, .bf16⟩
  | .local _ .vmem, ⟨5, _⟩ => ⟨S1x18x128x256, .bf16⟩
  | .local _ .vmem, ⟨6, _⟩ => ⟨S128x1, .f32⟩
  | .local _ .vmem, ⟨7, _⟩ => ⟨S256x128, .bf16⟩
  | .local _ .vmem, ⟨8, _⟩ => ⟨S256x128, .bf16⟩
  | .local _ .vmem, ⟨9, _⟩ => ⟨S2x1x256, .f32⟩
  | .local _ .vmem, ⟨10, _⟩ => ⟨S2x1x256, .f32⟩
  | .local _ .vmem, ⟨11, _⟩ => ⟨S2x128x256, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 16], ![false, false, false]⟩

@[reducible] def k0_t1_loop : Scf.Loop 32 :=
  let c0_i32 : BitVec 32 := 0#32
  let c18_i32 : BitVec 32 := 18#32
  let v22 : BitVec 32 := Scalar.addi c0_i32 c18_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v58 : BitVec 32 := Scalar.muli arg12 c256_i32
  v58
def k0_off1 (k0_t1 : Fin k0_t1_loop.trips) : Fin 3 → Nat :=
  let c0_36 : Index := 0#32
  let c0_i32 : BitVec 32 := 0#32
  let c1_i32 : BitVec 32 := 1#32
  let arg12 : BitVec 32 := Scf.iv c0_i32 c1_i32 k0_t1
  let c256_i32 : BitVec 32 := 256#32
  let v58 : BitVec 32 := Scalar.muli arg12 c256_i32
  let v59 : BitVec 32 := v58
  let v60 : Index := Scalar.indexCast v59
  let c0_37 : Index := 0#32
  ![0, v60.toNat, 0]
def k0_off2 (k0_t1 : Fin k0_t1_loop.trips) : Fin 4 → Nat :=
  let c0_38 : Index := 0#32
  let c0_i32 : BitVec 32 := 0#32
  let c1_i32 : BitVec 32 := 1#32
  let arg12 : BitVec 32 := Scf.iv c0_i32 c1_i32 k0_t1
  let v63 : Index := Scalar.indexCast arg12
  let c0_39 : Index := 0#32
  let c0_40 : Index := 0#32
  ![0, v63.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x18x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S1 : Shape := ⟨1, ![1]⟩
abbrev S8x512x4096 : Shape := ⟨3, ![8, 512, 4096]⟩
abbrev S8x4608x512 : Shape := ⟨3, ![8, 4608, 512]⟩
abbrev S8x18x512x256 : Shape := ⟨4, ![8, 18, 512, 256]⟩
abbrev S128 : Shape := ⟨1, ![128]⟩
abbrev S8x4096x512 : Shape := ⟨3, ![8, 4096, 512]⟩
abbrev S8x4096x4x2x64 : Shape := ⟨5, ![8, 4096, 4, 2, 64]⟩
abbrev S8x4608x4x2x64 : Shape := ⟨5, ![8, 4608, 4, 2, 64]⟩
abbrev S8x18x256x512 : Shape := ⟨4, ![8, 18, 256, 512]⟩
abbrev S8x4608x4x128 : Shape := ⟨4, ![8, 4608, 4, 128]⟩
abbrev S8x4x2x4096x4608 : Shape := ⟨5, ![8, 4, 2, 4096, 4608]⟩
abbrev S_ : Shape := ⟨0, ![]⟩
abbrev S8x4x2x4096 : Shape := ⟨4, ![8, 4, 2, 4096]⟩
abbrev S8x4x2x4096x1 : Shape := ⟨5, ![8, 4, 2, 4096, 1]⟩
abbrev S8x4x1x4096x4608 : Shape := ⟨5, ![8, 4, 1, 4096, 4608]⟩
abbrev S8x4x4096x4608 : Shape := ⟨4, ![8, 4, 4096, 4608]⟩
abbrev S8x4x128x4096 : Shape := ⟨4, ![8, 4, 128, 4096]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 59
  | .vmem => 0
  | .smem => 0
  | _ => 0

abbrev bufTy : (tb : Table) → Fin (tcTables nBuf tb) → BufTy
  | .hbm, ⟨0, _⟩ => ⟨S1, .f32⟩
  | .hbm, ⟨1, _⟩ => ⟨S8x512x4096, .bf16⟩
  | .hbm, ⟨2, _⟩ => ⟨S8x4608x512, .bf16⟩
  | .hbm, ⟨3, _⟩ => ⟨S8x18x512x256, .bf16⟩
  | .hbm, ⟨4, _⟩ => ⟨S128, .f32⟩
  | .hbm, ⟨5, _⟩ => ⟨S8x512x4096, .f32⟩
  | .hbm, ⟨6, _⟩ => ⟨S8x4096x512, .f32⟩
  | .hbm, ⟨7, _⟩ => ⟨S8x4096x4x2x64, .f32⟩
  | .hbm, ⟨8, _⟩ => ⟨S8x4608x512, .f32⟩
  | .hbm, ⟨9, _⟩ => ⟨S8x4608x4x2x64, .f32⟩
  | .hbm, ⟨10, _⟩ => ⟨S8x18x512x256, .f32⟩
  | .hbm, ⟨11, _⟩ => ⟨S8x18x256x512, .f32⟩
  | .hbm, ⟨12, _⟩ => ⟨S8x4608x4x128, .f32⟩
  | .hbm, ⟨13, _⟩ => ⟨S8x4x2x4096x4608, .f32⟩
  | .hbm, ⟨14, _⟩ => ⟨S_, .f32⟩
  | .hbm, ⟨15, _⟩ => ⟨S8x4x2x4096, .f32⟩
  | .hbm, ⟨16, _⟩ => ⟨S_, .f32⟩
  | .hbm, ⟨17, _⟩ => ⟨S8x4x2x4096, .f32⟩
  | .hbm, ⟨18, _⟩ => ⟨S8x4x2x4096, .f32⟩
  | .hbm, ⟨19, _⟩ => ⟨S8x4x2x4096x1, .f32⟩
  | .hbm, ⟨20, _⟩ => ⟨S8x4x2x4096x4608, .f32⟩
  | .hbm, ⟨21, _⟩ => ⟨S8x4x2x4096x4608, .f32⟩
  | .hbm, ⟨22, _⟩ => ⟨S8x4x2x4096x4608, .f32⟩
  | .hbm, ⟨23, _⟩ => ⟨S_, .f32⟩
  | .hbm, ⟨24, _⟩ => ⟨S8x4x2x4096, .f32⟩
  | .hbm, ⟨25, _⟩ => ⟨S8x4x2x4096x1, .f32⟩
  | .hbm, ⟨26, _⟩ => ⟨S8x4x2x4096x4608, .f32⟩
  | .hbm, ⟨27, _⟩ => ⟨S8x4x2x4096x4608, .f32⟩
  | .hbm, ⟨28, _⟩ => ⟨S8x4x1x4096x4608, .f32⟩
  | .hbm, ⟨29, _⟩ => ⟨S8x4x4096x4608, .f32⟩
  | .hbm, ⟨30, _⟩ => ⟨S_, .f32⟩
  | .hbm, ⟨31, _⟩ => ⟨S8x4x1x4096x4608, .f32⟩
  | .hbm, ⟨32, _⟩ => ⟨S8x4x4096x4608, .f32⟩
  | .hbm, ⟨33, _⟩ => ⟨S8x4x4096x4608, .f32⟩
  | .hbm, ⟨34, _⟩ => ⟨S8x4x4096x4608, .f32⟩
  | .hbm, ⟨35, _⟩ => ⟨S8x4x4096x4608, .f32⟩
  | .hbm, ⟨36, _⟩ => ⟨S8x4x128x4096, .f32⟩
  | .hbm, ⟨37, _⟩ => ⟨S8x4096x4x128, .f32⟩
  | .hbm, ⟨38, _⟩ => ⟨S8x4096x4x128, .f32⟩
  | .hbm, ⟨39, _⟩ => ⟨S_, .f32⟩
  | .hbm, ⟨40, _⟩ => ⟨S8x4096x4, .f32⟩
  | .hbm, ⟨41, _⟩ => ⟨S8x4096x4x1, .f32⟩
  | .hbm, ⟨42, _⟩ => ⟨S_, .f32⟩
  | .hbm, ⟨43, _⟩ => ⟨S8x4096x4x1, .f32⟩
  | .hbm, ⟨44, _⟩ => ⟨S8x4096x4x1, .f32⟩
  | .hbm, ⟨45, _⟩ => ⟨S_, .f32⟩
  | .hbm, ⟨46, _⟩ => ⟨S8x4096x4x1, .f32⟩
  | .hbm, ⟨47, _⟩ => ⟨S8x4096x4x1, .f32⟩
  | .hbm, ⟨48, _⟩ => ⟨S8x4096x4x1, .f32⟩
  | .hbm, ⟨49, _⟩ => ⟨S8x4096x4x128, .f32⟩
  | .hbm, ⟨50, _⟩ => ⟨S8x4096x4x128, .f32⟩
  | .hbm, ⟨51, _⟩ => ⟨S1x1x1x128, .f32⟩
  | .hbm, ⟨52, _⟩ => ⟨S8x4096x4x128, .f32⟩
  | .hbm, ⟨53, _⟩ => ⟨S8x4096x4x128, .f32⟩
  | .hbm, ⟨54, _⟩ => ⟨S_, .f32⟩
  | .hbm, ⟨55, _⟩ => ⟨S8x4096x4x128, .f32⟩
  | .hbm, ⟨56, _⟩ => ⟨S8x4096x4x128, .f32⟩
  | .hbm, ⟨57, _⟩ => ⟨S32768x512, .f32⟩
  | .hbm, ⟨58, _⟩ => ⟨S32768x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Experts.lean ====
abbrev S608 : Shape := ⟨1, ![608]⟩
abbrev S1 : Shape := ⟨1, ![1]⟩
abbrev S155648x1024 : Shape := ⟨2, ![155648, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S155648x1024, .bf16⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S155648x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S608, .i32⟩
  | .local _ .smem, ⟨1, _⟩ => ⟨S1, .i32⟩
  | _, _ => ⟨S155648x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![608], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S608 : Shape := ⟨1, ![608]⟩
abbrev S1 : Shape := ⟨1, ![1]⟩
abbrev S155648x1024 : Shape := ⟨2, ![155648, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S608x256x1024 : Shape := ⟨3, ![608, 256, 1024]⟩
abbrev S_ : Shape := ⟨0, ![]⟩
abbrev S608x1 : Shape := ⟨2, ![608, 1]⟩
abbrev S608x1024x2048 : Shape := ⟨3, ![608, 1024, 2048]⟩
abbrev S608x256x2048 : Shape := ⟨3, ![608, 256, 2048]⟩
abbrev S608x1x2048 : Shape := ⟨3, ![608, 1, 2048]⟩
abbrev S608x1024x1024 : Shape := ⟨3, ![608, 1024, 1024]⟩
abbrev S608x1x1024 : Shape := ⟨3, ![608, 1, 1024]⟩
abbrev S608x1x1 : Shape := ⟨3, ![608, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S608, .i32⟩
  | .hbm, ⟨1, _⟩ => ⟨S1, .i32⟩
  | .hbm, ⟨2, _⟩ => ⟨S155648x1024, .bf16⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S155648x1024, .f32⟩
  | .hbm, ⟨8, _⟩ => ⟨S608x256x1024, .f32⟩
  | .hbm, ⟨9, _⟩ => ⟨S32x1024x2048, .f32⟩
  | .hbm, ⟨10, _⟩ => ⟨S_, .i32⟩
  | .hbm, ⟨11, _⟩ => ⟨S608, .i32⟩
  | .hbm, ⟨12, _⟩ => ⟨S608, .i1⟩
  | .hbm, ⟨13, _⟩ => ⟨S_, .i32⟩
  | .hbm, ⟨14, _⟩ => ⟨S608, .i32⟩
  | .hbm, ⟨15, _⟩ => ⟨S608, .i32⟩
  | .hbm, ⟨16, _⟩ => ⟨S608, .i32⟩
  | .hbm, ⟨17, _⟩ => ⟨S608x1, .i32⟩
  | .hbm, ⟨18, _⟩ => ⟨S608x1024x2048, .f32⟩
  | .hbm, ⟨19, _⟩ => ⟨S608x256x2048, .f32⟩
  | .hbm, ⟨20, _⟩ => ⟨S_, .i32⟩
  | .hbm, ⟨21, _⟩ => ⟨S608, .i32⟩
  | .hbm, ⟨22, _⟩ => ⟨S608, .i1⟩
  | .hbm, ⟨23, _⟩ => ⟨S_, .i32⟩
  | .hbm, ⟨24, _⟩ => ⟨S608, .i32⟩
  | .hbm, ⟨25, _⟩ => ⟨S608, .i32⟩
  | .hbm, ⟨26, _⟩ => ⟨S608, .i32⟩
  | .hbm, ⟨27, _⟩ => ⟨S608x1, .i32⟩
  | .hbm, ⟨28, _⟩ => ⟨S608x1x2048, .f32⟩
  | .hbm, ⟨29, _⟩ => ⟨S608x256x2048, .f32⟩
  | .hbm, ⟨30, _⟩ => ⟨S608x256x2048, .f32⟩
  | .hbm, ⟨31, _⟩ => ⟨S608x256x1024, .f32⟩
  | .hbm, ⟨32, _⟩ => ⟨S608x256x1024, .f32⟩
  | .hbm, ⟨33, _⟩ => ⟨S_, .f32⟩
  | .hbm, ⟨34, _⟩ => ⟨S608x256x1024, .f32⟩
  | .hbm, ⟨35, _⟩ => ⟨S608x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S608x256x1024, .f32⟩
  | .hbm, ⟨40, _⟩ => ⟨S608x256x1024, .f32⟩
  | .hbm, ⟨41, _⟩ => ⟨S_, .f32⟩
  | .hbm, ⟨42, _⟩ => ⟨S608x256x1024, .f32⟩
  | .hbm, ⟨43, _⟩ => ⟨S608x256x1024, .f32⟩
  | .hbm, ⟨44, _⟩ => ⟨S_, .f32⟩
  | .hbm, ⟨45, _⟩ => ⟨S608x256x1024, .f32⟩
  | .hbm, ⟨46, _⟩ => ⟨S608x256x1024, .f32⟩
  | .hbm, ⟨47, _⟩ => ⟨S608x256x1024, .f32⟩
  | .hbm, ⟨48, _⟩ => ⟨S608x256x1024, .f32⟩
  | .hbm, ⟨49, _⟩ => ⟨S_, .f32⟩
  | .hbm, ⟨50, _⟩ => ⟨S608x256x1024, .f32⟩
  | .hbm, ⟨51, _⟩ => ⟨S608x256x1024, .f32⟩
  | .hbm, ⟨52, _⟩ => ⟨S_, .f32⟩
  | .hbm, ⟨53, _⟩ => ⟨S608x256x1024, .f32⟩
  | .hbm, ⟨54, _⟩ => ⟨S608x256x1024, .f32⟩
  | .hbm, ⟨55, _⟩ => ⟨S608x256x1024, .f32⟩
  | .hbm, ⟨56, _⟩ => ⟨S_, .f32⟩
  | .hbm, ⟨57, _⟩ => ⟨S608x256x1024, .f32⟩
  | .hbm, ⟨58, _⟩ => ⟨S608x256x1024, .f32⟩
  | .hbm, ⟨59, _⟩ => ⟨S608x256x1024, .f32⟩
  | .hbm, ⟨60, _⟩ => ⟨S32x1024x1024, .f32⟩
  | .hbm, ⟨61, _⟩ => ⟨S_, .i32⟩
  | .hbm, ⟨62, _⟩ => ⟨S608, .i32⟩
  | .hbm, ⟨63, _⟩ => ⟨S608, .i1⟩
  | .hbm, ⟨64, _⟩ => ⟨S_, .i32⟩
  | .hbm, ⟨65, _⟩ => ⟨S608, .i32⟩
  | .hbm, ⟨66, _⟩ => ⟨S608, .i32⟩
  | .hbm, ⟨67, _⟩ => ⟨S608, .i32⟩
  | .hbm, ⟨68, _⟩ => ⟨S608x1, .i32⟩
  | .hbm, ⟨69, _⟩ => ⟨S608x1024x1024, .f32⟩
  | .hbm, ⟨70, _⟩ => ⟨S608x256x1024, .f32⟩
  | .hbm, ⟨71, _⟩ => ⟨S_, .i32⟩
  | .hbm, ⟨72, _⟩ => ⟨S608, .i32⟩
  | .hbm, ⟨73, _⟩ => ⟨S608, .i1⟩
  | .hbm, ⟨74, _⟩ => ⟨S_, .i32⟩
  | .hbm, ⟨75, _⟩ => ⟨S608, .i32⟩
  | .hbm, ⟨76, _⟩ => ⟨S608, .i32⟩
  | .hbm, ⟨77, _⟩ => ⟨S608, .i32⟩
  | .hbm, ⟨78, _⟩ => ⟨S608x1, .i32⟩
  | .hbm, ⟨79, _⟩ => ⟨S608x1x1024, .f32⟩
  | .hbm, ⟨80, _⟩ => ⟨S608x256x1024, .f32⟩
  | .hbm, ⟨81, _⟩ => ⟨S608x256x1024, .f32⟩
  | .hbm, ⟨82, _⟩ => ⟨S608, .i32⟩
  | .hbm, ⟨83, _⟩ => ⟨S_, .i32⟩
  | .hbm, ⟨84, _⟩ => ⟨S608, .i32⟩
  | .hbm, ⟨85, _⟩ => ⟨S608, .i1⟩
  | .hbm, ⟨86, _⟩ => ⟨S608x1x1, .i1⟩
  | .hbm, ⟨87, _⟩ => ⟨S_, .f32⟩
  | .hbm, ⟨88, _⟩ => ⟨S_, .f32⟩
  | .hbm, ⟨89, _⟩ => ⟨S608x256x1024, .i1⟩
  | .hbm, ⟨90, _⟩ => ⟨S608x256x1024, .f32⟩
  | .hbm, ⟨91, _⟩ => ⟨S608x256x1024, .f32⟩
  | .hbm, ⟨92, _⟩ => ⟨S155648x1024, .f32⟩
  | _, _ => ⟨S608, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== MixerIn.lean ====
abbrev S36864x1024 : Shape := ⟨2, ![36864, 1024]⟩
abbrev S1024 : Shape := ⟨1, ![1024]⟩
abbrev S16x6x1x1024 : Shape := ⟨4, ![16, 6, 1, 1024]⟩
abbrev S1024x2048 : Shape := ⟨2, ![1024, 2048]⟩
abbrev S256x512 : Shape := ⟨2, ![256, 512]⟩
abbrev S144 : Shape := ⟨1, ![144]⟩
abbrev S1x1024 : Shape := ⟨2, ![1, 1024]⟩
abbrev S36864x1792 : Shape := ⟨2, ![36864, 1792]⟩
abbrev S36864x256 : Shape := ⟨2, ![36864, 256]⟩
abbrev S256x1024 : Shape := ⟨2, ![256, 1024]⟩
abbrev S1x6x1x1024 : Shape := ⟨4, ![1, 6, 1, 1024]⟩
abbrev S1 : Shape := ⟨1, ![1]⟩
abbrev S256x1792 : Shape := ⟨2, ![256, 1792]⟩
abbrev S256x256 : Shape := ⟨2, ![256, 256]⟩
abbrev S1x1x1x1024 : Shape := ⟨4, ![1, 1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 9
  | .vmem => 13
  | .smem => 1
  | _ => 0

abbrev bufTy : (tb : Table) → Fin (tcTables nBuf tb) → BufTy
  | .hbm, ⟨0, _⟩ => ⟨S36864x1024, .f32⟩
  | .hbm, ⟨1, _⟩ => ⟨S1024, .f32⟩
  | .hbm, ⟨2, _⟩ => ⟨S16x6x1x1024, .f32⟩
  | .hbm, ⟨3, _⟩ => ⟨S1024x2048, .bf16⟩
  | .hbm, ⟨4, _⟩ => ⟨S256x512, .bf16⟩
  | .hbm, ⟨5, _⟩ => ⟨S1x1024, .f32⟩
  | .hbm, ⟨6, _⟩ => ⟨S36864x1792, .f32⟩
  | .hbm, ⟨7, _⟩ => ⟨S36864x256, .bf16⟩
  | .hbm, ⟨8, _⟩ => ⟨S36864x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1x1024, .f32⟩
  | .local _ .vmem, ⟨4, _⟩ => ⟨S1x6x1x1024, .f32⟩
  | .local _ .vmem, ⟨5, _⟩ => ⟨S1024x2048, .bf16⟩
  | .local _ .vmem, ⟨6, _⟩ => ⟨S256x512, .bf16⟩
  | .local _ .vmem, ⟨7, _⟩ => ⟨S256x1792, .f32⟩
  | .local _ .vmem, ⟨8, _⟩ => ⟨S256x1792, .f32⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .smem, ⟨0, _⟩ => ⟨S144, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerInReferenceIdeal.lean ====
abbrev S36864x1024 : Shape := ⟨2, ![36864, 1024]⟩
abbrev S1024 : Shape := ⟨1, ![1024]⟩
abbrev S16x6x1x1024 : Shape := ⟨4, ![16, 6, 1, 1024]⟩
abbrev S1024x2048 : Shape := ⟨2, ![1024, 2048]⟩
abbrev S256x512 : Shape := ⟨2, ![256, 512]⟩
abbrev S9x4096x1024 : Shape := ⟨3, ![9, 4096, 1024]⟩
abbrev S_ : Shape := ⟨0, ![]⟩
abbrev S9x4096 : Shape := ⟨2, ![9, 4096]⟩
abbrev S9x4096x1 : Shape := ⟨3, ![9, 4096, 1]⟩
abbrev S1x1x1024 : Shape := ⟨3, ![1, 1, 1024]⟩
abbrev S9x1x1x1024 : Shape := ⟨4, ![9, 1, 1, 1024]⟩
abbrev S9x1x1024 : Shape := ⟨3, ![9, 1, 1024]⟩
abbrev S9x4096x2048 : Shape := ⟨3, ![9, 4096, 2048]⟩
abbrev S36864x2048 : Shape := ⟨2, ![36864, 2048]⟩
abbrev S36864x256 : Shape := ⟨2, ![36864, 256]⟩
abbrev S36864x512 : Shape := ⟨2, ![36864, 512]⟩
abbrev S36864x1792 : Shape := ⟨2, ![36864, 1792]⟩

abbrev nBuf : Space → Nat
  | .hbm => 44
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S1024, .f32⟩
  | .hbm, ⟨2, _⟩ => ⟨S16x6x1x1024, .f32⟩
  | .hbm, ⟨3, _⟩ => ⟨S1024x2048, .bf16⟩
  | .hbm, ⟨4, _⟩ => ⟨S256x512, .bf16⟩
  | .hbm, ⟨5, _⟩ => ⟨S9x4096x1024, .f32⟩
  | .hbm, ⟨6, _⟩ => ⟨S9x4096x1024, .f32⟩
  | .hbm, ⟨7, _⟩ => ⟨S_, .f32⟩
  | .hbm, ⟨8, _⟩ => ⟨S9x4096, .f32⟩
  | .hbm, ⟨9, _⟩ => ⟨S9x4096x1, .f32⟩
  | .hbm, ⟨10, _⟩ => ⟨S_, .f32⟩
  | .hbm, ⟨11, _⟩ => ⟨S9x4096x1, .f32⟩
  | .hbm, ⟨12, _⟩ => ⟨S9x4096x1, .f32⟩
  | .hbm, ⟨13, _⟩ => ⟨S_, .f32⟩
  | .hbm, ⟨14, _⟩ => ⟨S9x4096x1, .f32⟩
  | .hbm, ⟨15, _⟩ => ⟨S9x4096x1, .f32⟩
  | .hbm, ⟨16, _⟩ => ⟨S9x4096x1, .f32⟩
  | .hbm, ⟨17, _⟩ => ⟨S9x4096x1024, .f32⟩
  | .hbm, ⟨18, _⟩ => ⟨S9x4096x1024, .f32⟩
  | .hbm, ⟨19, _⟩ => ⟨S1x1x1024, .f32⟩
  | .hbm, ⟨20, _⟩ => ⟨S9x4096x1024, .f32⟩
  | .hbm, ⟨21, _⟩ => ⟨S9x4096x1024, .f32⟩
  | .hbm, ⟨22, _⟩ => ⟨S9x1x1x1024, .f32⟩
  | .hbm, ⟨23, _⟩ => ⟨S9x1x1024, .f32⟩
  | .hbm, ⟨24, _⟩ => ⟨S_, .f32⟩
  | .hbm, ⟨25, _⟩ => ⟨S9x1x1024, .f32⟩
  | .hbm, ⟨26, _⟩ => ⟨S9x1x1024, .f32⟩
  | .hbm, ⟨27, _⟩ => ⟨S9x4096x1024, .f32⟩
  | .hbm, ⟨28, _⟩ => ⟨S9x4096x1024, .f32⟩
  | .hbm, ⟨29, _⟩ => ⟨S9x1x1x1024, .f32⟩
  | .hbm, ⟨30, _⟩ => ⟨S9x1x1024, .f32⟩
  | .hbm, ⟨31, _⟩ => ⟨S9x4096x1024, .f32⟩
  | .hbm, ⟨32, _⟩ => ⟨S9x4096x1024, .f32⟩
  | .hbm, ⟨33, _⟩ => ⟨S1024x2048, .f32⟩
  | .hbm, ⟨34, _⟩ => ⟨S9x4096x2048, .f32⟩
  | .hbm, ⟨35, _⟩ => ⟨S36864x2048, .f32⟩
  | .hbm, ⟨36, _⟩ => ⟨S36864x256, .f32⟩
  | .hbm, ⟨37, _⟩ => ⟨S256x512, .f32⟩
  | .hbm, ⟨38, _⟩ => ⟨S36864x512, .f32⟩
  | .hbm, ⟨39, _⟩ => ⟨S36864x1792, .f32⟩
  | .hbm, ⟨40, _⟩ => ⟨S36864x256, .f32⟩
  | .hbm, ⟨41, _⟩ => ⟨S36864x256, .bf16⟩
  | .hbm, ⟨42, _⟩ => ⟨S36864x256, .f32⟩
  | .hbm, ⟨43, _⟩ => ⟨S36864x256, .bf16⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Combine.lean ====
abbrev S36864x1024 : Shape := ⟨2, ![36864, 1024]⟩
abbrev S4x36864x1024 : Shape := ⟨3, ![4, 36864, 1024]⟩
abbrev S36864x128 : Shape := ⟨2, ![36864, 128]⟩
abbrev S16x6x1x1024 : Shape := ⟨4, ![16, 6, 1, 1024]⟩
abbrev S144 : Shape := ⟨1, ![144]⟩
abbrev S256x1024 : Shape := ⟨2, ![256, 1024]⟩
abbrev S4x256x1024 : Shape := ⟨3, ![4, 256, 1024]⟩
abbrev S256x128 : Shape := ⟨2, ![256, 128]⟩
abbrev S1x6x1x1024 : Shape := ⟨4, ![1, 6, 1, 1024]⟩
abbrev S1 : Shape := ⟨1, ![1]⟩
abbrev S256x1 : Shape := ⟨2, ![256, 1]⟩
abbrev S1x256x1024 : Shape := ⟨3, ![1, 256, 1024]⟩
abbrev S1x1x1x1024 : Shape := ⟨4, ![1, 1, 1, 1024]⟩
abbrev S1x1024 : Shape := ⟨2, ![1, 1024]⟩

abbrev nBuf : Space → Nat
  | .hbm => 5
  | .vmem => 10
  | .smem => 1
  | _ => 0

abbrev bufTy : (tb : Table) → Fin (tcTables nBuf tb) → BufTy
  | .hbm, ⟨0, _⟩ => ⟨S36864x1024, .f32⟩
  | .hbm, ⟨1, _⟩ => ⟨S4x36864x1024, .f32⟩
  | .hbm, ⟨2, _⟩ => ⟨S36864x128, .f32⟩
  | .hbm, ⟨3, _⟩ => ⟨S16x6x1x1024, .f32⟩
  | .hbm, ⟨4, _⟩ => ⟨S36864x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .f32⟩
  | .local _ .vmem, ⟨3, _⟩ => ⟨S4x256x1024, .f32⟩
  | .local _ .vmem, ⟨4, _⟩ => ⟨S256x128, .f32⟩
  | .local _ .vmem, ⟨5, _⟩ => ⟨S256x128, .f32⟩
  | .local _ .vmem, ⟨6, _⟩ => ⟨S1x6x1x1024, .f32⟩
  | .local _ .vmem, ⟨7, _⟩ => ⟨S1x6x1x1024, .f32⟩
  | .local _ .vmem, ⟨8, _⟩ => ⟨S256x1024, .f32⟩
  | .local _ .vmem, ⟨9, _⟩ => ⟨S256x1024, .f32⟩
  | .local _ .smem, ⟨0, _⟩ => ⟨S144, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineReferenceIdeal.lean ====
abbrev S36864x1024 : Shape := ⟨2, ![36864, 1024]⟩
abbrev S4x36864x1024 : Shape := ⟨3, ![4, 36864, 1024]⟩
abbrev S36864x128 : Shape := ⟨2, ![36864, 128]⟩
abbrev S16x6x1x1024 : Shape := ⟨4, ![16, 6, 1, 1024]⟩
abbrev S36864x4 : Shape := ⟨2, ![36864, 4]⟩
abbrev S4x36864 : Shape := ⟨2, ![4, 36864]⟩
abbrev S4x36864x1 : Shape := ⟨3, ![4, 36864, 1]⟩
abbrev S_ : Shape := ⟨0, ![]⟩
abbrev S9x4096x1024 : Shape := ⟨3, ![9, 4096, 1024]⟩
abbrev S9x1x1x1024 : Shape := ⟨4, ![9, 1, 1, 1024]⟩
abbrev S9x1x1024 : Shape := ⟨3, ![9, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S4x36864x1024, .f32⟩
  | .hbm, ⟨2, _⟩ => ⟨S36864x128, .f32⟩
  | .hbm, ⟨3, _⟩ => ⟨S16x6x1x1024, .f32⟩
  | .hbm, ⟨4, _⟩ => ⟨S36864x4, .f32⟩
  | .hbm, ⟨5, _⟩ => ⟨S4x36864, .f32⟩
  | .hbm, ⟨6, _⟩ => ⟨S4x36864x1, .f32⟩
  | .hbm, ⟨7, _⟩ => ⟨S4x36864x1024, .f32⟩
  | .hbm, ⟨8, _⟩ => ⟨S4x36864x1024, .f32⟩
  | .hbm, ⟨9, _⟩ => ⟨S_, .f32⟩
  | .hbm, ⟨10, _⟩ => ⟨S36864x1024, .f32⟩
  | .hbm, ⟨11, _⟩ => ⟨S9x4096x1024, .f32⟩
  | .hbm, ⟨12, _⟩ => ⟨S9x1x1x1024, .f32⟩
  | .hbm, ⟨13, _⟩ => ⟨S9x1x1024, .f32⟩
  | .hbm, ⟨14, _⟩ => ⟨S9x4096x1024, .f32⟩
  | .hbm, ⟨15, _⟩ => ⟨S9x4096x1024, .f32⟩
  | .hbm, ⟨16, _⟩ => ⟨S9x4096x1024, .f32⟩
  | .hbm, ⟨17, _⟩ => ⟨S9x4096x1024, .f32⟩
  | .hbm, ⟨18, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Prepare.lean ====
abbrev S36864x1792 : Shape := ⟨2, ![36864, 1792]⟩
abbrev S64 : Shape := ⟨1, ![64]⟩
abbrev S_ : Shape := ⟨0, ![]⟩
abbrev S8x64x64 : Shape := ⟨3, ![8, 64, 64]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x512x512 : Shape := ⟨3, ![8, 512, 512]⟩
abbrev S8x2x512x256 : Shape := ⟨4, ![8, 2, 512, 256]⟩
abbrev S256x512 : Shape := ⟨2, ![256, 512]⟩
abbrev S1x512x256 : Shape := ⟨3, ![1, 512, 256]⟩
abbrev S1x256x512 : Shape := ⟨3, ![1, 256, 512]⟩
abbrev S1x1x512x256 : Shape := ⟨4, ![1, 1, 512, 256]⟩
abbrev S512x256 : Shape := ⟨2, ![512, 256]⟩

abbrev nBuf : Space → Nat
  | .hbm => 30
  | .vmem => 17
  | .smem => 0
  | _ => 0

abbrev bufTy : (tb : Table) → Fin (tcTables nBuf tb) → BufTy
  | .hbm, ⟨0, _⟩ => ⟨S36864x1792, .f32⟩
  | .hbm, ⟨1, _⟩ => ⟨S64, .f32⟩
  | .hbm, ⟨2, _⟩ => ⟨S64, .f32⟩
  | .hbm, ⟨3, _⟩ => ⟨S_, .bf16⟩
  | .hbm, ⟨4, _⟩ => ⟨S8x64x64, .bf16⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .bf16⟩
  | .hbm, ⟨12, _⟩ => ⟨S8x1x8x1, .bf16⟩
  | .hbm, ⟨13, _⟩ => ⟨S8x64x1x64, .bf16⟩
  | .hbm, ⟨14, _⟩ => ⟨S8x64x8x64, .bf16⟩
  | .hbm, ⟨15, _⟩ => ⟨S8x64x8x64, .bf16⟩
  | .hbm, ⟨16, _⟩ => ⟨S8x64x8x64, .bf16⟩
  | .hbm, ⟨17, _⟩ => ⟨S512x512, .bf16⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S1x64, .f32⟩
  | .hbm, ⟨23, _⟩ => ⟨S8x64, .f32⟩
  | .hbm, ⟨24, _⟩ => ⟨S512, .f32⟩
  | .hbm, ⟨25, _⟩ => ⟨S1x512, .f32⟩
  | .hbm, ⟨26, _⟩ => ⟨S8x512x512, .bf16⟩
  | .hbm, ⟨27, _⟩ => ⟨S8x512x512, .bf16⟩
  | .hbm, ⟨28, _⟩ => ⟨S8x2x512x256, .bf16⟩
  | .hbm, ⟨29, _⟩ => ⟨S8x512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512x256, .bf16⟩
  | .local _ .vmem, ⟨10, _⟩ => ⟨S1x512x256, .bf16⟩
  | .local _ .vmem, ⟨11, _⟩ => ⟨S1x256x512, .bf16⟩
  | .local _ .vmem, ⟨12, _⟩ => ⟨S1x256x512, .bf16⟩
  | .local _ .vmem, ⟨13, _⟩ => ⟨S1x1x512x256, .bf16⟩
  | .local _ .vmem, ⟨14, _⟩ => ⟨S1x1x512x256, .bf16⟩
  | .local _ .vmem, ⟨15, _⟩ => ⟨S1x256x512, .f32⟩
  | .local _ .vmem, ⟨16, _⟩ => ⟨S1x256x512, .f32⟩
  | _, _ => ⟨S36864x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c2_i32_0 : BitVec 32 := 2#32
  let c0_i32_1 : BitVec 32 := 0#32
  ![v2.toNat, c2_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrepareReferenceIdeal.lean ====
abbrev S36864x1792 : Shape := ⟨2, ![36864, 1792]⟩
abbrev S64 : Shape := ⟨1, ![64]⟩
abbrev S4096x512 : Shape := ⟨2, ![4096, 512]⟩
abbrev S8x512x8x64 : Shape := ⟨4, ![8, 512, 8, 64]⟩
abbrev S8x2x256x512 : Shape := ⟨4, ![8, 2, 256, 512]⟩
abbrev S_ : Shape := ⟨0, ![]⟩
abbrev S8x512x8 : Shape := ⟨3, ![8, 512, 8]⟩
abbrev S8x512x8x1 : Shape := ⟨4, ![8, 512, 8, 1]⟩
abbrev S1x1x1x64 : Shape := ⟨4, ![1, 1, 1, 64]⟩
abbrev S8x512x512 : Shape := ⟨3, ![8, 512, 512]⟩
abbrev S8x2x512x256 : Shape := ⟨4, ![8, 2, 512, 256]⟩

abbrev nBuf : Space → Nat
  | .hbm => 51
  | .vmem => 0
  | .smem => 0
  | _ => 0

abbrev bufTy : (tb : Table) → Fin (tcTables nBuf tb) → BufTy
  | .hbm, ⟨0, _⟩ => ⟨S36864x1792, .f32⟩
  | .hbm, ⟨1, _⟩ => ⟨S64, .f32⟩
  | .hbm, ⟨2, _⟩ => ⟨S64, .f32⟩
  | .hbm, ⟨3, _⟩ => ⟨S4096x512, .f32⟩
  | .hbm, ⟨4, _⟩ => ⟨S8x512x8x64, .f32⟩
  | .hbm, ⟨5, _⟩ => ⟨S4096x512, .f32⟩
  | .hbm, ⟨6, _⟩ => ⟨S8x512x8x64, .f32⟩
  | .hbm, ⟨7, _⟩ => ⟨S4096x512, .f32⟩
  | .hbm, ⟨8, _⟩ => ⟨S8x2x256x512, .f32⟩
  | .hbm, ⟨9, _⟩ => ⟨S8x512x8x64, .f32⟩
  | .hbm, ⟨10, _⟩ => ⟨S_, .f32⟩
  | .hbm, ⟨11, _⟩ => ⟨S8x512x8, .f32⟩
  | .hbm, ⟨12, _⟩ => ⟨S8x512x8x1, .f32⟩
  | .hbm, ⟨13, _⟩ => ⟨S_, .f32⟩
  | .hbm, ⟨14, _⟩ => ⟨S8x512x8x1, .f32⟩
  | .hbm, ⟨15, _⟩ => ⟨S8x512x8x1, .f32⟩
  | .hbm, ⟨16, _⟩ => ⟨S_, .f32⟩
  | .hbm, ⟨17, _⟩ => ⟨S8x512x8x1, .f32⟩
  | .hbm, ⟨18, _⟩ => ⟨S8x512x8x1, .f32⟩
  | .hbm, ⟨19, _⟩ => ⟨S8x512x8x1, .f32⟩
  | .hbm, ⟨20, _⟩ => ⟨S8x512x8x64, .f32⟩
  | .hbm, ⟨21, _⟩ => ⟨S8x512x8x64, .f32⟩
  | .hbm, ⟨22, _⟩ => ⟨S1x1x1x64, .f32⟩
  | .hbm, ⟨23, _⟩ => ⟨S8x512x8x64, .f32⟩
  | .hbm, ⟨24, _⟩ => ⟨S8x512x8x64, .f32⟩
  | .hbm, ⟨25, _⟩ => ⟨S8x512x8x64, .f32⟩
  | .hbm, ⟨26, _⟩ => ⟨S_, .f32⟩
  | .hbm, ⟨27, _⟩ => ⟨S8x512x8, .f32⟩
  | .hbm, ⟨28, _⟩ => ⟨S8x512x8x1, .f32⟩
  | .hbm, ⟨29, _⟩ => ⟨S_, .f32⟩
  | .hbm, ⟨30, _⟩ => ⟨S8x512x8x1, .f32⟩
  | .hbm, ⟨31, _⟩ => ⟨S8x512x8x1, .f32⟩
  | .hbm, ⟨32, _⟩ => ⟨S_, .f32⟩
  | .hbm, ⟨33, _⟩ => ⟨S8x512x8x1, .f32⟩
  | .hbm, ⟨34, _⟩ => ⟨S8x512x8x1, .f32⟩
  | .hbm, ⟨35, _⟩ => ⟨S8x512x8x1, .f32⟩
  | .hbm, ⟨36, _⟩ => ⟨S8x512x8x64, .f32⟩
  | .hbm, ⟨37, _⟩ => ⟨S8x512x8x64, .f32⟩
  | .hbm, ⟨38, _⟩ => ⟨S1x1x1x64, .f32⟩
  | .hbm, ⟨39, _⟩ => ⟨S8x512x8x64, .f32⟩
  | .hbm, ⟨40, _⟩ => ⟨S8x512x8x64, .f32⟩
  | .hbm, ⟨41, _⟩ => ⟨S8x512x512, .f32⟩
  | .hbm, ⟨42, _⟩ => ⟨S_, .f32⟩
  | .hbm, ⟨43, _⟩ => ⟨S8x512x8x64, .f32⟩
  | .hbm, ⟨44, _⟩ => ⟨S8x512x8x64, .f32⟩
  | .hbm, ⟨45, _⟩ => ⟨S8x512x512, .f32⟩
  | .hbm, ⟨46, _⟩ => ⟨S8x512x512, .f32⟩
  | .hbm, ⟨47, _⟩ => ⟨S8x512x512, .bf16⟩
  | .hbm, ⟨48, _⟩ => ⟨S8x512x512, .bf16⟩
  | .hbm, ⟨49, _⟩ => ⟨S8x2x512x256, .f32⟩
  | .hbm, ⟨50, _⟩ => ⟨S8x2x512x256, .bf16⟩
  | _, _ => ⟨S36864x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Fourier.lean ====
abbrev S32768x256 : Shape := ⟨2, ![32768, 256]⟩
abbrev S4x64x64 : Shape := ⟨3, ![4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x512 : Shape := ⟨2, ![256, 512]⟩
abbrev S32768x512 : Shape := ⟨2, ![32768, 512]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x256 : Shape := ⟨3, ![8, 4096, 256]⟩
abbrev S512x4096 : Shape := ⟨2, ![512, 4096]⟩
abbrev S1x4096x256 : Shape := ⟨3, ![1, 4096, 256]⟩
abbrev S1x512x256 : Shape := ⟨3, ![1, 512, 256]⟩
abbrev S4096x256 : Shape := ⟨2, ![4096, 256]⟩
abbrev S512x256 : Shape := ⟨2, ![512, 256]⟩

abbrev nBuf : Space → Nat
  | .hbm => 124
  | .vmem => 10
  | .smem => 0
  | _ => 0

abbrev bufTy : (tb : Table) → Fin (tcTables nBuf tb) → BufTy
  | .hbm, ⟨0, _⟩ => ⟨S32768x256, .f32⟩
  | .hbm, ⟨1, _⟩ => ⟨S4x64x64, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i1⟩
  | .hbm, ⟨19, _⟩ => ⟨S_, .i32⟩
  | .hbm, ⟨20, _⟩ => ⟨S64x64, .i32⟩
  | .hbm, ⟨21, _⟩ => ⟨S64x64, .i1⟩
  | .hbm, ⟨22, _⟩ => ⟨S_, .i32⟩
  | .hbm, ⟨23, _⟩ => ⟨S_, .i1⟩
  | .hbm, ⟨24, _⟩ => ⟨S64x64, .i1⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S4x64x64, .f32⟩
  | .hbm, ⟨39, _⟩ => ⟨S4x64x64, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S4x64x64, .f32⟩
  | .hbm, ⟨45, _⟩ => ⟨S4x64x64, .f32⟩
  | .hbm, ⟨46, _⟩ => ⟨S4x4, .i32⟩
  | .hbm, ⟨47, _⟩ => ⟨S4x4, .i32⟩
  | .hbm, ⟨48, _⟩ => ⟨S_, .i32⟩
  | .hbm, ⟨49, _⟩ => ⟨S4x4, .i32⟩
  | .hbm, ⟨50, _⟩ => ⟨S4x4, .i32⟩
  | .hbm, ⟨51, _⟩ => ⟨S4x4, .i1⟩
  | .hbm, ⟨52, _⟩ => ⟨S4x4, .f32⟩
  | .hbm, ⟨53, _⟩ => ⟨S4x1x4x1, .f32⟩
  | .hbm, ⟨54, _⟩ => ⟨S4x64x1x64, .f32⟩
  | .hbm, ⟨55, _⟩ => ⟨S4x64x4x64, .f32⟩
  | .hbm, ⟨56, _⟩ => ⟨S4x64x4x64, .f32⟩
  | .hbm, ⟨57, _⟩ => ⟨S4x64x4x64, .f32⟩
  | .hbm, ⟨58, _⟩ => ⟨S256x256, .f32⟩
  | .hbm, ⟨59, _⟩ => ⟨S4x4, .i32⟩
  | .hbm, ⟨60, _⟩ => ⟨S4x4, .i32⟩
  | .hbm, ⟨61, _⟩ => ⟨S_, .i32⟩
  | .hbm, ⟨62, _⟩ => ⟨S4x4, .i32⟩
  | .hbm, ⟨63, _⟩ => ⟨S4x4, .i32⟩
  | .hbm, ⟨64, _⟩ => ⟨S4x4, .i1⟩
  | .hbm, ⟨65, _⟩ => ⟨S4x4, .f32⟩
  | .hbm, ⟨66, _⟩ => ⟨S4x1x4x1, .f32⟩
  | .hbm, ⟨67, _⟩ => ⟨S4x64x1x64, .f32⟩
  | .hbm, ⟨68, _⟩ => ⟨S4x64x4x64, .f32⟩
  | .hbm, ⟨69, _⟩ => ⟨S4x64x4x64, .f32⟩
  | .hbm, ⟨70, _⟩ => ⟨S4x64x4x64, .f32⟩
  | .hbm, ⟨71, _⟩ => ⟨S256x256, .f32⟩
  | .hbm, ⟨72, _⟩ => ⟨S256x512, .f32⟩
  | .hbm, ⟨73, _⟩ => ⟨S256x512, .bf16⟩
  | .hbm, ⟨74, _⟩ => ⟨S32768x256, .bf16⟩
  | .hbm, ⟨75, _⟩ => ⟨S32768x512, .f32⟩
  | .hbm, ⟨76, _⟩ => ⟨S32768x512, .bf16⟩
  | .hbm, ⟨77, _⟩ => ⟨S4096, .i32⟩
  | .hbm, ⟨78, _⟩ => ⟨S4096x1, .i32⟩
  | .hbm, ⟨79, _⟩ => ⟨S1x4096, .i32⟩
  | .hbm, ⟨80, _⟩ => ⟨S4096x4096, .i32⟩
  | .hbm, ⟨81, _⟩ => ⟨S4096x4096, .i32⟩
  | .hbm, ⟨82, _⟩ => ⟨S4096x4096, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S4096x4096, .i32⟩
  | .hbm, ⟨90, _⟩ => ⟨S4096x4096, .i32⟩
  | .hbm, ⟨91, _⟩ => ⟨S_, .i32⟩
  | .hbm, ⟨92, _⟩ => ⟨S4096x4096, .i32⟩
  | .hbm, ⟨93, _⟩ => ⟨S4096x4096, .i1⟩
  | .hbm, ⟨94, _⟩ => ⟨S_, .i32⟩
  | .hbm, ⟨95, _⟩ => ⟨S4096x4096, .i32⟩
  | .hbm, ⟨96, _⟩ => ⟨S4096x4096, .i1⟩
  | .hbm, ⟨97, _⟩ => ⟨S_, .i32⟩
  | .hbm, ⟨98, _⟩ => ⟨S_, .i1⟩
  | .hbm, ⟨99, _⟩ => ⟨S4096x4096, .i1⟩
  | .hbm, ⟨100, _⟩ => ⟨S4096x4096, .i1⟩
  | .hbm, ⟨101, _⟩ => ⟨S4096x4096, .i1⟩
  | .hbm, ⟨102, _⟩ => ⟨S4096x4096, .i32⟩
  | .hbm, ⟨103, _⟩ => ⟨S4096x4096, .i32⟩
  | .hbm, ⟨104, _⟩ => ⟨S4096x4096, .i32⟩
  | .hbm, ⟨105, _⟩ => ⟨S4096x4096, .f32⟩
  | .hbm, ⟨106, _⟩ => ⟨S_, .f32⟩
  | .hbm, ⟨107, _⟩ => ⟨S4096x4096, .f32⟩
  | .hbm, ⟨108, _⟩ => ⟨S4096x4096, .f32⟩
  | .hbm, ⟨109, _⟩ => ⟨S4096x4096, .f32⟩
  | .hbm, ⟨110, _⟩ => ⟨S_, .f32⟩
  | .hbm, ⟨111, _⟩ => ⟨S4096x4096, .f32⟩
  | .hbm, ⟨112, _⟩ => ⟨S4096x4096, .f32⟩
  | .hbm, ⟨113, _⟩ => ⟨S4096x4096, .bf16⟩
  | .hbm, ⟨114, _⟩ => ⟨S4096x4096, .f32⟩
  | .hbm, ⟨115, _⟩ => ⟨S_, .f32⟩
  | .hbm, ⟨116, _⟩ => ⟨S4096x4096, .f32⟩
  | .hbm, ⟨117, _⟩ => ⟨S4096x4096, .f32⟩
  | .hbm, ⟨118, _⟩ => ⟨S4096x4096, .bf16⟩
  | .hbm, ⟨119, _⟩ => ⟨S32768x256, .bf16⟩
  | .hbm, ⟨120, _⟩ => ⟨S8x4096x256, .bf16⟩
  | .hbm, ⟨121, _⟩ => ⟨S32768x256, .bf16⟩
  | .hbm, ⟨122, _⟩ => ⟨S8x4096x256, .bf16⟩
  | .hbm, ⟨123, _⟩ => ⟨S8x4096x256, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x512x256, .bf16⟩
  | .local _ .vmem, ⟨9, _⟩ => ⟨S1x512x256, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_3 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_4 : Ref sig .tc := ⟨.hbm, 83, rfl⟩
abbrev main_call1_v0 : Ref sig .tc := ⟨.hbm, 84, rfl⟩
abbrev main_call1_c : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_1 : Ref sig .tc := ⟨.hbm, 91, rfl⟩
abbrev main_call1_v5 : Ref sig .tc := ⟨.hbm, 92, rfl⟩
abbrev main_call1_v6 : Ref sig .tc := ⟨.hbm, 93, rfl⟩
abbrev main_call1_c_2 : Ref sig .tc := ⟨.hbm, 94, rfl⟩
abbrev main_call1_v7 : Ref sig .tc := ⟨.hbm, 95, rfl⟩
abbrev main_call1_v8 : Ref sig .tc := ⟨.hbm, 96, rfl⟩
abbrev main_call1_c_3 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_v55 : Ref sig .tc := ⟨.hbm, 104, rfl⟩
abbrev main_v56 : Ref sig .tc := ⟨.hbm, 105, rfl⟩
abbrev main_cst_5 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_6 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_7 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FourierReferenceIdeal.lean ====
abbrev S32768x256 : Shape := ⟨2, ![32768, 256]⟩
abbrev S4x64x64 : Shape := ⟨3, ![4, 64, 64]⟩
abbrev S8x4096x4x64 : Shape := ⟨4, ![8, 4096, 4, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x64x4096 : Shape := ⟨4, ![8, 4, 64, 4096]⟩
abbrev S4x64x8x4096 : Shape := ⟨4, ![4, 64, 8, 4096]⟩
abbrev S8x4096x256 : Shape := ⟨3, ![8, 4096, 256]⟩

abbrev nBuf : Space → Nat
  | .hbm => 86
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S4x64x64, .f32⟩
  | .hbm, ⟨2, _⟩ => ⟨S8x4096x4x64, .f32⟩
  | .hbm, ⟨3, _⟩ => ⟨S64, .i32⟩
  | .hbm, ⟨4, _⟩ => ⟨S64x1, .i32⟩
  | .hbm, ⟨5, _⟩ => ⟨S1x64, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i1⟩
  | .hbm, ⟨20, _⟩ => ⟨S_, .i32⟩
  | .hbm, ⟨21, _⟩ => ⟨S64x64, .i32⟩
  | .hbm, ⟨22, _⟩ => ⟨S64x64, .i1⟩
  | .hbm, ⟨23, _⟩ => ⟨S_, .i32⟩
  | .hbm, ⟨24, _⟩ => ⟨S_, .i1⟩
  | .hbm, ⟨25, _⟩ => ⟨S64x64, .i1⟩
  | .hbm, ⟨26, _⟩ => ⟨S64x64, .i1⟩
  | .hbm, ⟨27, _⟩ => ⟨S64x64, .i1⟩
  | .hbm, ⟨28, _⟩ => ⟨S64x64, .i32⟩
  | .hbm, ⟨29, _⟩ => ⟨S64x64, .i32⟩
  | .hbm, ⟨30, _⟩ => ⟨S64x64, .i32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S4096, .i32⟩
  | .hbm, ⟨36, _⟩ => ⟨S4096x1, .i32⟩
  | .hbm, ⟨37, _⟩ => ⟨S1x4096, .i32⟩
  | .hbm, ⟨38, _⟩ => ⟨S4096x4096, .i32⟩
  | .hbm, ⟨39, _⟩ => ⟨S4096x4096, .i32⟩
  | .hbm, ⟨40, _⟩ => ⟨S4096x4096, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S_, .i32⟩
  | .hbm, ⟨53, _⟩ => ⟨S4096x4096, .i32⟩
  | .hbm, ⟨54, _⟩ => ⟨S4096x4096, .i1⟩
  | .hbm, ⟨55, _⟩ => ⟨S_, .i32⟩
  | .hbm, ⟨56, _⟩ => ⟨S_, .i1⟩
  | .hbm, ⟨57, _⟩ => ⟨S4096x4096, .i1⟩
  | .hbm, ⟨58, _⟩ => ⟨S4096x4096, .i1⟩
  | .hbm, ⟨59, _⟩ => ⟨S4096x4096, .i1⟩
  | .hbm, ⟨60, _⟩ => ⟨S4096x4096, .i32⟩
  | .hbm, ⟨61, _⟩ => ⟨S4096x4096, .i32⟩
  | .hbm, ⟨62, _⟩ => ⟨S4096x4096, .i32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S64x64, .f32⟩
  | .hbm, ⟨68, _⟩ => ⟨S8x4096x4x64, .f32⟩
  | .hbm, ⟨69, _⟩ => ⟨S64x64, .f32⟩
  | .hbm, ⟨70, _⟩ => ⟨S8x4096x4x64, .f32⟩
  | .hbm, ⟨71, _⟩ => ⟨S8x4096x4x64, .f32⟩
  | .hbm, ⟨72, _⟩ => ⟨S4096x4096, .f32⟩
  | .hbm, ⟨73, _⟩ => ⟨S8x4x64x4096, .f32⟩
  | .hbm, ⟨74, _⟩ => ⟨S8x4096x4x64, .f32⟩
  | .hbm, ⟨75, _⟩ => ⟨S4096x4096, .f32⟩
  | .hbm, ⟨76, _⟩ => ⟨S8x4x64x4096, .f32⟩
  | .hbm, ⟨77, _⟩ => ⟨S8x4096x4x64, .f32⟩
  | .hbm, ⟨78, _⟩ => ⟨S8x4096x4x64, .f32⟩
  | .hbm, ⟨79, _⟩ => ⟨S_, .f32⟩
  | .hbm, ⟨80, _⟩ => ⟨S8x4096x4x64, .f32⟩
  | .hbm, ⟨81, _⟩ => ⟨S8x4096x4x64, .f32⟩
  | .hbm, ⟨82, _⟩ => ⟨S4x64x8x4096, .f32⟩
  | .hbm, ⟨83, _⟩ => ⟨S8x4096x4x64, .f32⟩
  | .hbm, ⟨84, _⟩ => ⟨S8x4096x256, .f32⟩
  | .hbm, ⟨85, _⟩ => ⟨S8x4096x256, .bf16⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_0 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v17 : Ref sig .tc := ⟨.hbm, 62, rfl⟩
abbrev main_v18 : Ref sig .tc := ⟨.hbm, 63, rfl⟩
abbrev main_cst_1 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_2 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩

abbrev nD : Nat := 1
abbrev τ : Topo := Topo.v7x

variable {F : FTy → Type} [FloatOps F]
-- ==== Output.lean ====
abbrev S36864x1024 : Shape := ⟨2, ![36864, 1024]⟩
abbrev S36864x512 : Shape := ⟨2, ![36864, 512]⟩
abbrev S36864x256 : Shape := ⟨2, ![36864, 256]⟩
abbrev S1024x1024 : Shape := ⟨2, ![1024, 1024]⟩
abbrev S16x6x1x1024 : Shape := ⟨4, ![16, 6, 1, 1024]⟩
abbrev S1024 : Shape := ⟨1, ![1024]⟩
abbrev S1024x32 : Shape := ⟨2, ![1024, 32]⟩
abbrev S32 : Shape := ⟨1, ![32]⟩
abbrev S144 : Shape := ⟨1, ![144]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S8x36864 : Shape := ⟨2, ![8, 36864]⟩
abbrev S36864x128 : Shape := ⟨2, ![36864, 128]⟩
abbrev S128x128 : Shape := ⟨2, ![128, 128]⟩
abbrev S256x1024 : Shape := ⟨2, ![256, 1024]⟩
abbrev S256x512 : Shape := ⟨2, ![256, 512]⟩
abbrev S1x6x1x1024 : Shape := ⟨4, ![1, 6, 1, 1024]⟩
abbrev S8x256 : Shape := ⟨2, ![8, 256]⟩
abbrev S256x128 : Shape := ⟨2, ![256, 128]⟩
abbrev S128x1 : Shape := ⟨2, ![128, 1]⟩
abbrev S1x1x1x1024 : Shape := ⟨4, ![1, 1, 1, 1024]⟩
abbrev S128x256 : Shape := ⟨2, ![128, 256]⟩
abbrev S4x256 : Shape := ⟨2, ![4, 256]⟩
abbrev S124x256 : Shape := ⟨2, ![124, 256]⟩
abbrev S128 : Shape := ⟨1, ![128]⟩

abbrev nBuf : Space → Nat
  | .hbm => 37
  | .vmem => 27
  | .smem => 1
  | _ => 0

abbrev bufTy : (tb : Table) → Fin (tcTables nBuf tb) → BufTy
  | .hbm, ⟨0, _⟩ => ⟨S36864x1024, .f32⟩
  | .hbm, ⟨1, _⟩ => ⟨S36864x512, .bf16⟩
  | .hbm, ⟨2, _⟩ => ⟨S36864x256, .bf16⟩
  | .hbm, ⟨3, _⟩ => ⟨S36864x256, .bf16⟩
  | .hbm, ⟨4, _⟩ => ⟨S1024x1024, .bf16⟩
  | .hbm, ⟨5, _⟩ => ⟨S16x6x1x1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S256, .i32⟩
  | .hbm, ⟨23, _⟩ => ⟨S256x1, .i32⟩
  | .hbm, ⟨24, _⟩ => ⟨S256, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S256x256, .bf16⟩
  | .hbm, ⟨30, _⟩ => ⟨S1x1024, .f32⟩
  | .hbm, ⟨31, _⟩ => ⟨S36864x1024, .f32⟩
  | .hbm, ⟨32, _⟩ => ⟨S36864x1024, .bf16⟩
  | .hbm, ⟨33, _⟩ => ⟨S8x36864, .i32⟩
  | .hbm, ⟨34, _⟩ => ⟨S8x36864, .i32⟩
  | .hbm, ⟨35, _⟩ => ⟨S36864x128, .f32⟩
  | .hbm, ⟨36, _⟩ => ⟨S128x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1024x1024, .bf16⟩
  | .local _ .vmem, ⟨9, _⟩ => ⟨S1x6x1x1024, .f32⟩
  | .local _ .vmem, ⟨10, _⟩ => ⟨S1x6x1x1024, .f32⟩
  | .local _ .vmem, ⟨11, _⟩ => ⟨S1x1024, .f32⟩
  | .local _ .vmem, ⟨12, _⟩ => ⟨S1024x128, .f32⟩
  | .local _ .vmem, ⟨13, _⟩ => ⟨S1x128, .f32⟩
  | .local _ .vmem, ⟨14, _⟩ => ⟨S256x256, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x256, .i32⟩
  | .local _ .vmem, ⟨20, _⟩ => ⟨S8x256, .i32⟩
  | .local _ .vmem, ⟨21, _⟩ => ⟨S8x256, .i32⟩
  | .local _ .vmem, ⟨22, _⟩ => ⟨S8x256, .i32⟩
  | .local _ .vmem, ⟨23, _⟩ => ⟨S256x128, .f32⟩
  | .local _ .vmem, ⟨24, _⟩ => ⟨S256x128, .f32⟩
  | .local _ .vmem, ⟨25, _⟩ => ⟨S128x128, .f32⟩
  | .local _ .vmem, ⟨26, _⟩ => ⟨S128x1, .f32⟩
  | .local _ .smem, ⟨0, _⟩ => ⟨S144, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_c_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v17_3 : Ref sig .tc := ⟨.hbm, 34, rfl⟩
abbrev main_v17_4 : Ref sig .tc := ⟨.hbm, 35, rfl⟩
abbrev main_v17_5 : Ref sig .tc := ⟨.hbm, 36, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![144], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== OutputReferenceIdeal.lean ====
abbrev S36864x1024 : Shape := ⟨2, ![36864, 1024]⟩
abbrev S36864x512 : Shape := ⟨2, ![36864, 512]⟩
abbrev S36864x256 : Shape := ⟨2, ![36864, 256]⟩
abbrev S1024x1024 : Shape := ⟨2, ![1024, 1024]⟩
abbrev S16x6x1x1024 : Shape := ⟨4, ![16, 6, 1, 1024]⟩
abbrev S1024 : Shape := ⟨1, ![1024]⟩
abbrev S1024x32 : Shape := ⟨2, ![1024, 32]⟩
abbrev S32 : Shape := ⟨1, ![32]⟩
abbrev S9x4096x1024 : Shape := ⟨3, ![9, 4096, 1024]⟩
abbrev S9x1x1x1024 : Shape := ⟨4, ![9, 1, 1, 1024]⟩
abbrev S9x1x1024 : Shape := ⟨3, ![9, 1, 1024]⟩
abbrev S_ : Shape := ⟨0, ![]⟩
abbrev S9x4096 : Shape := ⟨2, ![9, 4096]⟩
abbrev S9x4096x1 : Shape := ⟨3, ![9, 4096, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S36864x512, .bf16⟩
  | .hbm, ⟨2, _⟩ => ⟨S36864x256, .bf16⟩
  | .hbm, ⟨3, _⟩ => ⟨S36864x256, .bf16⟩
  | .hbm, ⟨4, _⟩ => ⟨S1024x1024, .bf16⟩
  | .hbm, ⟨5, _⟩ => ⟨S16x6x1x1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S36864x1024, .bf16⟩
  | .hbm, ⟨10, _⟩ => ⟨S36864x1024, .f32⟩
  | .hbm, ⟨11, _⟩ => ⟨S9x4096x1024, .f32⟩
  | .hbm, ⟨12, _⟩ => ⟨S9x4096x1024, .f32⟩
  | .hbm, ⟨13, _⟩ => ⟨S9x1x1x1024, .f32⟩
  | .hbm, ⟨14, _⟩ => ⟨S9x1x1024, .f32⟩
  | .hbm, ⟨15, _⟩ => ⟨S1024x1024, .f32⟩
  | .hbm, ⟨16, _⟩ => ⟨S9x4096x1024, .f32⟩
  | .hbm, ⟨17, _⟩ => ⟨S9x4096x1024, .f32⟩
  | .hbm, ⟨18, _⟩ => ⟨S9x4096x1024, .f32⟩
  | .hbm, ⟨19, _⟩ => ⟨S9x4096x1024, .f32⟩
  | .hbm, ⟨20, _⟩ => ⟨S9x4096x1024, .f32⟩
  | .hbm, ⟨21, _⟩ => ⟨S_, .f32⟩
  | .hbm, ⟨22, _⟩ => ⟨S9x4096, .f32⟩
  | .hbm, ⟨23, _⟩ => ⟨S9x4096x1, .f32⟩
  | .hbm, ⟨24, _⟩ => ⟨S_, .f32⟩
  | .hbm, ⟨25, _⟩ => ⟨S9x4096x1, .f32⟩
  | .hbm, ⟨26, _⟩ => ⟨S9x4096x1, .f32⟩
  | .hbm, ⟨27, _⟩ => ⟨S_, .f32⟩
  | .hbm, ⟨28, _⟩ => ⟨S9x4096x1, .f32⟩
  | .hbm, ⟨29, _⟩ => ⟨S9x4096x1, .f32⟩
  | .hbm, ⟨30, _⟩ => ⟨S9x4096x1, .f32⟩
  | .hbm, ⟨31, _⟩ => ⟨S9x4096x1024, .f32⟩
  | .hbm, ⟨32, _⟩ => ⟨S9x4096x1024, .f32⟩
  | .hbm, ⟨33, _⟩ => ⟨S1x1x1024, .f32⟩
  | .hbm, ⟨34, _⟩ => ⟨S9x4096x1024, .f32⟩
  | .hbm, ⟨35, _⟩ => ⟨S9x4096x1024, .f32⟩
  | .hbm, ⟨36, _⟩ => ⟨S9x1x1x1024, .f32⟩
  | .hbm, ⟨37, _⟩ => ⟨S9x1x1024, .f32⟩
  | .hbm, ⟨38, _⟩ => ⟨S_, .f32⟩
  | .hbm, ⟨39, _⟩ => ⟨S9x1x1024, .f32⟩
  | .hbm, ⟨40, _⟩ => ⟨S9x1x1024, .f32⟩
  | .hbm, ⟨41, _⟩ => ⟨S9x4096x1024, .f32⟩
  | .hbm, ⟨42, _⟩ => ⟨S9x4096x1024, .f32⟩
  | .hbm, ⟨43, _⟩ => ⟨S9x1x1x1024, .f32⟩
  | .hbm, ⟨44, _⟩ => ⟨S9x1x1024, .f32⟩
  | .hbm, ⟨45, _⟩ => ⟨S9x4096x1024, .f32⟩
  | .hbm, ⟨46, _⟩ => ⟨S9x4096x1024, .f32⟩
  | .hbm, ⟨47, _⟩ => ⟨S36864x1024, .f32⟩
  | .hbm, ⟨48, _⟩ => ⟨S36864x1024, .f32⟩
  | .hbm, ⟨49, _⟩ => ⟨S36864x1024, .bf16⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.ExpertsIdealFrame.lean ====
/- The run of the experts' kernel at any contents of its two tables that keep the blocks inside the weights: what each
   grid point leaves in the result's block, that the arguments end unchanged and that the counters end at zero. The
   result's block is stored in one of two branches, on whether the block of rows holds tokens; one of the two is always
   taken, so no point leaves the block alone. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S608 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c)))⟩) h

/-! ## The body's branch conditions -/

/-- The word of a one-word table that the body's conditions read. -/
abbrev usedWord (c : Dev nD) (xt1 : TbBuf0 (F := F) c tbM0_1) : BitVec 32 :=
  (tbM0_1.view.readAt (Elt F) (Rect.unit (s := S1) ![0] S1.size inb_S1_S1_0).toLoadRect xt1 (Shape.Idx.first (numel1_S1.symm ▸ Nat.one_pos)))

/-- The first branch is taken at a block of rows that holds tokens: its number is below the word. -/
abbrev cond0_0 (i : grid0.Coords) (v : BitVec 32) : Prop := k0_cond1 i v = 1#1

/-- A branch's condition, the comparison's bit widened and compared with zero, holds exactly when the bit is one. -/
theorem bit_ne_zero (b : BitVec 1) : (Scalar.cmpi .ne (Scalar.extui b) 0#32 : BitVec 1) = b := by
  revert b; decide

/-- The second branch is taken where the first is not: one asks for less, the other for greater or equal. -/
theorem cond2_of_not (i : grid0.Coords) (v : BitVec 32) (h : ¬ k0_cond1 i v = 1#1) : k0_cond2 i v = 1#1 := by
  unfold k0_cond1 at h; unfold k0_cond2
  dsimp only at h ⊢
  rw [bit_ne_zero] at h ⊢
  revert h
  generalize BitVec.ofNat 32 (i 0).val = b
  simp only [Scalar.cmpi, IntOp.cmpi, BitVec.slt, BitVec.sle]
  intro h
  have h' : ¬ b.toInt < v.toInt := fun hh => h (by simp [hh])
  simp only [show v.toInt ≤ b.toInt by omega, decide_true]; rfl

/-- And not where the first is. -/
theorem not_cond2_of (i : grid0.Coords) (v : BitVec 32) (h : k0_cond1 i v = 1#1) : ¬ k0_cond2 i v = 1#1 := by
  unfold k0_cond1 at h; unfold k0_cond2
  dsimp only at h ⊢
  rw [bit_ne_zero] at h ⊢
  revert h
  generalize BitVec.ofNat 32 (i 0).val = b
  simp only [Scalar.cmpi, IntOp.cmpi, BitVec.slt, BitVec.sle]
  intro h
  have h' : b.toInt < v.toInt := by
    by_contra hh
    simp [hh] at h
  simp [show ¬ v.toInt ≤ b.toInt by omega]

/-- So the result's block is left alone at no point. -/
theorem idle0_5 (pf : pre0.Contents (Elt F)) (i : grid0.Coords) : idle0 pf 5 i = false := by
  show (!(k0_cond1 i (pf.atD 1 ![0]) == 1#1) && !(k0_cond2 i (pf.atD 1 ![0]) == 1#1)) = false
  by_cases h : k0_cond1 i (pf.atD 1 ![0]) = 1#1
  · simp [h]
  · simp [cond2_of_not i _ h]

/-! ## The kernel body on any staging memrefs: a subtype the run finds -/

/-- One staging buffer of output window 5, through which its contents are stated (`View.read_writes_of_cover`: the
    choice does not matter). -/
abbrev VO0_5 : View sig .tc .vmem S256x1024 .f32 := (Memref.whole cc0_stg5_0 : Memref sig .tc .vmem S256x1024 .f32).view
/-- Each window's current staging memref at point `t`, spelled as the pipeline passes it (`bodyAt0`), and its wholeness. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .f32 := spec0_5.stage ((cfgM m hO).slots t 5)
abbrev hs0_5 (hO : Ok m) (t : Fin (cfgM m hO).N) : (ms0_5 m hO t).IsWhole := hstage0_5 (((cfgM m hO).slots t 5).cast nbuf0_5)

-- (the run's proof term is large: the definition's epilogue — `abstractNestedProofs` — walks it past the default budget)
set_option maxHeartbeats 1000000 in
/-- What the body's stores leave in each output's staging memref, as pieces (last first) IN CASE A (`scf.if` 0 taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S256x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : cond0_0 i (usedWord c xt1)) :
    { L5 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8) K } := by
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    have hc1 := not_cond2_of i _ hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

-- (the run's proof term is large: the definition's epilogue — `abstractNestedProofs` — walks it past the default budget)
set_option maxHeartbeats 1000000 in
/-- What the body's stores leave in each output's staging memref, as pieces (last first) IN CASE B (`scf.if` 0 not taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S256x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : ¬cond0_0 i (usedWord c xt1)) :
    { L5 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg3 harg3 arg4 harg4 arg5 harg5 arg6 harg6 arg7 harg7 arg8 harg8) K } := by
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    have hc1 := cond2_of_not i _ hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

/-- Case A's pieces for output 5 tile its block (2 stores of `S256x1024`, checked by the kernel's evaluation: Lib/Ring.lean `Piece.tiledL`, linear in the pieces, through a loop's `@[irreducible]` trip theorem too), so they cover it. -/
theorem cover0_A_5 (c : Dev nD) (i : grid0.Coords) (arg3 : Memref sig .tc .vmem S256x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : cond0_0 i (usedWord c xt1)) (y : S256x1024.Idx) :
    ∃ pc ∈ (kernelRun0_A c i arg3 harg3 arg4 harg4 arg5 harg5 arg6 harg6 arg7 harg7 arg8 harg8 x0 x1 x2 x3 x4 xt0 xt1 hc0).1, y ∈ pc.1.set :=
  View.cover_of_tiledL (kernelRun0_A c i arg3 harg3 arg4 harg4 arg5 harg5 arg6 harg6 arg7 harg7 arg8 harg8 x0 x1 x2 x3 x4 xt0 xt1 hc0).1 S256x1024.size (by sl_kernel_rfl) y

/-- What case A leaves in output 5's staging buffer: its pieces read back over junk. -/
def out0_A_5 (c : Dev nD) (i : grid0.Coords) (arg3 : Memref sig .tc .vmem S256x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : cond0_0 i (usedWord c xt1)) : Vec F S256x1024 .f32 :=
  VO0_5.read (Elt F) (VO0_5.writes (Elt F) VO0_5.junk (kernelRun0_A c i arg3 harg3 arg4 harg4 arg5 harg5 arg6 harg6 arg7 harg7 arg8 harg8 x0 x1 x2 x3 x4 xt0 xt1 hc0).1)

/-- Case B's pieces for output 5 tile its block (1 store of `S256x1024`, checked by the kernel's evaluation: Lib/Ring.lean `Piece.tiledL`, linear in the pieces, through a loop's `@[irreducible]` trip theorem too), so they cover it. -/
theorem cover0_B_5 (c : Dev nD) (i : grid0.Coords) (arg3 : Memref sig .tc .vmem S256x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : ¬cond0_0 i (usedWord c xt1)) (y : S256x1024.Idx) :
    ∃ pc ∈ (kernelRun0_B c i arg3 harg3 arg4 harg4 arg5 harg5 arg6 harg6 arg7 harg7 arg8 harg8 x0 x1 x2 x3 x4 xt0 xt1 hc0).1, y ∈ pc.1.set :=
  View.cover_of_tiledL (kernelRun0_B c i arg3 harg3 arg4 harg4 arg5 harg5 arg6 harg6 arg7 harg7 arg8 harg8 x0 x1 x2 x3 x4 xt0 xt1 hc0).1 S256x1024.size (by sl_kernel_rfl) y

/-- What case B leaves in output 5's staging buffer: its pieces read back over junk. -/
def out0_B_5 (c : Dev nD) (i : grid0.Coords) (arg3 : Memref sig .tc .vmem S256x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : ¬cond0_0 i (usedWord c xt1)) : Vec F S256x1024 .f32 :=
  VO0_5.read (Elt F) (VO0_5.writes (Elt F) VO0_5.junk (kernelRun0_B c i arg3 harg3 arg4 harg4 arg5 harg5 arg6 harg6 arg7 harg7 arg8 harg8 x0 x1 x2 x3 x4 xt0 xt1 hc0).1)

/-! ## What the outputs hold after each point -/

/-- What the outputs' staging buffers hold after the body at point `t`: the run's contents at
    the point's memrefs and input blocks, the case its WORD conditions select there. -/
def outsAt0 (hO : Ok m) (c : Dev nD) (t : Fin (cfgM m hO).N) : Vec F S256x1024 .f32 :=
  if h0 : cond0_0 (grid0.coords t) (usedWord c (tbl m 1)) then
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0
  else
    out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0

/-- `outsAt0` at a point of case A: that case's contents. -/
theorem outsAt0_A (hO : Ok m) (c : Dev nD) (t : Fin (cfgM m hO).N) (h0 : cond0_0 (grid0.coords t) (usedWord c (tbl m 1))) :
    outsAt0 m hO c t = out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0 := by
  unfold outsAt0; exact (dif_pos h0).trans rfl

/-- `outsAt0` at a point of case B: that case's contents. -/
theorem outsAt0_B (hO : Ok m) (c : Dev nD) (t : Fin (cfgM m hO).N) (h0 : ¬cond0_0 (grid0.coords t) (usedWord c (tbl m 1))) :
    outsAt0 m hO c t = out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) h0 := by
  unfold outsAt0; exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h0 : cond0_0 (grid0.coords t) (usedWord c (tbl m 1))
  · rw [outsAt0_A m hO c t h0]
    unfold out0_A_5
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (iblk m hO c 3 t) (iblk m hO c 4 t) (tbl m 0) (tbl m 1) h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _)
  · rw [outsAt0_B m hO c t h0]
    unfold out0_B_5
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (iblk m hO c 3 t) (iblk m hO c 4 t) (tbl m 0) (tbl m 1) h0).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have h6 : idle0 (tbl m) 5 ((pcfg0.gridAt (tbl m)).coords t) = false := idle0_5 _ _
  simp only [h6]
  exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_ExpertsIdeal`'s statement (Defs.lean) at any `F` — Proof.lean cites it at `Bits`:
    `theorem Cert.Proof.claim : Cert.Claim := ⟨Cert.ExpertsIdeal.Gen.facts, fun m ρ _ => Cert.ExpertsIdeal.Gen.frame m ρ⟩`; here for every contents of the PREFETCHED TABLES, UNDER `Gen.Ok m` (the pipeline's side condition of
    them), which Proof.lean proves from the precondition: `⟨…, fun m ρ h => Cert.ExpertsIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.ExpertsIdeal.Gen

end
-- ==== Proof.ExpertsIdealTable.lean ====
/- The precondition on the experts' table of indices, decoded: every entry names one of the thirty-two experts, so
   every block of weights and biases the grid reads lies inside its array. -/
module

public import proofs.«01_k».proof.Defs
public import proofs.«01_k».proof.Proof.ExpertsIdealFrame
public import proofs.«01_k».proof.Proof.Gen.Pre_expert_range
public import Idealize.ShloMosaic.Lib.ReduceAll
public import Idealize.ShloMosaic.Lib.ValueIdxCore

@[expose] public section

set_option maxRecDepth 16384

noncomputable section

namespace Cert.ExpertsIdeal.Gen

open Idealize.ShloMosaic Idealize.ShloMosaic.TcCoe

/-- The entry of the table of indices for the block of rows `n`. -/
def wordOf {F : FTy → Type} [FloatOps F] (m : (ℓ : Loc nD τ sig) → Buf (Elt F) ℓ) (n : Fin 608) : BitVec 32 := tbl m 0 (ValueIdx.ix1 n : S608.Idx)

/-- Every entry names an expert when the precondition holds. -/
theorem word_bound (m : (ℓ : Loc nD τ sig) → Buf (Elt Ideal) ℓ) (h : Cert.Pre_ExpertsIdeal m) (n : Fin 608) : (wordOf m n).toNat < 32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun (h 0) (fun a => a.elim0)
  haveI : Subsingleton Cert.Pre_expert_range.S_.Idx := ⟨fun a b => funext fun i => i.elim0⟩
  unfold Cert.Pre_expert_range.fn at e
  dsimp only at e
  have e2 := Host.reduce_andi_all _ _ _ _ _ e (ValueIdx.ix1 n : S608.Idx)
  simp only [andi, cmpi, broadcastInDim, constantI, IntOp.cmpi, andi_ofBool, ofBool_eq_one, Bool.and_eq_true] at e2
  obtain ⟨hge, hlt⟩ := e2
  simp only [BitVec.sle, BitVec.slt, decide_eq_true_eq, BitVec.toInt, BitVec.toNat_ofNat] at hge hlt
  exact show BitVec.toNat (m (((0 : Dev nD).tc : Thread nD τ).loc main_arg0) (ValueIdx.ix1 n : S608.Idx)) < 32 by omega

section
variable {F : FTy → Type} [FloatOps F] (m : (ℓ : Loc nD τ sig) → Buf (Elt F) ℓ)

/-- The block of rows a grid point works on. -/
abbrev rowOf (i : grid0.Coords) : Fin 608 := ⟨(i 0).val, (i 0).isLt⟩

theorem word_at (i : grid0.Coords) :
    (tbl m).at 0 (Rect.unit (s := S608) ![(Scalar.indexCast (BitVec.ofNat 32 (i 0).val)).toNat] S1.size (k0_off1_inb i)) numel1_S1 = wordOf m (rowOf i) := by
  unfold Pipeline.Prefetch.Contents.at wordOf
  have hb : (i 0).val < 608 := (i 0).isLt
  have key : ∀ (x : S608.Idx), (x 0).val = (i 0).val → x = (ValueIdx.ix1 (rowOf i) : S608.Idx) := fun x hx => by
    rw [ValueIdx.eq_ix1 x]; congr 1; exact Fin.ext hx
  refine congrArg (tbl m 0) (key _ ?_)
  show (Scalar.indexCast (BitVec.ofNat 32 (i 0).val)).toNat + 1 * _ = (i 0).val
  have h0 : ∀ x : Fin 1, x.val = 0 := fun x => by omega
  erw [h0]
  rw [show (Scalar.indexCast (BitVec.ofNat 32 (i 0).val)) = BitVec.ofNat 32 (i 0).val from rfl, BitVec.toNat_ofNat]
  omega

theorem tr1 (i : grid0.Coords) : cc0_transform_1 k0_off1_inb numel1_S1 (tbl m) i = ![(wordOf m (rowOf i)).toNat, 0, 0] := by
  unfold cc0_transform_1; dsimp only; rw [word_at]; rfl
theorem tr2 (i : grid0.Coords) : cc0_transform_2 k0_off1_inb numel1_S1 (tbl m) i = ![(wordOf m (rowOf i)).toNat, 0, 0] := by
  unfold cc0_transform_2; dsimp only; rw [word_at]; rfl
theorem tr3 (i : grid0.Coords) : cc0_transform_3 k0_off1_inb numel1_S1 (tbl m) i = ![(wordOf m (rowOf i)).toNat, 0, 0] := by
  unfold cc0_transform_3; dsimp only; rw [word_at]; rfl
theorem tr4 (i : grid0.Coords) : cc0_transform_4 k0_off1_inb numel1_S1 (tbl m) i = ![(wordOf m (rowOf i)).toNat, 0, 0] := by
  unfold cc0_transform_4; dsimp only; rw [word_at]; rfl

/-- Entries that name experts keep every block of weights and biases inside its array. -/
theorem ok_of_bound (hb : ∀ n, (wordOf m n).toNat < 32) : Ok m := by
  have key : ∀ i : grid0.Coords, (wordOf m (rowOf i)).toNat < 32 := fun i => hb _
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  all_goals
    first | rw [tr1] | rw [tr2] | rw [tr3] | rw [tr4]
    have := key i
    generalize (wordOf m (rowOf i)).toNat = w at this
    intro a
    fin_cases a <;> simp <;> omega
end

/-- The precondition gives the pipeline's side condition. -/
theorem ok_of_pre (m : (ℓ : Loc nD τ sig) → Buf (Elt Ideal) ℓ) (h : Cert.Pre_ExpertsIdeal m) : Ok m := ok_of_bound m (word_bound m h)

end Cert.ExpertsIdeal.Gen

end
-- ==== Proof.ExpertsSpec.lean ====
/- The experts' reference read at one place of its result: the formula of the layer at the expert that the table names.
   The reference picks the expert's weights by gathers at the table's entries; an entry in range is neither wrapped nor
   clamped, so each gather reads the named expert's weights. -/
module

public import proofs.«01_k».proof.Proof.Gen.ExpertsReferenceIdeal.Read
public import Idealize.ShloMosaic.Lib.ValueIdxCore
public import Idealize.ShloMosaic.Lib.ValueIdxCoords
public import Idealize.ShloMosaic.Lib.Pointwise

@[expose] public section

set_option maxRecDepth 16384

noncomputable section

namespace Cert.ExpertsSpec

open Idealize.ShloMosaic

/-! ## A gather that picks members of a stack by one index each -/

section Stack
variable {α : Type}

/-- Picking, for each of `M` entries, one member of a stack of `N` arrays `A × B`. -/
abbrev stackDims (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

/-- The gather at `(n, a, b)` is the stack's member named by entry `n`, read signed and clamped, at `(a, b)`. -/
theorem gather_stack_apply {N A B M w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (n : Fin M) (a : Fin A) (b : Fin B) :
    Host.gather (stackDims N A B M wf) x idx (ix3 n a b)
      = x (ix3 ⟨min (idx (ix2 n 0)).toInt.toNat (N - 1), by omega⟩ a b) := by
  unfold Host.gather
  congr 1
  funext d
  refine Fin.ext ?_
  show (stackDims N A B M wf).start (ix3 n a b) idx d + (stackDims N A B M wf).batchCoord (ix3 n a b) d
      + (stackDims N A B M wf).offCoord (ix3 n a b) d = _
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  have hb : (stackDims N A B M wf).batchCoord (ix3 n a b) d = 0 :=
    GatherDims.batchCoord_eq_zero _ _ _ (fun h => by simp at h)
  rw [hb, Nat.add_zero]
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (stackDims N A B M wf).startIndexMap from List.mem_singleton.mpr rfl)]
    have hsi : (stackDims N A B M wf).siIdx (ix3 n a b) ⟨List.idxOf (0 : Fin 3) (stackDims N A B M wf).startIndexMap,
        List.idxOf_lt_length_iff.2 (List.mem_singleton.mpr rfl)⟩ = ix2 n 0 := by
      funext e; refine Fin.ext ?_
      match e with
      | ⟨0, _⟩ => rfl
      | ⟨1, _⟩ => rfl
    rw [hsi]
    rfl
  · unfold GatherDims.start
    rw [dif_neg (show ¬(1 : Fin 3) ∈ (stackDims N A B M wf).startIndexMap from fun h => by simp at h), Nat.zero_add]
    rfl
  · unfold GatherDims.start
    rw [dif_neg (show ¬(2 : Fin 3) ∈ (stackDims N A B M wf).startIndexMap from fun h => by simp at h), Nat.zero_add]
    rfl

end Stack

/-- An entry in range, read as the reference reads it: not wrapped, not clamped. -/
theorem entry_toNat (w : BitVec 32) (h : w.toNat < 32) :
    min (Scalar.select (IntOp.cmpi .slt w 0#32) (IntOp.addi w 32#32) w).toInt.toNat (32 - 1) = w.toNat := by
  have hs : IntOp.cmpi .slt w 0#32 = 0#1 := by
    unfold IntOp.cmpi
    have : w.slt 0#32 = false := by
      simp only [BitVec.slt, decide_eq_false_iff_not, BitVec.toInt, BitVec.toNat_ofNat]; omega
    simp [this]
  rw [hs, show Scalar.select 0#1 (IntOp.addi w 32#32) w = w from rfl, BitVec.toInt]
  omega

/-! ## The formula -/

section Formula
variable (be : Fin 608 → BitVec 32) (hb : ∀ n, (be n).toNat < 32) (used : BitVec 32)
variable (x : (⟨2, ![155648, 1024]⟩ : Shape).Idx → EReal) (wg : (⟨3, ![32, 1024, 2048]⟩ : Shape).Idx → EReal)
variable (bg : (⟨3, ![32, 1, 2048]⟩ : Shape).Idx → EReal) (wd : (⟨3, ![32, 1024, 1024]⟩ : Shape).Idx → EReal)
variable (bd : (⟨3, ![32, 1, 1024]⟩ : Shape).Idx → EReal)

/-- The expert of a block of rows. -/
abbrev expert (n : Fin 608) : Fin 32 := ⟨(be n).toNat, hb n⟩

/-- Row `r` of block `n`, as a row of the whole. -/
abbrev row (n : Fin 608) (r : Fin 256) : Fin 155648 := ⟨n.val * 256 + r.val, by omega⟩

/-- The gate-and-up product with its bias. -/
def gateUp (n : Fin 608) (r : Fin 256) (f : Fin 2048) : EReal :=
  (∑ k : Fin 1024, x (ix2 (row n r) k) * wg (ix3 (expert be hb n) k f)) + bg (ix3 (expert be hb n) 0 f)

/-- The gated activation: gate clipped above at 7, the other half clipped to ±7. -/
def act (n : Fin 608) (r : Fin 256) (f : Fin 1024) : EReal :=
  min (gateUp be hb x wg bg n r ⟨f.val, by omega⟩) (Ideal.ofBits .f32 0x40E00000#32)
    * Ideal.logistic (Ideal.ofBits .f32 0x3FD9DB23#32 * min (gateUp be hb x wg bg n r ⟨f.val, by omega⟩) (Ideal.ofBits .f32 0x40E00000#32))
    * (min (Ideal.ofBits .f32 0x40E00000#32) (max (Ideal.ofBits .f32 0xC0E00000#32) (gateUp be hb x wg bg n r ⟨1024 + f.val, by omega⟩)) + 1)

/-- The down product with its bias. -/
def down (n : Fin 608) (r : Fin 256) (d : Fin 1024) : EReal :=
  (∑ f : Fin 1024, act be hb x wg bg n r f * wd (ix3 (expert be hb n) f d)) + bd (ix3 (expert be hb n) 0 d)

/-- The result: the down product at blocks in use, zero at the others. -/
def out (n : Fin 608) (r : Fin 256) (d : Fin 1024) : EReal :=
  if (BitVec.ofNat 32 n.val).slt used then down be hb x wg bg wd bd n r d else 0
end Formula

end Cert.ExpertsSpec

end
-- ==== Proof.ExpertsValue.lean ====
/- What the experts' kernel leaves in its result: at each row of each block the formula of `ExpertsSpec`. -/
module

public import proofs.«01_k».proof.Proof.ExpertsIdealTable
public import proofs.«01_k».proof.Proof.ExpertsSpec
public import Idealize.ShloMosaic.Lib.Pipeline.Value
public import Idealize.ShloMosaic.Lib.Pipeline.ValueKit.Basic
public import Idealize.ShloMosaic.Lib.Pointwise
public import Idealize.ShloMosaic.Lib.IdealHost

@[expose] public section

set_option maxRecDepth 16384

noncomputable section

namespace Cert.ExpertsIdeal.Hand

open Cert.ExpertsIdeal Cert.ExpertsIdeal.Gen Idealize.ShloMosaic Idealize.ShloMosaic.TcCoe Idealize.SL.Sem Cert.ExpertsSpec
open Idealize.ShloMosaic.Pipeline (Dat)

/-! ## One block -/

/-- The block's gate-and-up product with its bias. -/
def bGateUp (x : Vec Ideal S256x1024 .bf16) (wg : Vec Ideal S1x1024x2048 .bf16) (bg : Vec Ideal S1x1x2048 .f32) (r : Fin 256) (f : Fin 2048) : EReal :=
  (∑ k : Fin 1024, x (ix2 r k) * wg (ix3 0 k f)) + bg (ix3 0 0 f)

/-- The block's gated activation. -/
def bAct (x : Vec Ideal S256x1024 .bf16) (wg : Vec Ideal S1x1024x2048 .bf16) (bg : Vec Ideal S1x1x2048 .f32) (r : Fin 256) (f : Fin 1024) : EReal :=
  min (bGateUp x wg bg r ⟨f.val, by omega⟩) (Ideal.ofBits .f32 0x40E00000#32)
    * Ideal.logistic (Ideal.ofBits .f32 0x3FD9DB23#32 * min (bGateUp x wg bg r ⟨f.val, by omega⟩) (Ideal.ofBits .f32 0x40E00000#32))
    * (min (Ideal.ofBits .f32 0x40E00000#32) (max (Ideal.ofBits .f32 0xC0E00000#32) (bGateUp x wg bg r ⟨1024 + f.val, by omega⟩)) + 1)

/-- What the body computes for a block in use, at one place. -/
theorem pay1_at (x : Vec Ideal S256x1024 .bf16) (wg : Vec Ideal S1x1024x2048 .bf16) (bg : Vec Ideal S1x1x2048 .f32)
    (wd : Vec Ideal S1x1024x1024 .bf16) (bd : Vec Ideal S1x1x1024 .f32) (r : Fin 256) (d : Fin 1024) :
    k0_pay1 (F := Ideal) x wg bg wd bd (ix2 r d) = (∑ f : Fin 1024, bAct x wg bg r f * wd (ix3 0 f d)) + bd (ix3 0 0 d) := by
  pointwise [k0_pay1, bAct, bGateUp]

theorem pay2_at (r : Fin 256) (d : Fin 1024) : k0_pay2 (F := Ideal) (ix2 r d) = (0 : EReal) := by
  pointwise [k0_pay2]

theorem out_A (c : Dev nD) (i : grid0.Coords) (arg3) (harg3) (arg4) (harg4) (arg5) (harg5) (arg6) (harg6) (arg7) (harg7) (arg8) (harg8)
    (x0 : Vec Ideal S256x1024 .bf16) (x1 : Vec Ideal S1x1024x2048 .bf16) (x2 : Vec Ideal S1x1x2048 .f32) (x3 : Vec Ideal S1x1024x1024 .bf16) (x4 : Vec Ideal S1x1x1024 .f32) (xt0) (xt1) (hc0) :
    out0_A_5 c i arg3 harg3 arg4 harg4 arg5 harg5 arg6 harg6 arg7 harg7 arg8 harg8 x0 x1 x2 x3 x4 xt0 xt1 hc0 = k0_pay1 x0 x1 x2 x3 x4 := by
  have z2 : (![0, 0] : Fin 2 → ℕ) = 0 := by decide
  have z3 : (![0, 0, 0] : Fin 3 → ℕ) = 0 := by decide
  unfold out0_A_5
  rw [View.read_writes_eq_canon _ _ _ (cover0_A_5 c i arg3 harg3 arg4 harg4 arg5 harg5 arg6 harg6 arg7 harg7 arg8 harg8 x0 x1 x2 x3 x4 xt0 xt1 hc0)]
  unfold kernelRun0_A
  dsimp only
  rw [View.canon_unit_zero z2]
  simp only [View.readAt_eq_ld, harg3.read_unread, harg4.read_unread, harg5.read_unread, harg6.read_unread, harg7.read_unread,
    View.ld_unit_zero (S := S256x1024) z2, View.ld_unit_zero (S := S1x1024x2048) z3, View.ld_unit_zero (S := S1x1x2048) z3,
    View.ld_unit_zero (S := S1x1024x1024) z3, View.ld_unit_zero (S := S1x1x1024) z3]

theorem out_B (c : Dev nD) (i : grid0.Coords) (arg3) (harg3) (arg4) (harg4) (arg5) (harg5) (arg6) (harg6) (arg7) (harg7) (arg8) (harg8)
    (x0 : Vec Ideal S256x1024 .bf16) (x1 : Vec Ideal S1x1024x2048 .bf16) (x2 : Vec Ideal S1x1x2048 .f32) (x3 : Vec Ideal S1x1024x1024 .bf16) (x4 : Vec Ideal S1x1x1024 .f32) (xt0) (xt1) (hc0) :
    out0_B_5 c i arg3 harg3 arg4 harg4 arg5 harg5 arg6 harg6 arg7 harg7 arg8 harg8 x0 x1 x2 x3 x4 xt0 xt1 hc0 = k0_pay2 (F := Ideal) := by
  have z2 : (![0, 0] : Fin 2 → ℕ) = 0 := by decide
  unfold out0_B_5
  rw [View.read_writes_eq_canon _ _ _ (cover0_B_5 c i arg3 harg3 arg4 harg4 arg5 harg5 arg6 harg6 arg7 harg7 arg8 harg8 x0 x1 x2 x3 x4 xt0 xt1 hc0)]
  unfold kernelRun0_B
  dsimp only
  rw [View.canon_unit_zero z2]

/-! ## The whole result -/

/-- A grid point's coordinate is its position. -/
theorem coord_val : ∀ t : Fin grid0.N, (grid0.coords t 0).val = t.val := by decide +kernel

variable (m : (ℓ : Loc nD τ sig) → Buf (Elt Ideal) ℓ) (ρ : Dev nD → PrngReg)
variable (hb : ∀ n, (wordOf m n).toNat < 32)

/-- The pipeline's side condition, from the bound. -/
abbrev okOf : Ok m := ok_of_bound m hb

/-- The number of blocks in use, as the table holds it. -/
abbrev usedOf : BitVec 32 := tbl m 1 (ix1 0 : S1.Idx)

/-- The block of rows of a grid point. -/
abbrev blockOf (t : Fin grid0.N) : Fin 608 := ⟨t.val, lt_of_lt_of_eq t.isLt N_0⟩

theorem lt608 (t : Fin grid0.N) : t.val < 608 := lt_of_lt_of_eq t.isLt N_0

theorem rowOf_coords (t : Fin grid0.N) : rowOf (grid0.coords t) = blockOf t := Fin.ext (coord_val t)

theorem iblk0_at (c : Dev nD) (t : Fin grid0.N) (r : Fin 256) (k : Fin 1024) :
    iblk m (okOf m hb) c 0 t (ix2 r k) = V m c main_arg2 (ix2 (row (blockOf t) r) k) := by
  show V m c main_arg2 ((((cfgM m (okOf m hb)).win 0).blk t).view.emb (ix2 r k)) = _
  refine congrArg (V m c main_arg2) ?_
  have hv := coord_val t
  funext a; apply Fin.ext
  match a with
  | ⟨0, _⟩ =>
    show (BitVec.ofNat 32 (grid0.coords t 0).val).toNat * 256 + 1 * r.val = t.val * 256 + r.val
    have := lt608 t
    rw [hv, BitVec.toNat_ofNat]; omega
  | ⟨1, _⟩ => show 0 * 1024 + 1 * k.val = k.val; omega

theorem iblk1_at (c : Dev nD) (t : Fin grid0.N) (k : Fin 1024) (f : Fin 2048) :
    iblk m (okOf m hb) c 1 t (ix3 0 k f) = V m c main_arg3 (ix3 (expert (wordOf m) hb (blockOf t)) k f) := by
  show V m c main_arg3 ((((cfgM m (okOf m hb)).win 1).blk t).view.emb (ix3 0 k f)) = _
  refine congrArg (V m c main_arg3) ?_
  have e : cc0_transform_1 k0_off1_inb numel1_S1 (tbl m) (grid0.coords t) = ![(wordOf m (blockOf t)).toNat, 0, 0] := by rw [tr1, rowOf_coords]
  funext a; apply Fin.ext
  match a with
  | ⟨0, _⟩ =>
    show cc0_transform_1 k0_off1_inb numel1_S1 (tbl m) (grid0.coords t) 0 * 1 + 1 * 0 = (wordOf m (blockOf t)).toNat
    rw [e]; simp
  | ⟨1, _⟩ =>
    show cc0_transform_1 k0_off1_inb numel1_S1 (tbl m) (grid0.coords t) 1 * 1024 + 1 * k.val = k.val
    rw [e]; simp
  | ⟨2, _⟩ =>
    show cc0_transform_1 k0_off1_inb numel1_S1 (tbl m) (grid0.coords t) 2 * 2048 + 1 * f.val = f.val
    rw [e]; simp

theorem iblk2_at (c : Dev nD) (t : Fin grid0.N) (f : Fin 2048) :
    iblk m (okOf m hb) c 2 t (ix3 0 0 f) = V m c main_arg4 (ix3 (expert (wordOf m) hb (blockOf t)) 0 f) := by
  show V m c main_arg4 ((((cfgM m (okOf m hb)).win 2).blk t).view.emb (ix3 0 0 f)) = _
  refine congrArg (V m c main_arg4) ?_
  have e : cc0_transform_2 k0_off1_inb numel1_S1 (tbl m) (grid0.coords t) = ![(wordOf m (blockOf t)).toNat, 0, 0] := by rw [tr2, rowOf_coords]
  funext a; apply Fin.ext
  match a with
  | ⟨0, _⟩ =>
    show cc0_transform_2 k0_off1_inb numel1_S1 (tbl m) (grid0.coords t) 0 * 1 + 1 * 0 = (wordOf m (blockOf t)).toNat
    rw [e]; simp
  | ⟨1, _⟩ =>
    show cc0_transform_2 k0_off1_inb numel1_S1 (tbl m) (grid0.coords t) 1 * 1 + 1 * 0 = 0
    rw [e]; simp
  | ⟨2, _⟩ =>
    show cc0_transform_2 k0_off1_inb numel1_S1 (tbl m) (grid0.coords t) 2 * 2048 + 1 * f.val = f.val
    rw [e]; simp

theorem iblk3_at (c : Dev nD) (t : Fin grid0.N) (k : Fin 1024) (f : Fin 1024) :
    iblk m (okOf m hb) c 3 t (ix3 0 k f) = V m c main_arg5 (ix3 (expert (wordOf m) hb (blockOf t)) k f) := by
  show V m c main_arg5 ((((cfgM m (okOf m hb)).win 3).blk t).view.emb (ix3 0 k f)) = _
  refine congrArg (V m c main_arg5) ?_
  have e : cc0_transform_3 k0_off1_inb numel1_S1 (tbl m) (grid0.coords t) = ![(wordOf m (blockOf t)).toNat, 0, 0] := by rw [tr3, rowOf_coords]
  funext a; apply Fin.ext
  match a with
  | ⟨0, _⟩ =>
    show cc0_transform_3 k0_off1_inb numel1_S1 (tbl m) (grid0.coords t) 0 * 1 + 1 * 0 = (wordOf m (blockOf t)).toNat
    rw [e]; simp
  | ⟨1, _⟩ =>
    show cc0_transform_3 k0_off1_inb numel1_S1 (tbl m) (grid0.coords t) 1 * 1024 + 1 * k.val = k.val
    rw [e]; simp
  | ⟨2, _⟩ =>
    show cc0_transform_3 k0_off1_inb numel1_S1 (tbl m) (grid0.coords t) 2 * 1024 + 1 * f.val = f.val
    rw [e]; simp

theorem iblk4_at (c : Dev nD) (t : Fin grid0.N) (f : Fin 1024) :
    iblk m (okOf m hb) c 4 t (ix3 0 0 f) = V m c main_arg6 (ix3 (expert (wordOf m) hb (blockOf t)) 0 f) := by
  show V m c main_arg6 ((((cfgM m (okOf m hb)).win 4).blk t).view.emb (ix3 0 0 f)) = _
  refine congrArg (V m c main_arg6) ?_
  have e : cc0_transform_4 k0_off1_inb numel1_S1 (tbl m) (grid0.coords t) = ![(wordOf m (blockOf t)).toNat, 0, 0] := by rw [tr4, rowOf_coords]
  funext a; apply Fin.ext
  match a with
  | ⟨0, _⟩ =>
    show cc0_transform_4 k0_off1_inb numel1_S1 (tbl m) (grid0.coords t) 0 * 1 + 1 * 0 = (wordOf m (blockOf t)).toNat
    rw [e]; simp
  | ⟨1, _⟩ =>
    show cc0_transform_4 k0_off1_inb numel1_S1 (tbl m) (grid0.coords t) 1 * 1 + 1 * 0 = 0
    rw [e]; simp
  | ⟨2, _⟩ =>
    show cc0_transform_4 k0_off1_inb numel1_S1 (tbl m) (grid0.coords t) 2 * 1024 + 1 * f.val = f.val
    rw [e]; simp

/-- The result's value at one place of one block. -/
abbrev outOf (c : Dev nD) (n : Fin 608) (r : Fin 256) (d : Fin 1024) : EReal :=
  out (wordOf m) hb (usedOf m) (V m c main_arg2) (V m c main_arg3) (V m c main_arg4) (V m c main_arg5) (V m c main_arg6) n r d

/-- The whole result. -/
def val (c : Dev nD) : Buf (Elt Ideal) ((c : Thread nD τ).loc main_v0) := fun j =>
  outOf m hb c ⟨(j 0).val / 256, by have : (j 0).val < 155648 := (j 0).isLt; omega⟩ ⟨(j 0).val % 256, by omega⟩ ⟨(j 1).val, (j 1).isLt⟩

theorem val_row (c : Dev nD) (n : Fin 608) (r : Fin 256) (d : Fin 1024) : val m hb c (ix2 (row n r) d) = outOf m hb c n r d := by
  unfold val
  have e1 : (⟨((ix2 (row n r) d : S155648x1024.Idx) 0).val / 256, by have : ((ix2 (row n r) d : S155648x1024.Idx) 0).val < 155648 := ((ix2 (row n r) d : S155648x1024.Idx) 0).isLt; omega⟩ : Fin 608) = n :=
    Fin.ext (show (n.val * 256 + r.val) / 256 = n.val by omega)
  have e2 : (⟨((ix2 (row n r) d : S155648x1024.Idx) 0).val % 256, by omega⟩ : Fin 256) = r :=
    Fin.ext (show (n.val * 256 + r.val) % 256 = r.val by omega)
  rw [e1, e2]
  rfl

theorem used_eq (c : Dev nD) : usedWord c (tbl m 1) = usedOf m := by
  show tbl m 1 _ = tbl m 1 _
  refine congrArg (tbl m 1) ?_
  funext a
  match a with
  | ⟨0, _⟩ => exact Fin.ext (by
      have h : ∀ x : Fin 1, x.val = 0 := fun x => by omega
      exact (h _).trans (h _).symm)

theorem cond_iff (t : Fin grid0.N) (u : BitVec 32) : cond0_0 (grid0.coords t) u ↔ (BitVec.ofNat 32 (blockOf t).val).slt u = true := by
  unfold cond0_0 k0_cond1
  dsimp only
  rw [bit_ne_zero, coord_val]
  show BitVec.ofBool _ = 1#1 ↔ _
  have ofBool_eq_one (p : Bool) : (BitVec.ofBool p = 1#1) ↔ p = true := by cases p <;> decide
  exact ofBool_eq_one _

/-- What a grid point leaves in the result's block. -/
theorem outs_at (c : Dev nD) (t : Fin grid0.N) (r : Fin 256) (d : Fin 1024) :
    outsAt0 m (okOf m hb) c t (ix2 r d) = outOf m hb c (blockOf t) r d := by
  by_cases h0 : cond0_0 (grid0.coords t) (usedWord c (tbl m 1))
  · refine (congrFun (outsAt0_A m (okOf m hb) c t h0) _).trans ((congrFun (out_A c _ _ _ _ _ _ _ _ _ _ _ _ _ _ _ _ _ _ _ _ _) _).trans ((pay1_at _ _ _ _ _ r d).trans ?_))
    rw [used_eq, cond_iff] at h0
    unfold outOf out
    rw [if_pos h0]
    unfold down
    have hg : ∀ f : Fin 2048, bGateUp (iblk m (okOf m hb) c 0 t) (iblk m (okOf m hb) c 1 t) (iblk m (okOf m hb) c 2 t) r f
        = gateUp (wordOf m) hb (V m c main_arg2) (V m c main_arg3) (V m c main_arg4) (blockOf t) r f := fun f => by
      unfold gateUp bGateUp
      exact congrArg₂ (· + ·) (Finset.sum_congr rfl fun k _ => congrArg₂ (· * ·) (iblk0_at m hb c t r k) (iblk1_at m hb c t k f)) (iblk2_at m hb c t f)
    have ha : ∀ f : Fin 1024, bAct (iblk m (okOf m hb) c 0 t) (iblk m (okOf m hb) c 1 t) (iblk m (okOf m hb) c 2 t) r f
        = act (wordOf m) hb (V m c main_arg2) (V m c main_arg3) (V m c main_arg4) (blockOf t) r f := fun f => by
      unfold act bAct
      rw [hg, hg]
    exact congrArg₂ (· + ·) (Finset.sum_congr rfl fun f _ => congrArg₂ (· * ·) (ha f) (iblk3_at m hb c t f d)) (iblk4_at m hb c t d)
  · refine (congrFun (outsAt0_B m (okOf m hb) c t h0) _).trans ((congrFun (out_B c _ _ _ _ _ _ _ _ _ _ _ _ _ _ _ _ _ _ _ _ _) _).trans ((pay2_at r d).trans ?_))
    rw [used_eq, cond_iff] at h0
    unfold outOf out
    rw [if_neg h0]

theorem flushed_eq (c : Dev nD) (t : Fin (cfgM m (okOf m hb)).N) :
    (dats m (okOf m hb) 0 c).flushed 5 t = (((cfgM m (okOf m hb)).win 5).blk t).view.read (Elt Ideal) (val m hb c) := by
  show ((cfgM m (okOf m hb)).win 5).cut (grid0.coords t) ((dats m (okOf m hb) 0 c).after 5 t) = _
  rw [after0_5]
  suffices h : ∀ j : S256x1024.Idx, outsAt0 m (okOf m hb) c t j = val m hb c ((((cfgM m (okOf m hb)).win 5).blk t).view.emb j) from funext fun j => h j
  intro j
  have hj0 : (j 0).val < 256 := (j 0).isLt
  have hj1 : (j 1).val < 1024 := (j 1).isLt
  have e : (((cfgM m (okOf m hb)).win 5).blk t).view.emb j = (ix2 (row (blockOf t) ⟨(j 0).val, hj0⟩) ⟨(j 1).val, hj1⟩ : S155648x1024.Idx) := by
    have hv := coord_val t
    funext a; apply Fin.ext
    match a with
    | ⟨0, _⟩ =>
      show (BitVec.ofNat 32 (grid0.coords t 0).val).toNat * 256 + 1 * (j 0).val = t.val * 256 + (j 0).val
      have := lt608 t
      rw [hv, BitVec.toNat_ofNat]; omega
    | ⟨1, _⟩ => show 0 * 1024 + 1 * (j 1).val = (j 1).val; omega
  refine Eq.trans ?_ ((congrArg (val m hb c) e).trans (val_row m hb c _ _ _)).symm
  refine (congrArg (outsAt0 m (okOf m hb) c t) ?_).trans (outs_at m hb c t ⟨(j 0).val, hj0⟩ ⟨(j 1).val, hj1⟩)
  funext a
  match a with
  | ⟨0, _⟩ => rfl
  | ⟨1, _⟩ => rfl

theorem index5 (t : Fin grid0.N) : ((cfgM m (okOf m hb)).win 5).index t = ![t.val, 0] := by
  show ![(BitVec.ofNat 32 (grid0.coords t 0).val).toNat, 0] = _
  have := lt608 t
  rw [coord_val, BitVec.toNat_ofNat, Nat.mod_eq_of_lt (by omega)]

theorem flush5 (t : Fin grid0.N) : ((cfgM m (okOf m hb)).win 5).flush t = true := by
  unfold Pipeline.Window.flush
  by_cases h : t.val + 1 = grid0.N
  · simp [h]; rfl
  · have hlt : t.val + 1 < grid0.N := by have := t.isLt; omega
    have hd : ∃ h : t.val + 1 < grid0.N, ((cfgM m (okOf m hb)).win 5).index ⟨t.val + 1, h⟩ ≠ ((cfgM m (okOf m hb)).win 5).index t := by
      refine ⟨hlt, fun e => ?_⟩
      rw [index5 m hb, index5 m hb] at e
      have := congrFun e 0
      simp at this
    rw [decide_eq_true hd, Bool.or_true, Bool.and_true]; rfl

theorem cover (i : S155648x1024.Idx) :
    ∃ t : Fin (cfgM m (okOf m hb)).N, ((cfgM m (okOf m hb)).win 5).flush t = true ∧ i ∈ (((cfgM m (okOf m hb)).win 5).blk t).view.set := by
  have hi0 : (i 0).val < 155648 := (i 0).isLt
  have hi1 : (i 1).val < 1024 := (i 1).isLt
  let t : Fin grid0.N := ⟨(i 0).val / 256, by rw [N_0]; omega⟩
  refine ⟨t, flush5 m hb t, ?_⟩
  show i ∈ ((View.whole main_v0).slice (((cfgM m (okOf m hb)).win 5).rect t)).set
  erw [View.set_slice_whole]
  refine (Pipeline.Window.mem_rect_iff ((cfgM m (okOf m hb)).win 5) t i (by rfl)).mpr fun a => ?_
  rw [index5 m hb]
  match a with
  | ⟨0, _⟩ => exact show (i 0).val / 256 * 256 ≤ (i 0).val ∧ (i 0).val < (i 0).val / 256 * 256 + 256 by omega
  | ⟨1, _⟩ => exact show 0 * 1024 ≤ (i 1).val ∧ (i 1).val < 0 * 1024 + 1024 by omega

theorem final (c : Dev nD) : (dats m (okOf m hb) 0 c).arrAt 5 (cfgM m (okOf m hb)).N = val m hb c :=
  (dats m (okOf m hb) 0 c).arrAt_eq_of_cover 5 (val m hb c) (fun t _ => flushed_eq m hb c t) (cover m hb)

/-- The run, read: the result at the formula, every argument unchanged. -/
theorem run : θ_run defs (onTc (τ := τ) (main (F := Ideal))) ⟨m, fun _ => 0, ρ⟩ fun r => ∀ c : Dev nD,
      r.2.mem ((c : Thread nD τ).loc main_v0) = val m hb c :=
  (θ_run defs _ _).mono (fun _ hr c => ((hr c).1 5).trans (final m hb c)) (run_main m ρ (okOf m hb))

end Cert.ExpertsIdeal.Hand

end
-- ==== Proof.ExpertsRef.lean ====
/- The experts' reference read at one place of its result: the formula of `ExpertsSpec` at the expert the table names. -/
module

public import proofs.«01_k».proof.Proof.ExpertsSpec
public import proofs.«01_k».proof.Proof.Gen.ExpertsReferenceIdeal.Read
public import Idealize.ShloMosaic.Lib.IdealHost

@[expose] public section

set_option maxRecDepth 16384

noncomputable section

namespace Cert.ExpertsReferenceIdeal.Read

open Cert.ExpertsReferenceIdeal Idealize.ShloMosaic Cert.ExpertsSpec

variable (x0 : (⟨S608, .i32⟩ : BufTy).Contents (Elt Ideal)) (x1 : (⟨S1, .i32⟩ : BufTy).Contents (Elt Ideal))
variable (x2 : (⟨S155648x1024, .bf16⟩ : BufTy).Contents (Elt Ideal)) (x3 : (⟨S32x1024x2048, .bf16⟩ : BufTy).Contents (Elt Ideal))
variable (x4 : (⟨S32x1x2048, .f32⟩ : BufTy).Contents (Elt Ideal)) (x5 : (⟨S32x1024x1024, .bf16⟩ : BufTy).Contents (Elt Ideal))
variable (x6 : (⟨S32x1x1024, .f32⟩ : BufTy).Contents (Elt Ideal))

/-- The table as a family. -/
abbrev ent (n : Fin 608) : BitVec 32 := x0 (ix1 n)

variable (hb : ∀ n, (ent x0 n).toNat < 32)

theorem v8_at (n : Fin 608) : val_main_v8 (F := Ideal) x0 (ix2 n 0) = Scalar.select (IntOp.cmpi .slt (ent x0 n) 0#32) (IntOp.addi (ent x0 n) 32#32) (ent x0 n) := by
  rw [val_main_v8_apply, val_main_v7_apply, val_main_v4_apply, val_main_v6_apply, val_main_v3_apply, val_main_v5_apply]
  have : idx_main_v8 (ix2 n 0) = (ix1 n : S608.Idx) := by funext a; match a with | ⟨0, _⟩ => rfl
  rw [this]; rfl
theorem v16_at (n : Fin 608) : val_main_v16 (F := Ideal) x0 (ix2 n 0) = Scalar.select (IntOp.cmpi .slt (ent x0 n) 0#32) (IntOp.addi (ent x0 n) 32#32) (ent x0 n) := by
  rw [val_main_v16_apply, val_main_v15_apply, val_main_v12_apply, val_main_v14_apply, val_main_v11_apply, val_main_v13_apply]
  have : idx_main_v16 (ix2 n 0) = (ix1 n : S608.Idx) := by funext a; match a with | ⟨0, _⟩ => rfl
  rw [this]; rfl
theorem v43_at (n : Fin 608) : val_main_v43 (F := Ideal) x0 (ix2 n 0) = Scalar.select (IntOp.cmpi .slt (ent x0 n) 0#32) (IntOp.addi (ent x0 n) 32#32) (ent x0 n) := by
  rw [val_main_v43_apply, val_main_v42_apply, val_main_v39_apply, val_main_v41_apply, val_main_v38_apply, val_main_v40_apply]
  have : idx_main_v43 (ix2 n 0) = (ix1 n : S608.Idx) := by funext a; match a with | ⟨0, _⟩ => rfl
  rw [this]; rfl
theorem v51_at (n : Fin 608) : val_main_v51 (F := Ideal) x0 (ix2 n 0) = Scalar.select (IntOp.cmpi .slt (ent x0 n) 0#32) (IntOp.addi (ent x0 n) 32#32) (ent x0 n) := by
  rw [val_main_v51_apply, val_main_v50_apply, val_main_v47_apply, val_main_v49_apply, val_main_v46_apply, val_main_v48_apply]
  have : idx_main_v51 (ix2 n 0) = (ix1 n : S608.Idx) := by funext a; match a with | ⟨0, _⟩ => rfl
  rw [this]; rfl

include hb

theorem v9_at (n : Fin 608) (k : Fin 1024) (f : Fin 2048) : val_main_v9 (F := Ideal) x0 x3 (ix3 n k f) = x3 (ix3 (expert (ent x0) hb n) k f) := by
  unfold val_main_v9
  refine (gather_stack_apply (by decide) _ _ _ n k f).trans ?_
  show x3 _ = _
  congr 2
  exact Fin.ext ((congrArg (fun w : BitVec 32 => min w.toInt.toNat (32 - 1)) (v8_at x0 n)).trans (entry_toNat _ (hb n)))
theorem v17_at (n : Fin 608) (f : Fin 2048) : val_main_v17 (F := Ideal) x0 x4 (ix3 n 0 f) = x4 (ix3 (expert (ent x0) hb n) 0 f) := by
  unfold val_main_v17
  refine (gather_stack_apply (by decide) _ _ _ n 0 f).trans ?_
  congr 2
  exact Fin.ext ((congrArg (fun w : BitVec 32 => min w.toInt.toNat (32 - 1)) (v16_at x0 n)).trans (entry_toNat _ (hb n)))
theorem v44_at (n : Fin 608) (k : Fin 1024) (f : Fin 1024) : val_main_v44 (F := Ideal) x0 x5 (ix3 n k f) = x5 (ix3 (expert (ent x0) hb n) k f) := by
  unfold val_main_v44
  refine (gather_stack_apply (by decide) _ _ _ n k f).trans ?_
  show x5 _ = _
  congr 2
  exact Fin.ext ((congrArg (fun w : BitVec 32 => min w.toInt.toNat (32 - 1)) (v43_at x0 n)).trans (entry_toNat _ (hb n)))
theorem v52_at (n : Fin 608) (f : Fin 1024) : val_main_v52 (F := Ideal) x0 x6 (ix3 n 0 f) = x6 (ix3 (expert (ent x0) hb n) 0 f) := by
  unfold val_main_v52
  refine (gather_stack_apply (by decide) _ _ _ n 0 f).trans ?_
  congr 2
  exact Fin.ext ((congrArg (fun w : BitVec 32 => min w.toInt.toNat (32 - 1)) (v51_at x0 n)).trans (entry_toNat _ (hb n)))

theorem v19_at (n : Fin 608) (r : Fin 256) (f : Fin 2048) :
    val_main_v19 (F := Ideal) x0 x2 x3 x4 (ix3 n r f) = gateUp (ent x0) hb x2 x3 x4 n r f := by
  rw [val_main_v19_apply, val_main_v10_apply, val_main_v18_apply]
  unfold gateUp
  have e1 : idx_main_v18 (ix3 n r f) = ix3 n 0 f := by funext a; match a with | ⟨0, _⟩ => rfl | ⟨1, _⟩ => rfl | ⟨2, _⟩ => rfl
  rw [e1, v17_at x0 x4 hb]
  refine congrArg (· + _) (Finset.sum_congr rfl fun k _ => ?_)
  have e2 : ridx_main_v10 (ix3 n r f) k = ix3 n k f := by funext a; match a with | ⟨0, _⟩ => rfl | ⟨1, _⟩ => rfl | ⟨2, _⟩ => rfl
  rw [e2, v9_at x0 x3 hb, val_main_v1_apply, val_main_v0_apply]
  have e3 : idx_main_v1 (lidx_main_v10 (ix3 n r f) k) = ix2 (row n r) k := by
    funext a
    match a with
    | ⟨0, _⟩ => exact Fin.ext (show ((n.val * 256 + r.val) * 1024 + k.val) / 1024 = n.val * 256 + r.val by omega)
    | ⟨1, _⟩ => exact Fin.ext (show ((n.val * 256 + r.val) * 1024 + k.val) % 1024 = k.val by omega)
  rw [e3]
  rfl

theorem v36_at (n : Fin 608) (r : Fin 256) (f : Fin 1024) :
    val_main_v36 (F := Ideal) x0 x2 x3 x4 (ix3 n r f) = act (ent x0) hb x2 x3 x4 n r f := by
  have e20 : idx_main_v20 (ix3 n r f) = ix3 n r ⟨f.val, by omega⟩ := by
    funext a; match a with | ⟨0, _⟩ => exact Fin.ext (by simp) | ⟨1, _⟩ => exact Fin.ext (by simp) | ⟨2, _⟩ => exact Fin.ext (by simp)
  have e21 : idx_main_v21 (ix3 n r f) = ix3 n r ⟨1024 + f.val, by omega⟩ := by
    funext a; match a with | ⟨0, _⟩ => exact Fin.ext (by simp) | ⟨1, _⟩ => exact Fin.ext (by simp) | ⟨2, _⟩ => exact Fin.ext (by simp)
  rw [val_main_v36_apply, val_main_v33_apply, val_main_v35_apply, val_main_v32_apply, val_main_v30_apply, val_main_v28_apply,
    val_main_v27_apply, val_main_v26_apply, val_main_v23_apply, val_main_v20_apply, e20, v19_at x0 x2 x3 x4 hb, val_main_v24_apply,
    val_main_v22_apply, val_main_v25_apply, val_main_v29_apply, val_main_v31_apply, val_main_v34_apply]
  rw [val_main_call0_v4_apply, val_main_call0_v2_apply, val_main_call0_v1_apply, val_main_v21_apply, e21, v19_at x0 x2 x3 x4 hb]
  have c7 : ∀ i, val_main_cst_7 (F := Ideal) i = (1 : EReal) := fun _ => Ideal.ofBits_one_f32
  have c6 : ∀ i, val_main_cst_6 (F := Ideal) i = (1 : EReal) := fun _ => Ideal.ofBits_one_f32
  have c8 : ∀ i, val_main_cst_8 (F := Ideal) i = (1 : EReal) := fun _ => Ideal.ofBits_one_f32
  rw [c6, c7, c8]
  rfl

theorem v54_at (n : Fin 608) (r : Fin 256) (d : Fin 1024) :
    val_main_v54 (F := Ideal) x0 x2 x3 x4 x5 x6 (ix3 n r d) = down (ent x0) hb x2 x3 x4 x5 x6 n r d := by
  rw [val_main_v54_apply, val_main_v45_apply, val_main_v53_apply]
  unfold down
  have e1 : idx_main_v53 (ix3 n r d) = ix3 n 0 d := by funext a; match a with | ⟨0, _⟩ => rfl | ⟨1, _⟩ => rfl | ⟨2, _⟩ => rfl
  rw [e1, v52_at x0 x6 hb]
  refine congrArg (· + _) (Finset.sum_congr rfl fun k _ => ?_)
  have e2 : ridx_main_v45 (ix3 n r d) k = ix3 n k d := by funext a; match a with | ⟨0, _⟩ => rfl | ⟨1, _⟩ => rfl | ⟨2, _⟩ => rfl
  have e3 : lidx_main_v45 (ix3 n r d) k = ix3 n r k := by funext a; match a with | ⟨0, _⟩ => rfl | ⟨1, _⟩ => rfl | ⟨2, _⟩ => rfl
  rw [e2, v44_at x0 x5 hb, e3, v36_at x0 x2 x3 x4 hb]

theorem v61_at (n : Fin 608) (r : Fin 256) (d : Fin 1024) :
    val_main_v61 (F := Ideal) x0 x1 x2 x3 x4 x5 x6 (ix2 (row n r) d) = out (ent x0) hb (x1 (ix1 0)) x2 x3 x4 x5 x6 n r d := by
  have e1 : idx_main_v61 (ix2 (row n r) d) = ix3 n r d := by
    funext a
    match a with
    | ⟨0, _⟩ => exact Fin.ext (show ((n.val * 256 + r.val) * 1024 + d.val) / 262144 = n.val by omega)
    | ⟨1, _⟩ => exact Fin.ext (show ((n.val * 256 + r.val) * 1024 + d.val) / 1024 % 256 = r.val by omega)
    | ⟨2, _⟩ => exact Fin.ext (show ((n.val * 256 + r.val) * 1024 + d.val) % 1024 = d.val by omega)
  rw [val_main_v61_apply, e1, val_main_v60_apply, v54_at x0 x2 x3 x4 x5 x6 hb]
  have e2 : val_main_call1_v1 (F := Ideal) x1 (ix3 n r d) = BitVec.ofBool ((BitVec.ofNat 32 n.val).slt (x1 (ix1 0))) := by
    haveI : Subsingleton S_.Idx := ⟨fun a b => funext fun i => i.elim0⟩
    haveI : Subsingleton S1.Idx := ⟨fun a b => funext fun i => Fin.ext (by
      have ha : (a i).val < 1 := by have := (a i).isLt; match i with | ⟨0, _⟩ => exact this
      have hb : (b i).val < 1 := by have := (b i).isLt; match i with | ⟨0, _⟩ => exact this
      omega)⟩
    rw [val_main_call1_v1_apply, val_main_v59_apply, val_main_v58_apply, val_main_v55_apply, val_main_v57_apply]
    have h56 : val_main_v56 (F := Ideal) x1 (idx_main_v57 (idx_main_v59 (idx_main_call1_v1 (ix3 n r d)))) = x1 (ix1 0) := by
      unfold val_main_v56
      exact shapeCast_apply x1 _ _ (ix1 0) rfl
    rw [h56]
    rfl
  have e3 : val_main_call1_v2 (F := Ideal) (ix3 n r d) = (0 : EReal) := by
    rw [val_main_call1_v2_apply, val_main_call1_v0_apply]
    exact Ideal.ofBits_zero .f32
  rw [e2, e3]
  unfold out
  cases (BitVec.ofNat 32 n.val).slt (x1 (ix1 0)) <;> rfl

end Cert.ExpertsReferenceIdeal.Read

end
-- ==== Proof.ExpertsClaims.lean ====
/- The claims about the experts' matrix products: the frames of the kernel, of its idealization and of its reference,
   and the equality of the last two. -/
module

public import proofs.«01_k».proof.Defs
public import proofs.«01_k».proof.Proof.ExpertsTable
public import proofs.«01_k».proof.Proof.ExpertsValue
public import proofs.«01_k».proof.Proof.ExpertsRef
public import proofs.«01_k».proof.Proof.Gen.Pre_expert_range
public import Idealize.ShloMosaic.Adequacy

@[expose] public section

set_option maxRecDepth 16384

noncomputable section

namespace Cert.Proof

open Idealize.ShloMosaic Idealize.SL.Sem Cert.ExpertsSpec

theorem frame_experts : Cert.quiescent_Experts (hExperts := Cert.Experts.Gen.facts) (hPre_expert_range := Cert.Pre_expert_range.Gen.facts) :=
  fun m ρ h => Cert.Experts.Gen.frame m ρ (Cert.Experts.Gen.ok_of_pre m h)

theorem frame_experts_ideal : Cert.quiescent_ExpertsIdeal (hExpertsIdeal := Cert.ExpertsIdeal.Gen.facts) (hPre_expert_range := Cert.Pre_expert_range.Gen.facts) :=
  fun m ρ h => Cert.ExpertsIdeal.Gen.frame m ρ (Cert.ExpertsIdeal.Gen.ok_of_pre m h)

theorem frame_experts_reference : Cert.quiescent_ExpertsReferenceIdeal (hExpertsReferenceIdeal := Cert.ExpertsReferenceIdeal.Gen.facts) :=
  fun m ρ _ => (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

theorem frame_experts_reference_range : Cert.quiescent_ExpertsReferenceIdeal_pre_expert_range (hExpertsReferenceIdeal := Cert.ExpertsReferenceIdeal.Gen.facts)
    (hPre_expert_range := Cert.Pre_expert_range.Gen.facts) :=
  fun m ρ _ => frame_experts_reference m ρ trivial

/-- With equal arguments the reference's result is the kernel's. -/
theorem experts_values (m : (ℓ : Loc Cert.ExpertsIdeal.nD Cert.ExpertsIdeal.τ Cert.ExpertsIdeal.sig) → Buf (Elt Ideal) ℓ)
    (hb : ∀ n, (Cert.ExpertsIdeal.Gen.wordOf m n).toNat < 32) (c : Dev Cert.ExpertsIdeal.nD) :
    Cert.ExpertsReferenceIdeal.Read.val_main_v61 (F := Ideal)
      (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5))
      (m ((c.tc : Thread Cert.ExpertsIdeal.nD Cert.ExpertsIdeal.τ).loc Cert.ExpertsIdeal.main_arg6))
    = Cert.ExpertsIdeal.Hand.val m hb c := by
  obtain rfl : c = 0 := Subsingleton.elim _ _
  funext j
  have hj0 : (j 0).val < 155648 := (j 0).isLt
  have hj1 : (j 1).val < 1024 := (j 1).isLt
  have e : j = ix2 (row ⟨(j 0).val / 256, by omega⟩ ⟨(j 0).val % 256, by omega⟩) ⟨(j 1).val, hj1⟩ := by
    funext a
    match a with
    | ⟨0, _⟩ => exact Fin.ext (show (j 0).val = (j 0).val / 256 * 256 + (j 0).val % 256 by omega)
    | ⟨1, _⟩ => rfl
  rw [e]
  exact (Cert.ExpertsReferenceIdeal.Read.v61_at _ _ _ _ _ _ _ hb _ _ _).trans (Cert.ExpertsIdeal.Hand.val_row m hb 0 _ _ _).symm

theorem algebraic_experts : Cert.algebraic_ExpertsIdeal_ExpertsReferenceIdeal (hExpertsIdeal := Cert.ExpertsIdeal.Gen.facts)
    (hExpertsReferenceIdeal := Cert.ExpertsReferenceIdeal.Gen.facts) (hPre_expert_range := Cert.Pre_expert_range.Gen.facts) := by
  intro m g m' g' hp hagree
  have hb := Cert.ExpertsIdeal.Gen.word_bound m hp
  refine ⟨fun c => Cert.ExpertsIdeal.Hand.val m hb c, ?_, ?_⟩
  · exact θ_run_and (Cert.ExpertsIdeal.Hand.run m g hb) (Cert.ExpertsIdeal.Gen.unchanged m g (Cert.ExpertsIdeal.Gen.ok_of_bound m hb)) |> (θ_run _ _ _).mono
      (fun _ h c => ⟨h.1 c, h.2 c⟩)
  · refine (θ_run Cert.ExpertsReferenceIdeal.defs _ _).mono (fun r h c => ⟨?_, (h c).2⟩) (Cert.ExpertsReferenceIdeal.Value.run (F := Ideal) m' g')
    obtain ⟨e0, e1, e2, e3, e4, e5, e6⟩ := hagree c
    rw [(h c).1, Cert.ExpertsReferenceIdeal.Read.val_main_v61_eq, e0, e1, e2, e3, e4, e5, e6]
    exact experts_values m hb c

end Cert.Proof

end
-- ==== Proof.AttnMath.lean ====
/- The running softmax over the extended reals: chunk after chunk of finite scores, it ends at the softmax of all of them. -/
module

public import Idealize.ShloMosaic.Lib.IdealHost
public import Idealize.ShloMosaic.Lib.Pointwise

@[expose] public section

noncomputable section

namespace Cert.AttnMath

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of finitely many reals, started at negative infinity, is negative infinity or real. -/
theorem fold_max_cases {ι : Type} (s : Finset ι) (f : ι → ℝ) :
    s.fold max (⊥ : EReal) (fun a => (f a : EReal)) = ⊥ ∨ ∃ M : ℝ, s.fold max (⊥ : EReal) (fun a => (f a : EReal)) = M := by
  classical
  induction s using Finset.induction_on with
  | empty => exact Or.inl (by simp)
  | insert a s ha ih =>
    right
    rw [Finset.fold_insert ha]
    rcases ih with h | ⟨M, h⟩
    · exact ⟨f a, by rw [h]; simp⟩
    · exact ⟨max (f a) M, by rw [h]; exact (EReal.coe_strictMono.monotone.map_max).symm⟩

/-- Over at least one real it is real. -/
theorem fold_max_real {n : ℕ} (f : Fin (n + 1) → ℝ) :
    ∃ M : ℝ, Finset.univ.fold max (⊥ : EReal) (fun a => (f a : EReal)) = M := by
  rcases fold_max_cases Finset.univ f with h | h
  · exfalso
    have h0 : ((f 0 : ℝ) : EReal) ≤ Finset.univ.fold max (⊥ : EReal) (fun a => (f a : EReal)) :=
      (Finset.le_fold_max _).mpr (Or.inr ⟨0, Finset.mem_univ _, le_refl _⟩)
    rw [h] at h0
    exact absurd (le_bot_iff.mp h0) (EReal.coe_ne_bot _)
  · exact h

/-- What the running state says: nothing seen yet, or the sums seen so far up to the factor the maximum takes out. -/
def Inv {E : Type} (m l : EReal) (acc : E → EReal) (L : ℝ) (A : E → ℝ) : Prop :=
  (m = ⊥ ∧ l = 0 ∧ (∀ e, acc e = 0) ∧ L = 0 ∧ ∀ e, A e = 0) ∨
  ∃ M : ℝ, m = M ∧ l = ((L * Real.exp (-M) : ℝ) : EReal) ∧ ∀ e, acc e = ((A e * Real.exp (-M) : ℝ) : EReal)

theorem inv_init {E : Type} : Inv (E := E) ⊥ 0 (fun _ => 0) 0 (fun _ => 0) :=
  Or.inl ⟨rfl, rfl, fun _ => rfl, rfl, fun _ => rfl⟩

/-- One chunk keeps it, and leaves it with something seen. -/
theorem inv_step {E : Type} {n : ℕ} {m l : EReal} {acc : E → EReal} {L : ℝ} {A : E → ℝ} (h : Inv m l acc L A)
    (s : Fin (n + 1) → ℝ) (w : E → Fin (n + 1) → ℝ) (m' : EReal) (hm' : m' = max m (Finset.univ.fold max ⊥ fun a => (s a : EReal))) :
    ∃ M : ℝ, m' = M ∧
      Ideal.exp (m - m') * l + ∑ a, Ideal.exp ((s a : EReal) - m') = (((L + ∑ a, Real.exp (s a)) * Real.exp (-M) : ℝ) : EReal) ∧
      ∀ e, Ideal.exp (m - m') * acc e + ∑ a, (w e a : EReal) * Ideal.exp ((s a : EReal) - m')
        = (((A e + ∑ a, w e a * Real.exp (s a)) * Real.exp (-M) : ℝ) : EReal) := by
  obtain ⟨Mc, hMc⟩ := fold_max_real s
  have hp : ∀ M : ℝ, ∀ a, Ideal.exp ((s a : EReal) - (M : EReal)) = ((Real.exp (s a) * Real.exp (-M) : ℝ) : EReal) := by
    intro M a
    rw [← EReal.coe_sub, Ideal.exp_coe, ← Real.exp_add, sub_eq_add_neg]
  rcases h with ⟨h1, h2, h3, h4, h5⟩ | ⟨M0, h1, h2, h3⟩
  · refine ⟨Mc, ?_, ?_, ?_⟩
    · rw [hm', h1, hMc]; simp
    · have e : m' = (Mc : EReal) := by rw [hm', h1, hMc]; simp
      rw [e, h2, h4, mul_zero, zero_add, zero_add, Finset.sum_mul, coe_sum]
      exact Finset.sum_congr rfl fun a _ => hp Mc a
    · intro x
      have e : m' = (Mc : EReal) := by rw [hm', h1, hMc]; simp
      rw [e, h3, h5, mul_zero, zero_add, zero_add, Finset.sum_mul, coe_sum]
      refine Finset.sum_congr rfl fun a _ => ?_
      rw [hp Mc a, ← EReal.coe_mul, mul_assoc]
  · have e : m' = ((max M0 Mc : ℝ) : EReal) := by
      rw [hm', h1, hMc]; exact (EReal.coe_strictMono.monotone.map_max).symm
    have ha : Ideal.exp (m - m') = ((Real.exp M0 * Real.exp (-(max M0 Mc)) : ℝ) : EReal) := by
      rw [e, h1, ← EReal.coe_sub, Ideal.exp_coe, ← Real.exp_add, sub_eq_add_neg]
    have hc : Real.exp M0 * Real.exp (-M0) = 1 := by rw [← Real.exp_add]; simp
    refine ⟨max M0 Mc, e, ?_, ?_⟩
    · rw [ha, h2, e, Finset.sum_congr rfl fun a _ => hp (max M0 Mc) a, ← coe_sum, ← EReal.coe_mul, ← EReal.coe_add, ← Finset.sum_mul]
      congr 1
      linear_combination (L * Real.exp (-(max M0 Mc))) * hc
    · intro x
      rw [ha, h3, e]
      have : ∀ a, (w x a : EReal) * Ideal.exp ((s a : EReal) - ((max M0 Mc : ℝ) : EReal))
          = ((w x a * Real.exp (s a) * Real.exp (-(max M0 Mc)) : ℝ) : EReal) := by
        intro a
        rw [hp, ← EReal.coe_mul, mul_assoc]
      rw [Finset.sum_congr rfl fun a _ => this a, ← coe_sum, ← EReal.coe_mul, ← EReal.coe_add, ← Finset.sum_mul]
      congr 1
      linear_combination (A x * Real.exp (-(max M0 Mc))) * hc

/-- The weighted mean the softmax of the scores `s` takes of `w`. -/
def soft {K : Type} [Fintype K] (s w : K → ℝ) : ℝ := (∑ k, w k * Real.exp (s k)) / ∑ k, Real.exp (s k)

/-- What the running state gives at its end. -/
theorem div_of_scaled (A L M : ℝ) (hL : 0 < L) :
    Ideal.div ((A * Real.exp (-M) : ℝ) : EReal) ((L * Real.exp (-M) : ℝ) : EReal) = ((A / L : ℝ) : EReal) := by
  have hM := Real.exp_pos (-M)
  have hne : L * Real.exp (-M) ≠ 0 := (mul_pos hL hM).ne'
  rw [Ideal.div_coe hne, ← EReal.coe_mul]
  congr 1
  field_simp

/-- The softmax written out in full: the scores shifted by any real, exponentiated, divided by their sum. -/
theorem soft_full {n : ℕ} (s : Fin (n + 1) → ℝ) (M : ℝ) (k : Fin (n + 1)) :
    Ideal.div (Ideal.exp ((s k : EReal) - (M : EReal))) (∑ i, Ideal.exp ((s i : EReal) - (M : EReal)))
      = ((Real.exp (s k) / ∑ i, Real.exp (s i) : ℝ) : EReal) := by
  have hp : ∀ a, Ideal.exp ((s a : EReal) - (M : EReal)) = ((Real.exp (s a) * Real.exp (-M) : ℝ) : EReal) := by
    intro a
    rw [← EReal.coe_sub, Ideal.exp_coe, ← Real.exp_add, sub_eq_add_neg]
  have hL : 0 < ∑ i, Real.exp (s i) := Finset.sum_pos (fun i _ => Real.exp_pos _) ⟨0, Finset.mem_univ _⟩
  rw [hp, Finset.sum_congr rfl fun a _ => hp a, ← coe_sum, ← Finset.sum_mul, div_of_scaled _ _ _ hL]

/-- Two softmaxes' difference applied to values is the difference of the two weighted means. -/
theorem soft_diff {n : ℕ} (s0 s1 w : Fin (n + 1) → ℝ) (lam : ℝ) :
    ∑ k, (Real.exp (s0 k) / (∑ i, Real.exp (s0 i)) - lam * (Real.exp (s1 k) / ∑ i, Real.exp (s1 i))) * w k
      = soft s0 w - lam * soft s1 w := by
  unfold soft
  rw [Finset.sum_div, Finset.sum_div, Finset.mul_sum, ← Finset.sum_sub_distrib]
  refine Finset.sum_congr rfl fun k _ => ?_
  ring

/-- The negative infinity the running maximum starts from. -/
theorem ofBits_neg_inf : Ideal.ofBits .f32 0xFF800000#32 = ⊥ := by
  simp [Ideal.ofBits, Ideal.ieee]

/-! ## The layer's formula -/

/-- A map's real score of key `k` against query `j`: the contraction over the map's own 64 lanes. -/
def rs {J : Type} (kr : Fin 4608 → Fin 128 → ℝ) (qr : Fin 128 → J → ℝ) (μ : Fin 2) (j : J) (k : Fin 4608) : ℝ :=
  ∑ x : Fin 64, kr k ⟨μ.val * 64 + x.val, by omega⟩ * qr ⟨μ.val * 64 + x.val, by omega⟩ j

/-- The values by key: chunk `k / 256`, place `k % 256`. -/
def vkey (vr : Fin 18 → Fin 128 → Fin 256 → ℝ) (e : Fin 128) (k : Fin 4608) : ℝ := vr ⟨k.val / 256, by omega⟩ e ⟨k.val % 256, by omega⟩

/-- The difference of the two maps' weighted means at one place, in the extended reals. -/
def odif {J : Type} (lam : EReal) (qr : Fin 128 → J → ℝ) (kr : Fin 4608 → Fin 128 → ℝ) (vr : Fin 18 → Fin 128 → Fin 256 → ℝ) (j : J) (e : Fin 128) : EReal :=
  ((soft (rs kr qr 0 j) (vkey vr e) : ℝ) : EReal) - lam * ((soft (rs kr qr 1 j) (vkey vr e) : ℝ) : EReal)

/-- The root-mean-square scaling of one row `o` at place `e`, with gain `g` and the layer's constant. -/
def rms (o : Fin 128 → EReal) (e : Fin 128) (g : EReal) : EReal :=
  o e * Ideal.rsqrt (Ideal.div (∑ d : Fin 128, o d * o d) (Ideal.ofBits .f32 0x43000000#32) + Ideal.ofBits .f32 0x358637BD#32) * g
    * Ideal.ofBits .f32 0x3F4CCCCD#32

/-- Lane `d` of head `h`. -/
def hd (h : Fin 4) (d : Fin 128) : Fin 512 := ⟨h.val * 128 + d.val, by omega⟩

/-- The layer's result for batch `b`, head `h`, query `t`, place `e`, from the real queries, keys and values. -/
def out (lam : EReal) (A1 : Fin 8 → Fin 512 → Fin 4096 → ℝ) (A2 : Fin 8 → Fin 4608 → Fin 512 → ℝ) (A3 : Fin 8 → Fin 18 → Fin 512 → Fin 256 → ℝ)
    (g : Fin 128 → EReal) (b : Fin 8) (h : Fin 4) (t : Fin 4096) (e : Fin 128) : EReal :=
  rms (odif lam (fun d t => A1 b (hd h d) t) (fun k d => A2 b k (hd h d)) (fun n e a => A3 b n (hd h e) a) t) e (g e)

end Cert.AttnMath
-- ==== Proof.AttnPay.lean ====
/- The attention body's computed values, each read at one place. -/
module

public import proofs.«01_k».proof.Proof.Gen.KernelIdeal.Frame
public import proofs.«01_k».proof.Proof.AttnMath
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen Idealize.ShloMosaic Idealize.ShloMosaic.TcCoe Idealize.SL.Sem Cert.AttnMath

theorem lane_lt : ∀ d : Fin 128, IntOp.cmpi .slt (BitVec.ofNat 32 d.val) 64#32 = if d.val < 64 then 1#1 else 0#1 := by decide +kernel

theorem lane_ge : ∀ d : Fin 128, IntOp.cmpi .sge (BitVec.ofNat 32 d.val) 64#32 = if d.val < 64 then 0#1 else 1#1 := by decide +kernel

theorem pay22_at (q : Vec Ideal S1x128x256 .bf16) (d : Fin 128) (j : Fin 256) :
    k0_pay22 q (ix2 d j) = if d.val < 64 then q (ix3 0 d j) else 0 := by
  pointwise [k0_pay22, k0_pay20, k0_pay21]
  rw [lane_lt]
  split <;> simp [Scalar.select]

theorem pay23_at (q : Vec Ideal S1x128x256 .bf16) (d : Fin 128) (j : Fin 256) :
    k0_pay23 q (ix2 d j) = if d.val < 64 then 0 else q (ix3 0 d j) := by
  pointwise [k0_pay23, k0_pay20, k0_pay21]
  rw [lane_ge]
  split <;> simp [Scalar.select]

theorem pay24_at (μ : Fin 2) (j : Fin 256) : k0_pay24 (F := Ideal) (ix3 μ 0 j) = ⊥ := by
  pointwise [k0_pay24]
  exact ofBits_neg_inf

theorem pay25_at (μ : Fin 2) (j : Fin 256) : k0_pay25 (F := Ideal) (ix3 μ 0 j) = 0 := by
  pointwise [k0_pay25]

theorem pay26_at (μ : Fin 2) (e : Fin 128) (j : Fin 256) : k0_pay26 (F := Ideal) (ix3 μ e j) = 0 := by
  pointwise [k0_pay26]

/-- One score: a key row against a query column. -/
def sc (q : FVec Ideal S128x256 .bf16) (K : Vec Ideal S1x256x128 .bf16) (j : Fin 256) (a : Fin 256) : EReal :=
  ∑ d : Fin 128, K (ix3 0 a d) * q (ix2 d j)

theorem pay6_at (q : FVec Ideal S128x256 .bf16) (K : Vec Ideal S1x256x128 .bf16) (m : Vec Ideal S1x1x256 .f32) (j : Fin 256) :
    k0_pay6 q K m (ix2 0 j) = max (m (ix3 0 0 j)) (Finset.univ.fold max ⊥ fun a => sc q K j a) := by
  pointwise [k0_pay6, k0_pay5, k0_pay4, k0_pay2, sc]
  rw [ofBits_neg_inf]

theorem pay7_at (q : FVec Ideal S128x256 .bf16) (K : Vec Ideal S1x256x128 .bf16) (m : Vec Ideal S1x1x256 .f32) (j : Fin 256) :
    k0_pay7 q K m (ix2 0 j) = Ideal.exp (m (ix3 0 0 j) - k0_pay6 q K m (ix2 0 j)) := by
  pointwise [k0_pay7, k0_pay5]

theorem pay8_at (q : FVec Ideal S128x256 .bf16) (K : Vec Ideal S1x256x128 .bf16) (m : Vec Ideal S1x1x256 .f32) (a j : Fin 256) :
    k0_pay8 q K m (ix2 a j) = Ideal.exp (sc q K j a - k0_pay6 q K m (ix2 0 j)) := by
  pointwise [k0_pay8, k0_pay4, k0_pay2, sc]

theorem pay9_at (q : FVec Ideal S128x256 .bf16) (K : Vec Ideal S1x256x128 .bf16) (m l : Vec Ideal S1x1x256 .f32) (j : Fin 256) :
    k0_pay9 q K m l (ix3 0 0 j) = k0_pay7 q K m (ix2 0 j) * l (ix3 0 0 j) + ∑ a : Fin 256, k0_pay8 q K m (ix2 a j) := by
  pointwise [k0_pay9]

theorem pay10_at (q : FVec Ideal S128x256 .bf16) (K : Vec Ideal S1x256x128 .bf16) (V : Vec Ideal S1x1x128x256 .bf16) (m : Vec Ideal S1x1x256 .f32)
    (acc : Vec Ideal S1x128x256 .f32) (e : Fin 128) (j : Fin 256) :
    k0_pay10 q K V m acc (ix2 e j) = k0_pay7 q K m (ix2 0 j) * acc (ix3 0 e j) + ∑ a : Fin 256, V (ix4 0 0 e a) * k0_pay8 q K m (ix2 a j) := by
  pointwise [k0_pay10, k0_pay3]

theorem pay12_at (q : FVec Ideal S1x256 .f32) (j : Fin 256) : k0_pay12 q (ix3 0 0 j) = q (ix2 0 j) := by
  pointwise [k0_pay12]

theorem pay11_at (q : FVec Ideal S128x256 .f32) (e : Fin 128) (j : Fin 256) : k0_pay11 q (ix3 0 e j) = q (ix2 e j) := by
  pointwise [k0_pay11]

theorem pay15_eq (q : FVec Ideal S128x256 .bf16) (K : Vec Ideal S1x256x128 .bf16) (m : Vec Ideal S1x1x256 .f32) :
    k0_pay15 q (k0_pay2 K) m = k0_pay6 q K m := rfl

theorem pay18_eq (q : FVec Ideal S128x256 .bf16) (K : Vec Ideal S1x256x128 .bf16) (m l : Vec Ideal S1x1x256 .f32) :
    k0_pay18 q (k0_pay2 K) m l = k0_pay9 q K m l := rfl

theorem pay19_eq (q : FVec Ideal S128x256 .bf16) (K : Vec Ideal S1x256x128 .bf16) (V : Vec Ideal S1x1x128x256 .bf16) (m : Vec Ideal S1x1x256 .f32)
    (acc : Vec Ideal S1x128x256 .f32) :
    k0_pay19 q (k0_pay2 K) (k0_pay3 V) m acc = k0_pay10 q K V m acc := rfl

theorem pay28_eq (q : FVec Ideal S1x256 .f32) : k0_pay28 q = k0_pay12 q := rfl

theorem pay27_eq (q : FVec Ideal S128x256 .f32) : k0_pay27 q = k0_pay11 q := rfl

/-- The two maps' difference at one place. -/
def dif (acc0 : Vec Ideal S1x128x256 .f32) (l0 : Vec Ideal S1x1x256 .f32) (lam : Elt Ideal .f32) (acc1 : Vec Ideal S1x128x256 .f32)
    (l1 : Vec Ideal S1x1x256 .f32) (r : Fin 256) (e : Fin 128) : EReal :=
  Ideal.div (acc0 (ix3 0 e r)) (l0 (ix3 0 0 r)) - lam * Ideal.div (acc1 (ix3 0 e r)) (l1 (ix3 0 0 r))

theorem pay1_at (acc0 : Vec Ideal S1x128x256 .f32) (l0 : Vec Ideal S1x1x256 .f32) (lam : Elt Ideal .f32) (acc1 : Vec Ideal S1x128x256 .f32)
    (l1 : Vec Ideal S1x1x256 .f32) (g : Vec Ideal S128x1 .f32) (r : Fin 256) (e : Fin 128) :
    k0_pay1 (k0_pay29 acc0) l0 lam acc1 l1 g (ix2 r e) = rms (dif acc0 l0 lam acc1 l1 r) e (g (ix2 e 0)) := by
  pointwise [k0_pay1, k0_pay29, rms, dif]

end Cert.KernelIdeal.Hand
-- ==== Proof.AttnStep.lean ====
/- One trip of the attention body's loop over key chunks: what the running maximum, sum and weighted sum hold after it. -/
module

public import proofs.«01_k».proof.Proof.AttnPay
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen Idealize.ShloMosaic Idealize.ShloMosaic.TcCoe Idealize.SL.Sem

variable (c : Dev nD) (i : grid0.Coords) (arg3 : Memref sig .tc .smem S1 .f32) (harg3 : arg3.IsWhole) (arg4 : Memref sig .tc .vmem S1x128x256 .bf16) (harg4 : arg4.IsWhole) (arg5 : Memref sig .tc .vmem S1x4608x128 .bf16) (harg5 : arg5.IsWhole) (arg6 : Memref sig .tc .vmem S1x18x128x256 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x128x256 .f32) (harg11 : arg11.IsWhole)
variable (v0 : Vec Ideal S1x128x256 .bf16) (X5 : BufTy.Contents (Elt Ideal) arg5.view.ty) (X6 : BufTy.Contents (Elt Ideal) arg6.view.ty)

/-- The chunk of keys trip `k` loads. -/
def kld (k : Fin k0_t1_loop.trips) : Vec Ideal S1x256x128 .bf16 :=
  View.readAt (Elt Ideal) arg5.view (Rect.unit (s := S1x4608x128) (k0_off1 k) S1x256x128.size (k0_off1_inb k)).toLoadRect X5

/-- The chunk of values trip `k` loads. -/
def vld (k : Fin k0_t1_loop.trips) : Vec Ideal S1x1x128x256 .bf16 :=
  View.readAt (Elt Ideal) arg6.view (Rect.unit (s := S1x18x128x256) (k0_off2 k) S1x1x128x256.size (k0_off2_inb k)).toLoadRect X6

/-- The queries of the map `μ`: the lanes of the other map are zero. -/
def qm (μ : Fin 2) : FVec Ideal S128x256 .bf16 := if μ = 0 then k0_pay22 v0 else k0_pay23 v0

/-- One map's row of a running buffer. -/
def row (arg : Memref sig .tc .vmem S2x1x256 .f32) (f : BufTy.Contents (Elt Ideal) arg.view.ty) (μ : Fin 2) : Vec Ideal S1x1x256 .f32 :=
  fun y => arg.view.read (Elt Ideal) f (ix3 μ (y 1) (y 2))

/-- One map's rows of the weighted sum. -/
def rows (arg : Memref sig .tc .vmem S2x128x256 .f32) (f : BufTy.Contents (Elt Ideal) arg.view.ty) (μ : Fin 2) : Vec Ideal S1x128x256 .f32 :=
  fun y => arg.view.read (Elt Ideal) f (ix3 μ (y 1) (y 2))

theorem readAt_row (arg : Memref sig .tc .vmem S2x1x256 .f32) (f : BufTy.Contents (Elt Ideal) arg.view.ty) (μ : Fin 2)
    (inb : ∀ a : Fin 3, (![μ.val, 0, 0] : Fin 3 → ℕ) a + S1x1x256.size a ≤ S2x1x256.size a) :
    View.readAt (Elt Ideal) arg.view (Rect.unit (s := S2x1x256) ![μ.val, 0, 0] S1x1x256.size inb).toLoadRect f = row arg f μ := by
  funext y
  rw [View.readAt_apply]
  unfold row
  congr 1
  funext a
  have h0 : (y 0).val < 1 := (y 0).isLt
  fin_cases a <;> apply Fin.ext <;> simp [Rect.unit, ix3] <;> omega

theorem readAt_rows (arg : Memref sig .tc .vmem S2x128x256 .f32) (f : BufTy.Contents (Elt Ideal) arg.view.ty) (μ : Fin 2)
    (inb : ∀ a : Fin 3, (![μ.val, 0, 0] : Fin 3 → ℕ) a + S1x128x256.size a ≤ S2x128x256.size a) :
    View.readAt (Elt Ideal) arg.view (Rect.unit (s := S2x128x256) ![μ.val, 0, 0] S1x128x256.size inb).toLoadRect f = rows arg f μ := by
  funext y
  rw [View.readAt_apply]
  unfold rows
  congr 1
  funext a
  have h0 : (y 0).val < 1 := (y 0).isLt
  fin_cases a <;> apply Fin.ext <;> simp [Rect.unit, ix3] <;> omega

variable (k : Fin k0_t1_loop.trips) (f9 : BufTy.Contents (Elt Ideal) arg9.view.ty) (f10 : BufTy.Contents (Elt Ideal) arg10.view.ty) (f11 : BufTy.Contents (Elt Ideal) arg11.view.ty)

theorem off1_aux : ∀ k : Fin 18, BitVec.toNat (Scalar.indexCast (Scalar.muli (Scf.iv 0#32 1#32 k.val) 256#32)) = k.val * 256 := by decide +kernel

theorem off2_aux : ∀ k : Fin 18, BitVec.toNat (Scalar.indexCast (Scf.iv 0#32 1#32 k.val)) = k.val := by decide +kernel

theorem off1_eq (k : Fin k0_t1_loop.trips) (hk : k.val < 18) : k0_off1 k = ![0, k.val * 256, 0] := by
  have h := off1_aux ⟨k.val, hk⟩
  unfold k0_off1
  dsimp only at h ⊢
  rw [h]

theorem off2_eq (k : Fin k0_t1_loop.trips) (hk : k.val < 18) : k0_off2 k = ![0, k.val, 0, 0] := by
  have h := off2_aux ⟨k.val, hk⟩
  unfold k0_off2
  dsimp only at h ⊢
  rw [h]

theorem trip_max (μ : Fin 2) (j : Fin 256) :
    arg9.view.read (Elt Ideal) (arg9.view.writes (Elt Ideal) f9 (tripL_k0_t1 (F := Ideal) Variants.none c none i arg3 harg3 arg4 harg4 arg5 harg5 arg6 harg6 arg7 harg7 arg8 harg8 arg9 harg9 arg10 harg10 arg11 harg11 v0 X5 X6 k f9 f10 f11).1) (ix3 μ 0 j)
      = k0_pay6 (qm v0 μ) (kld arg5 X5 k) (row arg9 f9 μ) (ix2 0 j) := by
  unfold tripL_k0_t1 trip_k0_t1
  dsimp only
  sl_unfold_words
  fin_cases μ
  · refine (View.read_writes_cons_unit_of_not_mem _ _ _ _ _ (ix3 0 0 j) rfl 0 (Or.inl Nat.zero_lt_one)).trans ?_
    refine (View.read_writes_cons_unit_of_mem _ _ _ _ _ (ix3 0 0 j) (ix3 0 0 j) rfl (fun a => by fin_cases a <;> simp [ix3])).trans ?_
    rw [pay12_at]
    have h := readAt_row arg9 f9 0 inb_S2x1x256_S1x1x256_0_0_0
    exact congrArg (fun m => k0_pay6 (k0_pay22 v0) (kld arg5 X5 k) m (ix2 0 j)) h
  · refine (View.read_writes_cons_unit_of_mem _ _ _ _ _ (ix3 1 0 j) (ix3 0 0 j) rfl (fun a => by fin_cases a <;> simp [ix3])).trans ?_
    rw [pay28_eq, pay12_at]
    have h := readAt_row arg9 f9 1 inb_S2x1x256_S1x1x256_1_0_0
    exact congrArg (fun m => k0_pay6 (k0_pay23 v0) (kld arg5 X5 k) m (ix2 0 j)) h

theorem trip_sum (μ : Fin 2) (j : Fin 256) :
    arg10.view.read (Elt Ideal) (arg10.view.writes (Elt Ideal) f10 (tripL_k0_t1 (F := Ideal) Variants.none c none i arg3 harg3 arg4 harg4 arg5 harg5 arg6 harg6 arg7 harg7 arg8 harg8 arg9 harg9 arg10 harg10 arg11 harg11 v0 X5 X6 k f9 f10 f11).2.1) (ix3 μ 0 j)
      = k0_pay9 (qm v0 μ) (kld arg5 X5 k) (row arg9 f9 μ) (row arg10 f10 μ) (ix3 0 0 j) := by
  unfold tripL_k0_t1 trip_k0_t1
  dsimp only
  sl_unfold_words
  fin_cases μ
  · refine (View.read_writes_cons_unit_of_not_mem _ _ _ _ _ (ix3 0 0 j) rfl 0 (Or.inl Nat.zero_lt_one)).trans ?_
    refine (View.read_writes_cons_unit_of_mem _ _ _ _ _ (ix3 0 0 j) (ix3 0 0 j) rfl (fun a => by fin_cases a <;> simp [ix3])).trans ?_
    have h := readAt_row arg9 f9 0 inb_S2x1x256_S1x1x256_0_0_0
    have h' := readAt_row arg10 f10 0 inb_S2x1x256_S1x1x256_0_0_0
    exact congrArg₂ (fun m l => k0_pay9 (k0_pay22 v0) (kld arg5 X5 k) m l (ix3 0 0 j)) h h'
  · refine (View.read_writes_cons_unit_of_mem _ _ _ _ _ (ix3 1 0 j) (ix3 0 0 j) rfl (fun a => by fin_cases a <;> simp [ix3])).trans ?_
    have h := readAt_row arg9 f9 1 inb_S2x1x256_S1x1x256_1_0_0
    have h' := readAt_row arg10 f10 1 inb_S2x1x256_S1x1x256_1_0_0
    exact congrArg₂ (fun m l => k0_pay9 (k0_pay23 v0) (kld arg5 X5 k) m l (ix3 0 0 j)) h h'

theorem trip_acc (μ : Fin 2) (e : Fin 128) (j : Fin 256) :
    arg11.view.read (Elt Ideal) (arg11.view.writes (Elt Ideal) f11 (tripL_k0_t1 (F := Ideal) Variants.none c none i arg3 harg3 arg4 harg4 arg5 harg5 arg6 harg6 arg7 harg7 arg8 harg8 arg9 harg9 arg10 harg10 arg11 harg11 v0 X5 X6 k f9 f10 f11).2.2) (ix3 μ e j)
      = k0_pay10 (qm v0 μ) (kld arg5 X5 k) (vld arg6 X6 k) (row arg9 f9 μ) (rows arg11 f11 μ) (ix2 e j) := by
  unfold tripL_k0_t1 trip_k0_t1
  dsimp only
  sl_unfold_words
  fin_cases μ
  · refine (View.read_writes_cons_unit_of_not_mem _ _ _ _ _ (ix3 0 e j) rfl 0 (Or.inl Nat.zero_lt_one)).trans ?_
    refine (View.read_writes_cons_unit_of_mem _ _ _ _ _ (ix3 0 e j) (ix3 0 e j) rfl (fun a => by fin_cases a <;> simp [ix3])).trans ?_
    rw [pay11_at]
    have h := readAt_row arg9 f9 0 inb_S2x1x256_S1x1x256_0_0_0
    have h' := readAt_rows arg11 f11 0 inb_S2x128x256_S1x128x256_0_0_0
    exact congrArg₂ (fun m l => k0_pay10 (k0_pay22 v0) (kld arg5 X5 k) (vld arg6 X6 k) m l (ix2 e j)) h h'
  · refine (View.read_writes_cons_unit_of_mem _ _ _ _ _ (ix3 1 e j) (ix3 0 e j) rfl (fun a => by fin_cases a <;> simp [ix3])).trans ?_
    rw [pay27_eq, pay11_at]
    have h := readAt_row arg9 f9 1 inb_S2x1x256_S1x1x256_1_0_0
    have h' := readAt_rows arg11 f11 1 inb_S2x128x256_S1x128x256_1_0_0
    exact congrArg₂ (fun m l => k0_pay10 (k0_pay23 v0) (kld arg5 X5 k) (vld arg6 X6 k) m l (ix2 e j)) h h'

/-- The keys of trip `k` are the block's rows `256 k …`. -/
theorem kld_at (x2 : Vec Ideal S1x4608x128 .bf16) (k : Fin k0_t1_loop.trips) (hk : k.val < 18) (a : Fin 256) (d : Fin 128) :
    kld arg5 (harg5.unread x2) k (ix3 0 a d) = x2 (ix3 0 ⟨k.val * 256 + a.val, by omega⟩ d) := by
  unfold kld
  rw [View.readAt_apply, harg5.read_unread]
  congr 1
  funext b
  have h1 := off1_eq k hk
  fin_cases b <;> apply Fin.ext <;> simp [Rect.unit, ix3, h1]

/-- The values of trip `k` are the block's chunk `k`. -/
theorem vld_at (x3 : Vec Ideal S1x18x128x256 .bf16) (k : Fin k0_t1_loop.trips) (hk : k.val < 18) (e : Fin 128) (a : Fin 256) :
    vld arg6 (harg6.unread x3) k (ix4 0 0 e a) = x3 (ix4 0 ⟨k.val, hk⟩ e a) := by
  unfold vld
  rw [View.readAt_apply, harg6.read_unread]
  congr 1
  funext b
  have h1 := off2_eq k hk
  fin_cases b <;> apply Fin.ext <;> simp [Rect.unit, ix4, h1]

end Cert.KernelIdeal.Hand
-- ==== Proof.AttnRun.lean ====
/- The attention body's loop over all key chunks: at its end the running buffers hold the softmax's sums. -/
module

public import proofs.«01_k».proof.Proof.AttnStep
public import proofs.«01_k».proof.Proof.AttnMath

@[expose] public section

set_option maxRecDepth 16384

noncomputable section

namespace Cert.KernelIdeal.Hand

open Cert.KernelIdeal Cert.KernelIdeal.Gen Idealize.ShloMosaic Idealize.ShloMosaic.TcCoe Idealize.SL.Sem Cert.AttnMath

/-- The contraction over all 128 lanes, the other map's lanes zeroed, is the map's real score. -/
theorem sc_real (v0 : Vec Ideal S1x128x256 .bf16) (K : Vec Ideal S1x256x128 .bf16) (kr : Fin 256 → Fin 128 → ℝ) (qr : Fin 128 → Fin 256 → ℝ)
    (hq : ∀ d j, v0 (ix3 0 d j) = ((qr d j : ℝ) : EReal)) (hk : ∀ a d, K (ix3 0 a d) = ((kr a d : ℝ) : EReal)) (μ : Fin 2) (j a : Fin 256) :
    sc (qm v0 μ) K j a = ((∑ x : Fin 64, kr a ⟨μ.val * 64 + x.val, by omega⟩ * qr ⟨μ.val * 64 + x.val, by omega⟩ j : ℝ) : EReal) := by
  unfold sc
  rw [Fin.sum_univ_two_halves 64 64 (by rfl), coe_sum]
  fin_cases μ
  · have h0 : ∀ d : Fin 128, qm v0 0 (ix2 d j) = if d.val < 64 then v0 (ix3 0 d j) else 0 := fun d => by
      unfold qm; rw [if_pos rfl, pay22_at]
    have hz : ∀ x : Fin 64, K (ix3 0 a ⟨64 + x.val, by omega⟩) * qm v0 0 (ix2 ⟨64 + x.val, by omega⟩ j) = 0 := fun x => by
      rw [h0, if_neg (by simp), mul_zero]
    refine (congrArg₂ (· + ·) rfl ((Finset.sum_congr rfl fun x _ => hz x).trans Finset.sum_const_zero)).trans ((add_zero _).trans ?_)
    refine Finset.sum_congr rfl fun x _ => ?_
    have hx := x.isLt
    show K (ix3 0 a ⟨x.val, _⟩) * qm v0 0 (ix2 ⟨x.val, _⟩ j) = _
    rw [h0, if_pos hx, hk, hq, ← EReal.coe_mul]
    simp
  · have h0 : ∀ d : Fin 128, qm v0 1 (ix2 d j) = if d.val < 64 then 0 else v0 (ix3 0 d j) := fun d => by
      unfold qm; rw [if_neg (by decide), pay23_at]
    have hz : ∀ x : Fin 64, K (ix3 0 a ⟨x.val, by omega⟩) * qm v0 1 (ix2 ⟨x.val, by omega⟩ j) = 0 := fun x => by
      rw [h0, if_pos x.isLt, mul_zero]
    refine (congrArg₂ (· + ·) ((Finset.sum_congr rfl fun x _ => hz x).trans Finset.sum_const_zero) rfl).trans ((zero_add _).trans ?_)
    refine Finset.sum_congr rfl fun x _ => ?_
    show K (ix3 0 a ⟨64 + x.val, _⟩) * qm v0 1 (ix2 ⟨64 + x.val, _⟩ j) = _
    rw [h0, if_neg (by simp), hk, hq, ← EReal.coe_mul]
    simp

/-- What trip `n` adds to the sum. -/
def addL (s : Fin 4608 → ℝ) (n : ℕ) : ℝ := if h : n < 18 then ∑ a : Fin 256, Real.exp (s ⟨n * 256 + a.val, by omega⟩) else 0

/-- What trip `n` adds to the weighted sum. -/
def addA (s : Fin 4608 → ℝ) (vr : Fin 18 → Fin 128 → Fin 256 → ℝ) (e : Fin 128) (n : ℕ) : ℝ :=
  if h : n < 18 then ∑ a : Fin 256, vr ⟨n, h⟩ e a * Real.exp (s ⟨n * 256 + a.val, by omega⟩) else 0

theorem trips_eq : k0_t1_loop.trips = 18 := by decide +kernel

variable (c : Dev nD) (i : grid0.Coords) (arg3 : Memref sig .tc .smem S1 .f32) (harg3 : arg3.IsWhole) (arg4 : Memref sig .tc .vmem S1x128x256 .bf16) (harg4 : arg4.IsWhole) (arg5 : Memref sig .tc .vmem S1x4608x128 .bf16) (harg5 : arg5.IsWhole) (arg6 : Memref sig .tc .vmem S1x18x128x256 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x128x256 .f32) (harg11 : arg11.IsWhole)
variable (v0 : Vec Ideal S1x128x256 .bf16) (x2 : Vec Ideal S1x4608x128 .bf16) (x3 : Vec Ideal S1x18x128x256 .bf16)
  (G9 : BufTy.Contents (Elt Ideal) arg9.view.ty) (G10 : BufTy.Contents (Elt Ideal) arg10.view.ty) (G11 : BufTy.Contents (Elt Ideal) arg11.view.ty)

/-- The state before trip `n`: what the pieces of the earlier trips leave. -/
def st9 (n : ℕ) : BufTy.Contents (Elt Ideal) arg9.view.ty := arg9.view.writes (Elt Ideal) G9 (pb_k0_t1 (F := Ideal) Variants.none c none i arg3 harg3 arg4 harg4 arg5 harg5 arg6 harg6 arg7 harg7 arg8 harg8 arg9 harg9 arg10 harg10 arg11 harg11 v0 (harg5.unread x2) (harg6.unread x3) G9 G10 G11 n).1
def st10 (n : ℕ) : BufTy.Contents (Elt Ideal) arg10.view.ty := arg10.view.writes (Elt Ideal) G10 (pb_k0_t1 (F := Ideal) Variants.none c none i arg3 harg3 arg4 harg4 arg5 harg5 arg6 harg6 arg7 harg7 arg8 harg8 arg9 harg9 arg10 harg10 arg11 harg11 v0 (harg5.unread x2) (harg6.unread x3) G9 G10 G11 n).2.1
def st11 (n : ℕ) : BufTy.Contents (Elt Ideal) arg11.view.ty := arg11.view.writes (Elt Ideal) G11 (pb_k0_t1 (F := Ideal) Variants.none c none i arg3 harg3 arg4 harg4 arg5 harg5 arg6 harg6 arg7 harg7 arg8 harg8 arg9 harg9 arg10 harg10 arg11 harg11 v0 (harg5.unread x2) (harg6.unread x3) G9 G10 G11 n).2.2

theorem st9_succ (n : ℕ) (hn : n < k0_t1_loop.trips) : st9 c i arg3 harg3 arg4 harg4 arg5 harg5 arg6 harg6 arg7 harg7 arg8 harg8 arg9 harg9 arg10 harg10 arg11 harg11 v0 x2 x3 G9 G10 G11 (n + 1)
    = arg9.view.writes (Elt Ideal) (st9 c i arg3 harg3 arg4 harg4 arg5 harg5 arg6 harg6 arg7 harg7 arg8 harg8 arg9 harg9 arg10 harg10 arg11 harg11 v0 x2 x3 G9 G10 G11 n)
      (tripL_k0_t1 (F := Ideal) Variants.none c none i arg3 harg3 arg4 harg4 arg5 harg5 arg6 harg6 arg7 harg7 arg8 harg8 arg9 harg9 arg10 harg10 arg11 harg11 v0 (harg5.unread x2) (harg6.unread x3) ⟨n, hn⟩ (st9 c i arg3 harg3 arg4 harg4 arg5 harg5 arg6 harg6 arg7 harg7 arg8 harg8 arg9 harg9 arg10 harg10 arg11 harg11 v0 x2 x3 G9 G10 G11 n)
        (st10 c i arg3 harg3 arg4 harg4 arg5 harg5 arg6 harg6 arg7 harg7 arg8 harg8 arg9 harg9 arg10 harg10 arg11 harg11 v0 x2 x3 G9 G10 G11 n) (st11 c i arg3 harg3 arg4 harg4 arg5 harg5 arg6 harg6 arg7 harg7 arg8 harg8 arg9 harg9 arg10 harg10 arg11 harg11 v0 x2 x3 G9 G10 G11 n)).1 := by
  refine (congrArg (fun p => arg9.view.writes (Elt Ideal) G9 p.1)
    (pb_k0_t1_succ (F := Ideal) Variants.none c none i arg3 harg3 arg4 harg4 arg5 harg5 arg6 harg6 arg7 harg7 arg8 harg8 arg9 harg9 arg10 harg10 arg11 harg11 v0 (harg5.unread x2) (harg6.unread x3) G9 G10 G11 ⟨n, hn⟩)).trans ?_
  exact View.writes_append ..

theorem st10_succ (n : ℕ) (hn : n < k0_t1_loop.trips) : st10 c i arg3 harg3 arg4 harg4 arg5 harg5 arg6 harg6 arg7 harg7 arg8 harg8 arg9 harg9 arg10 harg10 arg11 harg11 v0 x2 x3 G9 G10 G11 (n + 1)
    = arg10.view.writes (Elt Ideal) (st10 c i arg3 harg3 arg4 harg4 arg5 harg5 arg6 harg6 arg7 harg7 arg8 harg8 arg9 harg9 arg10 harg10 arg11 harg11 v0 x2 x3 G9 G10 G11 n)
      (tripL_k0_t1 (F := Ideal) Variants.none c none i arg3 harg3 arg4 harg4 arg5 harg5 arg6 harg6 arg7 harg7 arg8 harg8 arg9 harg9 arg10 harg10 arg11 harg11 v0 (harg5.unread x2) (harg6.unread x3) ⟨n, hn⟩ (st9 c i arg3 harg3 arg4 harg4 arg5 harg5 arg6 harg6 arg7 harg7 arg8 harg8 arg9 harg9 arg10 harg10 arg11 harg11 v0 x2 x3 G9 G10 G11 n)
        (st10 c i arg3 harg3 arg4 harg4 arg5 harg5 arg6 harg6 arg7 harg7 arg8 harg8 arg9 harg9 arg10 harg10 arg11 harg11 v0 x2 x3 G9 G10 G11 n) (st11 c i arg3 harg3 arg4 harg4 arg5 harg5 arg6 harg6 arg7 harg7 arg8 harg8 arg9 harg9 arg10 harg10 arg11 harg11 v0 x2 x3 G9 G10 G11 n)).2.1 := by
  refine (congrArg (fun p => arg10.view.writes (Elt Ideal) G10 p.2.1)
    (pb_k0_t1_succ (F := Ideal) Variants.none c none i arg3 harg3 arg4 harg4 arg5 harg5 arg6 harg6 arg7 harg7 arg8 harg8 arg9 harg9 arg10 harg10 arg11 harg11 v0 (harg5.unread x2) (harg6.unread x3) G9 G10 G11 ⟨n, hn⟩)).trans ?_
  exact View.writes_append ..

theorem st11_succ (n : ℕ) (hn : n < k0_t1_loop.trips) : st11 c i arg3 harg3 arg4 harg4 arg5 harg5 arg6 harg6 arg7 harg7 arg8 harg8 arg9 harg9 arg10 harg10 arg11 harg11 v0 x2 x3 G9 G10 G11 (n + 1)
    = arg11.view.writes (Elt Ideal) (st11 c i arg3 harg3 arg4 harg4 arg5 harg5 arg6 harg6 arg7 harg7 arg8 harg8 arg9 harg9 arg10 harg10 arg11 harg11 v0 x2 x3 G9 G10 G11 n)
      (tripL_k0_t1 (F := Ideal) Variants.none c none i arg3 harg3 arg4 harg4 arg5 harg5 arg6 harg6 arg7 harg7 arg8 harg8 arg9 harg9 arg10 harg10 arg11 harg11 v0 (harg5.unread x2) (harg6.unread x3) ⟨n, hn⟩ (st9 c i arg3 harg3 arg4 harg4 arg5 harg5 arg6 harg6 arg7 harg7 arg8 harg8 arg9 harg9 arg10 harg10 arg11 harg11 v0 x2 x3 G9 G10 G11 n)
        (st10 c i arg3 harg3 arg4 harg4 arg5 harg5 arg6 harg6 arg7 harg7 arg8 harg8 arg9 harg9 arg10 harg10 arg11 harg11 v0 x2 x3 G9 G10 G11 n) (st11 c i arg3 harg3 arg4 harg4 arg5 harg5 arg6 harg6 arg7 harg7 arg8 harg8 arg9 harg9 arg10 harg10 arg11 harg11 v0 x2 x3 G9 G10 G11 n)).2.2 := by
  refine (congrArg (fun p => arg11.view.writes (Elt Ideal) G11 p.2.2)
    (pb_k0_t1_succ (F := Ideal) Variants.none c none i arg3 harg3 arg4 harg4 arg5 harg5 arg6 harg6 arg7 harg7 arg8 harg8 arg9 harg9 arg10 harg10 arg11 harg11 v0 (harg5.unread x2) (harg6.unread x3) G9 G10 G11 ⟨n, hn⟩)).trans ?_
  exact View.writes_append ..

theorem states (qr : Fin 128 → Fin 256 → ℝ) (kr : Fin 4608 → Fin 128 → ℝ) (vr : Fin 18 → Fin 128 → Fin 256 → ℝ)
    (hq : ∀ d j, v0 (ix3 0 d j) = ((qr d j : ℝ) : EReal)) (hk : ∀ a d, x2 (ix3 0 a d) = ((kr a d : ℝ) : EReal))
    (hv : ∀ n e a, x3 (ix4 0 n e a) = ((vr n e a : ℝ) : EReal))
    (h9 : ∀ μ j, arg9.view.read (Elt Ideal) G9 (ix3 μ 0 j) = ⊥) (h10 : ∀ μ j, arg10.view.read (Elt Ideal) G10 (ix3 μ 0 j) = 0)
    (h11 : ∀ μ e j, arg11.view.read (Elt Ideal) G11 (ix3 μ e j) = 0) (μ : Fin 2) (j : Fin 256) (n : ℕ) (hn : n ≤ 18) :
    Inv (arg9.view.read (Elt Ideal) (st9 c i arg3 harg3 arg4 harg4 arg5 harg5 arg6 harg6 arg7 harg7 arg8 harg8 arg9 harg9 arg10 harg10 arg11 harg11 v0 x2 x3 G9 G10 G11 n) (ix3 μ 0 j))
      (arg10.view.read (Elt Ideal) (st10 c i arg3 harg3 arg4 harg4 arg5 harg5 arg6 harg6 arg7 harg7 arg8 harg8 arg9 harg9 arg10 harg10 arg11 harg11 v0 x2 x3 G9 G10 G11 n) (ix3 μ 0 j))
      (fun e : Fin 128 => arg11.view.read (Elt Ideal) (st11 c i arg3 harg3 arg4 harg4 arg5 harg5 arg6 harg6 arg7 harg7 arg8 harg8 arg9 harg9 arg10 harg10 arg11 harg11 v0 x2 x3 G9 G10 G11 n) (ix3 μ e j))
      (∑ t ∈ Finset.range n, addL (rs kr qr μ j) t) (fun e => ∑ t ∈ Finset.range n, addA (rs kr qr μ j) vr e t) := by
  induction n with
  | zero =>
    refine Or.inl ⟨?_, ?_, fun e => ?_, by simp, fun e => by simp⟩
    · unfold st9 pb_k0_t1; exact h9 μ j
    · unfold st10 pb_k0_t1; exact h10 μ j
    · unfold st11 pb_k0_t1; exact h11 μ e j
  | succ n ih =>
    have hlt : n < 18 := hn
    have ih := ih (Nat.le_of_lt hlt)
    have hK : ∀ a d, kld arg5 (harg5.unread x2) ⟨n, trips_eq ▸ hlt⟩ (ix3 0 a d) = ((kr ⟨n * 256 + a.val, by omega⟩ d : ℝ) : EReal) := fun a d => by
      rw [kld_at arg5 harg5 x2 ⟨n, trips_eq ▸ hlt⟩ hlt, hk]
    have hV : ∀ e a, vld arg6 (harg6.unread x3) ⟨n, trips_eq ▸ hlt⟩ (ix4 0 0 e a) = ((vr ⟨n, hlt⟩ e a : ℝ) : EReal) := fun e a => by
      rw [vld_at arg6 harg6 x3 ⟨n, trips_eq ▸ hlt⟩ hlt, hv]
    have hS : ∀ a, sc (qm v0 μ) (kld arg5 (harg5.unread x2) ⟨n, trips_eq ▸ hlt⟩) j a = ((rs kr qr μ j ⟨n * 256 + a.val, by omega⟩ : ℝ) : EReal) := fun a =>
      sc_real v0 _ (fun a d => kr ⟨n * 256 + a.val, by omega⟩ d) qr hq hK μ j a
    have e9 := st9_succ c i arg3 harg3 arg4 harg4 arg5 harg5 arg6 harg6 arg7 harg7 arg8 harg8 arg9 harg9 arg10 harg10 arg11 harg11 v0 x2 x3 G9 G10 G11 n (trips_eq ▸ hlt)
    have e10 := st10_succ c i arg3 harg3 arg4 harg4 arg5 harg5 arg6 harg6 arg7 harg7 arg8 harg8 arg9 harg9 arg10 harg10 arg11 harg11 v0 x2 x3 G9 G10 G11 n (trips_eq ▸ hlt)
    have e11 := st11_succ c i arg3 harg3 arg4 harg4 arg5 harg5 arg6 harg6 arg7 harg7 arg8 harg8 arg9 harg9 arg10 harg10 arg11 harg11 v0 x2 x3 G9 G10 G11 n (trips_eq ▸ hlt)
    have hmax : ∀ m : Vec Ideal S1x1x256 .f32, k0_pay6 (qm v0 μ) (kld arg5 (harg5.unread x2) ⟨n, trips_eq ▸ hlt⟩) m (ix2 0 j)
        = max (m (ix3 0 0 j)) (Finset.univ.fold max ⊥ fun a : Fin (255 + 1) => ((rs kr qr μ j ⟨n * 256 + a.val, by omega⟩ : ℝ) : EReal)) := fun m => by
      rw [pay6_at]
      exact congrArg (fun f => max (m (ix3 0 0 j)) (Finset.univ.fold max ⊥ f)) (funext hS)
    obtain ⟨M, hM, hl, ha⟩ := inv_step ih (n := 255) (fun a => rs kr qr μ j ⟨n * 256 + a.val, by omega⟩) (fun e a => vr ⟨n, hlt⟩ e a) _ (hmax (row arg9 (st9 c i arg3 harg3 arg4 harg4 arg5 harg5 arg6 harg6 arg7 harg7 arg8 harg8 arg9 harg9 arg10 harg10 arg11 harg11 v0 x2 x3 G9 G10 G11 n) μ))
    refine Or.inr ⟨M, ?_, ?_, fun e => ?_⟩
    · rw [e9]
      exact (trip_max c i arg3 harg3 arg4 harg4 arg5 harg5 arg6 harg6 arg7 harg7 arg8 harg8 arg9 harg9 arg10 harg10 arg11 harg11 v0 _ _ _ _ _ _ μ j).trans hM
    · rw [e10]
      refine (trip_sum c i arg3 harg3 arg4 harg4 arg5 harg5 arg6 harg6 arg7 harg7 arg8 harg8 arg9 harg9 arg10 harg10 arg11 harg11 v0 _ _ _ _ _ _ μ j).trans ?_
      rw [Finset.sum_range_succ, pay9_at, pay7_at]
      refine Eq.trans ?_ (hl.trans ?_)
      · refine congrArg₂ (· + ·) rfl (Finset.sum_congr rfl fun a _ => ?_)
        rw [pay8_at, hS]
      · unfold addL; rw [dif_pos hlt]
    · rw [e11]
      refine (trip_acc c i arg3 harg3 arg4 harg4 arg5 harg5 arg6 harg6 arg7 harg7 arg8 harg8 arg9 harg9 arg10 harg10 arg11 harg11 v0 _ _ _ _ _ _ μ e j).trans ?_
      show _ = (((∑ t ∈ Finset.range (n + 1), addA (rs kr qr μ j) vr e t) * Real.exp (-M) : ℝ) : EReal)
      rw [Finset.sum_range_succ, pay10_at, pay7_at]
      refine Eq.trans ?_ ((ha e).trans ?_)
      · refine congrArg₂ (· + ·) rfl (Finset.sum_congr rfl fun a _ => ?_)
        rw [pay8_at, hS, hV]
      · unfold addA; rw [dif_pos hlt]

/-- The sums of all trips are the sums over all keys. -/
theorem addL_all (s : Fin 4608 → ℝ) : ∑ t ∈ Finset.range 18, addL s t = ∑ k : Fin 4608, Real.exp (s k) := by
  refine (Finset.sum_range _).trans (Eq.trans ?_ (Fin.sum_univ_tiles 18 256 (N := 4608) (by norm_num) (fun k => Real.exp (s k))).symm)
  refine Finset.sum_congr rfl fun n _ => ?_
  unfold addL; rw [dif_pos n.isLt]

theorem addA_all (s : Fin 4608 → ℝ) (vr : Fin 18 → Fin 128 → Fin 256 → ℝ) (e : Fin 128) :
    ∑ t ∈ Finset.range 18, addA s vr e t = ∑ k : Fin 4608, vkey vr e k * Real.exp (s k) := by
  refine (Finset.sum_range _).trans (Eq.trans ?_ (Fin.sum_univ_tiles 18 256 (N := 4608) (by norm_num) (fun k => vkey vr e k * Real.exp (s k))).symm)
  refine Finset.sum_congr rfl fun n _ => ?_
  unfold addA; rw [dif_pos n.isLt]
  refine Finset.sum_congr rfl fun a _ => ?_
  have h1 : (n.val * 256 + a.val) / 256 = n.val := by omega
  have h2 : (n.val * 256 + a.val) % 256 = a.val := by omega
  unfold vkey
  simp only [h1, h2]

/-- The quotient the body takes at the end is the softmax's weighted mean. -/
theorem quot (qr : Fin 128 → Fin 256 → ℝ) (kr : Fin 4608 → Fin 128 → ℝ) (vr : Fin 18 → Fin 128 → Fin 256 → ℝ)
    (hq : ∀ d j, v0 (ix3 0 d j) = ((qr d j : ℝ) : EReal)) (hk : ∀ a d, x2 (ix3 0 a d) = ((kr a d : ℝ) : EReal))
    (hv : ∀ n e a, x3 (ix4 0 n e a) = ((vr n e a : ℝ) : EReal))
    (h9 : ∀ μ j, arg9.view.read (Elt Ideal) G9 (ix3 μ 0 j) = ⊥) (h10 : ∀ μ j, arg10.view.read (Elt Ideal) G10 (ix3 μ 0 j) = 0)
    (h11 : ∀ μ e j, arg11.view.read (Elt Ideal) G11 (ix3 μ e j) = 0) (μ : Fin 2) (j : Fin 256) (e : Fin 128) :
    Ideal.div (arg11.view.read (Elt Ideal) (st11 c i arg3 harg3 arg4 harg4 arg5 harg5 arg6 harg6 arg7 harg7 arg8 harg8 arg9 harg9 arg10 harg10 arg11 harg11 v0 x2 x3 G9 G10 G11 18) (ix3 μ e j))
      (arg10.view.read (Elt Ideal) (st10 c i arg3 harg3 arg4 harg4 arg5 harg5 arg6 harg6 arg7 harg7 arg8 harg8 arg9 harg9 arg10 harg10 arg11 harg11 v0 x2 x3 G9 G10 G11 18) (ix3 μ 0 j))
      = ((soft (rs kr qr μ j) (vkey vr e) : ℝ) : EReal) := by
  have hL : 0 < ∑ k : Fin 4608, Real.exp (rs kr qr μ j k) := Finset.sum_pos (fun i _ => Real.exp_pos _) ⟨⟨0, by omega⟩, Finset.mem_univ _⟩
  rcases states c i arg3 harg3 arg4 harg4 arg5 harg5 arg6 harg6 arg7 harg7 arg8 harg8 arg9 harg9 arg10 harg10 arg11 harg11 v0 x2 x3 G9 G10 G11 qr kr vr hq hk hv h9 h10 h11 μ j 18 (le_refl _) with h | ⟨M, _, hl, ha⟩
  · have h4 := h.2.2.2.1
    rw [addL_all] at h4
    exact absurd h4 hL.ne'
  · have ha' := ha e
    dsimp only at ha'
    rw [hl, ha', addL_all, addA_all, div_of_scaled _ _ _ hL]
    rfl

end Cert.KernelIdeal.Hand
-- ==== Proof.AttnBlock.lean ====
/- What the attention body leaves in one block of its result. -/
module

public import proofs.«01_k».proof.Proof.AttnRun

@[expose] public section

set_option maxRecDepth 16384

noncomputable section

namespace Cert.KernelIdeal.Hand

open Cert.KernelIdeal Cert.KernelIdeal.Gen Idealize.ShloMosaic Idealize.ShloMosaic.TcCoe Idealize.SL.Sem Cert.AttnMath

theorem cov_row (arg : Memref sig .tc .vmem S2x1x256 .f32) (L L' : List (View.Piece (Elt Ideal) S2x1x256 .f32)) (μ : Fin 2)
    (inb : ∀ a : Fin 3, (![μ.val, 0, 0] : Fin 3 → ℕ) a + S1x1x256.size a ≤ S2x1x256.size a) :
    arg.view.readCov (L ++ L') (Rect.unit (s := S2x1x256) ![μ.val, 0, 0] S1x1x256.size inb).toLoadRect
      = row arg (arg.view.writes (Elt Ideal) (arg.view.writes (Elt Ideal) arg.view.junk L') L) μ := by
  refine Eq.trans ?_ (readAt_row arg _ μ inb)
  rw [← View.writes_append]
  rfl

theorem cov_rows (arg : Memref sig .tc .vmem S2x128x256 .f32) (L L' : List (View.Piece (Elt Ideal) S2x128x256 .f32)) (μ : Fin 2)
    (inb : ∀ a : Fin 3, (![μ.val, 0, 0] : Fin 3 → ℕ) a + S1x128x256.size a ≤ S2x128x256.size a) :
    arg.view.readCov (L ++ L') (Rect.unit (s := S2x128x256) ![μ.val, 0, 0] S1x128x256.size inb).toLoadRect
      = rows arg (arg.view.writes (Elt Ideal) (arg.view.writes (Elt Ideal) arg.view.junk L') L) μ := by
  refine Eq.trans ?_ (readAt_rows arg _ μ inb)
  rw [← View.writes_append]
  rfl

theorem block_at (c : Dev nD) (i : grid0.Coords) (arg3 : Memref sig .tc .smem S1 .f32) (harg3 : arg3.IsWhole) (arg4 : Memref sig .tc .vmem S1x128x256 .bf16) (harg4 : arg4.IsWhole) (arg5 : Memref sig .tc .vmem S1x4608x128 .bf16) (harg5 : arg5.IsWhole) (arg6 : Memref sig .tc .vmem S1x18x128x256 .bf16) (harg6 : arg6.IsWhole) (arg7 : Memref sig .tc .vmem S128x1 .f32) (harg7 : arg7.IsWhole) (arg8 : Memref sig .tc .vmem S256x128 .bf16) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x128x256 .f32) (harg11 : arg11.IsWhole)
    (x0 : Vec Ideal S1 .f32) (x1 : Vec Ideal S1x128x256 .bf16) (x2 : Vec Ideal S1x4608x128 .bf16) (x3 : Vec Ideal S1x18x128x256 .bf16) (x4 : Vec Ideal S128x1 .f32)
    (qr : Fin 128 → Fin 256 → ℝ) (kr : Fin 4608 → Fin 128 → ℝ) (vr : Fin 18 → Fin 128 → Fin 256 → ℝ)
    (hq : ∀ d j, x1 (ix3 0 d j) = ((qr d j : ℝ) : EReal)) (hk : ∀ a d, x2 (ix3 0 a d) = ((kr a d : ℝ) : EReal))
    (hv : ∀ n e a, x3 (ix4 0 n e a) = ((vr n e a : ℝ) : EReal)) (r : Fin 256) (e : Fin 128) :
    out0_A_5 c i arg3 harg3 arg4 harg4 arg5 harg5 arg6 harg6 arg7 harg7 arg8 harg8 arg9 harg9 arg10 harg10 arg11 harg11 x0 x1 x2 x3 x4 (ix2 r e) = rms (odif (x0 (ix1 0)) qr kr vr r) e (x4 (ix2 e 0)) := by
  have h9 : ∀ μ j, arg9.view.read (Elt Ideal) (arg9.view.writes (Elt Ideal) arg9.view.junk [⟨Rect.unit (s := S2x1x256) ![0, 0, 0] S2x1x256.size inb_S2x1x256_S2x1x256_0_0_0, k0_pay24 (F := Ideal)⟩]) (ix3 μ 0 j) = ⊥ := fun μ j =>
    (View.read_writes_cons_unit_of_mem _ _ _ _ _ (ix3 μ 0 j) (ix3 μ 0 j) rfl (fun a => by fin_cases a <;> simp [ix3])).trans (pay24_at μ j)
  have h10 : ∀ μ j, arg10.view.read (Elt Ideal) (arg10.view.writes (Elt Ideal) arg10.view.junk [⟨Rect.unit (s := S2x1x256) ![0, 0, 0] S2x1x256.size inb_S2x1x256_S2x1x256_0_0_0, k0_pay25 (F := Ideal)⟩]) (ix3 μ 0 j) = 0 := fun μ j =>
    (View.read_writes_cons_unit_of_mem _ _ _ _ _ (ix3 μ 0 j) (ix3 μ 0 j) rfl (fun a => by fin_cases a <;> simp [ix3])).trans (pay25_at μ j)
  have h11 : ∀ μ e j, arg11.view.read (Elt Ideal) (arg11.view.writes (Elt Ideal) arg11.view.junk [⟨Rect.unit (s := S2x128x256) ![0, 0, 0] S2x128x256.size inb_S2x128x256_S2x128x256_0_0_0, k0_pay26 (F := Ideal)⟩]) (ix3 μ e j) = 0 := fun μ e j =>
    (View.read_writes_cons_unit_of_mem _ _ _ _ _ (ix3 μ e j) (ix3 μ e j) rfl (fun a => by fin_cases a <;> simp [ix3])).trans (pay26_at μ e j)
  have e1 : View.readAt (Elt Ideal) arg4.view (Rect.unit (s := S1x128x256) ![0, 0, 0] S1x128x256.size inb_S1x128x256_S1x128x256_0_0_0).toLoadRect (harg4.unread x1) = x1 := by
    funext y
    rw [View.readAt_apply, harg4.read_unread]
    congr 1
    funext a
    fin_cases a <;> apply Fin.ext <;> simp [Rect.unit]
  have hQ := fun μ => quot c i arg3 harg3 arg4 harg4 arg5 harg5 arg6 harg6 arg7 harg7 arg8 harg8 arg9 harg9 arg10 harg10 arg11 harg11 x1 x2 x3 (arg9.view.writes (Elt Ideal) arg9.view.junk [⟨Rect.unit (s := S2x1x256) ![0, 0, 0] S2x1x256.size inb_S2x1x256_S2x1x256_0_0_0, k0_pay24 (F := Ideal)⟩]) (arg10.view.writes (Elt Ideal) arg10.view.junk [⟨Rect.unit (s := S2x1x256) ![0, 0, 0] S2x1x256.size inb_S2x1x256_S2x1x256_0_0_0, k0_pay25 (F := Ideal)⟩]) (arg11.view.writes (Elt Ideal) arg11.view.junk [⟨Rect.unit (s := S2x128x256) ![0, 0, 0] S2x128x256.size inb_S2x128x256_S2x128x256_0_0_0, k0_pay26 (F := Ideal)⟩]) qr kr vr hq hk hv h9 h10 h11 μ r
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero (by funext a; fin_cases a <;> rfl), pay1_at]
  rw [e1]
  have ht : Scf.trips k0_t1_loop.lb k0_t1_loop.ub k0_t1_loop.st = 18 := trips_eq
  rw [ht]
  have e4 : View.readAt (Elt Ideal) arg7.view (Rect.unit (s := S128x1) ![0, 0] S128x1.size inb_S128x1_S128x1_0_0).toLoadRect (harg7.unread x4) (ix2 e 0) = x4 (ix2 e 0) := by
    rw [View.readAt_apply, harg7.read_unread]
    congr 1
    funext a
    fin_cases a <;> apply Fin.ext <;> simp [Rect.unit, ix2]
  have e0 : ∀ y, View.readAt (Elt Ideal) arg3.view (Rect.unit (s := S1) ![0] S1.size inb_S1_S1_0).toLoadRect (harg3.unread x0) y = x0 (ix1 0) := fun y => by
    rw [View.readAt_apply, harg3.read_unread]
    congr 1
    funext a
    have hy : (y 0).val < 1 := (y 0).isLt
    fin_cases a
    apply Fin.ext
    simp [Rect.unit, ix1]
    omega
  refine congr (congrArg₂ rms (funext fun d => ?_) rfl) e4
  unfold dif odif
  refine congrArg₂ (fun a b : EReal => a - b) ?_ (congrArg₂ (fun a b : EReal => a * b) (e0 _) ?_)
  · refine Eq.trans ?_ (hQ 0 d)
    exact congrArg₂ Ideal.div (congrFun (cov_rows arg11 _ _ 0 _) (ix3 0 d r)) (congrFun (cov_row arg10 _ _ 0 _) (ix3 0 0 r))
  · refine Eq.trans ?_ (hQ 1 d)
    exact congrArg₂ Ideal.div (congrFun (cov_rows arg11 _ _ 1 _) (ix3 0 d r)) (congrFun (cov_row arg10 _ _ 1 _) (ix3 0 0 r))

end Cert.KernelIdeal.Hand
-- ==== Proof.AttnValue.lean ====
/- What the attention's kernel leaves in its result: at each place the layer's formula of `AttnMath`. -/
module

public import proofs.«01_k».proof.Proof.AttnBlock
public import proofs.«01_k».proof.Proof.Gen.KernelIdeal.Value
public import Idealize.ShloMosaic.Lib.Pipeline.ValueKit.Basic

@[expose] public section

set_option maxRecDepth 16384

noncomputable section

namespace Cert.KernelIdeal.Hand

open Cert.KernelIdeal Cert.KernelIdeal.Gen Idealize.ShloMosaic Idealize.ShloMosaic.TcCoe Idealize.SL.Sem Cert.AttnMath
open Idealize.ShloMosaic.Pipeline (Dat)

/-- A grid point's coordinates are its position's digits: batch, head, block of queries. -/
theorem coords_val : ∀ t : Fin grid0.N, (grid0.coords t 0).val = t.val / 64 ∧ (grid0.coords t 1).val = t.val / 16 % 4 ∧ (grid0.coords t 2).val = t.val % 16 := by
  decide +kernel

theorem lt512 (t : Fin grid0.N) : t.val < 512 := lt_of_lt_of_eq t.isLt N_0

abbrev bOf (t : Fin grid0.N) : Fin 8 := ⟨t.val / 64, by have := lt512 t; omega⟩
abbrev hOf (t : Fin grid0.N) : Fin 4 := ⟨t.val / 16 % 4, by omega⟩
/-- The query of the block's column `j`. -/
abbrev tOf (t : Fin grid0.N) (j : Fin 256) : Fin 4096 := ⟨t.val % 16 * 256 + j.val, by omega⟩

variable (m : (ℓ : Loc nD τ sig) → Buf (Elt Ideal) ℓ) (ρ : Dev nD → PrngReg)

theorem iblk0_at (c : Dev nD) (t : Fin grid0.N) : iblk m c 0 t (ix1 0) = m ((c : Thread nD τ).loc main_arg0) (ix1 0) := by
  rw [← V_main_arg0 m c]
  show V m c main_arg0 (((cfg0.win 0).blk t).view.emb (ix1 0)) = _
  refine congrArg (V m c main_arg0) ?_
  funext a; apply Fin.ext
  match a with
  | ⟨0, _⟩ => rfl

theorem iblk1_at (c : Dev nD) (t : Fin grid0.N) (d : Fin 128) (j : Fin 256) :
    iblk m c 1 t (ix3 0 d j) = m ((c : Thread nD τ).loc main_arg1) (ix3 (bOf t) (hd (hOf t) d) (tOf t j)) := by
  rw [← V_main_arg1 m c]
  show V m c main_arg1 (((cfg0.win 1).blk t).view.emb (ix3 0 d j)) = _
  refine congrArg (V m c main_arg1) ?_
  obtain ⟨h0, h1, h2⟩ := coords_val t
  have := lt512 t
  funext a; apply Fin.ext
  match a with
  | ⟨0, _⟩ =>
    show (BitVec.ofNat 32 (grid0.coords t 0).val).toNat * 1 + 1 * 0 = t.val / 64
    rw [h0, BitVec.toNat_ofNat]; omega
  | ⟨1, _⟩ =>
    show (BitVec.ofNat 32 (grid0.coords t 1).val).toNat * 128 + 1 * d.val = t.val / 16 % 4 * 128 + d.val
    rw [h1, BitVec.toNat_ofNat]; omega
  | ⟨2, _⟩ =>
    show (BitVec.ofNat 32 (grid0.coords t 2).val).toNat * 256 + 1 * j.val = t.val % 16 * 256 + j.val
    rw [h2, BitVec.toNat_ofNat]; omega

theorem iblk2_at (c : Dev nD) (t : Fin grid0.N) (k : Fin 4608) (d : Fin 128) :
    iblk m c 2 t (ix3 0 k d) = m ((c : Thread nD τ).loc main_arg2) (ix3 (bOf t) k (hd (hOf t) d)) := by
  rw [← V_main_arg2 m c]
  show V m c main_arg2 (((cfg0.win 2).blk t).view.emb (ix3 0 k d)) = _
  refine congrArg (V m c main_arg2) ?_
  obtain ⟨h0, h1, h2⟩ := coords_val t
  have := lt512 t
  funext a; apply Fin.ext
  match a with
  | ⟨0, _⟩ =>
    show (BitVec.ofNat 32 (grid0.coords t 0).val).toNat * 1 + 1 * 0 = t.val / 64
    rw [h0, BitVec.toNat_ofNat]; omega
  | ⟨1, _⟩ => show 0 * 4608 + 1 * k.val = k.val; omega
  | ⟨2, _⟩ =>
    show (BitVec.ofNat 32 (grid0.coords t 1).val).toNat * 128 + 1 * d.val = t.val / 16 % 4 * 128 + d.val
    rw [h1, BitVec.toNat_ofNat]; omega

theorem iblk3_at (c : Dev nD) (t : Fin grid0.N) (n : Fin 18) (e : Fin 128) (a : Fin 256) :
    iblk m c 3 t (ix4 0 n e a) = m ((c : Thread nD τ).loc main_arg3) (ix4 (bOf t) n (hd (hOf t) e) a) := by
  rw [← V_main_arg3 m c]
  show V m c main_arg3 (((cfg0.win 3).blk t).view.emb (ix4 0 n e a)) = _
  refine congrArg (V m c main_arg3) ?_
  obtain ⟨h0, h1, h2⟩ := coords_val t
  have := lt512 t
  funext x; apply Fin.ext
  match x with
  | ⟨0, _⟩ =>
    show (BitVec.ofNat 32 (grid0.coords t 0).val).toNat * 1 + 1 * 0 = t.val / 64
    rw [h0, BitVec.toNat_ofNat]; omega
  | ⟨1, _⟩ => show 0 * 18 + 1 * n.val = n.val; omega
  | ⟨2, _⟩ =>
    show (BitVec.ofNat 32 (grid0.coords t 1).val).toNat * 128 + 1 * e.val = t.val / 16 % 4 * 128 + e.val
    rw [h1, BitVec.toNat_ofNat]; omega
  | ⟨3, _⟩ => show 0 * 256 + 1 * a.val = a.val; omega

/-- The gains as the region finds them: the argument, one to a row. -/
theorem V_gain (c : Dev nD) (e : Fin 128) : V m c main_v0 (ix2 e 0) = m ((c : Thread nD τ).loc main_arg4) (ix1 e) := by
  show StableHlo.after hostOps0 (fun b => m (c, b)) main_v0 (ix2 e 0) = _
  unfold hostOps0
  after_results_simp
  pointwise

theorem iblk4_at (c : Dev nD) (t : Fin grid0.N) (e : Fin 128) : iblk m c 4 t (ix2 e 0) = m ((c : Thread nD τ).loc main_arg4) (ix1 e) := by
  rw [← V_gain m c]
  show V m c main_v0 (((cfg0.win 4).blk t).view.emb (ix2 e 0)) = _
  refine congrArg (V m c main_v0) ?_
  funext a; apply Fin.ext
  match a with
  | ⟨0, _⟩ => show 0 * 128 + 1 * e.val = e.val; omega
  | ⟨1, _⟩ => rfl

/-- The result's value at one place. -/
abbrev outOf (c : Dev nD) (b : Fin 8) (h : Fin 4) (t : Fin 4096) (e : Fin 128) : EReal :=
  out (m ((c : Thread nD τ).loc main_arg0) (ix1 0)) (fun b x t => EReal.toReal (m ((c : Thread nD τ).loc main_arg1) (ix3 b x t)))
    (fun b k x => EReal.toReal (m ((c : Thread nD τ).loc main_arg2) (ix3 b k x))) (fun b n x a => EReal.toReal (m ((c : Thread nD τ).loc main_arg3) (ix4 b n x a)))
    (fun e => m ((c : Thread nD τ).loc main_arg4) (ix1 e)) b h t e

/-- Every query, key and value is a real number. -/
def Fin3 (c : Dev nD) : Prop :=
  (∀ b x t, m ((c : Thread nD τ).loc main_arg1) (ix3 b x t) = ((EReal.toReal (m ((c : Thread nD τ).loc main_arg1) (ix3 b x t)) : ℝ) : EReal)) ∧
  (∀ b k x, m ((c : Thread nD τ).loc main_arg2) (ix3 b k x) = ((EReal.toReal (m ((c : Thread nD τ).loc main_arg2) (ix3 b k x)) : ℝ) : EReal)) ∧
  (∀ b n x a, m ((c : Thread nD τ).loc main_arg3) (ix4 b n x a) = ((EReal.toReal (m ((c : Thread nD τ).loc main_arg3) (ix4 b n x a)) : ℝ) : EReal))

/-- The whole result. -/
def val (c : Dev nD) : Buf (Elt Ideal) ((c : Thread nD τ).loc main_v1) := fun j =>
  outOf m c ⟨(j 0).val / 4096, by have : (j 0).val < 32768 := (j 0).isLt; omega⟩ ⟨(j 1).val / 128, by have : (j 1).val < 512 := (j 1).isLt; omega⟩
    ⟨(j 0).val % 4096, by omega⟩ ⟨(j 1).val % 128, by omega⟩

/-- One block of the result. -/
theorem point_at (c : Dev nD) (hf : Fin3 m c) (t : Fin grid0.N) (r : Fin 256) (e : Fin 128) :
    outsAt0 m c t (ix2 r e) = outOf m c (bOf t) (hOf t) (tOf t r) e := by
  obtain ⟨f1, f2, f3⟩ := hf
  unfold outsAt0
  refine (block_at c (grid0.coords t) _ _ _ _ _ _ _ _ _ _ _ _ _ _ _ _ _ _ (iblk m c 0 t) (iblk m c 1 t) (iblk m c 2 t) (iblk m c 3 t) (iblk m c 4 t)
    (fun d j => EReal.toReal (m ((c : Thread nD τ).loc main_arg1) (ix3 (bOf t) (hd (hOf t) d) (tOf t j))))
    (fun k d => EReal.toReal (m ((c : Thread nD τ).loc main_arg2) (ix3 (bOf t) k (hd (hOf t) d))))
    (fun n e a => EReal.toReal (m ((c : Thread nD τ).loc main_arg3) (ix4 (bOf t) n (hd (hOf t) e) a)))
    (fun d j => (iblk1_at m c t d j).trans (f1 _ _ _)) (fun k d => (iblk2_at m c t k d).trans (f2 _ _ _)) (fun n e a => (iblk3_at m c t n e a).trans (f3 _ _ _ _)) r e).trans ?_
  rw [iblk4_at]
  unfold outOf out
  rw [iblk0_at]
  rfl

theorem flushed_eq (c : Dev nD) (hf : Fin3 m c) (t : Fin cfg0.N) :
    (dats m 0 c).flushed 5 t = ((cfg0.win 5).blk t).view.read (Elt Ideal) (val m c) := by
  rw [Value.flushed5]
  suffices h : ∀ j : S256x128.Idx, outsAt0 m c t j = val m c (((cfg0.win 5).blk t).view.emb j) from funext fun j => h j
  intro j
  have hj0 : (j 0).val < 256 := (j 0).isLt
  have hj1 : (j 1).val < 128 := (j 1).isLt
  obtain ⟨h0, h1, h2⟩ := coords_val t
  have ht := lt512 t
  have e0 : ((((cfg0.win 5).blk t).view.emb j : S32768x512.Idx) 0).val = (t.val / 64 * 16 + t.val % 16) * 256 + (j 0).val := by
    show (Scalar.addi (Scalar.muli (BitVec.ofNat 32 (grid0.coords t 0).val) 16#32) (BitVec.ofNat 32 (grid0.coords t 2).val)).toNat * 256 + 1 * (j 0).val = _
    rw [h0, h2]
    simp only [Scalar.addi, Scalar.muli, IntOp.addi, IntOp.muli, BitVec.toNat_add, BitVec.toNat_mul, BitVec.toNat_ofNat]
    omega
  have e1 : ((((cfg0.win 5).blk t).view.emb j : S32768x512.Idx) 1).val = t.val / 16 % 4 * 128 + (j 1).val := by
    show (BitVec.ofNat 32 (grid0.coords t 1).val).toNat * 128 + 1 * (j 1).val = _
    rw [h1, BitVec.toNat_ofNat]; omega
  have ej : j = ix2 ⟨(j 0).val, hj0⟩ ⟨(j 1).val, hj1⟩ := by
    funext a
    match a with
    | ⟨0, _⟩ => rfl
    | ⟨1, _⟩ => rfl
  refine (congrArg (outsAt0 m c t) ej).trans ((point_at m c hf t _ _).trans ?_)
  unfold val
  have a0 : bOf t = ⟨((((cfg0.win 5).blk t).view.emb j : S32768x512.Idx) 0).val / 4096, by rw [e0]; omega⟩ := Fin.ext (by show t.val / 64 = _ / 4096; rw [e0]; omega)
  have a1 : hOf t = ⟨((((cfg0.win 5).blk t).view.emb j : S32768x512.Idx) 1).val / 128, by rw [e1]; omega⟩ := Fin.ext (by show t.val / 16 % 4 = _ / 128; rw [e1]; omega)
  have a2 : tOf t ⟨(j 0).val, hj0⟩ = ⟨((((cfg0.win 5).blk t).view.emb j : S32768x512.Idx) 0).val % 4096, by omega⟩ := Fin.ext (by show t.val % 16 * 256 + (j 0).val = _ % 4096; rw [e0]; omega)
  have a3 : (⟨(j 1).val, hj1⟩ : Fin 128) = ⟨((((cfg0.win 5).blk t).view.emb j : S32768x512.Idx) 1).val % 128, by omega⟩ := Fin.ext (by show (j 1).val = _ % 128; rw [e1]; omega)
  rw [a0, a1, a2, a3]

/-- The point whose block holds a place of the result. -/
theorem cover (i : S32768x512.Idx) : ∃ t : Fin cfg0.N, (cfg0.win 5).flush t = true ∧ i ∈ ((cfg0.win 5).blk t).view.set := by
  have hi0 : (i 0).val < 32768 := (i 0).isLt
  have hi1 : (i 1).val < 512 := (i 1).isLt
  have hlt : ((i 0).val / 4096 * 4 + (i 1).val / 128) * 16 + (i 0).val / 256 % 16 < 512 := by omega
  let t : Fin grid0.N := ⟨((i 0).val / 4096 * 4 + (i 1).val / 128) * 16 + (i 0).val / 256 % 16, by rw [N_0]; exact hlt⟩
  refine ⟨t, flush0_5 t, ?_⟩
  show i ∈ ((View.whole main_v1).slice ((cfg0.win 5).rect t)).set
  erw [View.set_slice_whole]
  refine (Pipeline.Window.mem_rect_iff (cfg0.win 5) t i (by rfl)).mpr fun a => ?_
  obtain ⟨h0, h1, h2⟩ := coords_val t
  have e0 : (cfg0.win 5).index t 0 = t.val / 64 * 16 + t.val % 16 := by
    show (Scalar.addi (Scalar.muli (BitVec.ofNat 32 (grid0.coords t 0).val) 16#32) (BitVec.ofNat 32 (grid0.coords t 2).val)).toNat = _
    rw [h0, h2]
    have := lt512 t
    simp only [Scalar.addi, Scalar.muli, IntOp.addi, IntOp.muli, BitVec.toNat_add, BitVec.toNat_mul, BitVec.toNat_ofNat]
    omega
  have e1 : (cfg0.win 5).index t 1 = t.val / 16 % 4 := by
    show (BitVec.ofNat 32 (grid0.coords t 1).val).toNat = _
    rw [h1, BitVec.toNat_ofNat]; omega
  have hv : t.val = ((i 0).val / 4096 * 4 + (i 1).val / 128) * 16 + (i 0).val / 256 % 16 := rfl
  match a with
  | ⟨0, _⟩ =>
    show (cfg0.win 5).index t 0 * 256 ≤ (i 0).val ∧ (i 0).val < (cfg0.win 5).index t 0 * 256 + 256
    rw [e0, hv]; omega
  | ⟨1, _⟩ =>
    show (cfg0.win 5).index t 1 * 128 ≤ (i 1).val ∧ (i 1).val < (cfg0.win 5).index t 1 * 128 + 128
    rw [e1, hv]; omega

theorem final (c : Dev nD) (hf : Fin3 m c) : (dats m 0 c).arrAt 5 cfg0.N = val m c :=
  (dats m 0 c).arrAt_eq_of_cover 5 (val m c) (fun t _ => flushed_eq m c hf t) cover

end Cert.KernelIdeal.Hand

end
-- ==== Proof.AttnPre.lean ====
/- The precondition on the attention's arguments, decoded: the mixing weight, the queries, the keys and the values are
   all real numbers. -/
module

public import proofs.«01_k».proof.Defs
public import proofs.«01_k».proof.Proof.AttnValue
public import proofs.«01_k».proof.Proof.Gen.Pre_finite_values
public import Idealize.ShloMosaic.Lib.ReduceAll

@[expose] public section

set_option maxRecDepth 16384

noncomputable section

namespace Cert.KernelIdeal.Hand

open Cert.KernelIdeal Idealize.ShloMosaic Idealize.ShloMosaic.TcCoe

/-- A value whose magnitude compares below infinity is real. -/
theorem real_of_olt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine (EReal.coe_toReal hlt.1.ne ?_).symm
  rintro rfl
  simp at hlt

theorem andi_one (p q : BitVec 1) (h : IntOp.andi p q = 1#1) : p = 1#1 ∧ q = 1#1 := by
  revert p q; decide

/-- What the precondition says of a memory. -/
theorem finite_of_pre (m : (ℓ : Loc nD τ sig) → Buf (Elt Ideal) ℓ) (h : Cert.Pre_KernelIdeal_finite_values m) (c : Dev nD) :
    (m ((c : Thread nD τ).loc main_arg0) (ix1 0) = ((EReal.toReal (m ((c : Thread nD τ).loc main_arg0) (ix1 0)) : ℝ) : EReal)) ∧ Fin3 m c := by
  have e := congrFun (h c) (fun a => a.elim0)
  haveI : Subsingleton Cert.Pre_finite_values.S_.Idx := ⟨fun a b => funext fun i => i.elim0⟩
  unfold Cert.Pre_finite_values.fn Cert.Pre_finite_values.fn_part1 at e
  dsimp only at e
  obtain ⟨e, e3⟩ := andi_one _ _ e
  obtain ⟨e, e2⟩ := andi_one _ _ e
  obtain ⟨e0, e1⟩ := andi_one _ _ e
  refine ⟨real_of_olt _ (Host.reduce_andi_all _ _ _ _ _ e0 (ix1 0)), fun b x t => real_of_olt _ (Host.reduce_andi_all _ _ _ _ _ e1 (ix3 b x t)),
    fun b k x => real_of_olt _ (Host.reduce_andi_all _ _ _ _ _ e2 (ix3 b k x)), fun b n x a => real_of_olt _ (Host.reduce_andi_all _ _ _ _ _ e3 (ix4 b n x a))⟩

end Cert.KernelIdeal.Hand

end
-- ==== Proof.AttnRef.lean ====
/- The attention's reference read at one place of its result: the formula of `AttnMath`. -/
module

public import proofs.«01_k».proof.Proof.AttnMath
public import proofs.«01_k».proof.Proof.Gen.ReferenceIdeal.Read
public import Idealize.ShloMosaic.Lib.IdealHost

@[expose] public section

set_option maxRecDepth 16384

noncomputable section

namespace Cert.ReferenceIdeal.Read

open Cert.ReferenceIdeal Idealize.ShloMosaic Cert.AttnMath

variable (x0 : (⟨S1, .f32⟩ : BufTy).Contents (Elt Ideal)) (x1 : (⟨S8x512x4096, .bf16⟩ : BufTy).Contents (Elt Ideal))
variable (x2 : (⟨S8x4608x512, .bf16⟩ : BufTy).Contents (Elt Ideal)) (x3 : (⟨S8x18x512x256, .bf16⟩ : BufTy).Contents (Elt Ideal))
variable (x4 : (⟨S128, .f32⟩ : BufTy).Contents (Elt Ideal))
variable (A1 : Fin 8 → Fin 512 → Fin 4096 → ℝ) (A2 : Fin 8 → Fin 4608 → Fin 512 → ℝ) (A3 : Fin 8 → Fin 18 → Fin 512 → Fin 256 → ℝ)
variable (h1 : ∀ b x t, x1 (ix3 b x t) = ((A1 b x t : ℝ) : EReal)) (h2 : ∀ b k x, x2 (ix3 b k x) = ((A2 b k x : ℝ) : EReal))
variable (h3 : ∀ b n x a, x3 (ix4 b n x a) = ((A3 b n x a : ℝ) : EReal))

/-- The real scores of one map of one head. -/
abbrev sco (b : Fin 8) (h : Fin 4) (μ : Fin 2) (t : Fin 4096) : Fin 4608 → ℝ := rs (fun k d => A2 b k (hd h d)) (fun d t => A1 b (hd h d) t) μ t

include h1 in
theorem v2_at (b : Fin 8) (t : Fin 4096) (h : Fin 4) (μ : Fin 2) (x : Fin 64) :
    val_main_v2 (F := Ideal) x1 (ix5 b t h μ x) = ((A1 b (hd h ⟨μ.val * 64 + x.val, by omega⟩) t : ℝ) : EReal) := by
  rw [val_main_v2_apply, val_main_v1_apply, val_main_v0_apply]
  have e : idx_main_v1 (idx_main_v2 (ix5 b t h μ x)) = ix3 b (hd h ⟨μ.val * 64 + x.val, by omega⟩) t := by
    funext a
    match a with
    | ⟨0, _⟩ => exact Fin.ext (show ((((b.val * 4096 + t.val) * 4 + h.val) * 2 + μ.val) * 64 + x.val) / 2097152 = b.val by omega)
    | ⟨1, _⟩ => exact Fin.ext (show ((((b.val * 4096 + t.val) * 4 + h.val) * 2 + μ.val) * 64 + x.val) % 512 = h.val * 128 + (μ.val * 64 + x.val) by omega)
    | ⟨2, _⟩ => exact Fin.ext (show ((((b.val * 4096 + t.val) * 4 + h.val) * 2 + μ.val) * 64 + x.val) / 512 % 4096 = t.val by omega)
  rw [e]
  exact h1 _ _ _

include h2 in
theorem v4_at (b : Fin 8) (k : Fin 4608) (h : Fin 4) (μ : Fin 2) (x : Fin 64) :
    val_main_v4 (F := Ideal) x2 (ix5 b k h μ x) = ((A2 b k (hd h ⟨μ.val * 64 + x.val, by omega⟩) : ℝ) : EReal) := by
  rw [val_main_v4_apply, val_main_v3_apply]
  have e : idx_main_v4 (ix5 b k h μ x) = ix3 b k (hd h ⟨μ.val * 64 + x.val, by omega⟩) := by
    funext a
    match a with
    | ⟨0, _⟩ => exact Fin.ext (show ((((b.val * 4608 + k.val) * 4 + h.val) * 2 + μ.val) * 64 + x.val) / 2359296 = b.val by omega)
    | ⟨1, _⟩ => exact Fin.ext (show ((((b.val * 4608 + k.val) * 4 + h.val) * 2 + μ.val) * 64 + x.val) / 512 % 4608 = k.val by omega)
    | ⟨2, _⟩ => exact Fin.ext (show ((((b.val * 4608 + k.val) * 4 + h.val) * 2 + μ.val) * 64 + x.val) % 512 = h.val * 128 + (μ.val * 64 + x.val) by omega)
  rw [e]
  exact h2 _ _ _

include h3 in
theorem v7_at (b : Fin 8) (k : Fin 4608) (h : Fin 4) (e : Fin 128) :
    val_main_v7 (F := Ideal) x3 (ix4 b k h e) = ((vkey (fun n e a => A3 b n (hd h e) a) e k : ℝ) : EReal) := by
  rw [val_main_v7_apply, val_main_v6_apply, val_main_v5_apply]
  have ei : idx_main_v6 (idx_main_v7 (ix4 b k h e)) = ix4 b ⟨k.val / 256, by omega⟩ (hd h e) ⟨k.val % 256, by omega⟩ := by
    funext a
    match a with
    | ⟨0, _⟩ => exact Fin.ext (show (((b.val * 4608 + k.val) * 4 + h.val) * 128 + e.val) / 2359296 = b.val by omega)
    | ⟨1, _⟩ => exact Fin.ext (show (((b.val * 4608 + k.val) * 4 + h.val) * 128 + e.val) / 131072 % 18 = k.val / 256 by omega)
    | ⟨2, _⟩ => exact Fin.ext (show (((b.val * 4608 + k.val) * 4 + h.val) * 128 + e.val) % 512 = h.val * 128 + e.val by omega)
    | ⟨3, _⟩ => exact Fin.ext (show (((b.val * 4608 + k.val) * 4 + h.val) * 128 + e.val) / 512 % 256 = k.val % 256 by omega)
  rw [ei]
  exact h3 _ _ _ _

include h1 h2 in
/-- The scores. -/
theorem v8_at (b : Fin 8) (h : Fin 4) (μ : Fin 2) (t : Fin 4096) (k : Fin 4608) :
    val_main_v8 (F := Ideal) x1 x2 (ix5 b h μ t k) = ((sco A1 A2 b h μ t k : ℝ) : EReal) := by
  rw [val_main_v8_apply]
  unfold sco rs
  rw [coe_sum]
  refine Finset.sum_congr rfl fun x _ => ?_
  have el : lidx_main_v8 (ix5 b h μ t k) x = ix5 b t h μ x := by
    funext a; match a with | ⟨0, _⟩ => rfl | ⟨1, _⟩ => rfl | ⟨2, _⟩ => rfl | ⟨3, _⟩ => rfl | ⟨4, _⟩ => rfl
  have er : ridx_main_v8 (ix5 b h μ t k) x = ix5 b k h μ x := by
    funext a; match a with | ⟨0, _⟩ => rfl | ⟨1, _⟩ => rfl | ⟨2, _⟩ => rfl | ⟨3, _⟩ => rfl | ⟨4, _⟩ => rfl
  rw [el, er, v2_at x1 A1 h1, v4_at x2 A2 h2, EReal.coe_mul, mul_comm]

include h1 h2 in
/-- The row's maximum is a real number. -/
theorem v11_real (b : Fin 8) (h : Fin 4) (μ : Fin 2) (t : Fin 4096) :
    ∃ M : ℝ, val_main_v11 (F := Ideal) x1 x2 (ix4 b h μ t) = (M : EReal) := by
  obtain ⟨M, hM⟩ := fold_max_real (n := 4607) (sco A1 A2 b h μ t)
  refine ⟨M, ?_⟩
  have e9 : val_main_v9 (F := Ideal) x1 x2 (ix4 b h μ t) = (M : EReal) := by
    unfold val_main_v9
    have hv : ∀ k : Fin 4608, val_main_v8 (F := Ideal) x1 x2 (ix5 b h μ t k) = ((sco A1 A2 b h μ t k : ℝ) : EReal) := fun k => v8_at x1 x2 A1 A2 h1 h2 b h μ t k
    generalize val_main_v8 (F := Ideal) x1 x2 = y at hv ⊢
    refine (Host.reduce_eq_fold_single _ y _ Gen.reducesTo_S8x4x2x4096x4608_S8x4x2x4096_d4 (by decide) Gen.h_S_ _).trans ?_
    rw [val_main_cst_apply]
    refine Eq.trans ?_ hM
    refine congrArg₂ (fun a (f : Fin 4608 → EReal) => Finset.univ.fold max a f) ofBits_neg_inf (funext fun k => (congrArg y ?_).trans (hv k))
    funext a; apply Fin.ext
    match a with | ⟨0, _⟩ => rfl | ⟨1, _⟩ => rfl | ⟨2, _⟩ => rfl | ⟨3, _⟩ => rfl | ⟨4, _⟩ => rfl
  rw [val_main_v11_apply, val_main_v10_apply, val_main_cst_0_apply, e9]
  show max (Ideal.ofBits .f32 0xFF800000#32) (M : EReal) = M
  rw [ofBits_neg_inf]
  exact max_bot_left _

include h1 h2 in
/-- The softmax. -/
theorem v19_at (b : Fin 8) (h : Fin 4) (μ : Fin 2) (t : Fin 4096) (k : Fin 4608) :
    val_main_v19 (F := Ideal) x1 x2 (ix5 b h μ t k) = ((Real.exp (sco A1 A2 b h μ t k) / ∑ i, Real.exp (sco A1 A2 b h μ t i) : ℝ) : EReal) := by
  obtain ⟨M, hM⟩ := v11_real x1 x2 A1 A2 h1 h2 b h μ t
  have e15 : ∀ k, val_main_v15 (F := Ideal) x1 x2 (ix5 b h μ t k) = Ideal.exp (((sco A1 A2 b h μ t k : ℝ) : EReal) - (M : EReal)) := by
    intro k
    have e13 : idx_main_v12 (idx_main_v13 (ix5 b h μ t k)) = ix4 b h μ t := by
      funext a; match a with | ⟨0, _⟩ => rfl | ⟨1, _⟩ => rfl | ⟨2, _⟩ => rfl | ⟨3, _⟩ => rfl
    rw [val_main_v15_apply, val_main_v14_apply, v8_at x1 x2 A1 A2 h1 h2, val_main_v13_apply, val_main_v12_apply, e13, hM]
    rfl
  have e17 : idx_main_v17 (idx_main_v18 (ix5 b h μ t k)) = ix4 b h μ t := by
    funext a; match a with | ⟨0, _⟩ => rfl | ⟨1, _⟩ => rfl | ⟨2, _⟩ => rfl | ⟨3, _⟩ => rfl
  have e16 : ∀ i : Fin 4608, idx_main_v16 (ix4 b h μ t) i = ix5 b h μ t i := fun i => by
    funext a; match a with | ⟨0, _⟩ => rfl | ⟨1, _⟩ => rfl | ⟨2, _⟩ => rfl | ⟨3, _⟩ => rfl | ⟨4, _⟩ => rfl
  rw [val_main_v19_apply, e15, val_main_v18_apply, val_main_v17_apply, e17, val_main_v16_apply, val_main_cst_1_apply]
  rw [Finset.sum_congr rfl fun i _ => (congrArg (val_main_v15 (F := Ideal) x1 x2) (e16 i)).trans (e15 i)]
  refine Eq.trans ?_ (soft_full (n := 4607) (sco A1 A2 b h μ t) M k)
  show Ideal.div _ (Ideal.ofBits .f32 0x00000000#32 + _) = _
  rw [Ideal.ofBits_zero, zero_add]

include h1 h2 in
/-- The first map. -/
theorem v21_at (b : Fin 8) (h : Fin 4) (t : Fin 4096) (k : Fin 4608) :
    val_main_v21 (F := Ideal) x1 x2 (ix4 b h t k) = ((Real.exp (sco A1 A2 b h 0 t k) / ∑ i, Real.exp (sco A1 A2 b h 0 t i) : ℝ) : EReal) := by
  have e : idx_main_v20 (idx_main_v21 (ix4 b h t k)) = ix5 b h 0 t k := by
    funext a
    match a with
    | ⟨0, _⟩ => exact Fin.ext (show (((b.val * 4 + h.val) * 4096 + t.val) * 4608 + k.val) / 75497472 = b.val by omega)
    | ⟨1, _⟩ => exact Fin.ext (show (((b.val * 4 + h.val) * 4096 + t.val) * 4608 + k.val) / 18874368 % 4 = h.val by omega)
    | ⟨2, _⟩ => rfl
    | ⟨3, _⟩ => exact Fin.ext (show (((b.val * 4 + h.val) * 4096 + t.val) * 4608 + k.val) / 4608 % 4096 = t.val by omega)
    | ⟨4, _⟩ => exact Fin.ext (show (((b.val * 4 + h.val) * 4096 + t.val) * 4608 + k.val) % 4608 = k.val by omega)
  rw [val_main_v21_apply, val_main_v20_apply, e, v19_at x1 x2 A1 A2 h1 h2]

include h1 h2 in
/-- The second map. -/
theorem v24_at (b : Fin 8) (h : Fin 4) (t : Fin 4096) (k : Fin 4608) :
    val_main_v24 (F := Ideal) x1 x2 (ix4 b h t k) = ((Real.exp (sco A1 A2 b h 1 t k) / ∑ i, Real.exp (sco A1 A2 b h 1 t i) : ℝ) : EReal) := by
  have e : idx_main_v23 (idx_main_v24 (ix4 b h t k)) = ix5 b h 1 t k := by
    funext a
    match a with
    | ⟨0, _⟩ => exact Fin.ext (show (((b.val * 4 + h.val) * 4096 + t.val) * 4608 + k.val) / 75497472 = b.val by omega)
    | ⟨1, _⟩ => exact Fin.ext (show (((b.val * 4 + h.val) * 4096 + t.val) * 4608 + k.val) / 18874368 % 4 = h.val by omega)
    | ⟨2, _⟩ => rfl
    | ⟨3, _⟩ => exact Fin.ext (show (((b.val * 4 + h.val) * 4096 + t.val) * 4608 + k.val) / 4608 % 4096 = t.val by omega)
    | ⟨4, _⟩ => exact Fin.ext (show (((b.val * 4 + h.val) * 4096 + t.val) * 4608 + k.val) % 4608 = k.val by omega)
  rw [val_main_v24_apply, val_main_v23_apply, e, v19_at x1 x2 A1 A2 h1 h2]

variable (lam : ℝ) (h0 : x0 (ix1 0) = ((lam : ℝ) : EReal))

include h0 h1 h2 h3 in
/-- The maps' difference applied to the values. -/
theorem v29_at (b : Fin 8) (t : Fin 4096) (h : Fin 4) (e : Fin 128) :
    val_main_v29 (F := Ideal) x0 x1 x2 x3 (ix4 b t h e)
      = odif (x0 (ix1 0)) (fun d t => A1 b (hd h d) t) (fun k d => A2 b k (hd h d)) (fun n e a => A3 b n (hd h e) a) t e := by
  have e29 : idx_main_v29 (ix4 b t h e) = ix4 b h e t := by
    funext a; match a with | ⟨0, _⟩ => rfl | ⟨1, _⟩ => rfl | ⟨2, _⟩ => rfl | ⟨3, _⟩ => rfl
  rw [val_main_v29_apply, e29, val_main_v28_apply]
  have h22 : ∀ i, val_main_v22 (F := Ideal) x0 i = x0 (ix1 0) := fun i => by
    unfold val_main_v22
    exact shapeCast_apply x0 _ _ (ix1 0) (by
      haveI : Subsingleton S_.Idx := ⟨fun a b => funext fun i => i.elim0⟩
      rw [Subsingleton.elim i (fun a => a.elim0)]; rfl)
  have hk : ∀ k : Fin 4608, val_main_v7 (F := Ideal) x3 (lidx_main_v28 (ix4 b h e t) k) * val_main_v27 (F := Ideal) x0 x1 x2 (ridx_main_v28 (ix4 b h e t) k)
      = (((Real.exp (sco A1 A2 b h 0 t k) / (∑ i, Real.exp (sco A1 A2 b h 0 t i)) - lam * (Real.exp (sco A1 A2 b h 1 t k) / ∑ i, Real.exp (sco A1 A2 b h 1 t i)))
          * vkey (fun n e a => A3 b n (hd h e) a) e k : ℝ) : EReal) := by
    intro k
    have el : lidx_main_v28 (ix4 b h e t) k = ix4 b k h e := by
      funext a; match a with | ⟨0, _⟩ => rfl | ⟨1, _⟩ => rfl | ⟨2, _⟩ => rfl | ⟨3, _⟩ => rfl
    have er : ridx_main_v28 (ix4 b h e t) k = ix4 b h t k := by
      funext a; match a with | ⟨0, _⟩ => rfl | ⟨1, _⟩ => rfl | ⟨2, _⟩ => rfl | ⟨3, _⟩ => rfl
    rw [el, er, v7_at x3 A3 h3, val_main_v27_apply, v21_at x1 x2 A1 A2 h1 h2, val_main_v26_apply, v24_at x1 x2 A1 A2 h1 h2, val_main_v25_apply, h22, h0,
      EReal.coe_mul, EReal.coe_sub, EReal.coe_mul, mul_comm]
    rfl
  rw [Finset.sum_congr rfl fun k _ => hk k, ← coe_sum, soft_diff (n := 4607)]
  unfold odif
  rw [h0, EReal.coe_sub, EReal.coe_mul]

include h0 h1 h2 h3 in
/-- The reference at one place. -/
theorem v46_at (b : Fin 8) (h : Fin 4) (t : Fin 4096) (e : Fin 128) :
    val_main_v46 (F := Ideal) x0 x1 x2 x3 x4 (ix2 ⟨b.val * 4096 + t.val, by omega⟩ (hd h e)) = out (x0 (ix1 0)) A1 A2 A3 (fun e => x4 (ix1 e)) b h t e := by
  have e45 : idx_main_v45 (ix2 ⟨b.val * 4096 + t.val, by omega⟩ (hd h e)) = ix4 b t h e := by
    funext a
    match a with
    | ⟨0, _⟩ => exact Fin.ext (show ((b.val * 4096 + t.val) * 512 + (h.val * 128 + e.val)) / 2097152 = b.val by omega)
    | ⟨1, _⟩ => exact Fin.ext (show ((b.val * 4096 + t.val) * 512 + (h.val * 128 + e.val)) / 512 % 4096 = t.val by omega)
    | ⟨2, _⟩ => exact Fin.ext (show ((b.val * 4096 + t.val) * 512 + (h.val * 128 + e.val)) / 128 % 4 = h.val by omega)
    | ⟨3, _⟩ => exact Fin.ext (show ((b.val * 4096 + t.val) * 512 + (h.val * 128 + e.val)) % 128 = e.val by omega)
  have e38 : idx_main_v38 (ix4 b t h e) = ix4 b t h 0 := by
    funext a; match a with | ⟨0, _⟩ => rfl | ⟨1, _⟩ => rfl | ⟨2, _⟩ => rfl | ⟨3, _⟩ => rfl
  have e32 : idx_main_v32 (ix4 b t h 0) = ix3 b t h := by
    funext a; match a with | ⟨0, _⟩ => rfl | ⟨1, _⟩ => rfl | ⟨2, _⟩ => rfl
  have e31 : ∀ d : Fin 128, idx_main_v31 (ix3 b t h) d = ix4 b t h d := fun d => by
    funext a; match a with | ⟨0, _⟩ => rfl | ⟨1, _⟩ => rfl | ⟨2, _⟩ => rfl | ⟨3, _⟩ => rfl
  have e41 : idx_main_v40 (idx_main_v41 (ix4 b t h e)) = ix1 e := by funext a; match a with | ⟨0, _⟩ => rfl
  rw [val_main_v46_apply, val_main_v45_apply, e45, val_main_v44_apply, val_main_v42_apply, val_main_v39_apply, val_main_v38_apply, e38, val_main_v37_apply,
    val_main_v36_apply, val_main_v34_apply, val_main_v32_apply, e32, val_main_v31_apply, val_main_cst_2_apply, val_main_v33_apply, val_main_cst_3_apply,
    val_main_v35_apply, val_main_cst_4_apply, val_main_v41_apply, val_main_v40_apply, e41, val_main_v43_apply, val_main_cst_5_apply,
    v29_at x0 x1 x2 x3 A1 A2 A3 h1 h2 h3 lam h0]
  rw [Finset.sum_congr rfl fun d _ => show val_main_v30 (F := Ideal) x0 x1 x2 x3 (idx_main_v31 (ix3 b t h) d) = _ by
    rw [e31, val_main_v30_apply, v29_at x0 x1 x2 x3 A1 A2 A3 h1 h2 h3 lam h0]]
  unfold out rms
  show _ * Ideal.rsqrt (Ideal.div (Ideal.ofBits .f32 0x00000000#32 + _) _ + _) * _ * _ = _
  rw [Ideal.ofBits_zero, zero_add]
  rfl

end Cert.ReferenceIdeal.Read

end
-- ==== Proof.AttnClaims.lean ====
/- The claims about the attention: the frames of its kernel, of the kernel's idealization and of its reference, and the
   equality of the last two on real queries, keys, values and mixing weight. -/
module

public import proofs.«01_k».proof.Defs
public import proofs.«01_k».proof.Proof.AttnPre
public import proofs.«01_k».proof.Proof.AttnRef
public import proofs.«01_k».proof.Proof.Gen.Kernel.Frame
public import proofs.«01_k».proof.Proof.Gen.ReferenceIdeal.Run
public import Idealize.ShloMosaic.Adequacy

@[expose] public section

set_option maxRecDepth 16384

noncomputable section

namespace Cert.Proof

open Idealize.ShloMosaic Idealize.SL.Sem Cert.AttnMath

theorem frame_attention : Cert.quiescent_Kernel (hKernel := Cert.Kernel.Gen.facts) := fun m ρ _ => Cert.Kernel.Gen.frame m ρ

theorem frame_attention_ideal : Cert.quiescent_KernelIdeal (hKernelIdeal := Cert.KernelIdeal.Gen.facts) := fun m ρ _ => Cert.KernelIdeal.Gen.frame m ρ

theorem frame_attention_ideal_finite : Cert.quiescent_KernelIdeal_pre_finite_values (hKernelIdeal := Cert.KernelIdeal.Gen.facts)
    (hPre_finite_values := Cert.Pre_finite_values.Gen.facts) := fun m ρ _ => Cert.KernelIdeal.Gen.frame m ρ

theorem frame_attention_reference : Cert.quiescent_ReferenceIdeal (hReferenceIdeal := Cert.ReferenceIdeal.Gen.facts) :=
  fun m ρ _ => (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_attention_reference_finite : Cert.quiescent_ReferenceIdeal_pre_finite_values (hReferenceIdeal := Cert.ReferenceIdeal.Gen.facts)
    (hPre_finite_values := Cert.Pre_finite_values.Gen.facts) := fun m ρ _ => frame_attention_reference m ρ trivial

/-- With equal arguments the reference's result is the kernel's. -/
theorem attention_values (m : (ℓ : Loc Cert.KernelIdeal.nD Cert.KernelIdeal.τ Cert.KernelIdeal.sig) → Buf (Elt Ideal) ℓ)
    (c : Dev Cert.KernelIdeal.nD)
    (h0 : m ((c.tc : Thread Cert.KernelIdeal.nD Cert.KernelIdeal.τ).loc Cert.KernelIdeal.main_arg0) (ix1 0)
      = ((EReal.toReal (m ((c.tc : Thread Cert.KernelIdeal.nD Cert.KernelIdeal.τ).loc Cert.KernelIdeal.main_arg0) (ix1 0)) : ℝ) : EReal))
    (hf : Cert.KernelIdeal.Hand.Fin3 m c) :
    Cert.ReferenceIdeal.Read.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
    = Cert.KernelIdeal.Hand.val m c := by
  obtain ⟨f1, f2, f3⟩ := hf
  funext j
  have hj0 : (j 0).val < 32768 := (j 0).isLt
  have hj1 : (j 1).val < 512 := (j 1).isLt
  have e : j = ix2 ⟨(⟨(j 0).val / 4096, by omega⟩ : Fin 8).val * 4096 + (⟨(j 0).val % 4096, by omega⟩ : Fin 4096).val, by show (j 0).val / 4096 * 4096 + (j 0).val % 4096 < 32768; omega⟩
      (hd ⟨(j 1).val / 128, by omega⟩ ⟨(j 1).val % 128, by omega⟩) := by
    funext a
    match a with
    | ⟨0, _⟩ => exact Fin.ext (show (j 0).val = (j 0).val / 4096 * 4096 + (j 0).val % 4096 by omega)
    | ⟨1, _⟩ => exact Fin.ext (show (j 1).val = (j 1).val / 128 * 128 + (j 1).val % 128 by omega)
  exact (congrArg _ e).trans (Cert.ReferenceIdeal.Read.v46_at _ _ _ _ _ _ _ _ f1 f2 f3 _ h0 ⟨(j 0).val / 4096, by omega⟩ ⟨(j 1).val / 128, by omega⟩
    ⟨(j 0).val % 4096, by omega⟩ ⟨(j 1).val % 128, by omega⟩)

theorem algebraic_attention : Cert.algebraic_KernelIdeal_ReferenceIdeal_pre_finite_values (hKernelIdeal := Cert.KernelIdeal.Gen.facts)
    (hReferenceIdeal := Cert.ReferenceIdeal.Gen.facts) (hPre_finite_values := Cert.Pre_finite_values.Gen.facts) := by
  intro m g m' g' hp hagree
  have hf := Cert.KernelIdeal.Hand.finite_of_pre m hp
  refine ⟨fun c => Cert.KernelIdeal.Hand.val m c, ?_, ?_⟩
  · exact (θ_run Cert.KernelIdeal.defs _ _).mono (fun r h c => ⟨(h c).1.trans (Cert.KernelIdeal.Hand.final m c (hf c).2), (h c).2⟩)
      (Cert.KernelIdeal.Value.run_blocks m g)
  · refine (θ_run Cert.ReferenceIdeal.defs _ _).mono (fun r h c => ⟨?_, (h c).2⟩) (Cert.ReferenceIdeal.Value.run (F := Ideal) m' g')
    obtain ⟨e0, e1, e2, e3, e4⟩ := hagree c
    rw [(h c).1, Cert.ReferenceIdeal.Read.val_main_v46_eq, e0, e1, e2, e3, e4]
    exact attention_values m c (hf c).1 (hf c).2

end Cert.Proof

end
-- ==== Proof.MixerIdealTable.lean ====
/- The mixer's table of groups: a constant of the program, its entry for the block of 256 rows n being n / 16, so every
   block of the modulation the grid reads lies inside its array. -/
module

public import proofs.«01_k».proof.Proof.Gen.MixerInIdeal.Frame
public import Idealize.ShloMosaic.Lib.ValueIdxCore

@[expose] public section

set_option maxRecDepth 16384

noncomputable section

namespace Cert.MixerInIdeal.Gen

open Idealize.ShloMosaic Idealize.ShloMosaic.TcCoe

variable {F : FTy → Type} [FloatOps F] (m : (ℓ : Loc nD τ sig) → Buf (Elt F) ℓ)

/-- The constant's entries, row by row. -/
theorem lit_val : ∀ n : Fin 144, (lit0 n).toNat = n.val / 16 := by decide +kernel

/-- The table when the grid starts is the constant. -/
theorem tbl_eq : tbl m 0 = fun i => lit0 (S144.rowMajor i) := by
  show StableHlo.after hostOps0 (fun b => m (0, b)) main_c = _
  after_results_simp <;> rfl

/-- The entry for the block of rows `n`. -/
theorem tbl_val (n : Fin 144) : BitVec.toNat (tbl m 0 (ValueIdx.ix1 n : S144.Idx)) = n.val / 16 := by
  rw [tbl_eq]
  have e : S144.rowMajor (ValueIdx.ix1 n : S144.Idx) = n := Fin.ext (Shape.rowMajor_val_one _)
  exact (congrArg (fun k : Fin 144 => (lit0 k).toNat) e).trans (lit_val n)

/-- The block of rows a grid point works on. -/
abbrev rowOf (i : grid0.Coords) : Fin 144 := ⟨(i 0).val, (i 0).isLt⟩

theorem word_at (i : grid0.Coords) :
    (tbl m).at 0 (Rect.unit (s := S144) ![(Scalar.indexCast (BitVec.ofNat 32 (i 0).val)).toNat] S1.size (k0_off1_inb i)) numel1_S1
      = tbl m 0 (ValueIdx.ix1 (rowOf i) : S144.Idx) := by
  unfold Pipeline.Prefetch.Contents.at
  have hb : (i 0).val < 144 := (i 0).isLt
  have key : ∀ (x : S144.Idx), (x 0).val = (i 0).val → x = (ValueIdx.ix1 (rowOf i) : S144.Idx) := fun x hx => by
    rw [ValueIdx.eq_ix1 x]; congr 1; exact Fin.ext hx
  refine congrArg (tbl m 0) (key _ ?_)
  show (Scalar.indexCast (BitVec.ofNat 32 (i 0).val)).toNat + 1 * _ = (i 0).val
  have h0 : ∀ x : Fin 1, x.val = 0 := fun x => by omega
  erw [h0]
  rw [show (Scalar.indexCast (BitVec.ofNat 32 (i 0).val)) = BitVec.ofNat 32 (i 0).val from rfl, BitVec.toNat_ofNat]
  omega

/-- Where the modulation's block sits at a grid point: at its group. -/
theorem tr2 (i : grid0.Coords) : cc0_transform_2 k0_off1_inb numel1_S1 (tbl m) i = ![(i 0).val / 16, 0, 0, 0] := by
  unfold cc0_transform_2; dsimp only; rw [word_at, tbl_val]; rfl

/-- The pipeline's side condition holds of the constant. -/
theorem ok : Ok m := by
  refine fun i => ⟨?_, .inl rfl⟩
  rw [tr2]
  have hb : (i 0).val < 144 := (i 0).isLt
  generalize (i 0).val = w at hb
  intro a
  fin_cases a <;> simp <;> omega

end Cert.MixerInIdeal.Gen

end
-- ==== Proof.MixerSpec.lean ====
/- What the mixer's first call computes, at one place: each row of the residual over the root of its mean square, scaled
   and shifted by the modulation of its group of rows, times the projection; and the last columns of that projection
   times the low-rank matrix. -/
module

public import Idealize.ShloMosaic.PureOps.Ideal
public import Idealize.ShloMosaic.Lib.ValueIdxCore
public import Idealize.ShloMosaic.Lib.Pointwise

@[expose] public section

noncomputable section

namespace Cert.MixerSpec

open Idealize.ShloMosaic

/-- The group of 4096 rows a row lies in. -/
def groupOf (R : Fin 36864) : Fin 16 := ⟨R.val / 4096, by omega⟩

variable (x : (⟨2, ![36864, 1024]⟩ : Shape).Idx → EReal) (n : (⟨1, ![1024]⟩ : Shape).Idx → EReal)
variable (mods : (⟨4, ![16, 6, 1, 1024]⟩ : Shape).Idx → EReal) (w : (⟨2, ![1024, 2048]⟩ : Shape).Idx → EReal)
variable (ab : (⟨2, ![256, 512]⟩ : Shape).Idx → EReal)

/-- One over the root of a row's mean square. -/
def rootOf (R : Fin 36864) : EReal :=
  Ideal.rsqrt (Ideal.div (∑ k : Fin 1024, x (ix2 R k) * x (ix2 R k)) (Ideal.ofBits .f32 0x44800000#32) + Ideal.ofBits .f32 0x358637BD#32)

/-- The normalised and modulated residual. -/
def normed (R : Fin 36864) (k : Fin 1024) : EReal :=
  x (ix2 R k) * rootOf x R * n (ix1 k) * (1 + mods (ix4 (groupOf R) 1 0 k)) + mods (ix4 (groupOf R) 0 0 k)

/-- The projection. -/
def proj (R : Fin 36864) (f : Fin 2048) : EReal := ∑ k : Fin 1024, normed x n mods R k * w (ix2 k f)

/-- The low-rank product of the projection's last columns. -/
def low (R : Fin 36864) (j : Fin 512) : EReal := ∑ q : Fin 256, proj x n mods w R ⟨1792 + q.val, by omega⟩ * ab (ix2 q j)

end Cert.MixerSpec

end
-- ==== Proof.MixerValue.lean ====
/- What the mixer's first call leaves in its three results: at each row the formulas of `MixerSpec`. -/
module

public import proofs.«01_k».proof.Proof.MixerIdealTable
public import proofs.«01_k».proof.Proof.MixerSpec
public import Idealize.ShloMosaic.Lib.Pipeline.Value
public import Idealize.ShloMosaic.Lib.Pipeline.ValueKit.Basic
public import Idealize.ShloMosaic.Lib.Pointwise
public import Idealize.ShloMosaic.Lib.IdealHost

@[expose] public section

set_option maxRecDepth 16384

noncomputable section

namespace Cert.MixerInIdeal.Hand

open Cert.MixerInIdeal Cert.MixerInIdeal.Gen Idealize.ShloMosaic Idealize.ShloMosaic.TcCoe Idealize.SL.Sem Cert.MixerSpec
open Idealize.ShloMosaic.Pipeline (Dat)

/-! ## One block -/

/-- The block's normalised and modulated rows. -/
def bNormed (x : Vec Ideal S256x1024 .f32) (n : Vec Ideal S1x1024 .f32) (sc : Vec Ideal S1x1x1x1024 .f32) (sh : Vec Ideal S1x1x1x1024 .f32) (r : Fin 256) (k : Fin 1024) : EReal :=
  x (ix2 r k) * Ideal.rsqrt (Ideal.div (∑ k : Fin 1024, x (ix2 r k) * x (ix2 r k)) (Ideal.ofBits .f32 0x44800000#32) + Ideal.ofBits .f32 0x358637BD#32)
    * n (ix2 0 k) * (1 + sc (ix4 0 0 0 k)) + sh (ix4 0 0 0 k)

/-- The block's projection. -/
def bProj (x : Vec Ideal S256x1024 .f32) (n : Vec Ideal S1x1024 .f32) (sc : Vec Ideal S1x1x1x1024 .f32) (sh : Vec Ideal S1x1x1x1024 .f32)
    (w : Vec Ideal S1024x2048 .bf16) (r : Fin 256) (f : Fin 2048) : EReal := ∑ k : Fin 1024, bNormed x n sc sh r k * w (ix2 k f)

theorem pay3_at (x : Vec Ideal S256x1024 .f32) (n : Vec Ideal S1x1024 .f32) (sc : Vec Ideal S1x1x1x1024 .f32) (sh : Vec Ideal S1x1x1x1024 .f32)
    (w : Vec Ideal S1024x2048 .bf16) (r : Fin 256) (f : Fin 2048) : k0_pay3 (F := Ideal) x n sc sh w (ix2 r f) = bProj x n sc sh w r f := by
  pointwise [k0_pay3, bProj, bNormed]

theorem pay4_at (x : Vec Ideal S256x1024 .f32) (n : Vec Ideal S1x1024 .f32) (sc : Vec Ideal S1x1x1x1024 .f32) (sh : Vec Ideal S1x1x1x1024 .f32)
    (w : Vec Ideal S1024x2048 .bf16) (r : Fin 256) (f : Fin 1792) : k0_pay4 (F := Ideal) x n sc sh w (ix2 r f) = bProj x n sc sh w r ⟨f.val, by omega⟩ := by
  rw [← pay3_at]
  unfold k0_pay4
  generalize k0_pay3 (F := Ideal) x n sc sh w = P
  pointwise

/-- The block's low-rank product. -/
theorem pay5_at (x : Vec Ideal S256x1024 .f32) (n : Vec Ideal S1x1024 .f32) (sc : Vec Ideal S1x1x1x1024 .f32) (sh : Vec Ideal S1x1x1x1024 .f32)
    (w : Vec Ideal S1024x2048 .bf16) (ab : Vec Ideal S256x512 .bf16) (r : Fin 256) (j : Fin 512) :
    k0_pay5 (F := Ideal) x n sc sh w ab (ix2 r j) = ∑ q : Fin 256, bProj x n sc sh w r ⟨1792 + q.val, by omega⟩ * ab (ix2 q j) := by
  refine Eq.trans (b := ∑ q : Fin 256, k0_pay3 (F := Ideal) x n sc sh w (ix2 r ⟨1792 + q.val, by omega⟩) * ab (ix2 q j)) ?_
    (Finset.sum_congr rfl fun q _ => by rw [pay3_at])
  unfold k0_pay5
  generalize k0_pay3 (F := Ideal) x n sc sh w = P
  pointwise

theorem pay1_at (v : FVec Ideal S256x512 .f32) (r : Fin 256) (j : Fin 256) : k0_pay1 (F := Ideal) v (ix2 r j) = v (ix2 r ⟨j.val, by omega⟩) := by
  pointwise [k0_pay1]

theorem pay2_at (v : FVec Ideal S256x512 .f32) (r : Fin 256) (j : Fin 256) : k0_pay2 (F := Ideal) v (ix2 r j) = v (ix2 r ⟨256 + j.val, by omega⟩) := by
  pointwise [k0_pay2]

/-- The block's scale: the second row of its modulation. -/
abbrev scOf (x2 : Vec Ideal S1x6x1x1024 .f32) : Vec Ideal S1x1x1x1024 .f32 := fun j => x2 (ix4 0 1 0 ⟨(j 3).val, (j 3).isLt⟩)

/-- The block's shift: the first row of its modulation. -/
abbrev shOf (x2 : Vec Ideal S1x6x1x1024 .f32) : Vec Ideal S1x1x1x1024 .f32 := fun j => x2 (ix4 0 0 0 ⟨(j 3).val, (j 3).isLt⟩)

theorem ld_sc (x2 : Vec Ideal S1x6x1x1024 .f32) (inb) : View.ld x2 (Rect.unit (s := S1x6x1x1024) ![0, 1, 0, 0] S1x1x1x1024.size inb) = scOf x2 := by
  have h0 : ∀ x : Fin 1, x.val = 0 := fun x => by omega
  refine funext fun j => congrArg x2 (funext fun a => Fin.ext ?_)
  match a with
  | ⟨0, _⟩ => show 0 + 1 * (j 0).val = 0; have := h0 (j 0); omega
  | ⟨1, _⟩ => show 1 + 1 * (j 1).val = 1; have := h0 (j 1); omega
  | ⟨2, _⟩ => show 0 + 1 * (j 2).val = 0; have := h0 (j 2); omega
  | ⟨3, _⟩ => show 0 + 1 * (j 3).val = (j 3).val; omega

theorem ld_sh (x2 : Vec Ideal S1x6x1x1024 .f32) (inb) : View.ld x2 (Rect.unit (s := S1x6x1x1024) ![0, 0, 0, 0] S1x1x1x1024.size inb) = shOf x2 := by
  have h0 : ∀ x : Fin 1, x.val = 0 := fun x => by omega
  refine funext fun j => congrArg x2 (funext fun a => Fin.ext ?_)
  match a with
  | ⟨0, _⟩ => show 0 + 1 * (j 0).val = 0; have := h0 (j 0); omega
  | ⟨1, _⟩ => show 0 + 1 * (j 1).val = 0; have := h0 (j 1); omega
  | ⟨2, _⟩ => show 0 + 1 * (j 2).val = 0; have := h0 (j 2); omega
  | ⟨3, _⟩ => show 0 + 1 * (j 3).val = (j 3).val; omega

theorem out_5 (c : Dev nD) (i : grid0.Coords) (arg2) (harg2) (arg3) (harg3) (arg4) (harg4) (arg5) (harg5) (arg6) (harg6) (arg7) (harg7) (arg8) (harg8) (arg9) (harg9)
    (x0 : Vec Ideal S256x1024 .f32) (x1 : Vec Ideal S1x1024 .f32) (x2 : Vec Ideal S1x6x1x1024 .f32) (x3 : Vec Ideal S1024x2048 .bf16) (x4 : Vec Ideal S256x512 .bf16) (xt0) :
    out0_A_5 c i arg2 harg2 arg3 harg3 arg4 harg4 arg5 harg5 arg6 harg6 arg7 harg7 arg8 harg8 arg9 harg9 x0 x1 x2 x3 x4 xt0 = k0_pay4 x0 x1 (scOf x2) (shOf x2) x3 := by
  have z2 : (![0, 0] : Fin 2 → ℕ) = 0 := by decide
  unfold out0_A_5
  rw [View.read_writes_eq_canon _ _ _ (cover0_A_5 c i arg2 harg2 arg3 harg3 arg4 harg4 arg5 harg5 arg6 harg6 arg7 harg7 arg8 harg8 arg9 harg9 x0 x1 x2 x3 x4 xt0)]
  unfold kernelRun0_A
  dsimp only
  rw [View.canon_unit_zero z2]
  simp only [View.readAt_eq_ld, harg2.read_unread, harg3.read_unread, harg4.read_unread, harg5.read_unread, harg6.read_unread,
    View.ld_unit_zero (S := S256x1024) z2, View.ld_unit_zero (S := S1x1024) z2, View.ld_unit_zero (S := S1024x2048) z2,
    View.ld_unit_zero (S := S256x512) z2]
  exact congrArg₂ (fun a b => k0_pay4 x0 x1 a b x3) (ld_sc x2 _) (ld_sh x2 _)

theorem out_6 (c : Dev nD) (i : grid0.Coords) (arg2) (harg2) (arg3) (harg3) (arg4) (harg4) (arg5) (harg5) (arg6) (harg6) (arg7) (harg7) (arg8) (harg8) (arg9) (harg9)
    (x0 : Vec Ideal S256x1024 .f32) (x1 : Vec Ideal S1x1024 .f32) (x2 : Vec Ideal S1x6x1x1024 .f32) (x3 : Vec Ideal S1024x2048 .bf16) (x4 : Vec Ideal S256x512 .bf16) (xt0) :
    out0_A_6 c i arg2 harg2 arg3 harg3 arg4 harg4 arg5 harg5 arg6 harg6 arg7 harg7 arg8 harg8 arg9 harg9 x0 x1 x2 x3 x4 xt0 = k0_pay1 (k0_pay5 x0 x1 (scOf x2) (shOf x2) x3 x4) := by
  have z2 : (![0, 0] : Fin 2 → ℕ) = 0 := by decide
  unfold out0_A_6
  rw [View.read_writes_eq_canon _ _ _ (cover0_A_6 c i arg2 harg2 arg3 harg3 arg4 harg4 arg5 harg5 arg6 harg6 arg7 harg7 arg8 harg8 arg9 harg9 x0 x1 x2 x3 x4 xt0)]
  unfold kernelRun0_A
  dsimp only
  rw [View.canon_unit_zero z2]
  unfold kernelRun0_A.sl.r
  simp only [View.readAt_eq_ld, harg2.read_unread, harg3.read_unread, harg4.read_unread, harg5.read_unread, harg6.read_unread,
    View.ld_unit_zero (S := S256x1024) z2, View.ld_unit_zero (S := S1x1024) z2, View.ld_unit_zero (S := S1024x2048) z2,
    View.ld_unit_zero (S := S256x512) z2]
  exact congrArg₂ (fun a b => k0_pay1 (k0_pay5 x0 x1 a b x3 x4)) (ld_sc x2 _) (ld_sh x2 _)

theorem out_7 (c : Dev nD) (i : grid0.Coords) (arg2) (harg2) (arg3) (harg3) (arg4) (harg4) (arg5) (harg5) (arg6) (harg6) (arg7) (harg7) (arg8) (harg8) (arg9) (harg9)
    (x0 : Vec Ideal S256x1024 .f32) (x1 : Vec Ideal S1x1024 .f32) (x2 : Vec Ideal S1x6x1x1024 .f32) (x3 : Vec Ideal S1024x2048 .bf16) (x4 : Vec Ideal S256x512 .bf16) (xt0) :
    out0_A_7 c i arg2 harg2 arg3 harg3 arg4 harg4 arg5 harg5 arg6 harg6 arg7 harg7 arg8 harg8 arg9 harg9 x0 x1 x2 x3 x4 xt0 = k0_pay2 (k0_pay5 x0 x1 (scOf x2) (shOf x2) x3 x4) := by
  have z2 : (![0, 0] : Fin 2 → ℕ) = 0 := by decide
  unfold out0_A_7
  rw [View.read_writes_eq_canon _ _ _ (cover0_A_7 c i arg2 harg2 arg3 harg3 arg4 harg4 arg5 harg5 arg6 harg6 arg7 harg7 arg8 harg8 arg9 harg9 x0 x1 x2 x3 x4 xt0)]
  unfold kernelRun0_A
  dsimp only
  rw [View.canon_unit_zero z2]
  unfold kernelRun0_A.sl.r
  simp only [View.readAt_eq_ld, harg2.read_unread, harg3.read_unread, harg4.read_unread, harg5.read_unread, harg6.read_unread,
    View.ld_unit_zero (S := S256x1024) z2, View.ld_unit_zero (S := S1x1024) z2, View.ld_unit_zero (S := S1024x2048) z2,
    View.ld_unit_zero (S := S256x512) z2]
  exact congrArg₂ (fun a b => k0_pay2 (k0_pay5 x0 x1 a b x3 x4)) (ld_sc x2 _) (ld_sh x2 _)

/-! ## The whole results -/

/-- A grid point's coordinate is its position. -/
theorem coord_val : ∀ t : Fin grid0.N, (grid0.coords t 0).val = t.val := by decide +kernel

variable (m : (ℓ : Loc nD τ sig) → Buf (Elt Ideal) ℓ) (ρ : Dev nD → PrngReg)

theorem lt144 (t : Fin grid0.N) : t.val < 144 := lt_of_lt_of_eq t.isLt N_0

/-- The row of the residual that a row of a grid point's block is. -/
abbrev rowAt (t : Fin grid0.N) (r : Fin 256) : Fin 36864 := ⟨t.val * 256 + r.val, by have := lt144 t; omega⟩

theorem iblk0_at (c : Dev nD) (t : Fin grid0.N) (r : Fin 256) (k : Fin 1024) :
    iblk m (ok m) c 0 t (ix2 r k) = V m c main_arg0 (ix2 (rowAt t r) k) := by
  show V m c main_arg0 ((((cfgM m (ok m)).win 0).blk t).view.emb (ix2 r k)) = _
  refine congrArg (V m c main_arg0) ?_
  have hv := coord_val t
  funext a; apply Fin.ext
  match a with
  | ⟨0, _⟩ =>
    show (BitVec.ofNat 32 (grid0.coords t 0).val).toNat * 256 + 1 * r.val = t.val * 256 + r.val
    have := lt144 t
    rw [hv, BitVec.toNat_ofNat]; omega
  | ⟨1, _⟩ => show 0 * 1024 + 1 * k.val = k.val; omega

/-- The gains as the region finds them: the argument as one row. -/
theorem V_gain (c : Dev nD) (k : Fin 1024) : V m c main_v0 (ix2 0 k) = m ((c : Thread nD τ).loc main_arg1) (ix1 k) := by
  show StableHlo.after hostOps0 (fun b => m (c, b)) main_v0 (ix2 0 k) = _
  unfold hostOps0
  after_results_simp
  pointwise

theorem iblk1_at (c : Dev nD) (t : Fin grid0.N) (k : Fin 1024) : iblk m (ok m) c 1 t (ix2 0 k) = m ((c : Thread nD τ).loc main_arg1) (ix1 k) := by
  rw [← V_gain m c]
  show V m c main_v0 ((((cfgM m (ok m)).win 1).blk t).view.emb (ix2 0 k)) = _
  refine congrArg (V m c main_v0) ?_
  funext a; apply Fin.ext
  match a with
  | ⟨0, _⟩ => rfl
  | ⟨1, _⟩ => show 0 * 1024 + 1 * k.val = k.val; omega

theorem iblk2_at (c : Dev nD) (t : Fin grid0.N) (r : Fin 256) (b : Fin 6) (k : Fin 1024) :
    iblk m (ok m) c 2 t (ix4 0 b 0 k) = V m c main_arg2 (ix4 (groupOf (rowAt t r)) b 0 k) := by
  show V m c main_arg2 ((((cfgM m (ok m)).win 2).blk t).view.emb (ix4 0 b 0 k)) = _
  refine congrArg (V m c main_arg2) ?_
  have e : cc0_transform_2 k0_off1_inb numel1_S1 (tbl m) (grid0.coords t) = ![t.val / 16, 0, 0, 0] := by rw [tr2, coord_val]
  funext a; apply Fin.ext
  match a with
  | ⟨0, _⟩ =>
    show cc0_transform_2 k0_off1_inb numel1_S1 (tbl m) (grid0.coords t) 0 * 1 + 1 * 0 = (t.val * 256 + r.val) / 4096
    rw [e]; simp; omega
  | ⟨1, _⟩ =>
    show cc0_transform_2 k0_off1_inb numel1_S1 (tbl m) (grid0.coords t) 1 * 6 + 1 * b.val = b.val
    rw [e]; simp
  | ⟨2, _⟩ =>
    show cc0_transform_2 k0_off1_inb numel1_S1 (tbl m) (grid0.coords t) 2 * 1 + 1 * 0 = 0
    rw [e]; simp
  | ⟨3, _⟩ =>
    show cc0_transform_2 k0_off1_inb numel1_S1 (tbl m) (grid0.coords t) 3 * 1024 + 1 * k.val = k.val
    rw [e]; simp

theorem iblk3_at (c : Dev nD) (t : Fin grid0.N) (k : Fin 1024) (f : Fin 2048) : iblk m (ok m) c 3 t (ix2 k f) = V m c main_arg3 (ix2 k f) := by
  show V m c main_arg3 ((((cfgM m (ok m)).win 3).blk t).view.emb (ix2 k f)) = _
  refine congrArg (V m c main_arg3) ?_
  funext a; apply Fin.ext
  match a with
  | ⟨0, _⟩ => show 0 * 1024 + 1 * k.val = k.val; omega
  | ⟨1, _⟩ => show 0 * 2048 + 1 * f.val = f.val; omega

theorem iblk4_at (c : Dev nD) (t : Fin grid0.N) (q : Fin 256) (j : Fin 512) : iblk m (ok m) c 4 t (ix2 q j) = V m c main_arg4 (ix2 q j) := by
  show V m c main_arg4 ((((cfgM m (ok m)).win 4).blk t).view.emb (ix2 q j)) = _
  refine congrArg (V m c main_arg4) ?_
  funext a; apply Fin.ext
  match a with
  | ⟨0, _⟩ => show 0 * 256 + 1 * q.val = q.val; omega
  | ⟨1, _⟩ => show 0 * 512 + 1 * j.val = j.val; omega

/-- The projection of the arguments. -/
abbrev projOf (c : Dev nD) (R : Fin 36864) (f : Fin 2048) : EReal :=
  proj (V m c main_arg0) (m ((c : Thread nD τ).loc main_arg1)) (V m c main_arg2) (V m c main_arg3) R f

/-- The low-rank product of the arguments. -/
abbrev lowOf (c : Dev nD) (R : Fin 36864) (j : Fin 512) : EReal :=
  low (V m c main_arg0) (m ((c : Thread nD τ).loc main_arg1)) (V m c main_arg2) (V m c main_arg3) (V m c main_arg4) R j

theorem bProj_at (c : Dev nD) (t : Fin grid0.N) (r : Fin 256) (f : Fin 2048) :
    bProj (iblk m (ok m) c 0 t) (iblk m (ok m) c 1 t) (scOf (iblk m (ok m) c 2 t)) (shOf (iblk m (ok m) c 2 t)) (iblk m (ok m) c 3 t) r f = projOf m c (rowAt t r) f := by
  unfold bProj projOf proj
  refine Finset.sum_congr rfl fun k _ => congrArg₂ (· * ·) ?_ (iblk3_at m c t k f)
  unfold bNormed normed rootOf
  refine congrArg₂ (· + ·) (congrArg₂ (· * ·) (congrArg₂ (· * ·) (congrArg₂ (· * ·) (iblk0_at m c t r k) ?_) (iblk1_at m c t k))
    (congrArg (1 + ·) (iblk2_at m c t r 1 k))) (iblk2_at m c t r 0 k)
  refine congrArg (fun s => Ideal.rsqrt (Ideal.div s (Ideal.ofBits .f32 0x44800000#32) + Ideal.ofBits .f32 0x358637BD#32)) ?_
  exact Finset.sum_congr rfl fun k _ => congrArg₂ (· * ·) (iblk0_at m c t r k) (iblk0_at m c t r k)

theorem bLow_at (c : Dev nD) (t : Fin grid0.N) (r : Fin 256) (j : Fin 512) :
    k0_pay5 (F := Ideal) (iblk m (ok m) c 0 t) (iblk m (ok m) c 1 t) (scOf (iblk m (ok m) c 2 t)) (shOf (iblk m (ok m) c 2 t)) (iblk m (ok m) c 3 t) (iblk m (ok m) c 4 t) (ix2 r j)
      = lowOf m c (rowAt t r) j := by
  refine (pay5_at _ _ _ _ _ _ r j).trans ?_
  unfold lowOf low
  exact Finset.sum_congr rfl fun q _ => congrArg₂ (· * ·) (bProj_at m c t r _) (iblk4_at m c t q j)

/-- The whole of the first result. -/
def val5 (c : Dev nD) : Buf (Elt Ideal) ((c : Thread nD τ).loc main_v1_0) := fun j =>
  projOf m c ⟨(j 0).val, (j 0).isLt⟩ ⟨(j 1).val, by have : (j 1).val < 1792 := (j 1).isLt; omega⟩

/-- The whole of the second result. -/
def val6 (c : Dev nD) : Buf (Elt Ideal) ((c : Thread nD τ).loc main_v1_1) := fun j =>
  lowOf m c ⟨(j 0).val, (j 0).isLt⟩ ⟨(j 1).val, by have : (j 1).val < 256 := (j 1).isLt; omega⟩

/-- The whole of the third result. -/
def val7 (c : Dev nD) : Buf (Elt Ideal) ((c : Thread nD τ).loc main_v1_2) := fun j =>
  lowOf m c ⟨(j 0).val, (j 0).isLt⟩ ⟨256 + (j 1).val, by have : (j 1).val < 256 := (j 1).isLt; omega⟩

/-- What a grid point leaves in the first result's block. -/
theorem outs5_at (c : Dev nD) (t : Fin grid0.N) (r : Fin 256) (f : Fin 1792) :
    (outsAt0 m (ok m) c t).1 (ix2 r f) = projOf m c (rowAt t r) ⟨f.val, by omega⟩ := by
  unfold outsAt0
  dsimp only
  exact (congrFun (out_5 c _ _ _ _ _ _ _ _ _ _ _ _ _ _ _ _ _ _ _ _ _ _ _) _).trans ((pay4_at _ _ _ _ _ r f).trans (bProj_at m c t r _))

theorem outs6_at (c : Dev nD) (t : Fin grid0.N) (r : Fin 256) (j : Fin 256) :
    (outsAt0 m (ok m) c t).2.1 (ix2 r j) = lowOf m c (rowAt t r) ⟨j.val, by omega⟩ := by
  unfold outsAt0
  dsimp only
  exact (congrFun (out_6 c _ _ _ _ _ _ _ _ _ _ _ _ _ _ _ _ _ _ _ _ _ _ _) _).trans ((pay1_at _ r j).trans (bLow_at m c t r _))

theorem outs7_at (c : Dev nD) (t : Fin grid0.N) (r : Fin 256) (j : Fin 256) :
    (outsAt0 m (ok m) c t).2.2 (ix2 r j) = lowOf m c (rowAt t r) ⟨256 + j.val, by omega⟩ := by
  unfold outsAt0
  dsimp only
  exact (congrFun (out_7 c _ _ _ _ _ _ _ _ _ _ _ _ _ _ _ _ _ _ _ _ _ _ _) _).trans ((pay2_at _ r j).trans (bLow_at m c t r _))

theorem flushed5 (c : Dev nD) (t : Fin (cfgM m (ok m)).N) :
    (dats m (ok m) 0 c).flushed 5 t = (((cfgM m (ok m)).win 5).blk t).view.read (Elt Ideal) (val5 m c) := by
  show ((cfgM m (ok m)).win 5).cut (grid0.coords t) ((dats m (ok m) 0 c).after 5 t) = _
  rw [after0_5]
  suffices h : ∀ j : S256x1792.Idx, (outsAt0 m (ok m) c t).1 j = val5 m c ((((cfgM m (ok m)).win 5).blk t).view.emb j) from funext fun j => h j
  intro j
  have hj0 : (j 0).val < 256 := (j 0).isLt
  have hj1 : (j 1).val < 1792 := (j 1).isLt
  have e : (((cfgM m (ok m)).win 5).blk t).view.emb j = (ix2 (rowAt t ⟨(j 0).val, hj0⟩) ⟨(j 1).val, hj1⟩ : S36864x1792.Idx) := by
    have hv := coord_val t
    funext a; apply Fin.ext
    match a with
    | ⟨0, _⟩ =>
      show (BitVec.ofNat 32 (grid0.coords t 0).val).toNat * 256 + 1 * (j 0).val = t.val * 256 + (j 0).val
      have := lt144 t
      rw [hv, BitVec.toNat_ofNat]; omega
    | ⟨1, _⟩ => show 0 * 1792 + 1 * (j 1).val = (j 1).val; omega
  refine Eq.trans ?_ (congrArg (val5 m c) e).symm
  refine (congrArg (outsAt0 m (ok m) c t).1 ?_).trans (outs5_at m c t ⟨(j 0).val, hj0⟩ ⟨(j 1).val, hj1⟩)
  funext a
  match a with
  | ⟨0, _⟩ => rfl
  | ⟨1, _⟩ => rfl

theorem index5 (t : Fin grid0.N) : ((cfgM m (ok m)).win 5).index t = ![t.val, 0] := by
  show ![(BitVec.ofNat 32 (grid0.coords t 0).val).toNat, 0] = _
  have := lt144 t
  rw [coord_val, BitVec.toNat_ofNat, Nat.mod_eq_of_lt (by omega)]

theorem cover5 (i : S36864x1792.Idx) :
    ∃ t : Fin (cfgM m (ok m)).N, ((cfgM m (ok m)).win 5).flush t = true ∧ i ∈ (((cfgM m (ok m)).win 5).blk t).view.set := by
  have hi0 : (i 0).val < 36864 := (i 0).isLt
  have hi1 : (i 1).val < 1792 := (i 1).isLt
  let t : Fin grid0.N := ⟨(i 0).val / 256, by rw [N_0]; omega⟩
  refine ⟨t, flush0_5 _ t, ?_⟩
  show i ∈ ((View.whole main_v1_0).slice (((cfgM m (ok m)).win 5).rect t)).set
  erw [View.set_slice_whole]
  refine (Pipeline.Window.mem_rect_iff ((cfgM m (ok m)).win 5) t i (by rfl)).mpr fun a => ?_
  rw [index5 m]
  match a with
  | ⟨0, _⟩ => exact show (i 0).val / 256 * 256 ≤ (i 0).val ∧ (i 0).val < (i 0).val / 256 * 256 + 256 by omega
  | ⟨1, _⟩ => exact show 0 * 1792 ≤ (i 1).val ∧ (i 1).val < 0 * 1792 + 1792 by omega

theorem final5 (c : Dev nD) : (dats m (ok m) 0 c).arrAt 5 (cfgM m (ok m)).N = val5 m c :=
  (dats m (ok m) 0 c).arrAt_eq_of_cover 5 (val5 m c) (fun t _ => flushed5 m c t) (cover5 m)

theorem flushed6 (c : Dev nD) (t : Fin (cfgM m (ok m)).N) :
    (dats m (ok m) 0 c).flushed 6 t = (((cfgM m (ok m)).win 6).blk t).view.read (Elt Ideal) (val6 m c) := by
  show ((cfgM m (ok m)).win 6).cut (grid0.coords t) ((dats m (ok m) 0 c).after 6 t) = _
  rw [after0_6]
  suffices h : ∀ j : S256x256.Idx, (outsAt0 m (ok m) c t).2.1 j = val6 m c ((((cfgM m (ok m)).win 6).blk t).view.emb j) from funext fun j => h j
  intro j
  have hj0 : (j 0).val < 256 := (j 0).isLt
  have hj1 : (j 1).val < 256 := (j 1).isLt
  have e : (((cfgM m (ok m)).win 6).blk t).view.emb j = (ix2 (rowAt t ⟨(j 0).val, hj0⟩) ⟨(j 1).val, hj1⟩ : S36864x256.Idx) := by
    have hv := coord_val t
    funext a; apply Fin.ext
    match a with
    | ⟨0, _⟩ =>
      show (BitVec.ofNat 32 (grid0.coords t 0).val).toNat * 256 + 1 * (j 0).val = t.val * 256 + (j 0).val
      have := lt144 t
      rw [hv, BitVec.toNat_ofNat]; omega
    | ⟨1, _⟩ => show 0 * 256 + 1 * (j 1).val = (j 1).val; omega
  refine Eq.trans ?_ (congrArg (val6 m c) e).symm
  refine (congrArg (outsAt0 m (ok m) c t).2.1 ?_).trans (outs6_at m c t ⟨(j 0).val, hj0⟩ ⟨(j 1).val, hj1⟩)
  funext a
  match a with
  | ⟨0, _⟩ => rfl
  | ⟨1, _⟩ => rfl

theorem index6 (t : Fin grid0.N) : ((cfgM m (ok m)).win 6).index t = ![t.val, 0] := by
  show ![(BitVec.ofNat 32 (grid0.coords t 0).val).toNat, 0] = _
  have := lt144 t
  rw [coord_val, BitVec.toNat_ofNat, Nat.mod_eq_of_lt (by omega)]

theorem cover6 (i : S36864x256.Idx) :
    ∃ t : Fin (cfgM m (ok m)).N, ((cfgM m (ok m)).win 6).flush t = true ∧ i ∈ (((cfgM m (ok m)).win 6).blk t).view.set := by
  have hi0 : (i 0).val < 36864 := (i 0).isLt
  have hi1 : (i 1).val < 256 := (i 1).isLt
  let t : Fin grid0.N := ⟨(i 0).val / 256, by rw [N_0]; omega⟩
  refine ⟨t, flush0_6 _ t, ?_⟩
  show i ∈ ((View.whole main_v1_1).slice (((cfgM m (ok m)).win 6).rect t)).set
  erw [View.set_slice_whole]
  refine (Pipeline.Window.mem_rect_iff ((cfgM m (ok m)).win 6) t i (by rfl)).mpr fun a => ?_
  rw [index6 m]
  match a with
  | ⟨0, _⟩ => exact show (i 0).val / 256 * 256 ≤ (i 0).val ∧ (i 0).val < (i 0).val / 256 * 256 + 256 by omega
  | ⟨1, _⟩ => exact show 0 * 256 ≤ (i 1).val ∧ (i 1).val < 0 * 256 + 256 by omega

theorem final6 (c : Dev nD) : (dats m (ok m) 0 c).arrAt 6 (cfgM m (ok m)).N = val6 m c :=
  (dats m (ok m) 0 c).arrAt_eq_of_cover 6 (val6 m c) (fun t _ => flushed6 m c t) (cover6 m)

theorem flushed7 (c : Dev nD) (t : Fin (cfgM m (ok m)).N) :
    (dats m (ok m) 0 c).flushed 7 t = (((cfgM m (ok m)).win 7).blk t).view.read (Elt Ideal) (val7 m c) := by
  show ((cfgM m (ok m)).win 7).cut (grid0.coords t) ((dats m (ok m) 0 c).after 7 t) = _
  rw [after0_7]
  suffices h : ∀ j : S256x256.Idx, (outsAt0 m (ok m) c t).2.2 j = val7 m c ((((cfgM m (ok m)).win 7).blk t).view.emb j) from funext fun j => h j
  intro j
  have hj0 : (j 0).val < 256 := (j 0).isLt
  have hj1 : (j 1).val < 256 := (j 1).isLt
  have e : (((cfgM m (ok m)).win 7).blk t).view.emb j = (ix2 (rowAt t ⟨(j 0).val, hj0⟩) ⟨(j 1).val, hj1⟩ : S36864x256.Idx) := by
    have hv := coord_val t
    funext a; apply Fin.ext
    match a with
    | ⟨0, _⟩ =>
      show (BitVec.ofNat 32 (grid0.coords t 0).val).toNat * 256 + 1 * (j 0).val = t.val * 256 + (j 0).val
      have := lt144 t
      rw [hv, BitVec.toNat_ofNat]; omega
    | ⟨1, _⟩ => show 0 * 256 + 1 * (j 1).val = (j 1).val; omega
  refine Eq.trans ?_ (congrArg (val7 m c) e).symm
  refine (congrArg (outsAt0 m (ok m) c t).2.2 ?_).trans (outs7_at m c t ⟨(j 0).val, hj0⟩ ⟨(j 1).val, hj1⟩)
  funext a
  match a with
  | ⟨0, _⟩ => rfl
  | ⟨1, _⟩ => rfl

theorem index7 (t : Fin grid0.N) : ((cfgM m (ok m)).win 7).index t = ![t.val, 0] := by
  show ![(BitVec.ofNat 32 (grid0.coords t 0).val).toNat, 0] = _
  have := lt144 t
  rw [coord_val, BitVec.toNat_ofNat, Nat.mod_eq_of_lt (by omega)]

theorem cover7 (i : S36864x256.Idx) :
    ∃ t : Fin (cfgM m (ok m)).N, ((cfgM m (ok m)).win 7).flush t = true ∧ i ∈ (((cfgM m (ok m)).win 7).blk t).view.set := by
  have hi0 : (i 0).val < 36864 := (i 0).isLt
  have hi1 : (i 1).val < 256 := (i 1).isLt
  let t : Fin grid0.N := ⟨(i 0).val / 256, by rw [N_0]; omega⟩
  refine ⟨t, flush0_7 _ t, ?_⟩
  show i ∈ ((View.whole main_v1_2).slice (((cfgM m (ok m)).win 7).rect t)).set
  erw [View.set_slice_whole]
  refine (Pipeline.Window.mem_rect_iff ((cfgM m (ok m)).win 7) t i (by rfl)).mpr fun a => ?_
  rw [index7 m]
  match a with
  | ⟨0, _⟩ => exact show (i 0).val / 256 * 256 ≤ (i 0).val ∧ (i 0).val < (i 0).val / 256 * 256 + 256 by omega
  | ⟨1, _⟩ => exact show 0 * 256 ≤ (i 1).val ∧ (i 1).val < 0 * 256 + 256 by omega

theorem final7 (c : Dev nD) : (dats m (ok m) 0 c).arrAt 7 (cfgM m (ok m)).N = val7 m c :=
  (dats m (ok m) 0 c).arrAt_eq_of_cover 7 (val7 m c) (fun t _ => flushed7 m c t) (cover7 m)

/-- The run, read: each result at its formula. -/
theorem run : θ_run defs (onTc (τ := τ) (main (F := Ideal))) ⟨m, fun _ => 0, ρ⟩ fun r => ∀ c : Dev nD,
      r.2.mem ((c : Thread nD τ).loc main_v1_0) = val5 m c ∧ r.2.mem ((c : Thread nD τ).loc main_v1_1) = val6 m c
        ∧ r.2.mem ((c : Thread nD τ).loc main_v1_2) = val7 m c :=
  (θ_run defs _ _).mono (fun _ hr c => ⟨((hr c).1 5).trans (final5 m c), ((hr c).1 6).trans (final6 m c), ((hr c).1 7).trans (final7 m c)⟩) (run_main m ρ (ok m))

end Cert.MixerInIdeal.Hand

end
-- ==== Proof.MixerRef.lean ====
/- The reference of the mixer's first call read at one place of each result: the formulas of `MixerSpec`. -/
module

public import proofs.«01_k».proof.Proof.MixerSpec
public import proofs.«01_k».proof.Proof.Gen.MixerInReferenceIdeal.Read
public import Idealize.ShloMosaic.Lib.IdealHost

@[expose] public section

set_option maxRecDepth 16384

noncomputable section

namespace Cert.MixerInReferenceIdeal.Read

open Cert.MixerInReferenceIdeal Idealize.ShloMosaic Cert.MixerSpec

variable (x0 : (⟨S36864x1024, .f32⟩ : BufTy).Contents (Elt Ideal)) (x1 : (⟨S1024, .f32⟩ : BufTy).Contents (Elt Ideal))
variable (x2 : (⟨S16x6x1x1024, .f32⟩ : BufTy).Contents (Elt Ideal)) (x3 : (⟨S1024x2048, .bf16⟩ : BufTy).Contents (Elt Ideal))
variable (x4 : (⟨S256x512, .bf16⟩ : BufTy).Contents (Elt Ideal))

/-- The row a row of a group is. -/
abbrev rowG (g : Fin 9) (s : Fin 4096) : Fin 36864 := ⟨g.val * 4096 + s.val, by omega⟩

theorem group_row (g : Fin 9) (s : Fin 4096) : groupOf (rowG g s) = ⟨g.val, by omega⟩ :=
  Fin.ext (show (g.val * 4096 + s.val) / 4096 = g.val by omega)

theorem v0_at (g : Fin 9) (s : Fin 4096) (k : Fin 1024) : val_main_v0 (F := Ideal) x0 (ix3 g s k) = x0 (ix2 (rowG g s) k) := by
  rw [val_main_v0_apply]
  refine congrArg x0 (funext fun a => ?_)
  match a with
  | ⟨0, _⟩ => exact Fin.ext (show ((g.val * 4096 + s.val) * 1024 + k.val) / 1024 = g.val * 4096 + s.val by omega)
  | ⟨1, _⟩ => exact Fin.ext (show ((g.val * 4096 + s.val) * 1024 + k.val) % 1024 = k.val by omega)

theorem v8_at (g : Fin 9) (s : Fin 4096) : val_main_v8 (F := Ideal) x0 (ix3 g s 0) = rootOf x0 (rowG g s) := by
  have e3 : idx_main_v3 (ix3 g s 0) = ix2 g s := by funext a; match a with | ⟨0, _⟩ => rfl | ⟨1, _⟩ => rfl
  have e2 : ∀ k, idx_main_v2 (ix2 g s) k = ix3 g s k := fun k => by funext a; match a with | ⟨0, _⟩ => rfl | ⟨1, _⟩ => rfl | ⟨2, _⟩ => rfl
  have c0 : ∀ i, val_main_cst (F := Ideal) i = (0 : EReal) := fun _ => Ideal.ofBits_zero .f32
  rw [val_main_v8_apply, val_main_v7_apply, val_main_v5_apply, val_main_v6_apply, val_main_v4_apply, val_main_v3_apply, val_main_v2_apply, e3, c0, zero_add]
  have hs : (∑ k : Fin 1024, val_main_v1 (F := Ideal) x0 (idx_main_v2 (ix2 g s) k)) = ∑ k : Fin 1024, x0 (ix2 (rowG g s) k) * x0 (ix2 (rowG g s) k) :=
    Finset.sum_congr rfl fun k _ => by rw [e2, val_main_v1_apply, v0_at]; rfl
  rw [hs]
  rfl

theorem v15_at (g : Fin 9) (k : Fin 1024) : val_main_v15 (F := Ideal) x2 (ix3 g 0 k) = x2 (ix4 ⟨g.val, by omega⟩ 1 0 k) := by
  rw [val_main_v15_apply, val_main_v14_apply]
  refine congrArg x2 (funext fun a => ?_)
  match a with
  | ⟨0, _⟩ => exact Fin.ext (show ((g.val * 1 + 0) * 1024 + k.val) / 1024 = g.val by omega)
  | ⟨1, _⟩ => rfl
  | ⟨2, _⟩ => rfl
  | ⟨3, _⟩ => exact Fin.ext (show ((g.val * 1 + 0) * 1024 + k.val) % 1024 = k.val by omega)

theorem v21_at (g : Fin 9) (k : Fin 1024) : val_main_v21 (F := Ideal) x2 (ix3 g 0 k) = x2 (ix4 ⟨g.val, by omega⟩ 0 0 k) := by
  rw [val_main_v21_apply, val_main_v20_apply]
  refine congrArg x2 (funext fun a => ?_)
  match a with
  | ⟨0, _⟩ => exact Fin.ext (show ((g.val * 1 + 0) * 1024 + k.val) / 1024 = g.val by omega)
  | ⟨1, _⟩ => rfl
  | ⟨2, _⟩ => rfl
  | ⟨3, _⟩ => exact Fin.ext (show ((g.val * 1 + 0) * 1024 + k.val) % 1024 = k.val by omega)

theorem v23_at (g : Fin 9) (s : Fin 4096) (k : Fin 1024) : val_main_v23 (F := Ideal) x0 x1 x2 (ix3 g s k) = normed x0 x1 x2 (rowG g s) k := by
  have e9 : idx_main_v9 (ix3 g s k) = ix3 g s 0 := by funext a; match a with | ⟨0, _⟩ => rfl | ⟨1, _⟩ => rfl | ⟨2, _⟩ => rfl
  have e11 : idx_main_v11 (idx_main_v12 (ix3 g s k)) = ix1 k := by funext a; match a with | ⟨0, _⟩ => rfl
  have e18 : idx_main_v18 (ix3 g s k) = ix3 g 0 k := by funext a; match a with | ⟨0, _⟩ => rfl | ⟨1, _⟩ => rfl | ⟨2, _⟩ => rfl
  have e22 : idx_main_v22 (ix3 g s k) = ix3 g 0 k := by funext a; match a with | ⟨0, _⟩ => rfl | ⟨1, _⟩ => rfl | ⟨2, _⟩ => rfl
  have c1 : ∀ i, val_main_cst_2 (F := Ideal) i = (1 : EReal) := fun _ => Ideal.ofBits_one_f32
  rw [val_main_v23_apply, val_main_v19_apply, val_main_v22_apply, val_main_v13_apply, val_main_v18_apply, val_main_v10_apply, val_main_v9_apply,
    val_main_v12_apply, val_main_v11_apply, e18, val_main_v17_apply, val_main_v16_apply, e22, e9, e11, c1, v0_at, v8_at, v15_at, v21_at]
  unfold normed
  rw [group_row]
  rfl

theorem v26_at (R : Fin 36864) (f : Fin 2048) : val_main_v26 (F := Ideal) x0 x1 x2 x3 (ix2 R f) = proj x0 x1 x2 x3 R f := by
  have e26 : idx_main_v26 (ix2 R f) = ix3 (⟨R.val / 4096, by omega⟩ : Fin 9) (⟨R.val % 4096, by omega⟩ : Fin 4096) f := by
    funext a
    match a with
    | ⟨0, _⟩ => exact Fin.ext (show (R.val * 2048 + f.val) / 8388608 = R.val / 4096 by omega)
    | ⟨1, _⟩ => exact Fin.ext (show (R.val * 2048 + f.val) / 2048 % 4096 = R.val % 4096 by omega)
    | ⟨2, _⟩ => exact Fin.ext (show (R.val * 2048 + f.val) % 2048 = f.val by omega)
  have eR : rowG (⟨R.val / 4096, by omega⟩ : Fin 9) (⟨R.val % 4096, by omega⟩ : Fin 4096) = R :=
    Fin.ext (show R.val / 4096 * 4096 + R.val % 4096 = R.val by omega)
  rw [val_main_v26_apply, e26, val_main_v25_apply]
  unfold proj
  refine Finset.sum_congr rfl fun k _ => ?_
  have el : lidx_main_v25 (ix3 (⟨R.val / 4096, by omega⟩ : Fin 9) (⟨R.val % 4096, by omega⟩ : Fin 4096) f) k = ix3 (⟨R.val / 4096, by omega⟩ : Fin 9) (⟨R.val % 4096, by omega⟩ : Fin 4096) k := by
    funext a; match a with | ⟨0, _⟩ => rfl | ⟨1, _⟩ => rfl | ⟨2, _⟩ => rfl
  have er : ridx_main_v25 (ix3 (⟨R.val / 4096, by omega⟩ : Fin 9) (⟨R.val % 4096, by omega⟩ : Fin 4096) f) k = ix2 k f := by
    funext a; match a with | ⟨0, _⟩ => rfl | ⟨1, _⟩ => rfl
  rw [el, er, v23_at, eR, val_main_v24_apply]
  rfl

theorem v29_at (R : Fin 36864) (j : Fin 512) : val_main_v29 (F := Ideal) x0 x1 x2 x3 x4 (ix2 R j) = low x0 x1 x2 x3 x4 R j := by
  rw [val_main_v29_apply]
  unfold low
  refine Finset.sum_congr rfl fun q _ => ?_
  have el : idx_main_v27 (lidx_main_v29 (ix2 R j) q) = ix2 R ⟨1792 + q.val, by omega⟩ := by funext a; match a with | ⟨0, _⟩ => rfl | ⟨1, _⟩ => rfl
  have er : ridx_main_v29 (ix2 R j) q = ix2 q j := by funext a; match a with | ⟨0, _⟩ => rfl | ⟨1, _⟩ => rfl
  rw [val_main_v27_apply, el, v26_at, er, val_main_v28_apply]
  rfl

theorem v30_at (R : Fin 36864) (f : Fin 1792) : val_main_v30 (F := Ideal) x0 x1 x2 x3 (ix2 R f) = proj x0 x1 x2 x3 R ⟨f.val, by omega⟩ := by
  have e : idx_main_v30 (ix2 R f) = ix2 R ⟨f.val, by omega⟩ := by funext a; match a with | ⟨0, _⟩ => rfl | ⟨1, _⟩ => rfl
  rw [val_main_v30_apply, e, v26_at]

theorem v32_at (R : Fin 36864) (j : Fin 256) : val_main_v32 (F := Ideal) x0 x1 x2 x3 x4 (ix2 R j) = low x0 x1 x2 x3 x4 R ⟨j.val, by omega⟩ := by
  have e : idx_main_v31 (ix2 R j) = ix2 R ⟨j.val, by omega⟩ := by funext a; match a with | ⟨0, _⟩ => rfl | ⟨1, _⟩ => rfl
  rw [val_main_v32_apply, val_main_v31_apply, e, v29_at]
  rfl

theorem v34_at (R : Fin 36864) (j : Fin 256) : val_main_v34 (F := Ideal) x0 x1 x2 x3 x4 (ix2 R j) = low x0 x1 x2 x3 x4 R ⟨256 + j.val, by omega⟩ := by
  have e : idx_main_v33 (ix2 R j) = ix2 R ⟨256 + j.val, by omega⟩ := by funext a; match a with | ⟨0, _⟩ => rfl | ⟨1, _⟩ => rfl
  rw [val_main_v34_apply, val_main_v33_apply, e, v29_at]
  rfl

end Cert.MixerInReferenceIdeal.Read

end
-- ==== Proof.MixerClaims.lean ====
/- The claims about the mixer's first call: the frames of the kernel, of its idealization and of its reference, and the
   equality of the last two. -/
module

public import proofs.«01_k».proof.Defs
public import proofs.«01_k».proof.Proof.MixerTable
public import proofs.«01_k».proof.Proof.MixerValue
public import proofs.«01_k».proof.Proof.MixerRef
public import proofs.«01_k».proof.Proof.Gen.MixerInReferenceIdeal.Run
public import Idealize.ShloMosaic.Adequacy

@[expose] public section

set_option maxRecDepth 16384

noncomputable section

namespace Cert.Proof

open Idealize.ShloMosaic Idealize.SL.Sem Cert.MixerSpec

theorem frame_mixer : Cert.quiescent_MixerIn (hMixerIn := Cert.MixerIn.Gen.facts) :=
  fun m ρ _ => Cert.MixerIn.Gen.frame m ρ (Cert.MixerIn.Gen.ok m)

theorem frame_mixer_ideal : Cert.quiescent_MixerInIdeal (hMixerInIdeal := Cert.MixerInIdeal.Gen.facts) :=
  fun m ρ _ => Cert.MixerInIdeal.Gen.frame m ρ (Cert.MixerInIdeal.Gen.ok m)

theorem frame_mixer_reference : Cert.quiescent_MixerInReferenceIdeal (hMixerInReferenceIdeal := Cert.MixerInReferenceIdeal.Gen.facts) :=
  fun m ρ _ => (θ_run Cert.MixerInReferenceIdeal.defs _ _).mono (fun r h => ⟨fun c => (h c).2.2.2,
      Idealize.ShloMosaic.sem_eq_zero_of_no_sems (by decide) r.2⟩)
    (Cert.MixerInReferenceIdeal.Value.run (F := Ideal) m ρ)

section Values

variable (m : (ℓ : Loc Cert.MixerInIdeal.nD Cert.MixerInIdeal.τ Cert.MixerInIdeal.sig) → Buf (Elt Ideal) ℓ) (c : Dev Cert.MixerInIdeal.nD)

/-- With equal arguments the reference's first result is the kernel's. -/
theorem mixer_values5 :
    Cert.MixerInReferenceIdeal.Read.val_main_v30 (F := Ideal)
      (m ((c.tc : Thread Cert.MixerInIdeal.nD Cert.MixerInIdeal.τ).loc Cert.MixerInIdeal.main_arg0))
      (m ((c.tc : Thread Cert.MixerInIdeal.nD Cert.MixerInIdeal.τ).loc Cert.MixerInIdeal.main_arg1))
      (m ((c.tc : Thread Cert.MixerInIdeal.nD Cert.MixerInIdeal.τ).loc Cert.MixerInIdeal.main_arg2))
      (m ((c.tc : Thread Cert.MixerInIdeal.nD Cert.MixerInIdeal.τ).loc Cert.MixerInIdeal.main_arg3))
    = Cert.MixerInIdeal.Hand.val5 m c := by
  funext j
  have hj0 : (j 0).val < 36864 := (j 0).isLt
  have hj1 : (j 1).val < 1792 := (j 1).isLt
  have e : j = ix2 ⟨(j 0).val, hj0⟩ ⟨(j 1).val, hj1⟩ := by
    funext a
    match a with
    | ⟨0, _⟩ => rfl
    | ⟨1, _⟩ => rfl
  rw [e]
  exact Cert.MixerInReferenceIdeal.Read.v30_at _ _ _ _ _ _

/-- With equal arguments the reference's second result is the kernel's. -/
theorem mixer_values6 :
    Cert.MixerInReferenceIdeal.Read.val_main_v32 (F := Ideal)
      (m ((c.tc : Thread Cert.MixerInIdeal.nD Cert.MixerInIdeal.τ).loc Cert.MixerInIdeal.main_arg0))
      (m ((c.tc : Thread Cert.MixerInIdeal.nD Cert.MixerInIdeal.τ).loc Cert.MixerInIdeal.main_arg1))
      (m ((c.tc : Thread Cert.MixerInIdeal.nD Cert.MixerInIdeal.τ).loc Cert.MixerInIdeal.main_arg2))
      (m ((c.tc : Thread Cert.MixerInIdeal.nD Cert.MixerInIdeal.τ).loc Cert.MixerInIdeal.main_arg3))
      (m ((c.tc : Thread Cert.MixerInIdeal.nD Cert.MixerInIdeal.τ).loc Cert.MixerInIdeal.main_arg4))
    = Cert.MixerInIdeal.Hand.val6 m c := by
  funext j
  have hj0 : (j 0).val < 36864 := (j 0).isLt
  have hj1 : (j 1).val < 256 := (j 1).isLt
  have e : j = ix2 ⟨(j 0).val, hj0⟩ ⟨(j 1).val, hj1⟩ := by
    funext a
    match a with
    | ⟨0, _⟩ => rfl
    | ⟨1, _⟩ => rfl
  rw [e]
  exact Cert.MixerInReferenceIdeal.Read.v32_at _ _ _ _ _ _ _

/-- With equal arguments the reference's third result is the kernel's. -/
theorem mixer_values7 :
    Cert.MixerInReferenceIdeal.Read.val_main_v34 (F := Ideal)
      (m ((c.tc : Thread Cert.MixerInIdeal.nD Cert.MixerInIdeal.τ).loc Cert.MixerInIdeal.main_arg0))
      (m ((c.tc : Thread Cert.MixerInIdeal.nD Cert.MixerInIdeal.τ).loc Cert.MixerInIdeal.main_arg1))
      (m ((c.tc : Thread Cert.MixerInIdeal.nD Cert.MixerInIdeal.τ).loc Cert.MixerInIdeal.main_arg2))
      (m ((c.tc : Thread Cert.MixerInIdeal.nD Cert.MixerInIdeal.τ).loc Cert.MixerInIdeal.main_arg3))
      (m ((c.tc : Thread Cert.MixerInIdeal.nD Cert.MixerInIdeal.τ).loc Cert.MixerInIdeal.main_arg4))
    = Cert.MixerInIdeal.Hand.val7 m c := by
  funext j
  have hj0 : (j 0).val < 36864 := (j 0).isLt
  have hj1 : (j 1).val < 256 := (j 1).isLt
  have e : j = ix2 ⟨(j 0).val, hj0⟩ ⟨(j 1).val, hj1⟩ := by
    funext a
    match a with
    | ⟨0, _⟩ => rfl
    | ⟨1, _⟩ => rfl
  rw [e]
  exact Cert.MixerInReferenceIdeal.Read.v34_at _ _ _ _ _ _ _

end Values

theorem algebraic_mixer : Cert.algebraic_MixerInIdeal_MixerInReferenceIdeal (hMixerInIdeal := Cert.MixerInIdeal.Gen.facts)
    (hMixerInReferenceIdeal := Cert.MixerInReferenceIdeal.Gen.facts) := by
  intro m g m' g' hp hagree
  refine ⟨fun c => Cert.MixerInIdeal.Hand.val5 m c, fun c => Cert.MixerInIdeal.Hand.val6 m c, fun c => Cert.MixerInIdeal.Hand.val7 m c, ?_, ?_⟩
  · exact θ_run_and (Cert.MixerInIdeal.Hand.run m g) (Cert.MixerInIdeal.Gen.unchanged m g (Cert.MixerInIdeal.Gen.ok m)) |> (θ_run _ _ _).mono
      (fun _ h c => ⟨(h.1 c).1, (h.1 c).2.1, (h.1 c).2.2, h.2 c⟩)
  · refine (θ_run Cert.MixerInReferenceIdeal.defs _ _).mono (fun r h c => ⟨?_, ?_, ?_, (h c).2.2.2⟩) (Cert.MixerInReferenceIdeal.Value.run (F := Ideal) m' g')
    all_goals obtain ⟨e0, e1, e2, e3, e4⟩ := hagree c
    · rw [(h c).1, Cert.MixerInReferenceIdeal.Read.val_main_v30_eq, e0, e1, e2, e3]
      exact mixer_values5 m c
    · rw [(h c).2.1, Cert.MixerInReferenceIdeal.Read.val_main_v32_eq, e0, e1, e2, e3, e4]
      exact mixer_values6 m c
    · rw [(h c).2.2.1, Cert.MixerInReferenceIdeal.Read.val_main_v34_eq, e0, e1, e2, e3, e4]
      exact mixer_values7 m c

end Cert.Proof

end
-- ==== Proof.CombineIdealTable.lean ====
/- The combination's table of groups: a constant of the program, its entry for the block of 256 rows n being n / 16, so every
   block of the modulation the grid reads lies inside its array. -/
module

public import proofs.«01_k».proof.Proof.Gen.CombineIdeal.Frame
public import Idealize.ShloMosaic.Lib.ValueIdxCore

@[expose] public section

set_option maxRecDepth 16384

noncomputable section

namespace Cert.CombineIdeal.Gen

open Idealize.ShloMosaic Idealize.ShloMosaic.TcCoe

variable {F : FTy → Type} [FloatOps F] (m : (ℓ : Loc nD τ sig) → Buf (Elt F) ℓ)

/-- The constant's entries, row by row. -/
theorem lit_val : ∀ n : Fin 144, (lit0 n).toNat = n.val / 16 := by decide +kernel

/-- The table when the grid starts is the constant. -/
theorem tbl_eq : tbl m 0 = fun i => lit0 (S144.rowMajor i) := by
  show StableHlo.after hostOps0 (fun b => m (0, b)) main_c = _
  after_results_simp <;> rfl

/-- The entry for the block of rows `n`. -/
theorem tbl_val (n : Fin 144) : BitVec.toNat (tbl m 0 (ValueIdx.ix1 n : S144.Idx)) = n.val / 16 := by
  rw [tbl_eq]
  have e : S144.rowMajor (ValueIdx.ix1 n : S144.Idx) = n := Fin.ext (Shape.rowMajor_val_one _)
  exact (congrArg (fun k : Fin 144 => (lit0 k).toNat) e).trans (lit_val n)

/-- The block of rows a grid point works on. -/
abbrev rowOf (i : grid0.Coords) : Fin 144 := ⟨(i 0).val, (i 0).isLt⟩

theorem word_at (i : grid0.Coords) :
    (tbl m).at 0 (Rect.unit (s := S144) ![(Scalar.indexCast (BitVec.ofNat 32 (i 0).val)).toNat] S1.size (k0_off1_inb i)) numel1_S1
      = tbl m 0 (ValueIdx.ix1 (rowOf i) : S144.Idx) := by
  unfold Pipeline.Prefetch.Contents.at
  have hb : (i 0).val < 144 := (i 0).isLt
  have key : ∀ (x : S144.Idx), (x 0).val = (i 0).val → x = (ValueIdx.ix1 (rowOf i) : S144.Idx) := fun x hx => by
    rw [ValueIdx.eq_ix1 x]; congr 1; exact Fin.ext hx
  refine congrArg (tbl m 0) (key _ ?_)
  show (Scalar.indexCast (BitVec.ofNat 32 (i 0).val)).toNat + 1 * _ = (i 0).val
  have h0 : ∀ x : Fin 1, x.val = 0 := fun x => by omega
  erw [h0]
  rw [show (Scalar.indexCast (BitVec.ofNat 32 (i 0).val)) = BitVec.ofNat 32 (i 0).val from rfl, BitVec.toNat_ofNat]
  omega

/-- Where the modulation's block sits at a grid point: at its group. -/
theorem tr3 (i : grid0.Coords) : cc0_transform_3 k0_off1_inb numel1_S1 (tbl m) i = ![(i 0).val / 16, 0, 0, 0] := by
  unfold cc0_transform_3; dsimp only; rw [word_at, tbl_val]; rfl

/-- The pipeline's side condition holds of the constant. -/
theorem ok : Ok m := by
  refine fun i => ⟨?_, .inl rfl⟩
  rw [tr3]
  have hb : (i 0).val < 144 := (i 0).isLt
  generalize (i 0).val = w at hb
  intro a
  fin_cases a <;> simp <;> omega

end Cert.CombineIdeal.Gen

end
-- ==== Proof.CombineSpec.lean ====
/- What the combination of the experts' results computes, at one place: the residual plus the row group's gate times the
   sum of the row's four weighted results. -/
module

public import Idealize.ShloMosaic.PureOps.Ideal
public import Idealize.ShloMosaic.Lib.ValueIdxCore
public import Idealize.ShloMosaic.Lib.Pointwise

@[expose] public section

noncomputable section

namespace Cert.CombineSpec

open Idealize.ShloMosaic

/-- The group of 4096 rows a row lies in. -/
def groupOf (R : Fin 36864) : Fin 16 := ⟨R.val / 4096, by omega⟩

/-- The combined row, at one place. -/
def out (x : (⟨2, ![36864, 1024]⟩ : Shape).Idx → EReal) (y : (⟨3, ![4, 36864, 1024]⟩ : Shape).Idx → EReal)
    (gates : (⟨2, ![36864, 128]⟩ : Shape).Idx → EReal) (mods : (⟨4, ![16, 6, 1, 1024]⟩ : Shape).Idx → EReal) (R : Fin 36864) (d : Fin 1024) : EReal :=
  x (ix2 R d) + mods (ix4 (groupOf R) 5 0 d) * ∑ q : Fin 4, gates (ix2 R ⟨q.val, by omega⟩) * y (ix3 q R d)

end Cert.CombineSpec

end
-- ==== Proof.CombineValue.lean ====
/- What the combination leaves in its result: at each row the formula of `CombineSpec`. -/
module

public import proofs.«01_k».proof.Proof.CombineIdealTable
public import proofs.«01_k».proof.Proof.CombineSpec
public import Idealize.ShloMosaic.Lib.Pipeline.Value
public import Idealize.ShloMosaic.Lib.Pipeline.ValueKit.Basic
public import Idealize.ShloMosaic.Lib.Pointwise
public import Idealize.ShloMosaic.Lib.IdealHost

@[expose] public section

set_option maxRecDepth 16384

noncomputable section

namespace Cert.CombineIdeal.Hand

open Cert.CombineIdeal Cert.CombineIdeal.Gen Idealize.ShloMosaic Idealize.ShloMosaic.TcCoe Idealize.SL.Sem Cert.CombineSpec
open Idealize.ShloMosaic.Pipeline (Dat)

/-! ## One block -/

/-- What the body computes, at one place. -/
theorem pay1_at (g : Vec Ideal S256x128 .f32) (y0 y1 y2 y3 : Vec Ideal S1x256x1024 .f32) (x : Vec Ideal S256x1024 .f32) (mo : Vec Ideal S1x1x1x1024 .f32)
    (r : Fin 256) (d : Fin 1024) :
    k0_pay1 (F := Ideal) g y0 y1 y2 y3 x mo (ix2 r d)
      = x (ix2 r d) + mo (ix4 0 0 0 d) * (g (ix2 r 0) * y0 (ix3 0 r d) + g (ix2 r 1) * y1 (ix3 0 r d) + g (ix2 r 2) * y2 (ix3 0 r d) + g (ix2 r 3) * y3 (ix3 0 r d)) := by
  pointwise [k0_pay1]

/-- The block's gate: the last row of its modulation. -/
abbrev moOf (x3 : Vec Ideal S1x6x1x1024 .f32) : Vec Ideal S1x1x1x1024 .f32 := fun j => x3 (ix4 0 5 0 ⟨(j 3).val, (j 3).isLt⟩)

/-- One of the block's four results. -/
abbrev yOf (q : Fin 4) (x1 : Vec Ideal S4x256x1024 .f32) : Vec Ideal S1x256x1024 .f32 := fun j => x1 (ix3 q ⟨(j 1).val, (j 1).isLt⟩ ⟨(j 2).val, (j 2).isLt⟩)

theorem ld_mo (x3 : Vec Ideal S1x6x1x1024 .f32) (inb) : View.ld x3 (Rect.unit (s := S1x6x1x1024) ![0, 5, 0, 0] S1x1x1x1024.size inb) = moOf x3 := by
  have h0 : ∀ x : Fin 1, x.val = 0 := fun x => by omega
  refine funext fun j => congrArg x3 (funext fun a => Fin.ext ?_)
  match a with
  | ⟨0, _⟩ => show 0 + 1 * (j 0).val = 0; have := h0 (j 0); omega
  | ⟨1, _⟩ => show 5 + 1 * (j 1).val = 5; have := h0 (j 1); omega
  | ⟨2, _⟩ => show 0 + 1 * (j 2).val = 0; have := h0 (j 2); omega
  | ⟨3, _⟩ => show 0 + 1 * (j 3).val = (j 3).val; omega

theorem ld_y (q : Fin 4) (x1 : Vec Ideal S4x256x1024 .f32) (inb) : View.ld x1 (Rect.unit (s := S4x256x1024) ![q.val, 0, 0] S1x256x1024.size inb) = yOf q x1 := by
  have h0 : ∀ x : Fin 1, x.val = 0 := fun x => by omega
  refine funext fun j => congrArg x1 (funext fun a => Fin.ext ?_)
  match a with
  | ⟨0, _⟩ => show q.val + 1 * (j 0).val = q.val; have := h0 (j 0); omega
  | ⟨1, _⟩ => show 0 + 1 * (j 1).val = (j 1).val; omega
  | ⟨2, _⟩ => show 0 + 1 * (j 2).val = (j 2).val; omega

theorem out_4 (c : Dev nD) (i : grid0.Coords) (arg2) (harg2) (arg3) (harg3) (arg4) (harg4) (arg5) (harg5) (arg6) (harg6)
    (x0 : Vec Ideal S256x1024 .f32) (x1 : Vec Ideal S4x256x1024 .f32) (x2 : Vec Ideal S256x128 .f32) (x3 : Vec Ideal S1x6x1x1024 .f32) (xt0) :
    out0_A_4 c i arg2 harg2 arg3 harg3 arg4 harg4 arg5 harg5 arg6 harg6 x0 x1 x2 x3 xt0 = k0_pay1 x2 (yOf 0 x1) (yOf 1 x1) (yOf 2 x1) (yOf 3 x1) x0 (moOf x3) := by
  have z2 : (![0, 0] : Fin 2 → ℕ) = 0 := by decide
  unfold out0_A_4
  rw [View.read_writes_eq_canon _ _ _ (cover0_A_4 c i arg2 harg2 arg3 harg3 arg4 harg4 arg5 harg5 arg6 harg6 x0 x1 x2 x3 xt0)]
  unfold kernelRun0_A
  dsimp only
  rw [View.canon_unit_zero z2]
  simp only [View.readAt_eq_ld, harg2.read_unread, harg3.read_unread, harg4.read_unread, harg5.read_unread,
    View.ld_unit_zero (S := S256x1024) z2, View.ld_unit_zero (S := S256x128) z2]
  have e0 := ld_y 0 x1 inb_S4x256x1024_S1x256x1024_0_0_0
  have e1 := ld_y 1 x1 inb_S4x256x1024_S1x256x1024_1_0_0
  have e2 := ld_y 2 x1 inb_S4x256x1024_S1x256x1024_2_0_0
  have e3 := ld_y 3 x1 inb_S4x256x1024_S1x256x1024_3_0_0
  have e5 := ld_mo x3 inb_S1x6x1x1024_S1x1x1x1024_0_5_0_0
  rw [← e0, ← e1, ← e2, ← e3, ← e5]
  rfl

/-! ## The whole result -/

/-- A grid point's coordinate is its position. -/
theorem coord_val : ∀ t : Fin grid0.N, (grid0.coords t 0).val = t.val := by decide +kernel

variable (m : (ℓ : Loc nD τ sig) → Buf (Elt Ideal) ℓ) (ρ : Dev nD → PrngReg)

theorem lt144 (t : Fin grid0.N) : t.val < 144 := lt_of_lt_of_eq t.isLt N_0

/-- The row of the residual that a row of a grid point's block is. -/
abbrev rowAt (t : Fin grid0.N) (r : Fin 256) : Fin 36864 := ⟨t.val * 256 + r.val, by have := lt144 t; omega⟩

theorem iblk0_at (c : Dev nD) (t : Fin grid0.N) (r : Fin 256) (k : Fin 1024) :
    iblk m (ok m) c 0 t (ix2 r k) = V m c main_arg0 (ix2 (rowAt t r) k) := by
  show V m c main_arg0 ((((cfgM m (ok m)).win 0).blk t).view.emb (ix2 r k)) = _
  refine congrArg (V m c main_arg0) ?_
  have hv := coord_val t
  funext a; apply Fin.ext
  match a with
  | ⟨0, _⟩ =>
    show (BitVec.ofNat 32 (grid0.coords t 0).val).toNat * 256 + 1 * r.val = t.val * 256 + r.val
    have := lt144 t
    rw [hv, BitVec.toNat_ofNat]; omega
  | ⟨1, _⟩ => show 0 * 1024 + 1 * k.val = k.val; omega

theorem iblk1_at (c : Dev nD) (t : Fin grid0.N) (q : Fin 4) (r : Fin 256) (k : Fin 1024) :
    iblk m (ok m) c 1 t (ix3 q r k) = V m c main_arg1 (ix3 q (rowAt t r) k) := by
  show V m c main_arg1 ((((cfgM m (ok m)).win 1).blk t).view.emb (ix3 q r k)) = _
  refine congrArg (V m c main_arg1) ?_
  have hv := coord_val t
  funext a; apply Fin.ext
  match a with
  | ⟨0, _⟩ => show 0 * 4 + 1 * q.val = q.val; omega
  | ⟨1, _⟩ =>
    show (BitVec.ofNat 32 (grid0.coords t 0).val).toNat * 256 + 1 * r.val = t.val * 256 + r.val
    have := lt144 t
    rw [hv, BitVec.toNat_ofNat]; omega
  | ⟨2, _⟩ => show 0 * 1024 + 1 * k.val = k.val; omega

theorem iblk2_at (c : Dev nD) (t : Fin grid0.N) (r : Fin 256) (k : Fin 128) :
    iblk m (ok m) c 2 t (ix2 r k) = V m c main_arg2 (ix2 (rowAt t r) k) := by
  show V m c main_arg2 ((((cfgM m (ok m)).win 2).blk t).view.emb (ix2 r k)) = _
  refine congrArg (V m c main_arg2) ?_
  have hv := coord_val t
  funext a; apply Fin.ext
  match a with
  | ⟨0, _⟩ =>
    show (BitVec.ofNat 32 (grid0.coords t 0).val).toNat * 256 + 1 * r.val = t.val * 256 + r.val
    have := lt144 t
    rw [hv, BitVec.toNat_ofNat]; omega
  | ⟨1, _⟩ => show 0 * 128 + 1 * k.val = k.val; omega

theorem iblk3_at (c : Dev nD) (t : Fin grid0.N) (r : Fin 256) (b : Fin 6) (k : Fin 1024) :
    iblk m (ok m) c 3 t (ix4 0 b 0 k) = V m c main_arg3 (ix4 (groupOf (rowAt t r)) b 0 k) := by
  show V m c main_arg3 ((((cfgM m (ok m)).win 3).blk t).view.emb (ix4 0 b 0 k)) = _
  refine congrArg (V m c main_arg3) ?_
  have e : cc0_transform_3 k0_off1_inb numel1_S1 (tbl m) (grid0.coords t) = ![t.val / 16, 0, 0, 0] := by rw [tr3, coord_val]
  funext a; apply Fin.ext
  match a with
  | ⟨0, _⟩ =>
    show cc0_transform_3 k0_off1_inb numel1_S1 (tbl m) (grid0.coords t) 0 * 1 + 1 * 0 = (t.val * 256 + r.val) / 4096
    rw [e]; simp; omega
  | ⟨1, _⟩ =>
    show cc0_transform_3 k0_off1_inb numel1_S1 (tbl m) (grid0.coords t) 1 * 6 + 1 * b.val = b.val
    rw [e]; simp
  | ⟨2, _⟩ =>
    show cc0_transform_3 k0_off1_inb numel1_S1 (tbl m) (grid0.coords t) 2 * 1 + 1 * 0 = 0
    rw [e]; simp
  | ⟨3, _⟩ =>
    show cc0_transform_3 k0_off1_inb numel1_S1 (tbl m) (grid0.coords t) 3 * 1024 + 1 * k.val = k.val
    rw [e]; simp

/-- The result's value at one place. -/
abbrev outOf (c : Dev nD) (R : Fin 36864) (d : Fin 1024) : EReal :=
  out (V m c main_arg0) (V m c main_arg1) (V m c main_arg2) (V m c main_arg3) R d

/-- The whole result. -/
def val (c : Dev nD) : Buf (Elt Ideal) ((c : Thread nD τ).loc main_v0) := fun j => outOf m c ⟨(j 0).val, (j 0).isLt⟩ ⟨(j 1).val, (j 1).isLt⟩

/-- What a grid point leaves in the result's block. -/
theorem outs_at (c : Dev nD) (t : Fin grid0.N) (r : Fin 256) (d : Fin 1024) : outsAt0 m (ok m) c t (ix2 r d) = outOf m c (rowAt t r) d := by
  unfold outsAt0
  refine (congrFun (out_4 c _ _ _ _ _ _ _ _ _ _ _ _ _ _ _ _) _).trans ((pay1_at _ _ _ _ _ _ _ r d).trans ?_)
  unfold outOf out
  rw [Fin.sum_univ_four]
  refine congrArg₂ (· + ·) (iblk0_at m c t r d) (congrArg₂ (· * ·) (iblk3_at m c t r 5 d) ?_)
  exact congrArg₂ (· + ·) (congrArg₂ (· + ·) (congrArg₂ (· + ·) (congrArg₂ (· * ·) (iblk2_at m c t r 0) (iblk1_at m c t 0 r d))
    (congrArg₂ (· * ·) (iblk2_at m c t r 1) (iblk1_at m c t 1 r d))) (congrArg₂ (· * ·) (iblk2_at m c t r 2) (iblk1_at m c t 2 r d)))
    (congrArg₂ (· * ·) (iblk2_at m c t r 3) (iblk1_at m c t 3 r d))

theorem flushed (c : Dev nD) (t : Fin (cfgM m (ok m)).N) :
    (dats m (ok m) 0 c).flushed 4 t = (((cfgM m (ok m)).win 4).blk t).view.read (Elt Ideal) (val m c) := by
  show ((cfgM m (ok m)).win 4).cut (grid0.coords t) ((dats m (ok m) 0 c).after 4 t) = _
  rw [after0_4]
  suffices h : ∀ j : S256x1024.Idx, outsAt0 m (ok m) c t j = val m c ((((cfgM m (ok m)).win 4).blk t).view.emb j) from funext fun j => h j
  intro j
  have hj0 : (j 0).val < 256 := (j 0).isLt
  have hj1 : (j 1).val < 1024 := (j 1).isLt
  have e : (((cfgM m (ok m)).win 4).blk t).view.emb j = (ix2 (rowAt t ⟨(j 0).val, hj0⟩) ⟨(j 1).val, hj1⟩ : S36864x1024.Idx) := by
    have hv := coord_val t
    funext a; apply Fin.ext
    match a with
    | ⟨0, _⟩ =>
      show (BitVec.ofNat 32 (grid0.coords t 0).val).toNat * 256 + 1 * (j 0).val = t.val * 256 + (j 0).val
      have := lt144 t
      rw [hv, BitVec.toNat_ofNat]; omega
    | ⟨1, _⟩ => show 0 * 1024 + 1 * (j 1).val = (j 1).val; omega
  refine Eq.trans ?_ (congrArg (val m c) e).symm
  refine (congrArg (outsAt0 m (ok m) c t) ?_).trans (outs_at m c t ⟨(j 0).val, hj0⟩ ⟨(j 1).val, hj1⟩)
  funext a
  match a with
  | ⟨0, _⟩ => rfl
  | ⟨1, _⟩ => rfl

theorem index4 (t : Fin grid0.N) : ((cfgM m (ok m)).win 4).index t = ![t.val, 0] := by
  show ![(BitVec.ofNat 32 (grid0.coords t 0).val).toNat, 0] = _
  have := lt144 t
  rw [coord_val, BitVec.toNat_ofNat, Nat.mod_eq_of_lt (by omega)]

theorem cover (i : S36864x1024.Idx) :
    ∃ t : Fin (cfgM m (ok m)).N, ((cfgM m (ok m)).win 4).flush t = true ∧ i ∈ (((cfgM m (ok m)).win 4).blk t).view.set := by
  have hi0 : (i 0).val < 36864 := (i 0).isLt
  have hi1 : (i 1).val < 1024 := (i 1).isLt
  let t : Fin grid0.N := ⟨(i 0).val / 256, by rw [N_0]; omega⟩
  refine ⟨t, flush0_4 _ t, ?_⟩
  show i ∈ ((View.whole main_v0).slice (((cfgM m (ok m)).win 4).rect t)).set
  erw [View.set_slice_whole]
  refine (Pipeline.Window.mem_rect_iff ((cfgM m (ok m)).win 4) t i (by rfl)).mpr fun a => ?_
  rw [index4 m]
  match a with
  | ⟨0, _⟩ => exact show (i 0).val / 256 * 256 ≤ (i 0).val ∧ (i 0).val < (i 0).val / 256 * 256 + 256 by omega
  | ⟨1, _⟩ => exact show 0 * 1024 ≤ (i 1).val ∧ (i 1).val < 0 * 1024 + 1024 by omega

theorem final (c : Dev nD) : (dats m (ok m) 0 c).arrAt 4 (cfgM m (ok m)).N = val m c :=
  (dats m (ok m) 0 c).arrAt_eq_of_cover 4 (val m c) (fun t _ => flushed m c t) (cover m)

/-- The run, read: the result at the formula. -/
theorem run : θ_run defs (onTc (τ := τ) (main (F := Ideal))) ⟨m, fun _ => 0, ρ⟩ fun r => ∀ c : Dev nD, r.2.mem ((c : Thread nD τ).loc main_v0) = val m c :=
  (θ_run defs _ _).mono (fun _ hr c => ((hr c).1 4).trans (final m c)) (run_main m ρ (ok m))

end Cert.CombineIdeal.Hand

end
-- ==== Proof.CombineRef.lean ====
/- The reference of the combination read at one place of its result: the formula of `CombineSpec`. -/
module

public import proofs.«01_k».proof.Proof.CombineSpec
public import proofs.«01_k».proof.Proof.Gen.CombineReferenceIdeal.Read
public import Idealize.ShloMosaic.Lib.IdealHost

@[expose] public section

set_option maxRecDepth 16384

noncomputable section

namespace Cert.CombineReferenceIdeal.Read

open Cert.CombineReferenceIdeal Idealize.ShloMosaic Cert.CombineSpec

variable (x0 : (⟨S36864x1024, .f32⟩ : BufTy).Contents (Elt Ideal)) (x1 : (⟨S4x36864x1024, .f32⟩ : BufTy).Contents (Elt Ideal))
variable (x2 : (⟨S36864x128, .f32⟩ : BufTy).Contents (Elt Ideal)) (x3 : (⟨S16x6x1x1024, .f32⟩ : BufTy).Contents (Elt Ideal))

theorem v3_at (q : Fin 4) (R : Fin 36864) (d : Fin 1024) : val_main_v3 (F := Ideal) x2 (ix3 q R d) = x2 (ix2 R ⟨q.val, by omega⟩) := by
  rw [val_main_v3_apply, val_main_v2_apply, val_main_v1_apply, val_main_v0_apply]
  refine congrArg x2 (funext fun a => ?_)
  match a with
  | ⟨0, _⟩ => rfl
  | ⟨1, _⟩ => rfl

theorem v5_at (R : Fin 36864) (d : Fin 1024) :
    val_main_v5 (F := Ideal) x1 x2 (ix2 R d) = ∑ q : Fin 4, x2 (ix2 R ⟨q.val, by omega⟩) * x1 (ix3 q R d) := by
  have c0 : ∀ i, val_main_cst (F := Ideal) i = (0 : EReal) := fun _ => Ideal.ofBits_zero .f32
  rw [val_main_v5_apply, c0, zero_add]
  refine Finset.sum_congr rfl fun q _ => ?_
  have e : idx_main_v5 (ix2 R d) q = ix3 q R d := by funext a; match a with | ⟨0, _⟩ => rfl | ⟨1, _⟩ => rfl | ⟨2, _⟩ => rfl
  rw [e, val_main_v4_apply, v3_at]
  rfl

theorem v8_at (g : Fin 9) (d : Fin 1024) : val_main_v8 (F := Ideal) x3 (ix3 g 0 d) = x3 (ix4 ⟨g.val, by omega⟩ 5 0 d) := by
  rw [val_main_v8_apply, val_main_v7_apply]
  refine congrArg x3 (funext fun a => ?_)
  match a with
  | ⟨0, _⟩ => exact Fin.ext (show ((g.val * 1 + 0) * 1024 + d.val) / 1024 = g.val by omega)
  | ⟨1, _⟩ => rfl
  | ⟨2, _⟩ => rfl
  | ⟨3, _⟩ => exact Fin.ext (show ((g.val * 1 + 0) * 1024 + d.val) % 1024 = d.val by omega)

theorem v13_at (R : Fin 36864) (d : Fin 1024) : val_main_v13 (F := Ideal) x0 x1 x2 x3 (ix2 R d) = out x0 x1 x2 x3 R d := by
  have e13 : idx_main_v13 (ix2 R d) = ix3 (⟨R.val / 4096, by omega⟩ : Fin 9) (⟨R.val % 4096, by omega⟩ : Fin 4096) d := by
    funext a
    match a with
    | ⟨0, _⟩ => exact Fin.ext (show (R.val * 1024 + d.val) / 4194304 = R.val / 4096 by omega)
    | ⟨1, _⟩ => exact Fin.ext (show (R.val * 1024 + d.val) / 1024 % 4096 = R.val % 4096 by omega)
    | ⟨2, _⟩ => exact Fin.ext (show (R.val * 1024 + d.val) % 1024 = d.val by omega)
  have e6 : idx_main_v6 (ix3 (⟨R.val / 4096, by omega⟩ : Fin 9) (⟨R.val % 4096, by omega⟩ : Fin 4096) d) = ix2 R d := by
    funext a
    match a with
    | ⟨0, _⟩ => exact Fin.ext (show ((R.val / 4096 * 4096 + R.val % 4096) * 1024 + d.val) / 1024 = R.val by omega)
    | ⟨1, _⟩ => exact Fin.ext (show ((R.val / 4096 * 4096 + R.val % 4096) * 1024 + d.val) % 1024 = d.val by omega)
  have e9 : idx_main_v9 (ix3 (⟨R.val / 4096, by omega⟩ : Fin 9) (⟨R.val % 4096, by omega⟩ : Fin 4096) d) = ix2 R d := e6
  have e10 : idx_main_v10 (ix3 (⟨R.val / 4096, by omega⟩ : Fin 9) (⟨R.val % 4096, by omega⟩ : Fin 4096) d) = ix3 (⟨R.val / 4096, by omega⟩ : Fin 9) 0 d := by
    funext a; match a with | ⟨0, _⟩ => rfl | ⟨1, _⟩ => rfl | ⟨2, _⟩ => rfl
  rw [val_main_v13_apply, e13, val_main_v12_apply, val_main_v6_apply, val_main_v11_apply, val_main_v10_apply, val_main_v9_apply, e6, e9, e10, v8_at, v5_at]
  rfl

end Cert.CombineReferenceIdeal.Read

end
-- ==== Proof.CombineClaims.lean ====
/- The claims about the combination of the experts' results: the frames of the kernel, of its idealization and of its
   reference, and the equality of the last two. -/
module

public import proofs.«01_k».proof.Defs
public import proofs.«01_k».proof.Proof.CombineTable
public import proofs.«01_k».proof.Proof.CombineValue
public import proofs.«01_k».proof.Proof.CombineRef
public import proofs.«01_k».proof.Proof.Gen.CombineReferenceIdeal.Run
public import Idealize.ShloMosaic.Adequacy

@[expose] public section

set_option maxRecDepth 16384

noncomputable section

namespace Cert.Proof

open Idealize.ShloMosaic Idealize.SL.Sem Cert.CombineSpec

theorem frame_combine : Cert.quiescent_Combine (hCombine := Cert.Combine.Gen.facts) :=
  fun m ρ _ => Cert.Combine.Gen.frame m ρ (Cert.Combine.Gen.ok m)

theorem frame_combine_ideal : Cert.quiescent_CombineIdeal (hCombineIdeal := Cert.CombineIdeal.Gen.facts) :=
  fun m ρ _ => Cert.CombineIdeal.Gen.frame m ρ (Cert.CombineIdeal.Gen.ok m)

theorem frame_combine_reference : Cert.quiescent_CombineReferenceIdeal (hCombineReferenceIdeal := Cert.CombineReferenceIdeal.Gen.facts) :=
  fun m ρ _ => (θ_run Cert.CombineReferenceIdeal.defs _ _).mono (fun r h => ⟨fun c => (h c).2,
      Idealize.ShloMosaic.sem_eq_zero_of_no_sems (by decide) r.2⟩)
    (Cert.CombineReferenceIdeal.Value.run (F := Ideal) m ρ)

/-- With equal arguments the reference's result is the kernel's. -/
theorem combine_values (m : (ℓ : Loc Cert.CombineIdeal.nD Cert.CombineIdeal.τ Cert.CombineIdeal.sig) → Buf (Elt Ideal) ℓ) (c : Dev Cert.CombineIdeal.nD) :
    Cert.CombineReferenceIdeal.Read.val_main_v13 (F := Ideal)
      (m ((c.tc : Thread Cert.CombineIdeal.nD Cert.CombineIdeal.τ).loc Cert.CombineIdeal.main_arg0))
      (m ((c.tc : Thread Cert.CombineIdeal.nD Cert.CombineIdeal.τ).loc Cert.CombineIdeal.main_arg1))
      (m ((c.tc : Thread Cert.CombineIdeal.nD Cert.CombineIdeal.τ).loc Cert.CombineIdeal.main_arg2))
      (m ((c.tc : Thread Cert.CombineIdeal.nD Cert.CombineIdeal.τ).loc Cert.CombineIdeal.main_arg3))
    = Cert.CombineIdeal.Hand.val m c := by
  funext j
  have hj0 : (j 0).val < 36864 := (j 0).isLt
  have hj1 : (j 1).val < 1024 := (j 1).isLt
  have e : j = ix2 ⟨(j 0).val, hj0⟩ ⟨(j 1).val, hj1⟩ := by
    funext a
    match a with
    | ⟨0, _⟩ => rfl
    | ⟨1, _⟩ => rfl
  rw [e]
  exact Cert.CombineReferenceIdeal.Read.v13_at _ _ _ _ _ _

theorem algebraic_combine : Cert.algebraic_CombineIdeal_CombineReferenceIdeal (hCombineIdeal := Cert.CombineIdeal.Gen.facts)
    (hCombineReferenceIdeal := Cert.CombineReferenceIdeal.Gen.facts) := by
  intro m g m' g' hp hagree
  refine ⟨fun c => Cert.CombineIdeal.Hand.val m c, ?_, ?_⟩
  · exact θ_run_and (Cert.CombineIdeal.Hand.run m g) (Cert.CombineIdeal.Gen.unchanged m g (Cert.CombineIdeal.Gen.ok m)) |> (θ_run _ _ _).mono
      (fun _ h c => ⟨h.1 c, h.2 c⟩)
  · refine (θ_run Cert.CombineReferenceIdeal.defs _ _).mono (fun r h c => ⟨?_, (h c).2⟩) (Cert.CombineReferenceIdeal.Value.run (F := Ideal) m' g')
    obtain ⟨e0, e1, e2, e3⟩ := hagree c
    rw [(h c).1, Cert.CombineReferenceIdeal.Read.val_main_v13_eq, e0, e1, e2, e3]
    exact combine_values m c

end Cert.Proof

end
-- ==== Proof.PrepareSpec.lean ====
/- What the preparation of queries, keys and values computes, at one place: each query and each key times the root of
   one over the mean square of its head, times its gain; and that a sum against the matrix of the heads is the sum over
   one head. -/
module

public import Idealize.ShloMosaic.PureOps.Ideal
public import Idealize.ShloMosaic.Lib.ValueIdxCore
public import Idealize.ShloMosaic.Lib.Pointwise
public import Idealize.ShloMosaic.Lib.IdealHost

@[expose] public section

noncomputable section

namespace Cert.PrepareSpec

open Idealize.ShloMosaic

/-- The column of the projection that the column `j` of its part `w` is: queries, keys, values. -/
def col (w : Fin 3) (j : Fin 512) : Fin 1792 := ⟨w.val * 512 + j.val, by omega⟩

/-- The column of the place `e` of the head that the column `j` lies in. -/
def seg (j : Fin 512) (e : Fin 64) : Fin 512 := ⟨j.val / 64 * 64 + e.val, by omega⟩

/-- The row of the projection that the row `t` of the group `b` is. -/
def row (b : Fin 8) (t : Fin 512) : Fin 36864 := ⟨b.val * 512 + t.val, by omega⟩

variable (x : (⟨2, ![36864, 1792]⟩ : Shape).Idx → EReal) (g : (⟨1, ![64]⟩ : Shape).Idx → EReal)

/-- A query or a key, normalised over its head. -/
def normed (w : Fin 3) (R : Fin 36864) (j : Fin 512) : EReal :=
  x (ix2 R (col w j))
    * Ideal.rsqrt (Ideal.div (∑ e : Fin 64, x (ix2 R (col w (seg j e))) * x (ix2 R (col w (seg j e)))) (Ideal.ofBits .f32 0x42800000#32)
      + Ideal.ofBits .f32 0x358637BD#32)
    * g (ix1 ⟨j.val % 64, by omega⟩)

/-- The matrix of the heads: one where both columns lie in one head. -/
def same (k j : Fin 512) : EReal := if k.val / 64 = j.val / 64 then 1 else 0

theorem sum_same (f : Fin 512 → EReal) (j : Fin 512) : ∑ k : Fin 512, f k * same k j = ∑ e : Fin 64, f (seg j e) := by
  simp only [same, mul_ite, mul_one, mul_zero]
  rw [← Finset.sum_filter]
  refine (Finset.sum_bij (fun e _ => seg j e) ?_ ?_ ?_ ?_).symm
  · intro e _
    refine Finset.mem_filter.mpr ⟨Finset.mem_univ _, ?_⟩
    show (j.val / 64 * 64 + e.val) / 64 = j.val / 64
    omega
  · intro a _ b _ h
    have h' : j.val / 64 * 64 + a.val = j.val / 64 * 64 + b.val := congrArg Fin.val h
    exact Fin.ext (by omega)
  · intro k hk
    have hk' := (Finset.mem_filter.mp hk).2
    exact ⟨⟨k.val % 64, by omega⟩, Finset.mem_univ _, Fin.ext (show j.val / 64 * 64 + k.val % 64 = k.val by omega)⟩
  · intros; rfl

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- The mean square of a head, as the kernel takes it: the squares and the remainders of the squares, each against the
    matrix of the heads, times one over the head's width. The remainders are zero where the row is real. -/
theorem mean_square (f : Fin 512 → EReal) (hf : ∀ k, f k = ((f k).toReal : EReal)) (j : Fin 512) :
    (∑ k : Fin 512, f k * f k * same k j + ∑ k : Fin 512, (f k * f k - f k * f k) * same k j) * Ideal.ofBits .f32 0x3C800000#32
      = Ideal.div (∑ e : Fin 64, f (seg j e) * f (seg j e)) (Ideal.ofBits .f32 0x42800000#32) := by
  have hz : ∀ k, (f k * f k - f k * f k) * same k j = 0 := fun k => by
    rw [hf k, ← EReal.coe_mul, ← EReal.coe_sub, sub_self, EReal.coe_zero, zero_mul]
  rw [Finset.sum_congr rfl fun k _ => hz k, Finset.sum_const_zero, add_zero, sum_same (fun k => f k * f k) j, ofBits_64, ofBits_64th,
    Ideal.div_coe (by norm_num)]

end Cert.PrepareSpec

end
-- ==== Proof.PrepareValue.lean ====
/- What the preparation of queries, keys and values leaves in its four results: at each place the formulas of
   `PrepareSpec`, where the queries and the keys are real numbers. -/
module

public import proofs.«01_k».proof.Proof.Gen.PrepareIdeal.Frame
public import proofs.«01_k».proof.Proof.PrepareSpec
public import Idealize.ShloMosaic.Lib.Pipeline.Value
public import Idealize.ShloMosaic.Lib.Pipeline.ValueKit.Basic
public import Idealize.ShloMosaic.Lib.Pointwise
public import Idealize.ShloMosaic.Lib.IdealHost

@[expose] public section

set_option maxRecDepth 16384

noncomputable section

namespace Cert.PrepareIdeal.Hand

open Cert.PrepareIdeal Cert.PrepareIdeal.Gen Idealize.ShloMosaic Idealize.ShloMosaic.TcCoe Idealize.SL.Sem Cert.PrepareSpec
open Idealize.ShloMosaic.Pipeline (Dat)

/-! ## One block -/

/-- The block's normalised queries or keys. -/
def bNormed (gm : Vec Ideal S512x512 .bf16) (x : Vec Ideal S256x512 .f32) (g : Vec Ideal S1x512 .f32) (r : Fin 256) (j : Fin 512) : EReal :=
  x (ix2 r j) * Ideal.rsqrt ((∑ k : Fin 512, x (ix2 r k) * x (ix2 r k) * gm (ix2 k j) + ∑ k : Fin 512, (x (ix2 r k) * x (ix2 r k) - x (ix2 r k) * x (ix2 r k)) * gm (ix2 k j))
    * Ideal.ofBits .f32 0x3C800000#32 + Ideal.ofBits .f32 0x358637BD#32) * g (ix2 0 j)

theorem pay6_at (gm : Vec Ideal S512x512 .bf16) (x : Vec Ideal S256x512 .f32) (g : Vec Ideal S1x512 .f32) (r : Fin 256) (j : Fin 512) :
    k0_pay6 (F := Ideal) gm x g (ix2 r j) = bNormed gm x g r j := by
  pointwise [k0_pay6, k0_pay5, bNormed]

theorem pay7_at (gm : Vec Ideal S512x512 .bf16) (x : Vec Ideal S256x512 .f32) (g : Vec Ideal S1x512 .f32) (r : Fin 256) (j : Fin 512) :
    k0_pay7 (F := Ideal) gm x g (ix2 r j) = bNormed gm x g r j := by
  pointwise [k0_pay7, k0_pay5, bNormed]

theorem pay1_at (v : FVec Ideal S256x512 .f32) (r : Fin 256) (j : Fin 512) : k0_pay1 (F := Ideal) v (ix3 0 r j) = v (ix2 r j) := by
  pointwise [k0_pay1]

theorem pay2_at (v : FVec Ideal S256x512 .f32) (r : Fin 256) (j : Fin 512) :
    k0_pay2 (F := Ideal) v (ix3 0 j r) = v (ix2 r j) * Ideal.ofBits .f32 0x3E000000#32 := by
  pointwise [k0_pay2]

theorem pay3_at (v : FVec Ideal S256x512 .f32) (r : Fin 256) (j : Fin 512) : k0_pay3 (F := Ideal) v (ix3 0 r j) = v (ix2 r j) := by
  pointwise [k0_pay3]

theorem pay4_at (v : Vec Ideal S256x512 .f32) (r : Fin 256) (j : Fin 512) : k0_pay4 (F := Ideal) v (ix4 0 0 j r) = v (ix2 r j) := by
  pointwise [k0_pay4]

variable (m : (ℓ : Loc nD τ sig) → Buf (Elt Ideal) ℓ) (ρ : Dev nD → PrngReg)

/-- The comparison of two heads' numbers, as a number. -/
theorem eq_bit (a b : Fin 8) : FloatOps.uitofp (F := Ideal) FTy.bf16 (IntOp.cmpi CmpIPredicate.eq (IntOp.addi (BitVec.ofNat 32 a.val) 0#32) (BitVec.ofNat 32 b.val))
    = (if a.val = b.val then 1 else 0 : EReal) := by
  have h : ∀ a b : Fin 8, IntOp.cmpi CmpIPredicate.eq (IntOp.addi (BitVec.ofNat 32 a.val) 0#32) (BitVec.ofNat 32 b.val) = if a.val = b.val then 1#1 else 0#1 := by
    decide +kernel
  rw [h a b]
  by_cases e : a.val = b.val
  · rw [if_pos e, if_pos e]
    show (((1#1 : BitVec 1).toNat : ℝ) : EReal) = 1
    simp
  · rw [if_neg e, if_neg e]
    show (((0#1 : BitVec 1).toNat : ℝ) : EReal) = 0
    simp

/-- The matrix of the heads as the region finds it. -/
theorem V_gmat (c : Dev nD) (k j : Fin 512) : V m c main_v12 (ix2 k j) = same k j := by
  show StableHlo.after hostOps0 (fun b => m (c, b)) main_v12 (ix2 k j) = _
  unfold hostOps0
  after_results_simp
  pointwise
  exact eq_bit ⟨k.val / 64, by omega⟩ ⟨j.val / 64, by omega⟩

/-- The queries' gains as the region finds them: repeated for each head. -/
theorem V_qg (c : Dev nD) (j : Fin 512) : V m c main_v16 (ix2 0 j) = m ((c : Thread nD τ).loc main_arg1) (ix1 ⟨j.val % 64, by omega⟩) := by
  show StableHlo.after hostOps0 (fun b => m (c, b)) main_v16 (ix2 0 j) = _
  unfold hostOps0
  after_results_simp
  pointwise

/-- The keys' gains as the region finds them: repeated for each head. -/
theorem V_kg (c : Dev nD) (j : Fin 512) : V m c main_v20 (ix2 0 j) = m ((c : Thread nD τ).loc main_arg2) (ix1 ⟨j.val % 64, by omega⟩) := by
  show StableHlo.after hostOps0 (fun b => m (c, b)) main_v20 (ix2 0 j) = _
  unfold hostOps0
  after_results_simp
  pointwise

theorem out_6 (c : Dev nD) (i : grid0.Coords) (arg2) (harg2) (arg3) (harg3) (arg4) (harg4) (arg5) (harg5) (arg6) (harg6) (arg7) (harg7) (arg8) (harg8) (arg9) (harg9) (arg10) (harg10) (arg11) (harg11)
    (x0 : Vec Ideal S256x512 .f32) (x1 : Vec Ideal S256x512 .f32) (x2 : Vec Ideal S256x512 .f32) (x3 : Vec Ideal S512x512 .bf16) (x4 : Vec Ideal S1x512 .f32) (x5 : Vec Ideal S1x512 .f32) :
    out0_A_6 c i arg2 harg2 arg3 harg3 arg4 harg4 arg5 harg5 arg6 harg6 arg7 harg7 arg8 harg8 arg9 harg9 arg10 harg10 arg11 harg11 x0 x1 x2 x3 x4 x5 = k0_pay2 (k0_pay6 x3 x0 x4) := by
  have z2 : (![0, 0] : Fin 2 → ℕ) = 0 := by decide
  have z3 : (![0, 0, 0] : Fin 3 → ℕ) = 0 := by decide
  have z4 : (![0, 0, 0, 0] : Fin 4 → ℕ) = 0 := by decide
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero z3]
  unfold kernelRun0_A.sl.r
  simp only [View.readAt_eq_ld, harg2.read_unread, harg3.read_unread, harg4.read_unread, harg5.read_unread, harg6.read_unread, harg7.read_unread,
    View.ld_unit_zero (S := S256x512) z2, View.ld_unit_zero (S := S512x512) z2, View.ld_unit_zero (S := S1x512) z2]

theorem out_7 (c : Dev nD) (i : grid0.Coords) (arg2) (harg2) (arg3) (harg3) (arg4) (harg4) (arg5) (harg5) (arg6) (harg6) (arg7) (harg7) (arg8) (harg8) (arg9) (harg9) (arg10) (harg10) (arg11) (harg11)
    (x0 : Vec Ideal S256x512 .f32) (x1 : Vec Ideal S256x512 .f32) (x2 : Vec Ideal S256x512 .f32) (x3 : Vec Ideal S512x512 .bf16) (x4 : Vec Ideal S1x512 .f32) (x5 : Vec Ideal S1x512 .f32) :
    out0_A_7 c i arg2 harg2 arg3 harg3 arg4 harg4 arg5 harg5 arg6 harg6 arg7 harg7 arg8 harg8 arg9 harg9 arg10 harg10 arg11 harg11 x0 x1 x2 x3 x4 x5 = k0_pay3 (k0_pay7 x3 x1 x5) := by
  have z2 : (![0, 0] : Fin 2 → ℕ) = 0 := by decide
  have z3 : (![0, 0, 0] : Fin 3 → ℕ) = 0 := by decide
  have z4 : (![0, 0, 0, 0] : Fin 4 → ℕ) = 0 := by decide
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero z3]
  unfold kernelRun0_A.sl.r_1
  simp only [View.readAt_eq_ld, harg2.read_unread, harg3.read_unread, harg4.read_unread, harg5.read_unread, harg6.read_unread, harg7.read_unread,
    View.ld_unit_zero (S := S256x512) z2, View.ld_unit_zero (S := S512x512) z2, View.ld_unit_zero (S := S1x512) z2]

theorem out_8 (c : Dev nD) (i : grid0.Coords) (arg2) (harg2) (arg3) (harg3) (arg4) (harg4) (arg5) (harg5) (arg6) (harg6) (arg7) (harg7) (arg8) (harg8) (arg9) (harg9) (arg10) (harg10) (arg11) (harg11)
    (x0 : Vec Ideal S256x512 .f32) (x1 : Vec Ideal S256x512 .f32) (x2 : Vec Ideal S256x512 .f32) (x3 : Vec Ideal S512x512 .bf16) (x4 : Vec Ideal S1x512 .f32) (x5 : Vec Ideal S1x512 .f32) :
    out0_A_8 c i arg2 harg2 arg3 harg3 arg4 harg4 arg5 harg5 arg6 harg6 arg7 harg7 arg8 harg8 arg9 harg9 arg10 harg10 arg11 harg11 x0 x1 x2 x3 x4 x5 = k0_pay4 x2 := by
  have z2 : (![0, 0] : Fin 2 → ℕ) = 0 := by decide
  have z3 : (![0, 0, 0] : Fin 3 → ℕ) = 0 := by decide
  have z4 : (![0, 0, 0, 0] : Fin 4 → ℕ) = 0 := by decide
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero z4]
  simp only [View.readAt_eq_ld, harg2.read_unread, harg3.read_unread, harg4.read_unread, harg5.read_unread, harg6.read_unread, harg7.read_unread,
    View.ld_unit_zero (S := S256x512) z2, View.ld_unit_zero (S := S512x512) z2, View.ld_unit_zero (S := S1x512) z2]

theorem out_9 (c : Dev nD) (i : grid0.Coords) (arg2) (harg2) (arg3) (harg3) (arg4) (harg4) (arg5) (harg5) (arg6) (harg6) (arg7) (harg7) (arg8) (harg8) (arg9) (harg9) (arg10) (harg10) (arg11) (harg11)
    (x0 : Vec Ideal S256x512 .f32) (x1 : Vec Ideal S256x512 .f32) (x2 : Vec Ideal S256x512 .f32) (x3 : Vec Ideal S512x512 .bf16) (x4 : Vec Ideal S1x512 .f32) (x5 : Vec Ideal S1x512 .f32) :
    out0_A_9 c i arg2 harg2 arg3 harg3 arg4 harg4 arg5 harg5 arg6 harg6 arg7 harg7 arg8 harg8 arg9 harg9 arg10 harg10 arg11 harg11 x0 x1 x2 x3 x4 x5 = k0_pay1 (k0_pay7 x3 x1 x5) := by
  have z2 : (![0, 0] : Fin 2 → ℕ) = 0 := by decide
  have z3 : (![0, 0, 0] : Fin 3 → ℕ) = 0 := by decide
  have z4 : (![0, 0, 0, 0] : Fin 4 → ℕ) = 0 := by decide
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5)]
  unfold kernelRun0_A
  dsimp only
  rw [View.canon_unit_zero z3]
  unfold kernelRun0_A.sl.r_1
  simp only [View.readAt_eq_ld, harg2.read_unread, harg3.read_unread, harg4.read_unread, harg5.read_unread, harg6.read_unread, harg7.read_unread,
    View.ld_unit_zero (S := S256x512) z2, View.ld_unit_zero (S := S512x512) z2, View.ld_unit_zero (S := S1x512) z2]

/-! ## The whole results -/

/-- A grid point's coordinates: the group of rows and the half of the group. -/
theorem coord0 : ∀ t : Fin grid0.N, (grid0.coords t 0).val = t.val / 2 := by decide +kernel

theorem coord1 : ∀ t : Fin grid0.N, (grid0.coords t 1).val = t.val % 2 := by decide +kernel

theorem lt16 (t : Fin grid0.N) : t.val < 16 := lt_of_lt_of_eq t.isLt N_0

/-- The row of the projection that a row of a grid point's block is. -/
abbrev rowAt (t : Fin grid0.N) (r : Fin 256) : Fin 36864 := ⟨t.val * 256 + r.val, by have := lt16 t; omega⟩

/-- A grid point's group of rows. -/
abbrev bAt (t : Fin grid0.N) : Fin 8 := ⟨t.val / 2, by have := lt16 t; omega⟩

/-- A grid point's half of its group. -/
abbrev nAt (t : Fin grid0.N) : Fin 2 := ⟨t.val % 2, by omega⟩

/-- The row of its group that a row of a grid point's block is. -/
abbrev tAt (t : Fin grid0.N) (r : Fin 256) : Fin 512 := ⟨t.val % 2 * 256 + r.val, by omega⟩

theorem row_at (t : Fin grid0.N) (r : Fin 256) : row (bAt t) (tAt t r) = rowAt t r :=
  Fin.ext (show t.val / 2 * 512 + (t.val % 2 * 256 + r.val) = t.val * 256 + r.val by omega)

theorem tr0 : ∀ t : Fin grid0.N, cc0_transform_0 (grid0.coords t) = ![t.val, 0] := by decide +kernel
theorem tr1 : ∀ t : Fin grid0.N, cc0_transform_1 (grid0.coords t) = ![t.val, 1] := by decide +kernel
theorem tr2 : ∀ t : Fin grid0.N, cc0_transform_2 (grid0.coords t) = ![t.val, 2] := by decide +kernel
theorem tr6 : ∀ t : Fin grid0.N, cc0_transform_6 (grid0.coords t) = ![t.val / 2, 0, t.val % 2] := by decide +kernel
theorem tr7 : ∀ t : Fin grid0.N, cc0_transform_7 (grid0.coords t) = ![t.val / 2, t.val % 2, 0] := by decide +kernel
theorem tr8 : ∀ t : Fin grid0.N, cc0_transform_8 (grid0.coords t) = ![t.val / 2, t.val % 2, 0, 0] := by decide +kernel
theorem tr9 : ∀ t : Fin grid0.N, cc0_transform_9 (grid0.coords t) = ![t.val / 2, t.val % 2, 0] := by decide +kernel

theorem X0_at (c : Dev nD) (t : Fin grid0.N) (r : Fin 256) (k : Fin 512) :
    X0_0 m c t (ix2 r k) = m ((c : Thread nD τ).loc main_arg0) (ix2 (rowAt t r) (col 0 k)) := by
  rw [← V_main_arg0 m c]
  unfold X0_0 Pipeline.Window.fill
  rw [dif_pos (moved0_0 t (ix2 r k))]
  show V m c main_arg0 (((cfg0.win 0).blk t).view.emb _) = _
  refine congrArg (V m c main_arg0) ?_
  funext a; apply Fin.ext
  match a with
  | ⟨0, _⟩ =>
    show cc0_transform_0 (grid0.coords t) 0 * 256 + 1 * r.val = t.val * 256 + r.val
    rw [tr0]; show t.val * 256 + 1 * r.val = t.val * 256 + r.val; omega
  | ⟨1, _⟩ =>
    show cc0_transform_0 (grid0.coords t) 1 * 512 + 1 * k.val = 0 * 512 + k.val
    rw [tr0]; show 0 * 512 + 1 * k.val = 0 * 512 + k.val; omega

theorem X1_at (c : Dev nD) (t : Fin grid0.N) (r : Fin 256) (k : Fin 512) :
    X0_1 m c t (ix2 r k) = m ((c : Thread nD τ).loc main_arg0) (ix2 (rowAt t r) (col 1 k)) := by
  rw [← V_main_arg0 m c]
  unfold X0_1 Pipeline.Window.fill
  rw [dif_pos (moved0_1 t (ix2 r k))]
  show V m c main_arg0 (((cfg0.win 1).blk t).view.emb _) = _
  refine congrArg (V m c main_arg0) ?_
  funext a; apply Fin.ext
  match a with
  | ⟨0, _⟩ =>
    show cc0_transform_1 (grid0.coords t) 0 * 256 + 1 * r.val = t.val * 256 + r.val
    rw [tr1]; show t.val * 256 + 1 * r.val = t.val * 256 + r.val; omega
  | ⟨1, _⟩ =>
    show cc0_transform_1 (grid0.coords t) 1 * 512 + 1 * k.val = 1 * 512 + k.val
    rw [tr1]; show 1 * 512 + 1 * k.val = 1 * 512 + k.val; omega

theorem X2_at (c : Dev nD) (t : Fin grid0.N) (r : Fin 256) (k : Fin 512) :
    X0_2 m c t (ix2 r k) = m ((c : Thread nD τ).loc main_arg0) (ix2 (rowAt t r) (col 2 k)) := by
  rw [← V_main_arg0 m c]
  unfold X0_2 Pipeline.Window.fill
  rw [dif_pos (moved0_2 t (ix2 r k))]
  show V m c main_arg0 (((cfg0.win 2).blk t).view.emb _) = _
  refine congrArg (V m c main_arg0) ?_
  funext a; apply Fin.ext
  match a with
  | ⟨0, _⟩ =>
    show cc0_transform_2 (grid0.coords t) 0 * 256 + 1 * r.val = t.val * 256 + r.val
    rw [tr2]; show t.val * 256 + 1 * r.val = t.val * 256 + r.val; omega
  | ⟨1, _⟩ =>
    show cc0_transform_2 (grid0.coords t) 1 * 512 + 1 * k.val = 2 * 512 + k.val
    rw [tr2]; show 2 * 512 + 1 * k.val = 2 * 512 + k.val; omega

theorem iblk3_at (c : Dev nD) (t : Fin grid0.N) (k j : Fin 512) : iblk m c 3 t (ix2 k j) = same k j := by
  rw [← V_gmat m c]
  show V m c main_v12 (((cfg0.win 3).blk t).view.emb (ix2 k j)) = _
  refine congrArg (V m c main_v12) ?_
  funext a; apply Fin.ext
  match a with
  | ⟨0, _⟩ => show 0 * 512 + 1 * k.val = k.val; omega
  | ⟨1, _⟩ => show 0 * 512 + 1 * j.val = j.val; omega

theorem iblk4_at (c : Dev nD) (t : Fin grid0.N) (j : Fin 512) :
    iblk m c 4 t (ix2 0 j) = m ((c : Thread nD τ).loc main_arg1) (ix1 ⟨j.val % 64, by omega⟩) := by
  rw [← V_qg m c]
  show V m c main_v16 (((cfg0.win 4).blk t).view.emb (ix2 0 j)) = _
  refine congrArg (V m c main_v16) ?_
  funext a; apply Fin.ext
  match a with
  | ⟨0, _⟩ => rfl
  | ⟨1, _⟩ => show 0 * 512 + 1 * j.val = j.val; omega

theorem iblk5_at (c : Dev nD) (t : Fin grid0.N) (j : Fin 512) :
    iblk m c 5 t (ix2 0 j) = m ((c : Thread nD τ).loc main_arg2) (ix1 ⟨j.val % 64, by omega⟩) := by
  rw [← V_kg m c]
  show V m c main_v20 (((cfg0.win 5).blk t).view.emb (ix2 0 j)) = _
  refine congrArg (V m c main_v20) ?_
  funext a; apply Fin.ext
  match a with
  | ⟨0, _⟩ => rfl
  | ⟨1, _⟩ => show 0 * 512 + 1 * j.val = j.val; omega

/-- A block's normalised queries or keys are the formula's, where the row is real. -/
theorem bNormed_of (x : (⟨2, ![36864, 1792]⟩ : Shape).Idx → EReal) (q : (⟨1, ![64]⟩ : Shape).Idx → EReal) (w : Fin 3) (R : Fin 36864)
    (gm : Vec Ideal S512x512 .bf16) (X : Vec Ideal S256x512 .f32) (g : Vec Ideal S1x512 .f32) (r : Fin 256) (j : Fin 512)
    (hgm : ∀ k : Fin 512, gm (ix2 k j) = same k j) (hX : ∀ k : Fin 512, X (ix2 r k) = x (ix2 R (col w k)))
    (hg : g (ix2 0 j) = q (ix1 ⟨j.val % 64, by omega⟩)) (hx : ∀ k : Fin 512, x (ix2 R (col w k)) = ((x (ix2 R (col w k))).toReal : EReal)) :
    bNormed gm X g r j = normed x q w R j := by
  unfold bNormed normed
  refine congrArg₂ (· * ·) (congrArg₂ (· * ·) (hX j) ?_) hg
  refine congrArg (fun s => Ideal.rsqrt (s + Ideal.ofBits .f32 0x358637BD#32)) ?_
  refine Eq.trans ?_ (mean_square (fun k => x (ix2 R (col w k))) hx j)
  simp only [hX, hgm]

/-- The queries and the keys that the call takes are real numbers. -/
def RealRows (c : Dev nD) : Prop := ∀ (R : Fin 36864) (k : Fin 1792), R.val < 4096 → k.val < 1024 →
  m ((c : Thread nD τ).loc main_arg0) (ix2 R k) = ((EReal.toReal (m ((c : Thread nD τ).loc main_arg0) (ix2 R k)) : ℝ) : EReal)

/-- The normalised queries of the arguments. -/
abbrev qOf (c : Dev nD) (R : Fin 36864) (j : Fin 512) : EReal :=
  normed (m ((c : Thread nD τ).loc main_arg0)) (m ((c : Thread nD τ).loc main_arg1)) 0 R j

/-- The normalised keys of the arguments. -/
abbrev kOf (c : Dev nD) (R : Fin 36864) (j : Fin 512) : EReal :=
  normed (m ((c : Thread nD τ).loc main_arg0)) (m ((c : Thread nD τ).loc main_arg2)) 1 R j

theorem q_at (c : Dev nD) (hr : RealRows m c) (t : Fin grid0.N) (r : Fin 256) (j : Fin 512) :
    k0_pay6 (F := Ideal) (iblk m c 3 t) (X0_0 m c t) (iblk m c 4 t) (ix2 r j) = qOf m c (rowAt t r) j :=
  (pay6_at _ _ _ r j).trans (bNormed_of _ _ 0 (rowAt t r) _ _ _ r j (fun k => iblk3_at m c t k j) (fun k => X0_at m c t r k) (iblk4_at m c t j)
    (fun k => hr _ _ (by have := lt16 t; show t.val * 256 + r.val < 4096; omega) (by show 0 * 512 + k.val < 1024; omega)))

theorem k_at (c : Dev nD) (hr : RealRows m c) (t : Fin grid0.N) (r : Fin 256) (j : Fin 512) :
    k0_pay7 (F := Ideal) (iblk m c 3 t) (X0_1 m c t) (iblk m c 5 t) (ix2 r j) = kOf m c (rowAt t r) j :=
  (pay7_at _ _ _ r j).trans (bNormed_of _ _ 1 (rowAt t r) _ _ _ r j (fun k => iblk3_at m c t k j) (fun k => X1_at m c t r k) (iblk5_at m c t j)
    (fun k => hr _ _ (by have := lt16 t; show t.val * 256 + r.val < 4096; omega) (by show 1 * 512 + k.val < 1024; omega)))

/-- The whole of the first result: the queries, scaled, with the columns first. -/
def val6 (c : Dev nD) : Buf (Elt Ideal) ((c : Thread nD τ).loc main_v21_0) := fun j =>
  qOf m c (row ⟨(j 0).val, (j 0).isLt⟩ ⟨(j 2).val, (j 2).isLt⟩) ⟨(j 1).val, (j 1).isLt⟩ * Ideal.ofBits .f32 0x3E000000#32

/-- The whole of the second result: the keys. -/
def val7 (c : Dev nD) : Buf (Elt Ideal) ((c : Thread nD τ).loc main_v21_1) := fun j =>
  kOf m c (row ⟨(j 0).val, (j 0).isLt⟩ ⟨(j 1).val, (j 1).isLt⟩) ⟨(j 2).val, (j 2).isLt⟩

/-- The whole of the third result: the values, by halves of a group, with the columns first. -/
def val8 (c : Dev nD) : Buf (Elt Ideal) ((c : Thread nD τ).loc main_v21_2) := fun j =>
  m ((c : Thread nD τ).loc main_arg0) (ix2 (row ⟨(j 0).val, (j 0).isLt⟩ ⟨(j 1).val * 256 + (j 3).val, by
    have h1 : (j 1).val < 2 := (j 1).isLt
    have h3 : (j 3).val < 256 := (j 3).isLt
    omega⟩) (col 2 ⟨(j 2).val, (j 2).isLt⟩))

/-- The whole of the fourth result: the keys in full precision. -/
def val9 (c : Dev nD) : Buf (Elt Ideal) ((c : Thread nD τ).loc main_v21_3) := fun j =>
  kOf m c (row ⟨(j 0).val, (j 0).isLt⟩ ⟨(j 1).val, (j 1).isLt⟩) ⟨(j 2).val, (j 2).isLt⟩

theorem outs6_at (c : Dev nD) (hr : RealRows m c) (t : Fin grid0.N) (r : Fin 256) (j : Fin 512) : (outsAt0 m c t).1 (ix3 0 j r) = qOf m c (rowAt t r) j * Ideal.ofBits .f32 0x3E000000#32 := by
  unfold outsAt0
  dsimp only
  exact (congrFun (out_6 c _ _ _ _ _ _ _ _ _ _ _ _ _ _ _ _ _ _ _ _ _ _ _ _ _ _ _) _).trans ((pay2_at _ r j).trans (congrArg (· * Ideal.ofBits .f32 0x3E000000#32) (q_at m c hr t r j)))

theorem outs7_at (c : Dev nD) (hr : RealRows m c) (t : Fin grid0.N) (r : Fin 256) (j : Fin 512) : (outsAt0 m c t).2.1 (ix3 0 r j) = kOf m c (rowAt t r) j := by
  unfold outsAt0
  dsimp only
  exact (congrFun (out_7 c _ _ _ _ _ _ _ _ _ _ _ _ _ _ _ _ _ _ _ _ _ _ _ _ _ _ _) _).trans ((pay3_at _ r j).trans (k_at m c hr t r j))

theorem outs8_at (c : Dev nD) (t : Fin grid0.N) (r : Fin 256) (j : Fin 512) : (outsAt0 m c t).2.2.1 (ix4 0 0 j r) = m ((c : Thread nD τ).loc main_arg0) (ix2 (rowAt t r) (col 2 j)) := by
  unfold outsAt0
  dsimp only
  exact (congrFun (out_8 c _ _ _ _ _ _ _ _ _ _ _ _ _ _ _ _ _ _ _ _ _ _ _ _ _ _ _) _).trans ((pay4_at _ r j).trans (X2_at m c t r j))

theorem outs9_at (c : Dev nD) (hr : RealRows m c) (t : Fin grid0.N) (r : Fin 256) (j : Fin 512) : (outsAt0 m c t).2.2.2 (ix3 0 r j) = kOf m c (rowAt t r) j := by
  unfold outsAt0
  dsimp only
  exact (congrFun (out_9 c _ _ _ _ _ _ _ _ _ _ _ _ _ _ _ _ _ _ _ _ _ _ _ _ _ _ _) _).trans ((pay1_at _ r j).trans (k_at m c hr t r j))

theorem flushed6 (c : Dev nD) (hr : RealRows m c) (t : Fin cfg0.N) :
    (dats m 0 c).flushed 6 t = ((cfg0.win 6).blk t).view.read (Elt Ideal) (val6 m c) := by
  show (cfg0.win 6).cut (grid0.coords t) ((dats m 0 c).after 6 t) = _
  rw [after0_6]
  suffices h : ∀ j : S1x512x256.Idx, (outsAt0 m c t).1 j = val6 m c (((cfg0.win 6).blk t).view.emb j) from funext fun j => h j
  intro j
  have hj0 : (j 0).val < 1 := (j 0).isLt
  have hj1 : (j 1).val < 512 := (j 1).isLt
  have hj2 : (j 2).val < 256 := (j 2).isLt
  have e : ((cfg0.win 6).blk t).view.emb j = (ix3 (bAt t) ⟨(j 1).val, hj1⟩ (tAt t ⟨(j 2).val, hj2⟩) : S8x512x512.Idx) := by
    funext a; apply Fin.ext
    match a with
    | ⟨0, _⟩ =>
      show cc0_transform_6 (grid0.coords t) 0 * 1 + 1 * (j 0).val = t.val / 2
      rw [tr6]; show (t.val / 2) * 1 + 1 * (j 0).val = t.val / 2; omega
    | ⟨1, _⟩ =>
      show cc0_transform_6 (grid0.coords t) 1 * 512 + 1 * (j 1).val = (j 1).val
      rw [tr6]; show (0) * 512 + 1 * (j 1).val = (j 1).val; omega
    | ⟨2, _⟩ =>
      show cc0_transform_6 (grid0.coords t) 2 * 256 + 1 * (j 2).val = t.val % 2 * 256 + (j 2).val
      rw [tr6]; show (t.val % 2) * 256 + 1 * (j 2).val = t.val % 2 * 256 + (j 2).val; omega
  refine Eq.trans ?_ (congrArg (val6 m c) e).symm
  refine (congrArg (outsAt0 m c t).1 ?_).trans ((outs6_at m c hr t ⟨(j 2).val, hj2⟩ ⟨(j 1).val, hj1⟩).trans ?_)
  · funext a
    match a with
    | ⟨0, _⟩ => exact Fin.ext (show (j 0).val = 0 by omega)
    | ⟨1, _⟩ => rfl
    | ⟨2, _⟩ => rfl
  · rw [← row_at]
    rfl

theorem cover6 (i : S8x512x512.Idx) : ∃ t : Fin cfg0.N, (cfg0.win 6).flush t = true ∧ i ∈ ((cfg0.win 6).blk t).view.set := by
  have hi0 : (i 0).val < 8 := (i 0).isLt
  have hi1 : (i 1).val < 512 := (i 1).isLt
  have hi2 : (i 2).val < 512 := (i 2).isLt
  let t : Fin grid0.N := ⟨(i 0).val * 2 + (i 2).val / 256, by rw [N_0]; omega⟩
  refine ⟨t, flush0_6 t, ?_⟩
  show i ∈ ((View.whole main_v21_0).slice ((cfg0.win 6).rect t)).set
  erw [View.set_slice_whole]
  refine (Pipeline.Window.mem_rect_iff (cfg0.win 6) t i (by rfl)).mpr fun a => ?_
  have hx : (cfg0.win 6).index t = ![t.val / 2, 0, t.val % 2] := tr6 t
  rw [hx]
  have ht : t.val = (i 0).val * 2 + (i 2).val / 256 := rfl
  match a with
  | ⟨0, _⟩ => exact show (t.val / 2) * 1 ≤ (i 0).val ∧ (i 0).val < (t.val / 2) * 1 + 1 by omega
  | ⟨1, _⟩ => exact show (0) * 512 ≤ (i 1).val ∧ (i 1).val < (0) * 512 + 512 by omega
  | ⟨2, _⟩ => exact show (t.val % 2) * 256 ≤ (i 2).val ∧ (i 2).val < (t.val % 2) * 256 + 256 by omega

theorem final6 (c : Dev nD) (hr : RealRows m c) : (dats m 0 c).arrAt 6 cfg0.N = val6 m c :=
  (dats m 0 c).arrAt_eq_of_cover 6 (val6 m c) (fun t _ => flushed6 m c hr t) cover6

theorem flushed7 (c : Dev nD) (hr : RealRows m c) (t : Fin cfg0.N) :
    (dats m 0 c).flushed 7 t = ((cfg0.win 7).blk t).view.read (Elt Ideal) (val7 m c) := by
  show (cfg0.win 7).cut (grid0.coords t) ((dats m 0 c).after 7 t) = _
  rw [after0_7]
  suffices h : ∀ j : S1x256x512.Idx, (outsAt0 m c t).2.1 j = val7 m c (((cfg0.win 7).blk t).view.emb j) from funext fun j => h j
  intro j
  have hj0 : (j 0).val < 1 := (j 0).isLt
  have hj1 : (j 1).val < 256 := (j 1).isLt
  have hj2 : (j 2).val < 512 := (j 2).isLt
  have e : ((cfg0.win 7).blk t).view.emb j = (ix3 (bAt t) (tAt t ⟨(j 1).val, hj1⟩) ⟨(j 2).val, hj2⟩ : S8x512x512.Idx) := by
    funext a; apply Fin.ext
    match a with
    | ⟨0, _⟩ =>
      show cc0_transform_7 (grid0.coords t) 0 * 1 + 1 * (j 0).val = t.val / 2
      rw [tr7]; show (t.val / 2) * 1 + 1 * (j 0).val = t.val / 2; omega
    | ⟨1, _⟩ =>
      show cc0_transform_7 (grid0.coords t) 1 * 256 + 1 * (j 1).val = t.val % 2 * 256 + (j 1).val
      rw [tr7]; show (t.val % 2) * 256 + 1 * (j 1).val = t.val % 2 * 256 + (j 1).val; omega
    | ⟨2, _⟩ =>
      show cc0_transform_7 (grid0.coords t) 2 * 512 + 1 * (j 2).val = (j 2).val
      rw [tr7]; show (0) * 512 + 1 * (j 2).val = (j 2).val; omega
  refine Eq.trans ?_ (congrArg (val7 m c) e).symm
  refine (congrArg (outsAt0 m c t).2.1 ?_).trans ((outs7_at m c hr t ⟨(j 1).val, hj1⟩ ⟨(j 2).val, hj2⟩).trans ?_)
  · funext a
    match a with
    | ⟨0, _⟩ => exact Fin.ext (show (j 0).val = 0 by omega)
    | ⟨1, _⟩ => rfl
    | ⟨2, _⟩ => rfl
  · rw [← row_at]
    rfl

theorem cover7 (i : S8x512x512.Idx) : ∃ t : Fin cfg0.N, (cfg0.win 7).flush t = true ∧ i ∈ ((cfg0.win 7).blk t).view.set := by
  have hi0 : (i 0).val < 8 := (i 0).isLt
  have hi1 : (i 1).val < 512 := (i 1).isLt
  have hi2 : (i 2).val < 512 := (i 2).isLt
  let t : Fin grid0.N := ⟨(i 0).val * 2 + (i 1).val / 256, by rw [N_0]; omega⟩
  refine ⟨t, flush0_7 t, ?_⟩
  show i ∈ ((View.whole main_v21_1).slice ((cfg0.win 7).rect t)).set
  erw [View.set_slice_whole]
  refine (Pipeline.Window.mem_rect_iff (cfg0.win 7) t i (by rfl)).mpr fun a => ?_
  have hx : (cfg0.win 7).index t = ![t.val / 2, t.val % 2, 0] := tr7 t
  rw [hx]
  have ht : t.val = (i 0).val * 2 + (i 1).val / 256 := rfl
  match a with
  | ⟨0, _⟩ => exact show (t.val / 2) * 1 ≤ (i 0).val ∧ (i 0).val < (t.val / 2) * 1 + 1 by omega
  | ⟨1, _⟩ => exact show (t.val % 2) * 256 ≤ (i 1).val ∧ (i 1).val < (t.val % 2) * 256 + 256 by omega
  | ⟨2, _⟩ => exact show (0) * 512 ≤ (i 2).val ∧ (i 2).val < (0) * 512 + 512 by omega

theorem final7 (c : Dev nD) (hr : RealRows m c) : (dats m 0 c).arrAt 7 cfg0.N = val7 m c :=
  (dats m 0 c).arrAt_eq_of_cover 7 (val7 m c) (fun t _ => flushed7 m c hr t) cover7

theorem flushed8 (c : Dev nD) (t : Fin cfg0.N) :
    (dats m 0 c).flushed 8 t = ((cfg0.win 8).blk t).view.read (Elt Ideal) (val8 m c) := by
  show (cfg0.win 8).cut (grid0.coords t) ((dats m 0 c).after 8 t) = _
  rw [after0_8]
  suffices h : ∀ j : S1x1x512x256.Idx, (outsAt0 m c t).2.2.1 j = val8 m c (((cfg0.win 8).blk t).view.emb j) from funext fun j => h j
  intro j
  have hj0 : (j 0).val < 1 := (j 0).isLt
  have hj1 : (j 1).val < 1 := (j 1).isLt
  have hj2 : (j 2).val < 512 := (j 2).isLt
  have hj3 : (j 3).val < 256 := (j 3).isLt
  have e : ((cfg0.win 8).blk t).view.emb j = (ix4 (bAt t) (nAt t) ⟨(j 2).val, hj2⟩ ⟨(j 3).val, hj3⟩ : S8x2x512x256.Idx) := by
    funext a; apply Fin.ext
    match a with
    | ⟨0, _⟩ =>
      show cc0_transform_8 (grid0.coords t) 0 * 1 + 1 * (j 0).val = t.val / 2
      rw [tr8]; show (t.val / 2) * 1 + 1 * (j 0).val = t.val / 2; omega
    | ⟨1, _⟩ =>
      show cc0_transform_8 (grid0.coords t) 1 * 1 + 1 * (j 1).val = t.val % 2
      rw [tr8]; show (t.val % 2) * 1 + 1 * (j 1).val = t.val % 2; omega
    | ⟨2, _⟩ =>
      show cc0_transform_8 (grid0.coords t) 2 * 512 + 1 * (j 2).val = (j 2).val
      rw [tr8]; show (0) * 512 + 1 * (j 2).val = (j 2).val; omega
    | ⟨3, _⟩ =>
      show cc0_transform_8 (grid0.coords t) 3 * 256 + 1 * (j 3).val = (j 3).val
      rw [tr8]; show (0) * 256 + 1 * (j 3).val = (j 3).val; omega
  refine Eq.trans ?_ (congrArg (val8 m c) e).symm
  refine (congrArg (outsAt0 m c t).2.2.1 ?_).trans ((outs8_at m c t ⟨(j 3).val, hj3⟩ ⟨(j 2).val, hj2⟩).trans ?_)
  · funext a
    match a with
    | ⟨0, _⟩ => exact Fin.ext (show (j 0).val = 0 by omega)
    | ⟨1, _⟩ => exact Fin.ext (show (j 1).val = 0 by omega)
    | ⟨2, _⟩ => rfl
    | ⟨3, _⟩ => rfl
  · rw [← row_at]
    rfl

theorem cover8 (i : S8x2x512x256.Idx) : ∃ t : Fin cfg0.N, (cfg0.win 8).flush t = true ∧ i ∈ ((cfg0.win 8).blk t).view.set := by
  have hi0 : (i 0).val < 8 := (i 0).isLt
  have hi1 : (i 1).val < 2 := (i 1).isLt
  have hi2 : (i 2).val < 512 := (i 2).isLt
  have hi3 : (i 3).val < 256 := (i 3).isLt
  let t : Fin grid0.N := ⟨(i 0).val * 2 + (i 1).val, by rw [N_0]; omega⟩
  refine ⟨t, flush0_8 t, ?_⟩
  show i ∈ ((View.whole main_v21_2).slice ((cfg0.win 8).rect t)).set
  erw [View.set_slice_whole]
  refine (Pipeline.Window.mem_rect_iff (cfg0.win 8) t i (by rfl)).mpr fun a => ?_
  have hx : (cfg0.win 8).index t = ![t.val / 2, t.val % 2, 0, 0] := tr8 t
  rw [hx]
  have ht : t.val = (i 0).val * 2 + (i 1).val := rfl
  match a with
  | ⟨0, _⟩ => exact show (t.val / 2) * 1 ≤ (i 0).val ∧ (i 0).val < (t.val / 2) * 1 + 1 by omega
  | ⟨1, _⟩ => exact show (t.val % 2) * 1 ≤ (i 1).val ∧ (i 1).val < (t.val % 2) * 1 + 1 by omega
  | ⟨2, _⟩ => exact show (0) * 512 ≤ (i 2).val ∧ (i 2).val < (0) * 512 + 512 by omega
  | ⟨3, _⟩ => exact show (0) * 256 ≤ (i 3).val ∧ (i 3).val < (0) * 256 + 256 by omega

theorem final8 (c : Dev nD) : (dats m 0 c).arrAt 8 cfg0.N = val8 m c :=
  (dats m 0 c).arrAt_eq_of_cover 8 (val8 m c) (fun t _ => flushed8 m c t) cover8

theorem flushed9 (c : Dev nD) (hr : RealRows m c) (t : Fin cfg0.N) :
    (dats m 0 c).flushed 9 t = ((cfg0.win 9).blk t).view.read (Elt Ideal) (val9 m c) := by
  show (cfg0.win 9).cut (grid0.coords t) ((dats m 0 c).after 9 t) = _
  rw [after0_9]
  suffices h : ∀ j : S1x256x512.Idx, (outsAt0 m c t).2.2.2 j = val9 m c (((cfg0.win 9).blk t).view.emb j) from funext fun j => h j
  intro j
  have hj0 : (j 0).val < 1 := (j 0).isLt
  have hj1 : (j 1).val < 256 := (j 1).isLt
  have hj2 : (j 2).val < 512 := (j 2).isLt
  have e : ((cfg0.win 9).blk t).view.emb j = (ix3 (bAt t) (tAt t ⟨(j 1).val, hj1⟩) ⟨(j 2).val, hj2⟩ : S8x512x512.Idx) := by
    funext a; apply Fin.ext
    match a with
    | ⟨0, _⟩ =>
      show cc0_transform_9 (grid0.coords t) 0 * 1 + 1 * (j 0).val = t.val / 2
      rw [tr9]; show (t.val / 2) * 1 + 1 * (j 0).val = t.val / 2; omega
    | ⟨1, _⟩ =>
      show cc0_transform_9 (grid0.coords t) 1 * 256 + 1 * (j 1).val = t.val % 2 * 256 + (j 1).val
      rw [tr9]; show (t.val % 2) * 256 + 1 * (j 1).val = t.val % 2 * 256 + (j 1).val; omega
    | ⟨2, _⟩ =>
      show cc0_transform_9 (grid0.coords t) 2 * 512 + 1 * (j 2).val = (j 2).val
      rw [tr9]; show (0) * 512 + 1 * (j 2).val = (j 2).val; omega
  refine Eq.trans ?_ (congrArg (val9 m c) e).symm
  refine (congrArg (outsAt0 m c t).2.2.2 ?_).trans ((outs9_at m c hr t ⟨(j 1).val, hj1⟩ ⟨(j 2).val, hj2⟩).trans ?_)
  · funext a
    match a with
    | ⟨0, _⟩ => exact Fin.ext (show (j 0).val = 0 by omega)
    | ⟨1, _⟩ => rfl
    | ⟨2, _⟩ => rfl
  · rw [← row_at]
    rfl

theorem cover9 (i : S8x512x512.Idx) : ∃ t : Fin cfg0.N, (cfg0.win 9).flush t = true ∧ i ∈ ((cfg0.win 9).blk t).view.set := by
  have hi0 : (i 0).val < 8 := (i 0).isLt
  have hi1 : (i 1).val < 512 := (i 1).isLt
  have hi2 : (i 2).val < 512 := (i 2).isLt
  let t : Fin grid0.N := ⟨(i 0).val * 2 + (i 1).val / 256, by rw [N_0]; omega⟩
  refine ⟨t, flush0_9 t, ?_⟩
  show i ∈ ((View.whole main_v21_3).slice ((cfg0.win 9).rect t)).set
  erw [View.set_slice_whole]
  refine (Pipeline.Window.mem_rect_iff (cfg0.win 9) t i (by rfl)).mpr fun a => ?_
  have hx : (cfg0.win 9).index t = ![t.val / 2, t.val % 2, 0] := tr9 t
  rw [hx]
  have ht : t.val = (i 0).val * 2 + (i 1).val / 256 := rfl
  match a with
  | ⟨0, _⟩ => exact show (t.val / 2) * 1 ≤ (i 0).val ∧ (i 0).val < (t.val / 2) * 1 + 1 by omega
  | ⟨1, _⟩ => exact show (t.val % 2) * 256 ≤ (i 1).val ∧ (i 1).val < (t.val % 2) * 256 + 256 by omega
  | ⟨2, _⟩ => exact show (0) * 512 ≤ (i 2).val ∧ (i 2).val < (0) * 512 + 512 by omega

theorem final9 (c : Dev nD) (hr : RealRows m c) : (dats m 0 c).arrAt 9 cfg0.N = val9 m c :=
  (dats m 0 c).arrAt_eq_of_cover 9 (val9 m c) (fun t _ => flushed9 m c hr t) cover9

/-- The run, read: each result at its formula. -/
theorem run (hr : ∀ c : Dev nD, RealRows m c) : θ_run defs (onTc (τ := τ) (main (F := Ideal))) ⟨m, fun _ => 0, ρ⟩ fun r => ∀ c : Dev nD,
      r.2.mem ((c : Thread nD τ).loc main_v21_0) = val6 m c ∧ r.2.mem ((c : Thread nD τ).loc main_v21_1) = val7 m c
        ∧ r.2.mem ((c : Thread nD τ).loc main_v21_2) = val8 m c ∧ r.2.mem ((c : Thread nD τ).loc main_v21_3) = val9 m c :=
  (θ_run defs _ _).mono (fun _ h c => ⟨((h c).1 6).trans (final6 m c (hr c)), ((h c).1 7).trans (final7 m c (hr c)), ((h c).1 8).trans (final8 m c),
    ((h c).1 9).trans (final9 m c (hr c))⟩) (run_main m ρ)

end Cert.PrepareIdeal.Hand

end
-- ==== Proof.PreparePre.lean ====
/- The precondition on the preparation's arguments, decoded: the queries and the keys that the call takes are real
   numbers. -/
module

public import proofs.«01_k».proof.Defs
public import proofs.«01_k».proof.Proof.AttnPre
public import proofs.«01_k».proof.Proof.PrepareValue
public import proofs.«01_k».proof.Proof.Gen.Pre_finite_rows
public import Idealize.ShloMosaic.Lib.ReduceAll

@[expose] public section

set_option maxRecDepth 16384

noncomputable section

namespace Cert.PrepareIdeal.Hand

open Cert.PrepareIdeal Idealize.ShloMosaic Idealize.ShloMosaic.TcCoe

/-- The part of the projection that the precondition speaks of, at one place. -/
theorem slice_at (x : FVec Ideal S36864x1792 .f32) (hs) (R : Fin 36864) (k : Fin 1792) (hR : R.val < 4096) (hk : k.val < 1024) :
    extractStridedSlice Cert.Pre_finite_rows.S4096x1024 ![0, 0] x hs (ix2 (⟨R.val, hR⟩ : Fin 4096) (⟨k.val, hk⟩ : Fin 1024)) = x (ix2 R k) :=
  extractStridedSlice_apply ![0, 0] x hs _ (ix2 R k) (fun a => match a with
    | ⟨0, _⟩ => by show R.val = 0 + R.val; omega
    | ⟨1, _⟩ => by show k.val = 0 + k.val; omega)

/-- What the precondition says of a memory. -/
theorem real_of_pre (m : (ℓ : Loc nD τ sig) → Buf (Elt Ideal) ℓ) (h : Cert.Pre_PrepareIdeal_finite_rows m) (c : Dev nD) : RealRows m c := by
  have e := congrFun (h c) (fun a => a.elim0)
  haveI : Subsingleton Cert.Pre_finite_rows.S_.Idx := ⟨fun a b => funext fun i => i.elim0⟩
  unfold Cert.Pre_finite_rows.fn at e
  dsimp only at e
  intro R k hR hk
  have h1 := Host.reduce_andi_all _ _ _ _ _ e (ix2 (⟨R.val, hR⟩ : Fin 4096) (⟨k.val, hk⟩ : Fin 1024))
  have h2 := Cert.KernelIdeal.Hand.real_of_olt _ h1
  rw [slice_at] at h2
  exact h2

end Cert.PrepareIdeal.Hand

end
-- ==== Proof.PrepareRef.lean ====
/- The reference of the preparation of queries, keys and values read at one place of each of its results: the formulas of
   `PrepareSpec`. -/
module

public import proofs.«01_k».proof.Proof.PrepareSpec
public import proofs.«01_k».proof.Proof.Gen.PrepareReferenceIdeal.Read

@[expose] public section

set_option maxRecDepth 16384

noncomputable section

namespace Cert.PrepareReferenceIdeal.Read

open Cert.PrepareReferenceIdeal Idealize.ShloMosaic Cert.PrepareSpec

variable (x0 : (⟨S36864x1792, .f32⟩ : BufTy).Contents (Elt Ideal)) (x1 : (⟨S64, .f32⟩ : BufTy).Contents (Elt Ideal))
variable (x2 : (⟨S64, .f32⟩ : BufTy).Contents (Elt Ideal))

/-- The column of the place `e` of the head `h`. -/
def colOf (h : Fin 8) (e : Fin 64) : Fin 512 := ⟨h.val * 64 + e.val, by omega⟩

theorem v1_at (b : Fin 8) (t : Fin 512) (h : Fin 8) (e : Fin 64) :
    val_main_v1 (F := Ideal) x0 (ix4 b t h e) = x0 (ix2 (row b t) (col 0 (colOf h e))) := by
  rw [val_main_v1_apply, val_main_v0_apply]
  refine congrArg x0 (funext fun a => Fin.ext ?_)
  match a with
  | ⟨0, _⟩ => exact show (((b.val * 512 + t.val) * 8 + h.val) * 64 + e.val) / 512 = b.val * 512 + t.val by omega
  | ⟨1, _⟩ => exact show (((b.val * 512 + t.val) * 8 + h.val) * 64 + e.val) % 512 = 0 * 512 + (h.val * 64 + e.val) by omega

theorem v7_at (b : Fin 8) (t : Fin 512) (h : Fin 8) : val_main_v7 (F := Ideal) x0 (ix3 b t h)
    = ∑ e : Fin 64, x0 (ix2 (row b t) (col 0 (colOf h e))) * x0 (ix2 (row b t) (col 0 (colOf h e))) := by
  have c0 : ∀ i, val_main_cst (F := Ideal) i = (0 : EReal) := fun _ => Ideal.ofBits_zero .f32
  rw [val_main_v7_apply, c0, zero_add]
  refine Finset.sum_congr rfl fun e _ => ?_
  have hi : idx_main_v7 (ix3 b t h) e = ix4 b t h e := by funext a; match a with | ⟨0, _⟩ => rfl | ⟨1, _⟩ => rfl | ⟨2, _⟩ => rfl | ⟨3, _⟩ => rfl
  rw [hi, val_main_v6_apply, v1_at]
  rfl

theorem v18_at (b : Fin 8) (t : Fin 512) (h : Fin 8) (e : Fin 64) :
    val_main_v18 (F := Ideal) x0 x1 (ix4 b t h e) = normed x0 x1 0 (row b t) (colOf h e) := by
  have hs : ∀ k, seg (colOf h e) k = colOf h k := fun k => Fin.ext (show (h.val * 64 + e.val) / 64 * 64 + k.val = h.val * 64 + k.val by omega)
  have ib : idx_main_v8 (idx_main_v14 (ix4 b t h e)) = ix3 b t h := by
    funext a; match a with | ⟨0, _⟩ => rfl | ⟨1, _⟩ => rfl | ⟨2, _⟩ => rfl
  have ig : idx_main_v16 (idx_main_v17 (ix4 b t h e)) = ix1 (⟨(colOf h e).val % 64, by omega⟩ : Fin 64) := by
    funext a; match a with | ⟨0, _⟩ => exact Fin.ext (show e.val = (h.val * 64 + e.val) % 64 by omega)
  rw [val_main_v18_apply, val_main_v15_apply, v1_at, val_main_v14_apply, val_main_v13_apply, val_main_v12_apply, val_main_v10_apply,
    val_main_v8_apply, ib, v7_at, val_main_v9_apply, val_main_v11_apply, val_main_v17_apply, val_main_v16_apply, ig]
  unfold normed
  simp only [hs]
  rfl

theorem v3_at (b : Fin 8) (t : Fin 512) (h : Fin 8) (e : Fin 64) :
    val_main_v3 (F := Ideal) x0 (ix4 b t h e) = x0 (ix2 (row b t) (col 1 (colOf h e))) := by
  rw [val_main_v3_apply, val_main_v2_apply]
  refine congrArg x0 (funext fun a => Fin.ext ?_)
  match a with
  | ⟨0, _⟩ => exact show (((b.val * 512 + t.val) * 8 + h.val) * 64 + e.val) / 512 = b.val * 512 + t.val by omega
  | ⟨1, _⟩ => exact show 512 + (((b.val * 512 + t.val) * 8 + h.val) * 64 + e.val) % 512 = 1 * 512 + (h.val * 64 + e.val) by omega

theorem v20_at (b : Fin 8) (t : Fin 512) (h : Fin 8) : val_main_v20 (F := Ideal) x0 (ix3 b t h)
    = ∑ e : Fin 64, x0 (ix2 (row b t) (col 1 (colOf h e))) * x0 (ix2 (row b t) (col 1 (colOf h e))) := by
  have c0 : ∀ i, val_main_cst_2 (F := Ideal) i = (0 : EReal) := fun _ => Ideal.ofBits_zero .f32
  rw [val_main_v20_apply, c0, zero_add]
  refine Finset.sum_congr rfl fun e _ => ?_
  have hi : idx_main_v20 (ix3 b t h) e = ix4 b t h e := by funext a; match a with | ⟨0, _⟩ => rfl | ⟨1, _⟩ => rfl | ⟨2, _⟩ => rfl | ⟨3, _⟩ => rfl
  rw [hi, val_main_v19_apply, v3_at]
  rfl

theorem v31_at (b : Fin 8) (t : Fin 512) (h : Fin 8) (e : Fin 64) :
    val_main_v31 (F := Ideal) x0 x2 (ix4 b t h e) = normed x0 x2 1 (row b t) (colOf h e) := by
  have hs : ∀ k, seg (colOf h e) k = colOf h k := fun k => Fin.ext (show (h.val * 64 + e.val) / 64 * 64 + k.val = h.val * 64 + k.val by omega)
  have ib : idx_main_v21 (idx_main_v27 (ix4 b t h e)) = ix3 b t h := by
    funext a; match a with | ⟨0, _⟩ => rfl | ⟨1, _⟩ => rfl | ⟨2, _⟩ => rfl
  have ig : idx_main_v29 (idx_main_v30 (ix4 b t h e)) = ix1 (⟨(colOf h e).val % 64, by omega⟩ : Fin 64) := by
    funext a; match a with | ⟨0, _⟩ => exact Fin.ext (show e.val = (h.val * 64 + e.val) % 64 by omega)
  rw [val_main_v31_apply, val_main_v28_apply, v3_at, val_main_v27_apply, val_main_v26_apply, val_main_v25_apply, val_main_v23_apply,
    val_main_v21_apply, ib, v20_at, val_main_v22_apply, val_main_v24_apply, val_main_v30_apply, val_main_v29_apply, ig]
  unfold normed
  simp only [hs]
  rfl

/-- The keys in full precision. -/
theorem v32_at (b : Fin 8) (t j : Fin 512) : val_main_v32 (F := Ideal) x0 x2 (ix3 b t j) = normed x0 x2 1 (row b t) j := by
  have e : idx_main_v32 (ix3 b t j) = ix4 b t (⟨j.val / 64, by omega⟩ : Fin 8) (⟨j.val % 64, by omega⟩ : Fin 64) := by
    funext a; apply Fin.ext
    match a with
    | ⟨0, _⟩ => exact show ((b.val * 512 + t.val) * 512 + j.val) / 262144 = b.val by omega
    | ⟨1, _⟩ => exact show ((b.val * 512 + t.val) * 512 + j.val) / 512 % 512 = t.val by omega
    | ⟨2, _⟩ => exact show ((b.val * 512 + t.val) * 512 + j.val) / 64 % 8 = j.val / 64 by omega
    | ⟨3, _⟩ => exact show ((b.val * 512 + t.val) * 512 + j.val) % 64 = j.val % 64 by omega
  have hj : colOf ⟨j.val / 64, by omega⟩ ⟨j.val % 64, by omega⟩ = j := Fin.ext (show j.val / 64 * 64 + j.val % 64 = j.val by omega)
  rw [val_main_v32_apply, e, v31_at, hj]

/-- The keys. -/
theorem v38_at (b : Fin 8) (t j : Fin 512) : val_main_v38 (F := Ideal) x0 x2 (ix3 b t j) = normed x0 x2 1 (row b t) j :=
  v32_at x0 x2 b t j

theorem v35_at (b : Fin 8) (t j : Fin 512) :
    val_main_v35 (F := Ideal) x0 x1 (ix3 b t j) = normed x0 x1 0 (row b t) j * Ideal.ofBits .f32 0x3E000000#32 := by
  have e : idx_main_v35 (ix3 b t j) = ix4 b t (⟨j.val / 64, by omega⟩ : Fin 8) (⟨j.val % 64, by omega⟩ : Fin 64) := by
    funext a; apply Fin.ext
    match a with
    | ⟨0, _⟩ => exact show ((b.val * 512 + t.val) * 512 + j.val) / 262144 = b.val by omega
    | ⟨1, _⟩ => exact show ((b.val * 512 + t.val) * 512 + j.val) / 512 % 512 = t.val by omega
    | ⟨2, _⟩ => exact show ((b.val * 512 + t.val) * 512 + j.val) / 64 % 8 = j.val / 64 by omega
    | ⟨3, _⟩ => exact show ((b.val * 512 + t.val) * 512 + j.val) % 64 = j.val % 64 by omega
  have hj : colOf ⟨j.val / 64, by omega⟩ ⟨j.val % 64, by omega⟩ = j := Fin.ext (show j.val / 64 * 64 + j.val % 64 = j.val by omega)
  rw [val_main_v35_apply, e, val_main_v34_apply, v18_at, hj, val_main_v33_apply]
  rfl

/-- The queries, scaled, with the columns first. -/
theorem v37_at (b : Fin 8) (t j : Fin 512) :
    val_main_v37 (F := Ideal) x0 x1 (ix3 b j t) = normed x0 x1 0 (row b t) j * Ideal.ofBits .f32 0x3E000000#32 := by
  have e : idx_main_v36 (ix3 b j t) = ix3 b t j := by funext a; match a with | ⟨0, _⟩ => rfl | ⟨1, _⟩ => rfl | ⟨2, _⟩ => rfl
  rw [val_main_v37_apply, val_main_v36_apply, e, v35_at]
  rfl

/-- The values, by halves of a group, with the columns first. -/
theorem v40_at (b : Fin 8) (n : Fin 2) (j : Fin 512) (r : Fin 256) :
    val_main_v40 (F := Ideal) x0 (ix4 b n j r) = x0 (ix2 (row b ⟨n.val * 256 + r.val, by omega⟩) (col 2 j)) := by
  have e : idx_main_v39 (ix4 b n j r) = ix4 b n r j := by
    funext a; match a with | ⟨0, _⟩ => rfl | ⟨1, _⟩ => rfl | ⟨2, _⟩ => rfl | ⟨3, _⟩ => rfl
  rw [val_main_v40_apply, val_main_v39_apply, e, val_main_v5_apply, val_main_v4_apply]
  refine congrArg x0 (funext fun a => Fin.ext ?_)
  match a with
  | ⟨0, _⟩ => exact show (((b.val * 2 + n.val) * 256 + r.val) * 512 + j.val) / 512 = b.val * 512 + (n.val * 256 + r.val) by omega
  | ⟨1, _⟩ => exact show 1024 + (((b.val * 2 + n.val) * 256 + r.val) * 512 + j.val) % 512 = 2 * 512 + j.val by omega

end Cert.PrepareReferenceIdeal.Read

end
-- ==== Proof.PrepareClaims.lean ====
/- The claims about the preparation of queries, keys and values: the frames of the kernel, of its idealization and of its
   reference, and the equality of the last two. -/
module

public import proofs.«01_k».proof.Defs
public import proofs.«01_k».proof.Proof.PreparePre
public import proofs.«01_k».proof.Proof.PrepareRef
public import proofs.«01_k».proof.Proof.Gen.Prepare.Frame
public import proofs.«01_k».proof.Proof.Gen.PrepareReferenceIdeal.Run
public import Idealize.ShloMosaic.Adequacy

@[expose] public section

set_option maxRecDepth 16384

noncomputable section

namespace Cert.Proof

open Idealize.ShloMosaic Idealize.SL.Sem Cert.PrepareSpec

theorem frame_prepare : Cert.quiescent_Prepare (hPrepare := Cert.Prepare.Gen.facts) := fun m ρ _ => Cert.Prepare.Gen.frame m ρ

theorem frame_prepare_ideal : Cert.quiescent_PrepareIdeal (hPrepareIdeal := Cert.PrepareIdeal.Gen.facts) :=
  fun m ρ _ => Cert.PrepareIdeal.Gen.frame m ρ

theorem frame_prepare_ideal_finite : Cert.quiescent_PrepareIdeal_pre_finite_rows (hPrepareIdeal := Cert.PrepareIdeal.Gen.facts)
    (hPre_finite_rows := Cert.Pre_finite_rows.Gen.facts) := fun m ρ _ => Cert.PrepareIdeal.Gen.frame m ρ

theorem frame_prepare_reference : Cert.quiescent_PrepareReferenceIdeal (hPrepareReferenceIdeal := Cert.PrepareReferenceIdeal.Gen.facts) :=
  fun m ρ _ => (θ_run Cert.PrepareReferenceIdeal.defs _ _).mono (fun r h => ⟨fun c => (h c).2.2.2.2,
      Idealize.ShloMosaic.sem_eq_zero_of_no_sems (by decide) r.2⟩)
    (Cert.PrepareReferenceIdeal.Value.run (F := Ideal) m ρ)

theorem frame_prepare_reference_finite : Cert.quiescent_PrepareReferenceIdeal_pre_finite_rows
    (hPrepareReferenceIdeal := Cert.PrepareReferenceIdeal.Gen.facts) (hPre_finite_rows := Cert.Pre_finite_rows.Gen.facts) :=
  fun m ρ _ => frame_prepare_reference m ρ trivial

section Values

variable (m : (ℓ : Loc Cert.PrepareIdeal.nD Cert.PrepareIdeal.τ Cert.PrepareIdeal.sig) → Buf (Elt Ideal) ℓ) (c : Dev Cert.PrepareIdeal.nD)

/-- With equal arguments the reference's first result is the kernel's. -/
theorem prepare_values6 :
    Cert.PrepareReferenceIdeal.Read.val_main_v37 (F := Ideal)
      (m ((c.tc : Thread Cert.PrepareIdeal.nD Cert.PrepareIdeal.τ).loc Cert.PrepareIdeal.main_arg0))
      (m ((c.tc : Thread Cert.PrepareIdeal.nD Cert.PrepareIdeal.τ).loc Cert.PrepareIdeal.main_arg1))
    = Cert.PrepareIdeal.Hand.val6 m c := by
  funext j
  have hj0 : (j 0).val < 8 := (j 0).isLt
  have hj1 : (j 1).val < 512 := (j 1).isLt
  have hj2 : (j 2).val < 512 := (j 2).isLt
  have e : j = ix3 ⟨(j 0).val, hj0⟩ ⟨(j 1).val, hj1⟩ ⟨(j 2).val, hj2⟩ := by
    funext a
    match a with
    | ⟨0, _⟩ => rfl
    | ⟨1, _⟩ => rfl
    | ⟨2, _⟩ => rfl
  rw [e]
  exact Cert.PrepareReferenceIdeal.Read.v37_at _ _ _ _ _

/-- With equal arguments the reference's second result is the kernel's. -/
theorem prepare_values7 :
    Cert.PrepareReferenceIdeal.Read.val_main_v38 (F := Ideal)
      (m ((c.tc : Thread Cert.PrepareIdeal.nD Cert.PrepareIdeal.τ).loc Cert.PrepareIdeal.main_arg0))
      (m ((c.tc : Thread Cert.PrepareIdeal.nD Cert.PrepareIdeal.τ).loc Cert.PrepareIdeal.main_arg2))
    = Cert.PrepareIdeal.Hand.val7 m c := by
  funext j
  have hj0 : (j 0).val < 8 := (j 0).isLt
  have hj1 : (j 1).val < 512 := (j 1).isLt
  have hj2 : (j 2).val < 512 := (j 2).isLt
  have e : j = ix3 ⟨(j 0).val, hj0⟩ ⟨(j 1).val, hj1⟩ ⟨(j 2).val, hj2⟩ := by
    funext a
    match a with
    | ⟨0, _⟩ => rfl
    | ⟨1, _⟩ => rfl
    | ⟨2, _⟩ => rfl
  rw [e]
  exact Cert.PrepareReferenceIdeal.Read.v38_at _ _ _ _ _

/-- With equal arguments the reference's third result is the kernel's. -/
theorem prepare_values8 :
    Cert.PrepareReferenceIdeal.Read.val_main_v40 (F := Ideal)
      (m ((c.tc : Thread Cert.PrepareIdeal.nD Cert.PrepareIdeal.τ).loc Cert.PrepareIdeal.main_arg0))
    = Cert.PrepareIdeal.Hand.val8 m c := by
  funext j
  have hj0 : (j 0).val < 8 := (j 0).isLt
  have hj1 : (j 1).val < 2 := (j 1).isLt
  have hj2 : (j 2).val < 512 := (j 2).isLt
  have hj3 : (j 3).val < 256 := (j 3).isLt
  have e : j = ix4 ⟨(j 0).val, hj0⟩ ⟨(j 1).val, hj1⟩ ⟨(j 2).val, hj2⟩ ⟨(j 3).val, hj3⟩ := by
    funext a
    match a with
    | ⟨0, _⟩ => rfl
    | ⟨1, _⟩ => rfl
    | ⟨2, _⟩ => rfl
    | ⟨3, _⟩ => rfl
  rw [e]
  exact Cert.PrepareReferenceIdeal.Read.v40_at _ _ _ _ _

/-- With equal arguments the reference's fourth result is the kernel's. -/
theorem prepare_values9 :
    Cert.PrepareReferenceIdeal.Read.val_main_v32 (F := Ideal)
      (m ((c.tc : Thread Cert.PrepareIdeal.nD Cert.PrepareIdeal.τ).loc Cert.PrepareIdeal.main_arg0))
      (m ((c.tc : Thread Cert.PrepareIdeal.nD Cert.PrepareIdeal.τ).loc Cert.PrepareIdeal.main_arg2))
    = Cert.PrepareIdeal.Hand.val9 m c := by
  funext j
  have hj0 : (j 0).val < 8 := (j 0).isLt
  have hj1 : (j 1).val < 512 := (j 1).isLt
  have hj2 : (j 2).val < 512 := (j 2).isLt
  have e : j = ix3 ⟨(j 0).val, hj0⟩ ⟨(j 1).val, hj1⟩ ⟨(j 2).val, hj2⟩ := by
    funext a
    match a with
    | ⟨0, _⟩ => rfl
    | ⟨1, _⟩ => rfl
    | ⟨2, _⟩ => rfl
  rw [e]
  exact Cert.PrepareReferenceIdeal.Read.v32_at _ _ _ _ _

end Values

theorem algebraic_prepare : Cert.algebraic_PrepareIdeal_PrepareReferenceIdeal_pre_finite_rows (hPrepareIdeal := Cert.PrepareIdeal.Gen.facts)
    (hPrepareReferenceIdeal := Cert.PrepareReferenceIdeal.Gen.facts) (hPre_finite_rows := Cert.Pre_finite_rows.Gen.facts) := by
  intro m g m' g' hp hagree
  refine ⟨fun c => Cert.PrepareIdeal.Hand.val6 m c, fun c => Cert.PrepareIdeal.Hand.val7 m c, fun c => Cert.PrepareIdeal.Hand.val8 m c,
    fun c => Cert.PrepareIdeal.Hand.val9 m c, ?_, ?_⟩
  · exact θ_run_and (Cert.PrepareIdeal.Hand.run m g (Cert.PrepareIdeal.Hand.real_of_pre m hp)) (Cert.PrepareIdeal.Gen.unchanged m g) |> (θ_run _ _ _).mono
      (fun _ h c => ⟨(h.1 c).1, (h.1 c).2.1, (h.1 c).2.2.1, (h.1 c).2.2.2, h.2 c⟩)
  · refine (θ_run Cert.PrepareReferenceIdeal.defs _ _).mono (fun r h c => ⟨?_, ?_, ?_, ?_, (h c).2.2.2.2⟩) (Cert.PrepareReferenceIdeal.Value.run (F := Ideal) m' g')
    all_goals obtain ⟨e0, e1, e2⟩ := hagree c
    · rw [(h c).1, Cert.PrepareReferenceIdeal.Read.val_main_v37_eq, e0, e1]
      exact prepare_values6 m c
    · rw [(h c).2.1, Cert.PrepareReferenceIdeal.Read.val_main_v38_eq, e0, e2]
      exact prepare_values7 m c
    · rw [(h c).2.2.1, Cert.PrepareReferenceIdeal.Read.val_main_v40_eq, e0]
      exact prepare_values8 m c
    · rw [(h c).2.2.2.1, Cert.PrepareReferenceIdeal.Read.val_main_v32_eq, e0, e2]
      exact prepare_values9 m c

end Cert.Proof

end
-- ==== Proof.ModulationSpec.lean ====
/- What the modulation computes, at one place: the activated conditions against the layer's matrix, plus the layer's bias;
   and that a sum of products with the remainders of real numbers is the sum without them. -/
module

public import Idealize.ShloMosaic.PureOps.Ideal
public import Idealize.ShloMosaic.Lib.ValueIdxCore
public import Idealize.ShloMosaic.Lib.Pointwise
public import Idealize.ShloMosaic.Lib.IdealHost

@[expose] public section

noncomputable section

namespace Cert.ModulationSpec

open Idealize.ShloMosaic

/-- The activation of a condition. -/
def act (x : EReal) : EReal := x * Ideal.logistic x

variable (x : (⟨2, ![16, 1024]⟩ : Shape).Idx → EReal) (w : (⟨3, ![2, 1024, 6144]⟩ : Shape).Idx → EReal)
variable (b : (⟨2, ![2, 6144]⟩ : Shape).Idx → EReal)

/-- The modulation of the layer `l` for the row `r`. -/
def modulated (l : Fin 2) (r : Fin 16) (j : Fin 6144) : EReal :=
  ∑ k : Fin 1024, act (x (ix2 r k)) * w (ix3 l k j) + b (ix2 l j)

/-- A real number less itself is zero. -/
theorem sub_self_real {a : EReal} (h : a = ((a.toReal : ℝ) : EReal)) : a - a = 0 := by
  rw [h, ← EReal.coe_sub, sub_self, EReal.coe_zero]

/-- The activation of a real number is a real number. -/
theorem act_real {a : EReal} (h : a = ((a.toReal : ℝ) : EReal)) : act a = (((act a).toReal : ℝ) : EReal) := by
  rw [h]
  generalize a.toReal = v
  have hne : (1 + Real.exp (-v) : ℝ) ≠ 0 := by positivity
  have e : act (v : EReal) = ((v * (1 / (1 + Real.exp (-v))) : ℝ) : EReal) := by
    unfold act Ideal.logistic
    have h1 : (1 : EReal) + Ideal.exp (-(v : EReal)) = ((1 + Real.exp (-v) : ℝ) : EReal) := by
      rw [← EReal.coe_neg]
      show (1 : EReal) + ((Real.exp (-v) : ℝ) : EReal) = _
      rw [EReal.coe_add, EReal.coe_one]
    rw [h1, Ideal.div_coe hne, one_mul, ← EReal.coe_mul]
  rw [e, EReal.toReal_coe]

/-- Three products of the parts of real numbers are the product of the numbers. -/
theorem three_products {n : ℕ} (f g : Fin n → EReal) (hf : ∀ k, f k = ((f k).toReal : EReal)) (hg : ∀ k, g k = ((g k).toReal : EReal)) :
    ∑ k, f k * g k + ∑ k, f k * (g k - g k) + ∑ k, (f k - f k) * g k = ∑ k, f k * g k := by
  have h1 : ∀ k, f k * (g k - g k) = 0 := fun k => by rw [sub_self_real (hg k), mul_zero]
  have h2 : ∀ k, (f k - f k) * g k = 0 := fun k => by rw [sub_self_real (hf k), zero_mul]
  simp only [h1, h2, Finset.sum_const_zero, add_zero]

end Cert.ModulationSpec

end
-- ==== Proof.ModulationValue.lean ====
/- What the modulation leaves in its result: at each place the formula of `ModulationSpec`, where the conditions and the
   matrices are real numbers. -/
module

public import proofs.«01_k».proof.Proof.Gen.ModulationIdeal.Frame
public import proofs.«01_k».proof.Proof.ModulationSpec
public import Idealize.ShloMosaic.Lib.Pipeline.Value
public import Idealize.ShloMosaic.Lib.Pipeline.ValueKit.Basic
public import Idealize.ShloMosaic.Lib.Pointwise
public import Idealize.ShloMosaic.Lib.IdealHost

@[expose] public section

set_option maxRecDepth 16384

noncomputable section

namespace Cert.ModulationIdeal.Hand

open Cert.ModulationIdeal Cert.ModulationIdeal.Gen Idealize.ShloMosaic Idealize.ShloMosaic.TcCoe Idealize.SL.Sem Cert.ModulationSpec
open Idealize.ShloMosaic.Pipeline (Dat)

/-! ## One block -/

/-- The block's three products and its bias. -/
def bMod (x : Vec Ideal S16x1024 .f32) (w : Vec Ideal S1x1024x1536 .f32) (b : Vec Ideal S1x1x1536 .f32) (r : Fin 16) (j : Fin 1536) : EReal :=
  ∑ k : Fin 1024, act (x (ix2 r k)) * w (ix3 0 k j) + ∑ k : Fin 1024, act (x (ix2 r k)) * (w (ix3 0 k j) - w (ix3 0 k j))
    + ∑ k : Fin 1024, (act (x (ix2 r k)) - act (x (ix2 r k))) * w (ix3 0 k j) + b (ix3 0 0 j)

theorem pay1_at (x : Vec Ideal S16x1024 .f32) (w : Vec Ideal S1x1024x1536 .f32) (b : Vec Ideal S1x1x1536 .f32) (r : Fin 16) (j : Fin 1536) :
    k0_pay1 (F := Ideal) x w b (ix3 0 r j) = bMod x w b r j := by
  pointwise [k0_pay1, bMod, act]

variable (m : (ℓ : Loc nD τ sig) → Buf (Elt Ideal) ℓ) (ρ : Dev nD → PrngReg)

/-- The biases as the region finds them: one row for each layer. -/
theorem V_bias (c : Dev nD) (l : Fin 2) (j : Fin 6144) : V m c main_v0 (ix3 l 0 j) = m ((c : Thread nD τ).loc main_arg2) (ix2 l j) := by
  show StableHlo.after hostOps0 (fun b => m (c, b)) main_v0 (ix3 l 0 j) = _
  unfold hostOps0
  after_results_simp
  pointwise

theorem out_3 (x : Vec Ideal S16x1024 .f32) (w : Vec Ideal S1x1024x1536 .f32) (b : Vec Ideal S1x1x1536 .f32) :
    out0_3 x w b = k0_pay1 x w b := by
  have z2 : (![0, 0] : Fin 2 → ℕ) = 0 := by decide
  have z3 : (![0, 0, 0] : Fin 3 → ℕ) = 0 := by decide
  unfold out0_3
  rw [View.canon_unit_zero z3, View.ld_unit_zero (S := S16x1024) z2, View.ld_unit_zero (S := S1x1024x1536) z3, View.ld_unit_zero (S := S1x1x1536) z3]

/-! ## The whole result -/

theorem lt8 (t : Fin grid0.N) : t.val < 8 := lt_of_lt_of_eq t.isLt N_0

/-- A grid point's layer. -/
abbrev lAt (t : Fin grid0.N) : Fin 2 := ⟨t.val / 4, by have := lt8 t; omega⟩

/-- The column of the result that a column of a grid point's block is. -/
abbrev jAt (t : Fin grid0.N) (j : Fin 1536) : Fin 6144 := ⟨t.val % 4 * 1536 + j.val, by omega⟩

theorem tr1 : ∀ t : Fin grid0.N, cc0_transform_1 (grid0.coords t) = ![t.val / 4, 0, t.val % 4] := by decide +kernel
theorem tr2 : ∀ t : Fin grid0.N, cc0_transform_2 (grid0.coords t) = ![t.val / 4, 0, t.val % 4] := by decide +kernel
theorem tr3 : ∀ t : Fin grid0.N, cc0_transform_3 (grid0.coords t) = ![t.val / 4, 0, t.val % 4] := by decide +kernel

theorem iblk0_at (c : Dev nD) (t : Fin grid0.N) (r : Fin 16) (k : Fin 1024) :
    iblk m c 0 t (ix2 r k) = m ((c : Thread nD τ).loc main_arg0) (ix2 r k) := by
  rw [← V_main_arg0 m c]
  show V m c main_arg0 (((cfg0.win 0).blk t).view.emb (ix2 r k)) = _
  refine congrArg (V m c main_arg0) ?_
  funext a; apply Fin.ext
  match a with
  | ⟨0, _⟩ => show 0 * 16 + 1 * r.val = r.val; omega
  | ⟨1, _⟩ => show 0 * 1024 + 1 * k.val = k.val; omega

theorem iblk1_at (c : Dev nD) (t : Fin grid0.N) (k : Fin 1024) (j : Fin 1536) :
    iblk m c 1 t (ix3 0 k j) = m ((c : Thread nD τ).loc main_arg1) (ix3 (lAt t) k (jAt t j)) := by
  rw [← V_main_arg1 m c]
  show V m c main_arg1 (((cfg0.win 1).blk t).view.emb (ix3 0 k j)) = _
  refine congrArg (V m c main_arg1) ?_
  funext a; apply Fin.ext
  match a with
  | ⟨0, _⟩ =>
    show cc0_transform_1 (grid0.coords t) 0 * 1 + 1 * 0 = t.val / 4
    rw [tr1]; show t.val / 4 * 1 + 1 * 0 = t.val / 4; omega
  | ⟨1, _⟩ =>
    show cc0_transform_1 (grid0.coords t) 1 * 1024 + 1 * k.val = k.val
    rw [tr1]; show 0 * 1024 + 1 * k.val = k.val; omega
  | ⟨2, _⟩ =>
    show cc0_transform_1 (grid0.coords t) 2 * 1536 + 1 * j.val = t.val % 4 * 1536 + j.val
    rw [tr1]; show t.val % 4 * 1536 + 1 * j.val = t.val % 4 * 1536 + j.val; omega

theorem iblk2_at (c : Dev nD) (t : Fin grid0.N) (j : Fin 1536) :
    iblk m c 2 t (ix3 0 0 j) = m ((c : Thread nD τ).loc main_arg2) (ix2 (lAt t) (jAt t j)) := by
  rw [← V_bias m c]
  show V m c main_v0 (((cfg0.win 2).blk t).view.emb (ix3 0 0 j)) = _
  refine congrArg (V m c main_v0) ?_
  funext a; apply Fin.ext
  match a with
  | ⟨0, _⟩ =>
    show cc0_transform_2 (grid0.coords t) 0 * 1 + 1 * 0 = t.val / 4
    rw [tr2]; show t.val / 4 * 1 + 1 * 0 = t.val / 4; omega
  | ⟨1, _⟩ =>
    show cc0_transform_2 (grid0.coords t) 1 * 1 + 1 * 0 = 0
    rw [tr2]; rfl
  | ⟨2, _⟩ =>
    show cc0_transform_2 (grid0.coords t) 2 * 1536 + 1 * j.val = t.val % 4 * 1536 + j.val
    rw [tr2]; show t.val % 4 * 1536 + 1 * j.val = t.val % 4 * 1536 + j.val; omega

/-- The conditions and the matrices are real numbers. -/
def RealArgs (c : Dev nD) : Prop :=
  (∀ (r : Fin 16) (k : Fin 1024), m ((c : Thread nD τ).loc main_arg0) (ix2 r k)
    = ((EReal.toReal (m ((c : Thread nD τ).loc main_arg0) (ix2 r k)) : ℝ) : EReal))
  ∧ ∀ (l : Fin 2) (k : Fin 1024) (j : Fin 6144), m ((c : Thread nD τ).loc main_arg1) (ix3 l k j)
    = ((EReal.toReal (m ((c : Thread nD τ).loc main_arg1) (ix3 l k j)) : ℝ) : EReal)

/-- The modulation of the arguments. -/
abbrev modOf (c : Dev nD) (l : Fin 2) (r : Fin 16) (j : Fin 6144) : EReal :=
  modulated (m ((c : Thread nD τ).loc main_arg0)) (m ((c : Thread nD τ).loc main_arg1)) (m ((c : Thread nD τ).loc main_arg2)) l r j

/-- The whole of the result. -/
def val3 (c : Dev nD) : Buf (Elt Ideal) ((c : Thread nD τ).loc main_v1) := fun j =>
  modOf m c ⟨(j 0).val, (j 0).isLt⟩ ⟨(j 1).val, (j 1).isLt⟩ ⟨(j 2).val, (j 2).isLt⟩

theorem block_at (c : Dev nD) (hr : RealArgs m c) (t : Fin grid0.N) (r : Fin 16) (j : Fin 1536) :
    out0_3 (iblk m c 0 t) (iblk m c 1 t) (iblk m c 2 t) (ix3 0 r j) = modOf m c (lAt t) r (jAt t j) := by
  rw [out_3]
  refine (pay1_at _ _ _ r j).trans ?_
  unfold bMod modOf modulated
  rw [iblk2_at m c t j]
  refine congrArg (· + _) ?_
  simp only [iblk0_at, iblk1_at]
  exact three_products (fun k => act (m ((c : Thread nD τ).loc main_arg0) (ix2 r k))) (fun k => m ((c : Thread nD τ).loc main_arg1) (ix3 (lAt t) k (jAt t j)))
    (fun k => act_real (hr.1 r k)) (fun k => hr.2 _ k _)

theorem flushed3 (c : Dev nD) (hr : RealArgs m c) (t : Fin cfg0.N) :
    (dats m 0 c).flushed 3 t = ((cfg0.win 3).blk t).view.read (Elt Ideal) (val3 m c) := by
  show (cfg0.win 3).cut (grid0.coords t) ((dats m 0 c).after 3 t) = _
  rw [after0_3]
  suffices h : ∀ j : S1x16x1536.Idx, out0_3 (iblk m c 0 t) (iblk m c 1 t) (iblk m c 2 t) j = val3 m c (((cfg0.win 3).blk t).view.emb j) from funext fun j => h j
  intro j
  have hj0 : (j 0).val < 1 := (j 0).isLt
  have hj1 : (j 1).val < 16 := (j 1).isLt
  have hj2 : (j 2).val < 1536 := (j 2).isLt
  have e : ((cfg0.win 3).blk t).view.emb j = (ix3 (lAt t) ⟨(j 1).val, hj1⟩ (jAt t ⟨(j 2).val, hj2⟩) : S2x16x6144.Idx) := by
    funext a; apply Fin.ext
    match a with
    | ⟨0, _⟩ =>
      show cc0_transform_3 (grid0.coords t) 0 * 1 + 1 * (j 0).val = t.val / 4
      rw [tr3]; show (t.val / 4) * 1 + 1 * (j 0).val = t.val / 4; omega
    | ⟨1, _⟩ =>
      show cc0_transform_3 (grid0.coords t) 1 * 16 + 1 * (j 1).val = (j 1).val
      rw [tr3]; show 0 * 16 + 1 * (j 1).val = (j 1).val; omega
    | ⟨2, _⟩ =>
      show cc0_transform_3 (grid0.coords t) 2 * 1536 + 1 * (j 2).val = t.val % 4 * 1536 + (j 2).val
      rw [tr3]; show (t.val % 4) * 1536 + 1 * (j 2).val = t.val % 4 * 1536 + (j 2).val; omega
  refine Eq.trans ?_ (congrArg (val3 m c) e).symm
  refine (congrArg (out0_3 (iblk m c 0 t) (iblk m c 1 t) (iblk m c 2 t)) ?_).trans ((block_at m c hr t ⟨(j 1).val, hj1⟩ ⟨(j 2).val, hj2⟩).trans rfl)
  funext a
  match a with
  | ⟨0, _⟩ => exact Fin.ext (show (j 0).val = 0 by omega)
  | ⟨1, _⟩ => rfl
  | ⟨2, _⟩ => rfl

theorem cover3 (i : S2x16x6144.Idx) : ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 6144 := (i 2).isLt
  let t : Fin grid0.N := ⟨(i 0).val * 4 + (i 2).val / 1536, by rw [N_0]; omega⟩
  refine ⟨t, flush0_3 t, ?_⟩
  show i ∈ ((View.whole main_v1).slice ((cfg0.win 3).rect t)).set
  erw [View.set_slice_whole]
  refine (Pipeline.Window.mem_rect_iff (cfg0.win 3) t i (by rfl)).mpr fun a => ?_
  have hx : (cfg0.win 3).index t = ![t.val / 4, 0, t.val % 4] := tr3 t
  rw [hx]
  have ht : t.val = (i 0).val * 4 + (i 2).val / 1536 := rfl
  match a with
  | ⟨0, _⟩ => exact show (t.val / 4) * 1 ≤ (i 0).val ∧ (i 0).val < (t.val / 4) * 1 + 1 by omega
  | ⟨1, _⟩ => exact show 0 * 16 ≤ (i 1).val ∧ (i 1).val < 0 * 16 + 16 by omega
  | ⟨2, _⟩ => exact show (t.val % 4) * 1536 ≤ (i 2).val ∧ (i 2).val < (t.val % 4) * 1536 + 1536 by omega

theorem final3 (c : Dev nD) (hr : RealArgs m c) : (dats m 0 c).arrAt 3 cfg0.N = val3 m c :=
  (dats m 0 c).arrAt_eq_of_cover 3 (val3 m c) (fun t _ => flushed3 m c hr t) cover3

/-- The kernel's run ends with the result at the formula. -/
theorem run (hr : ∀ c : Dev nD, RealArgs m c) : θ_run defs (onTc (τ := τ) (main (F := Ideal))) ⟨m, fun _ => 0, ρ⟩ fun r => ∀ c : Dev nD,
      r.2.mem ((c : Thread nD τ).loc main_v1) = val3 m c :=
  (θ_run defs _ _).mono (fun _ h c => ((h c).1 3).trans (final3 m c (hr c))) (run_main m ρ)

end Cert.ModulationIdeal.Hand

end
-- ==== Proof.ModulationPre.lean ====
/- The precondition on the modulation's arguments, decoded: the conditions and the matrices are real numbers. -/
module

public import proofs.«01_k».proof.Defs
public import proofs.«01_k».proof.Proof.AttnPre
public import proofs.«01_k».proof.Proof.ModulationValue
public import proofs.«01_k».proof.Proof.Gen.Pre_finite_modulation
public import Idealize.ShloMosaic.Lib.ReduceAll

@[expose] public section

set_option maxRecDepth 16384

noncomputable section

namespace Cert.ModulationIdeal.Hand

open Cert.ModulationIdeal Idealize.ShloMosaic Idealize.ShloMosaic.TcCoe

/-- What the precondition says of a memory. -/
theorem real_of_pre (m : (ℓ : Loc nD τ sig) → Buf (Elt Ideal) ℓ) (h : Cert.Pre_ModulationIdeal_finite_modulation m) (c : Dev nD) : RealArgs m c := by
  have e := congrFun (h c) (fun a => a.elim0)
  haveI : Subsingleton Cert.Pre_finite_modulation.S_.Idx := ⟨fun a b => funext fun i => i.elim0⟩
  unfold Cert.Pre_finite_modulation.fn at e
  dsimp only at e
  obtain ⟨e0, e1⟩ := Cert.KernelIdeal.Hand.andi_one _ _ e
  exact ⟨fun r k => Cert.KernelIdeal.Hand.real_of_olt _ (Host.reduce_andi_all _ _ _ _ _ e0 (ix2 r k)),
    fun l k j => Cert.KernelIdeal.Hand.real_of_olt _ (Host.reduce_andi_all _ _ _ _ _ e1 (ix3 l k j))⟩

end Cert.ModulationIdeal.Hand

end
-- ==== Proof.ModulationRef.lean ====
/- The reference of the modulation read at one place of its result: the formula of `ModulationSpec`. -/
module

public import proofs.«01_k».proof.Proof.ModulationSpec
public import proofs.«01_k».proof.Proof.Gen.ModulationReferenceIdeal.Read

@[expose] public section

set_option maxRecDepth 16384

noncomputable section

namespace Cert.ModulationReferenceIdeal.Read

open Cert.ModulationReferenceIdeal Idealize.ShloMosaic Cert.ModulationSpec

variable (x0 : (⟨S16x1024, .f32⟩ : BufTy).Contents (Elt Ideal)) (x1 : (⟨S2x1024x6144, .f32⟩ : BufTy).Contents (Elt Ideal))
variable (x2 : (⟨S2x6144, .f32⟩ : BufTy).Contents (Elt Ideal))

theorem v0_at (i : S16x1024.Idx) : val_main_v0 (F := Ideal) x0 i = act (x0 i) := by
  rw [val_main_v0_apply, val_main_call0_v5_apply, val_main_call0_v4_apply, val_main_call0_v3_apply, val_main_call0_v2_apply,
    val_main_call0_v1_apply, val_main_call0_v0_apply]
  show x0 i * Ideal.div (Ideal.ofBits .f32 0x3F800000#32) (Ideal.ofBits .f32 0x3F800000#32 + Ideal.exp (-(x0 i))) = act (x0 i)
  rw [Ideal.ofBits_one_f32]
  rfl

theorem v5_at (l : Fin 2) (r : Fin 16) (j : Fin 6144) : val_main_v5 (F := Ideal) x0 x1 x2 (ix3 l r j) = modulated x0 x1 x2 l r j := by
  rw [val_main_v5_apply]
  refine congrArg₂ (· + ·) ?_ ?_
  · rw [val_main_v2_apply, val_main_v1_apply]
    refine Finset.sum_congr rfl fun k _ => ?_
    rw [v0_at, mul_comm]
    refine congrArg₂ (· * ·) (congrArg (fun i => act (x0 i)) ?_) (congrArg x1 ?_)
    · funext a; match a with | ⟨0, _⟩ => rfl | ⟨1, _⟩ => rfl
    · funext a; match a with | ⟨0, _⟩ => rfl | ⟨1, _⟩ => rfl | ⟨2, _⟩ => rfl
  · rw [val_main_v4_apply, val_main_v3_apply]
    refine congrArg x2 ?_
    funext a; match a with | ⟨0, _⟩ => rfl | ⟨1, _⟩ => rfl

end Cert.ModulationReferenceIdeal.Read

end
-- ==== Proof.ModulationClaims.lean ====
/- The claims about the modulation: the frames of the kernel, of its idealization and of its reference, and the equality of
   the last two. -/
module

public import proofs.«01_k».proof.Defs
public import proofs.«01_k».proof.Proof.ModulationPre
public import proofs.«01_k».proof.Proof.ModulationRef
public import proofs.«01_k».proof.Proof.Gen.Modulation.Frame
public import proofs.«01_k».proof.Proof.Gen.ModulationReferenceIdeal.Run
public import Idealize.ShloMosaic.Adequacy

@[expose] public section

set_option maxRecDepth 16384

noncomputable section

namespace Cert.Proof

open Idealize.ShloMosaic Idealize.SL.Sem Cert.ModulationSpec

theorem frame_modulation : Cert.quiescent_Modulation (hModulation := Cert.Modulation.Gen.facts) := fun m ρ _ => Cert.Modulation.Gen.frame m ρ

theorem frame_modulation_ideal : Cert.quiescent_ModulationIdeal (hModulationIdeal := Cert.ModulationIdeal.Gen.facts) :=
  fun m ρ _ => Cert.ModulationIdeal.Gen.frame m ρ

theorem frame_modulation_ideal_finite : Cert.quiescent_ModulationIdeal_pre_finite_modulation (hModulationIdeal := Cert.ModulationIdeal.Gen.facts)
    (hPre_finite_modulation := Cert.Pre_finite_modulation.Gen.facts) := fun m ρ _ => Cert.ModulationIdeal.Gen.frame m ρ

theorem frame_modulation_reference : Cert.quiescent_ModulationReferenceIdeal (hModulationReferenceIdeal := Cert.ModulationReferenceIdeal.Gen.facts) :=
  fun m ρ _ => (θ_run Cert.ModulationReferenceIdeal.defs _ _).mono (fun r h => ⟨fun c => (h c).2,
      Idealize.ShloMosaic.sem_eq_zero_of_no_sems (by decide) r.2⟩)
    (Cert.ModulationReferenceIdeal.Value.run (F := Ideal) m ρ)

theorem frame_modulation_reference_finite : Cert.quiescent_ModulationReferenceIdeal_pre_finite_modulation
    (hModulationReferenceIdeal := Cert.ModulationReferenceIdeal.Gen.facts) (hPre_finite_modulation := Cert.Pre_finite_modulation.Gen.facts) :=
  fun m ρ _ => frame_modulation_reference m ρ trivial

section Values

variable (m : (ℓ : Loc Cert.ModulationIdeal.nD Cert.ModulationIdeal.τ Cert.ModulationIdeal.sig) → Buf (Elt Ideal) ℓ) (c : Dev Cert.ModulationIdeal.nD)

/-- With equal arguments the reference's result is the kernel's. -/
theorem modulation_values :
    Cert.ModulationReferenceIdeal.Read.val_main_v5 (F := Ideal)
      (m ((c.tc : Thread Cert.ModulationIdeal.nD Cert.ModulationIdeal.τ).loc Cert.ModulationIdeal.main_arg0))
      (m ((c.tc : Thread Cert.ModulationIdeal.nD Cert.ModulationIdeal.τ).loc Cert.ModulationIdeal.main_arg1))
      (m ((c.tc : Thread Cert.ModulationIdeal.nD Cert.ModulationIdeal.τ).loc Cert.ModulationIdeal.main_arg2))
    = Cert.ModulationIdeal.Hand.val3 m c := by
  funext j
  have hj0 : (j 0).val < 2 := (j 0).isLt
  have hj1 : (j 1).val < 16 := (j 1).isLt
  have hj2 : (j 2).val < 6144 := (j 2).isLt
  have e : j = ix3 ⟨(j 0).val, hj0⟩ ⟨(j 1).val, hj1⟩ ⟨(j 2).val, hj2⟩ := by
    funext a
    match a with
    | ⟨0, _⟩ => rfl
    | ⟨1, _⟩ => rfl
    | ⟨2, _⟩ => rfl
  rw [e]
  exact Cert.ModulationReferenceIdeal.Read.v5_at _ _ _ _ _ _

end Values

theorem algebraic_modulation : Cert.algebraic_ModulationIdeal_ModulationReferenceIdeal_pre_finite_modulation
    (hModulationIdeal := Cert.ModulationIdeal.Gen.facts) (hModulationReferenceIdeal := Cert.ModulationReferenceIdeal.Gen.facts)
    (hPre_finite_modulation := Cert.Pre_finite_modulation.Gen.facts) := by
  intro m g m' g' hp hagree
  refine ⟨fun c => Cert.ModulationIdeal.Hand.val3 m c, ?_, ?_⟩
  · exact θ_run_and (Cert.ModulationIdeal.Hand.run m g (Cert.ModulationIdeal.Hand.real_of_pre m hp)) (Cert.ModulationIdeal.Gen.unchanged m g) |> (θ_run _ _ _).mono
      (fun _ h c => ⟨h.1 c, h.2 c⟩)
  · refine (θ_run Cert.ModulationReferenceIdeal.defs _ _).mono (fun r h c => ⟨?_, (h c).2⟩) (Cert.ModulationReferenceIdeal.Value.run (F := Ideal) m' g')
    obtain ⟨e0, e1, e2⟩ := hagree c
    rw [(h c).1, Cert.ModulationReferenceIdeal.Read.val_main_v5_eq, e0, e1, e2]
    exact modulation_values m c

end Cert.Proof

end
-- ==== Proof.FourierSpec.lean ====
/- What the Fourier mixing computes, at one place: the angles of the two transforms, the real part of the transform over
   positions and channels, each group then against its own weights. And that the kernel's order of the same sums, with the
   weights folded into the channels' matrix, gives the same number where the inputs and the weights are real. -/
module

public import Idealize.ShloMosaic.PureOps.Ideal
public import Idealize.ShloMosaic.Lib.ValueIdxCore
public import Idealize.ShloMosaic.Lib.Pointwise
public import Idealize.ShloMosaic.Lib.IdealHost
public import proofs.«01_k».proof.Proof.AttnMath

@[expose] public section

noncomputable section

namespace Cert.FourierSpec

open Idealize.ShloMosaic

/-- The remainder of `p` by `n`, with the sign of `n`. -/
def remainder (n p : BitVec 32) : BitVec 32 :=
  Scalar.select
    (IntOp.andi
      (IntOp.cmpi .ne (IntOp.cmpi .slt (IntOp.remsi ArithUnit.host p (Scalar.select (IntOp.cmpi .eq n 0#32) 1#32 n)) 0#32)
        (IntOp.cmpi .slt (Scalar.select (IntOp.cmpi .eq n 0#32) 1#32 n) 0#32))
      (IntOp.cmpi .ne (IntOp.remsi ArithUnit.host p (Scalar.select (IntOp.cmpi .eq n 0#32) 1#32 n)) 0#32))
    (IntOp.addi (IntOp.remsi ArithUnit.host p (Scalar.select (IntOp.cmpi .eq n 0#32) 1#32 n)) (Scalar.select (IntOp.cmpi .eq n 0#32) 1#32 n))
    (IntOp.remsi ArithUnit.host p (Scalar.select (IntOp.cmpi .eq n 0#32) 1#32 n))

/-- The angle of the places `i` and `j` in a transform of `n` places, `w` the angle of one step. -/
def angle (n w : BitVec 32) (i j : ℕ) : EReal :=
  FloatOps.sitofp (F := Ideal) FTy.f32 (remainder n (IntOp.muli (BitVec.ofNat 32 i) (BitVec.ofNat 32 j))) * Ideal.ofBits .f32 w

/-- The angle between two channels of a group. -/
abbrev angC (i j : ℕ) : EReal := angle 64#32 0x3DC90FDB#32 i j

/-- The angle between two positions. -/
abbrev angT (i j : ℕ) : EReal := angle 4096#32 0x3AC90FDB#32 i j

/-- The factor of the channels' matrix and that of the positions' tables: the reciprocals of the roots of 64 and 4096. -/
abbrev rootC : EReal := Ideal.ofBits .f32 0x3E000000#32
abbrev rootT : EReal := Ideal.ofBits .f32 0x3C800000#32

theorem rootC_eq : rootC = ((1 / 8 : ℝ) : EReal) := by
  simp [Ideal.ofBits, Ideal.ieee, -EReal.coe_mul]; norm_num

theorem rootT_eq : rootT = ((1 / 64 : ℝ) : EReal) := by
  simp [Ideal.ofBits, Ideal.ieee, -EReal.coe_mul]; norm_num

theorem root_eq : Ideal.ofBits .f32 0x44000000#32 = ((512 : ℝ) : EReal) := by
  simp [Ideal.ofBits, Ideal.ieee, -EReal.coe_mul]; norm_num

theorem stepC_real : ∃ r : ℝ, Ideal.ofBits .f32 0x3DC90FDB#32 = (r : EReal) :=
  ⟨_, by simp [Ideal.ofBits, Ideal.ieee, -EReal.coe_mul]; rfl⟩

theorem stepT_real : ∃ r : ℝ, Ideal.ofBits .f32 0x3AC90FDB#32 = (r : EReal) :=
  ⟨_, by simp [Ideal.ofBits, Ideal.ieee, -EReal.coe_mul]; rfl⟩

/-- An angle is a real number where its step is. -/
theorem angle_real (n w : BitVec 32) (h : ∃ r : ℝ, Ideal.ofBits .f32 w = (r : EReal)) (i j : ℕ) : ∃ r : ℝ, angle n w i j = (r : EReal) := by
  obtain ⟨r, hr⟩ := h
  unfold angle
  rw [hr]
  generalize remainder n _ = q
  exact ⟨(q.toInt : ℝ) * r, by rw [EReal.coe_mul]; rfl⟩

theorem cos_real {a : EReal} (h : ∃ r : ℝ, a = (r : EReal)) : Ideal.cos a = (((Ideal.cos a).toReal : ℝ) : EReal) := by
  obtain ⟨r, rfl⟩ := h
  rfl

theorem sin_real {a : EReal} (h : ∃ r : ℝ, a = (r : EReal)) : Ideal.sin a = (((Ideal.sin a).toReal : ℝ) : EReal) := by
  obtain ⟨r, rfl⟩ := h
  rfl

variable (x : (⟨2, ![32768, 256]⟩ : Shape).Idx → EReal) (w : (⟨3, ![4, 64, 64]⟩ : Shape).Idx → EReal)

/-- The row of the inputs at the position `s` of the sequence `b`. -/
abbrev rowAt (b : Fin 8) (s : Fin 4096) : Fin 32768 := ⟨b.val * 4096 + s.val, by omega⟩

/-- The group of a column, and the column's place in it. -/
abbrev grp (j : Fin 256) : Fin 4 := ⟨j.val / 64, by omega⟩
abbrev plc (j : Fin 256) : Fin 64 := ⟨j.val % 64, by omega⟩

/-- The channel `e` of the group that `j` is in. -/
abbrev seg (j : Fin 256) (e : Fin 64) : Fin 256 := ⟨j.val / 64 * 64 + e.val, by omega⟩

/-- The mixing at the position `t` of the sequence `b` and the column `j`. -/
def mixed (b : Fin 8) (t : Fin 4096) (j : Fin 256) : EReal :=
  ∑ k : Fin 64, w (ix3 (grp j) k (plc j)) * Ideal.div
    (∑ s : Fin 4096, (∑ e : Fin 64, x (ix2 (rowAt b s) (seg j e)) * Ideal.cos (angC e.val k.val)) * Ideal.cos (angT t.val s.val)
      + ∑ s : Fin 4096, (-(∑ e : Fin 64, x (ix2 (rowAt b s) (seg j e)) * Ideal.sin (angC e.val k.val))) * Ideal.sin (angT t.val s.val))
    (Ideal.ofBits .f32 0x44000000#32)

/-- One where two columns are of the same group, and zero elsewhere. -/
def same (k j : Fin 256) : EReal := if k.val / 64 = j.val / 64 then 1 else 0

theorem sum_same (f : Fin 256 → EReal) (j : Fin 256) : ∑ k : Fin 256, f k * same k j = ∑ e : Fin 64, f (seg j e) := by
  simp only [same, mul_ite, mul_one, mul_zero]
  rw [← Finset.sum_filter]
  refine (Finset.sum_bij (fun e _ => seg j e) ?_ ?_ ?_ ?_).symm
  · intro e _
    refine Finset.mem_filter.mpr ⟨Finset.mem_univ _, ?_⟩
    show (j.val / 64 * 64 + e.val) / 64 = j.val / 64
    omega
  · intro a _ b _ h
    have h' : j.val / 64 * 64 + a.val = j.val / 64 * 64 + b.val := congrArg Fin.val h
    exact Fin.ext (by omega)
  · intro k hk
    have hk' := (Finset.mem_filter.mp hk).2
    exact ⟨⟨k.val % 64, by omega⟩, Finset.mem_univ _, Fin.ext (show j.val / 64 * 64 + k.val % 64 = k.val by omega)⟩
  · intros; rfl

/-- A channels' matrix with the weights folded in: a block for each group. -/
def folded (f : EReal → EReal) (k j : Fin 256) : EReal :=
  same k j * ∑ e : Fin 64, w (ix3 (grp k) e (plc j)) * (f (angC (plc k).val e.val) * rootC)

/-- The inputs against a folded matrix. -/
def folds (f : EReal → EReal) (b : Fin 8) (s : Fin 4096) (j : Fin 256) : EReal :=
  ∑ k : Fin 256, x (ix2 (rowAt b s) k) * folded w f k j

/-- The inputs against any matrix with the folded matrix' entries. -/
theorem folds_of (q : (⟨2, ![256, 256]⟩ : Shape).Idx → EReal) (f : EReal → EReal) (hq : ∀ k j : Fin 256, q (ix2 k j) = folded w f k j)
    (b : Fin 8) (s : Fin 4096) (j : Fin 256) : ∑ k : Fin 256, x (ix2 (rowAt b s) k) * q (ix2 k j) = folds x w f b s j :=
  Finset.sum_congr rfl fun k _ => congrArg (x (ix2 (rowAt b s) k) * ·) (hq k j)

theorem folds_eq (f : EReal → EReal) (b : Fin 8) (s : Fin 4096) (j : Fin 256) :
    folds x w f b s j
      = ∑ e : Fin 64, x (ix2 (rowAt b s) (seg j e)) * ∑ k : Fin 64, w (ix3 (grp j) k (plc j)) * (f (angC e.val k.val) * rootC) := by
  unfold folds folded
  have h : ∀ k : Fin 256, x (ix2 (rowAt b s) k) * (same k j * ∑ e : Fin 64, w (ix3 (grp k) e (plc j)) * (f (angC (plc k).val e.val) * rootC))
      = (x (ix2 (rowAt b s) k) * ∑ e : Fin 64, w (ix3 (grp k) e (plc j)) * (f (angC (plc k).val e.val) * rootC)) * same k j := fun k => by
    rw [mul_comm (same k j), mul_assoc]
  rw [Finset.sum_congr rfl fun k _ => h k, sum_same (fun k => x (ix2 (rowAt b s) k)
    * ∑ e : Fin 64, w (ix3 (grp k) e (plc j)) * (f (angC (plc k).val e.val) * rootC)) j]
  refine Finset.sum_congr rfl fun e _ => ?_
  have h1 : grp (seg j e) = grp j := Fin.ext (show (j.val / 64 * 64 + e.val) / 64 = j.val / 64 by omega)
  have h2 : plc (seg j e) = e := Fin.ext (show (j.val / 64 * 64 + e.val) % 64 = e.val by omega)
  show x (ix2 (rowAt b s) (seg j e)) * ∑ k : Fin 64, w (ix3 (grp (seg j e)) k (plc j)) * (f (angC (plc (seg j e)).val k.val) * rootC) = _
  rw [h1, h2]

section Reals

variable {T E K : Type} [Fintype T] [Fintype E] [Fintype K]

/-- The two orders of the sums, over real numbers. -/
theorem orders_real (ct st : T → ℝ) (cc sc : E → K → ℝ) (u : T → E → ℝ) (v : K → ℝ) :
    ∑ s, ct s * (1 / 64) * ∑ e, u s e * ∑ k, v k * (cc e k * (1 / 8)) - ∑ s, st s * (1 / 64) * ∑ e, u s e * ∑ k, v k * (sc e k * (1 / 8))
      = ∑ k, v k * ((∑ s, (∑ e, u s e * cc e k) * ct s + ∑ s, (-(∑ e, u s e * sc e k)) * st s) * (1 / 512)) := by
  simp only [Finset.mul_sum, Finset.sum_mul, mul_add, add_mul, Finset.sum_add_distrib, ← Finset.sum_neg_distrib]
  have h : ∀ g : K → T → E → ℝ, ∑ k, ∑ s, ∑ e, g k s e = ∑ s, ∑ e, ∑ k, g k s e := fun g => by
    rw [Finset.sum_comm]
    exact Finset.sum_congr rfl fun s _ => Finset.sum_comm
  rw [h, h, sub_eq_add_neg, ← Finset.sum_neg_distrib]
  refine congrArg₂ (· + ·) ?_ ?_
  · exact Finset.sum_congr rfl fun s _ => Finset.sum_congr rfl fun e _ => Finset.sum_congr rfl fun k _ => by ring
  · refine Finset.sum_congr rfl fun s _ => ?_
    rw [← Finset.sum_neg_distrib]
    refine Finset.sum_congr rfl fun e _ => ?_
    rw [← Finset.sum_neg_distrib]
    exact Finset.sum_congr rfl fun k _ => by ring

/-- The two orders of the sums, with the factors as they are written. -/
theorem orders (ct st : T → ℝ) (cc sc : E → K → ℝ) (u : T → E → ℝ) (v : K → ℝ) :
    ∑ s, (ct s : EReal) * rootT * ∑ e, (u s e : EReal) * ∑ k, (v k : EReal) * ((cc e k : EReal) * rootC)
        - ∑ s, (st s : EReal) * rootT * ∑ e, (u s e : EReal) * ∑ k, (v k : EReal) * ((sc e k : EReal) * rootC)
      = ∑ k, (v k : EReal) * Ideal.div (∑ s, (∑ e, (u s e : EReal) * (cc e k : EReal)) * (ct s : EReal)
          + ∑ s, (-(∑ e, (u s e : EReal) * (sc e k : EReal))) * (st s : EReal)) (Ideal.ofBits .f32 0x44000000#32) := by
  rw [root_eq, rootC_eq, rootT_eq]
  simp only [Ideal.div_coe (show (512 : ℝ) ≠ 0 by norm_num)]
  simp only [← EReal.coe_mul, ← Cert.AttnMath.coe_sum, ← EReal.coe_neg, ← EReal.coe_add, ← EReal.coe_sub]
  exact congrArg _ (orders_real ct st cc sc u v)

end Reals

/-- The kernel's order of the sums gives the mixing, where the inputs and the weights are real numbers. -/
theorem kernel_order (hx : ∀ i, x i = ((x i).toReal : EReal)) (hw : ∀ i, w i = ((w i).toReal : EReal)) (b : Fin 8) (t : Fin 4096) (j : Fin 256) :
    ∑ s : Fin 4096, Ideal.cos (angT t.val s.val) * rootT * folds x w Ideal.cos b s j
        - ∑ s : Fin 4096, Ideal.sin (angT t.val s.val) * rootT * folds x w Ideal.sin b s j
      = mixed x w b t j := by
  unfold mixed
  simp only [folds_eq]
  have hct : ∀ s : Fin 4096, Ideal.cos (angT t.val s.val) = (((Ideal.cos (angT t.val s.val)).toReal : ℝ) : EReal) :=
    fun s => cos_real (angle_real _ _ stepT_real _ _)
  have hst : ∀ s : Fin 4096, Ideal.sin (angT t.val s.val) = (((Ideal.sin (angT t.val s.val)).toReal : ℝ) : EReal) :=
    fun s => sin_real (angle_real _ _ stepT_real _ _)
  have hcc : ∀ e k : Fin 64, Ideal.cos (angC e.val k.val) = (((Ideal.cos (angC e.val k.val)).toReal : ℝ) : EReal) :=
    fun e k => cos_real (angle_real _ _ stepC_real _ _)
  have hsc : ∀ e k : Fin 64, Ideal.sin (angC e.val k.val) = (((Ideal.sin (angC e.val k.val)).toReal : ℝ) : EReal) :=
    fun e k => sin_real (angle_real _ _ stepC_real _ _)
  have hu : ∀ (s : Fin 4096) (e : Fin 64), x (ix2 (rowAt b s) (seg j e)) = ((x (ix2 (rowAt b s) (seg j e))).toReal : EReal) := fun s e => hx _
  have hv : ∀ k : Fin 64, w (ix3 (grp j) k (plc j)) = ((w (ix3 (grp j) k (plc j))).toReal : EReal) := fun k => hw _
  have key := orders (fun s : Fin 4096 => (Ideal.cos (angT t.val s.val)).toReal) (fun s : Fin 4096 => (Ideal.sin (angT t.val s.val)).toReal)
    (fun e k : Fin 64 => (Ideal.cos (angC e.val k.val)).toReal) (fun e k : Fin 64 => (Ideal.sin (angC e.val k.val)).toReal)
    (fun (s : Fin 4096) (e : Fin 64) => (x (ix2 (rowAt b s) (seg j e))).toReal) (fun k : Fin 64 => (w (ix3 (grp j) k (plc j))).toReal)
  simp only [← hct, ← hst, ← hcc, ← hsc, ← hu, ← hv] at key
  exact key

end Cert.FourierSpec

end
-- ==== Proof.FourierValue.lean ====
/- What the Fourier mixing leaves in its result: at each place the formula of `FourierSpec`, where the inputs and the
   weights are real numbers. -/
module

public import proofs.«01_k».proof.Proof.Gen.FourierIdeal.Frame
public import proofs.«01_k».proof.Proof.FourierSpec
public import Idealize.ShloMosaic.Lib.Pipeline.Value
public import Idealize.ShloMosaic.Lib.Pipeline.ValueKit.Basic
public import Idealize.ShloMosaic.Lib.Pointwise
public import Idealize.ShloMosaic.Lib.IdealHost

@[expose] public section

set_option maxRecDepth 16384

noncomputable section

namespace Cert.FourierIdeal.Hand

open Cert.FourierIdeal Cert.FourierIdeal.Gen Idealize.ShloMosaic Idealize.ShloMosaic.TcCoe Idealize.SL.Sem Cert.FourierSpec
open Idealize.ShloMosaic.Pipeline (Dat)

/-! ## One block -/

/-- The block's two products. -/
def bMix (p : Vec Ideal S512x4096 .bf16) (q : Vec Ideal S1x4096x256 .bf16) (p' : Vec Ideal S512x4096 .bf16) (q' : Vec Ideal S1x4096x256 .bf16)
    (r : Fin 512) (j : Fin 256) : EReal :=
  ∑ s : Fin 4096, p (ix2 r s) * q (ix3 0 s j) - ∑ s : Fin 4096, p' (ix2 r s) * q' (ix3 0 s j)

theorem pay1_at (p : Vec Ideal S512x4096 .bf16) (q : Vec Ideal S1x4096x256 .bf16) (p' : Vec Ideal S512x4096 .bf16) (q' : Vec Ideal S1x4096x256 .bf16)
    (r : Fin 512) (j : Fin 256) : k0_pay1 (F := Ideal) p q p' q' (ix3 0 r j) = bMix p q p' q' r j := by
  pointwise [k0_pay1, bMix]

variable (m : (ℓ : Loc nD τ sig) → Buf (Elt Ideal) ℓ) (ρ : Dev nD → PrngReg)

/-! ## The operations before the call -/

/-- The operations that make the channels' matrices, and those after them. -/
abbrev preOps : List (HloOp τ sig (Elt Ideal)) := hostOps0 ++ (hostOps0_1 ++ hostOps0_2.take 42)
abbrev postOps : List (HloOp τ sig (Elt Ideal)) := hostOps0_2.drop 42 ++ (hostOps0_3 ++ hostOps0_4)

theorem after_two (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

/-- The arrays after the channels' matrices are made. -/
def W (c : Dev nD) : Valuation τ sig (Elt Ideal) := StableHlo.after preOps (fun b => m (c, b))

theorem V_split (c : Dev nD) :
    StableHlo.after (List.flatten [hostOps0, hostOps0_1, hostOps0_2, hostOps0_3, hostOps0_4]) (fun b => m (c, b)) = StableHlo.after postOps (W m c) := by
  unfold W
  rw [← after_two]
  rfl

/-- The comparison of two groups' numbers, as a number. -/
theorem eq_bit (a b : Fin 4) : FloatOps.uitofp (F := Ideal) FTy.f32 (IntOp.cmpi CmpIPredicate.eq (IntOp.addi (BitVec.ofNat 32 a.val) 0#32) (BitVec.ofNat 32 b.val))
    = (if a.val = b.val then 1 else 0 : EReal) := by
  have h : ∀ a b : Fin 4, IntOp.cmpi CmpIPredicate.eq (IntOp.addi (BitVec.ofNat 32 a.val) 0#32) (BitVec.ofNat 32 b.val) = if a.val = b.val then 1#1 else 0#1 := by
    decide +kernel
  rw [h a b]
  by_cases e : a.val = b.val
  · rw [if_pos e, if_pos e]
    show (((1#1 : BitVec 1).toNat : ℝ) : EReal) = 1
    simp
  · rw [if_neg e, if_neg e]
    show (((0#1 : BitVec 1).toNat : ℝ) : EReal) = 0
    simp

/-- The weights and the inputs of the arguments. -/
abbrev inp (c : Dev nD) := m ((c : Thread nD τ).loc main_arg0)
abbrev wts (c : Dev nD) := m ((c : Thread nD τ).loc main_arg1)

/-- The channels' cosines with the weights folded in. -/
theorem W_cos (c : Dev nD) (k j : Fin 256) : W m c main_v31 (ix2 k j) = folded (wts m c) Ideal.cos k j := by
  show StableHlo.after preOps (fun b => m (c, b)) main_v31 (ix2 k j) = _
  unfold preOps
  simp only [hostOps0, hostOps0_1, hostOps0_2, hostOps0_3, hostOps0_4, List.take_succ_cons, List.drop_succ_cons, List.take_zero, List.drop_zero, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  pointwise
  exact congrArg₂ (· * ·) (eq_bit (grp k) (grp j)) rfl

/-- The channels' sines with the weights folded in. -/
theorem W_sin (c : Dev nD) (k j : Fin 256) : W m c main_v43 (ix2 k j) = folded (wts m c) Ideal.sin k j := by
  show StableHlo.after preOps (fun b => m (c, b)) main_v43 (ix2 k j) = _
  unfold preOps
  simp only [hostOps0, hostOps0_1, hostOps0_2, hostOps0_3, hostOps0_4, List.take_succ_cons, List.drop_succ_cons, List.take_zero, List.drop_zero, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  pointwise
  exact congrArg₂ (· * ·) (eq_bit (grp k) (grp j)) rfl

theorem W_inp (c : Dev nD) : W m c main_arg0 = inp m c := by
  show StableHlo.after preOps (fun b => m (c, b)) main_arg0 = _
  unfold preOps
  simp only [hostOps0, hostOps0_1, hostOps0_2, hostOps0_3, hostOps0_4, List.take_succ_cons, List.drop_succ_cons, List.take_zero, List.drop_zero, List.append_nil, List.cons_append, List.nil_append,
    StableHlo.TRef.ternary, StableHlo.TRef.binary, StableHlo.TRef.nullary, StableHlo.TRef.unary, StableHlo.TRef.toBuf, StableHlo.TRef.ofBuf, cast_eq]
  after_results_simp

/-- The positions' cosines as the region finds them. -/
theorem V_cos (c : Dev nD) (i s : Fin 4096) : V m c main_v62 (ix2 i s) = Ideal.cos (angT i.val s.val) * rootT := by
  show StableHlo.after (List.flatten [hostOps0, hostOps0_1, hostOps0_2, hostOps0_3, hostOps0_4]) (fun b => m (c, b)) main_v62 (ix2 i s) = _
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  pointwise
  rfl

/-- The positions' sines as the region finds them. -/
theorem V_sin (c : Dev nD) (i s : Fin 4096) : V m c main_v66 (ix2 i s) = Ideal.sin (angT i.val s.val) * rootT := by
  show StableHlo.after (List.flatten [hostOps0, hostOps0_1, hostOps0_2, hostOps0_3, hostOps0_4]) (fun b => m (c, b)) main_v66 (ix2 i s) = _
  simp only [hostOps0, hostOps0_1, hostOps0_2, hostOps0_3, hostOps0_4, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  pointwise
  rfl

theorem post_za (U : Valuation τ sig (Elt Ideal)) (p : S32768x256.Idx → EReal) (q : S256x256.Idx → EReal) (hp : U main_arg0 = p) (hq : U main_v31 = q)
    (b : Fin 8) (s : Fin 4096) (j : Fin 256) :
    StableHlo.after postOps U main_v68 (ix3 b s j) = ∑ k : Fin 256, p (ix2 (rowAt b s) k) * q (ix2 k j) := by
  subst hp hq
  unfold postOps
  simp only [hostOps0, hostOps0_1, hostOps0_2, hostOps0_3, hostOps0_4, List.take_succ_cons, List.drop_succ_cons, List.take_zero, List.drop_zero, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  pointwise

theorem post_zb (U : Valuation τ sig (Elt Ideal)) (p : S32768x256.Idx → EReal) (q : S256x256.Idx → EReal) (hp : U main_arg0 = p) (hq : U main_v43 = q)
    (b : Fin 8) (s : Fin 4096) (j : Fin 256) :
    StableHlo.after postOps U main_v70 (ix3 b s j) = ∑ k : Fin 256, p (ix2 (rowAt b s) k) * q (ix2 k j) := by
  subst hp hq
  unfold postOps
  simp only [hostOps0, hostOps0_1, hostOps0_2, hostOps0_3, hostOps0_4, List.take_succ_cons, List.drop_succ_cons, List.take_zero, List.drop_zero, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  pointwise

/-- The inputs against the folded cosines, as the region finds them. -/
theorem V_za (c : Dev nD) (b : Fin 8) (s : Fin 4096) (j : Fin 256) : V m c main_v68 (ix3 b s j) = folds (inp m c) (wts m c) Ideal.cos b s j := by
  show StableHlo.after (List.flatten [hostOps0, hostOps0_1, hostOps0_2, hostOps0_3, hostOps0_4]) (fun b => m (c, b)) main_v68 (ix3 b s j) = _
  rw [V_split]
  exact (post_za (W m c) (inp m c) (W m c main_v31) (W_inp m c) rfl b s j).trans (folds_of (inp m c) (wts m c) (W m c main_v31) Ideal.cos (W_cos m c) b s j)

/-- The inputs against the folded sines, as the region finds them. -/
theorem V_zb (c : Dev nD) (b : Fin 8) (s : Fin 4096) (j : Fin 256) : V m c main_v70 (ix3 b s j) = folds (inp m c) (wts m c) Ideal.sin b s j := by
  show StableHlo.after (List.flatten [hostOps0, hostOps0_1, hostOps0_2, hostOps0_3, hostOps0_4]) (fun b => m (c, b)) main_v70 (ix3 b s j) = _
  rw [V_split]
  exact (post_zb (W m c) (inp m c) (W m c main_v43) (W_inp m c) rfl b s j).trans (folds_of (inp m c) (wts m c) (W m c main_v43) Ideal.sin (W_sin m c) b s j)

theorem out_4 (p p' : Vec Ideal S512x4096 .bf16) (q q' : Vec Ideal S1x4096x256 .bf16) : out0_4 p p' q q' = k0_pay1 p q p' q' := by
  have z2 : (![0, 0] : Fin 2 → ℕ) = 0 := by decide
  have z3 : (![0, 0, 0] : Fin 3 → ℕ) = 0 := by decide
  unfold out0_4
  rw [View.canon_unit_zero z3, View.ld_unit_zero (S := S512x4096) z2, View.ld_unit_zero (S := S512x4096) z2, View.ld_unit_zero (S := S1x4096x256) z3,
    View.ld_unit_zero (S := S1x4096x256) z3]

/-! ## The whole result -/

theorem lt64 (t : Fin grid0.N) : t.val < 64 := lt_of_lt_of_eq t.isLt N_0

/-- A grid point's sequence. -/
abbrev bAt (t : Fin grid0.N) : Fin 8 := ⟨t.val % 8, by omega⟩

/-- The position that a row of a grid point's block is. -/
abbrev pAt (t : Fin grid0.N) (r : Fin 512) : Fin 4096 := ⟨t.val / 8 * 512 + r.val, by have := lt64 t; omega⟩

theorem tr0 : ∀ t : Fin grid0.N, cc0_transform_0 (grid0.coords t) = ![t.val / 8, 0] := by decide +kernel
theorem tr1 : ∀ t : Fin grid0.N, cc0_transform_1 (grid0.coords t) = ![t.val / 8, 0] := by decide +kernel
theorem tr2 : ∀ t : Fin grid0.N, cc0_transform_2 (grid0.coords t) = ![t.val % 8, 0, 0] := by decide +kernel
theorem tr3 : ∀ t : Fin grid0.N, cc0_transform_3 (grid0.coords t) = ![t.val % 8, 0, 0] := by decide +kernel
theorem tr4 : ∀ t : Fin grid0.N, cc0_transform_4 (grid0.coords t) = ![t.val % 8, t.val / 8, 0] := by decide +kernel

theorem iblk0_at (c : Dev nD) (t : Fin grid0.N) (r : Fin 512) (s : Fin 4096) :
    iblk m c 0 t (ix2 r s) = Ideal.cos (angT (pAt t r).val s.val) * rootT := by
  rw [← V_cos m c]
  show V m c main_v62 (((cfg0.win 0).blk t).view.emb (ix2 r s)) = _
  refine congrArg (V m c main_v62) ?_
  funext a; apply Fin.ext
  match a with
  | ⟨0, _⟩ =>
    show cc0_transform_0 (grid0.coords t) 0 * 512 + 1 * r.val = t.val / 8 * 512 + r.val
    rw [tr0]; show t.val / 8 * 512 + 1 * r.val = t.val / 8 * 512 + r.val; omega
  | ⟨1, _⟩ =>
    show cc0_transform_0 (grid0.coords t) 1 * 4096 + 1 * s.val = s.val
    rw [tr0]; show 0 * 4096 + 1 * s.val = s.val; omega

theorem iblk1_at (c : Dev nD) (t : Fin grid0.N) (r : Fin 512) (s : Fin 4096) :
    iblk m c 1 t (ix2 r s) = Ideal.sin (angT (pAt t r).val s.val) * rootT := by
  rw [← V_sin m c]
  show V m c main_v66 (((cfg0.win 1).blk t).view.emb (ix2 r s)) = _
  refine congrArg (V m c main_v66) ?_
  funext a; apply Fin.ext
  match a with
  | ⟨0, _⟩ =>
    show cc0_transform_1 (grid0.coords t) 0 * 512 + 1 * r.val = t.val / 8 * 512 + r.val
    rw [tr1]; show t.val / 8 * 512 + 1 * r.val = t.val / 8 * 512 + r.val; omega
  | ⟨1, _⟩ =>
    show cc0_transform_1 (grid0.coords t) 1 * 4096 + 1 * s.val = s.val
    rw [tr1]; show 0 * 4096 + 1 * s.val = s.val; omega

theorem iblk2_at (c : Dev nD) (t : Fin grid0.N) (s : Fin 4096) (j : Fin 256) :
    iblk m c 2 t (ix3 0 s j) = folds (inp m c) (wts m c) Ideal.cos (bAt t) s j := by
  rw [← V_za m c]
  show V m c main_v68 (((cfg0.win 2).blk t).view.emb (ix3 0 s j)) = _
  refine congrArg (V m c main_v68) ?_
  funext a; apply Fin.ext
  match a with
  | ⟨0, _⟩ =>
    show cc0_transform_2 (grid0.coords t) 0 * 1 + 1 * 0 = t.val % 8
    rw [tr2]; show t.val % 8 * 1 + 1 * 0 = t.val % 8; omega
  | ⟨1, _⟩ =>
    show cc0_transform_2 (grid0.coords t) 1 * 4096 + 1 * s.val = s.val
    rw [tr2]; show 0 * 4096 + 1 * s.val = s.val; omega
  | ⟨2, _⟩ =>
    show cc0_transform_2 (grid0.coords t) 2 * 256 + 1 * j.val = j.val
    rw [tr2]; show 0 * 256 + 1 * j.val = j.val; omega

theorem iblk3_at (c : Dev nD) (t : Fin grid0.N) (s : Fin 4096) (j : Fin 256) :
    iblk m c 3 t (ix3 0 s j) = folds (inp m c) (wts m c) Ideal.sin (bAt t) s j := by
  rw [← V_zb m c]
  show V m c main_v70 (((cfg0.win 3).blk t).view.emb (ix3 0 s j)) = _
  refine congrArg (V m c main_v70) ?_
  funext a; apply Fin.ext
  match a with
  | ⟨0, _⟩ =>
    show cc0_transform_3 (grid0.coords t) 0 * 1 + 1 * 0 = t.val % 8
    rw [tr3]; show t.val % 8 * 1 + 1 * 0 = t.val % 8; omega
  | ⟨1, _⟩ =>
    show cc0_transform_3 (grid0.coords t) 1 * 4096 + 1 * s.val = s.val
    rw [tr3]; show 0 * 4096 + 1 * s.val = s.val; omega
  | ⟨2, _⟩ =>
    show cc0_transform_3 (grid0.coords t) 2 * 256 + 1 * j.val = j.val
    rw [tr3]; show 0 * 256 + 1 * j.val = j.val; omega

/-- The inputs and the weights are real numbers. -/
def RealArgs (c : Dev nD) : Prop :=
  (∀ i, inp m c i = ((EReal.toReal (inp m c i) : ℝ) : EReal)) ∧ ∀ i, wts m c i = ((EReal.toReal (wts m c i) : ℝ) : EReal)

/-- The mixing of the arguments. -/
abbrev mixOf (c : Dev nD) (b : Fin 8) (t : Fin 4096) (j : Fin 256) : EReal := mixed (inp m c) (wts m c) b t j

/-- The whole of the result. -/
def val4 (c : Dev nD) : Buf (Elt Ideal) ((c : Thread nD τ).loc main_v71) := fun j =>
  mixOf m c ⟨(j 0).val, (j 0).isLt⟩ ⟨(j 1).val, (j 1).isLt⟩ ⟨(j 2).val, (j 2).isLt⟩

theorem block_at (c : Dev nD) (hr : RealArgs m c) (t : Fin grid0.N) (r : Fin 512) (j : Fin 256) :
    out0_4 (iblk m c 0 t) (iblk m c 1 t) (iblk m c 2 t) (iblk m c 3 t) (ix3 0 r j) = mixOf m c (bAt t) (pAt t r) j := by
  rw [out_4]
  refine (pay1_at _ _ _ _ r j).trans ?_
  unfold bMix mixOf
  rw [← kernel_order (inp m c) (wts m c) hr.1 hr.2]
  refine congrArg₂ (· - ·) ?_ ?_
  · exact Finset.sum_congr rfl fun s _ => congrArg₂ (· * ·) (iblk0_at m c t r s) (iblk2_at m c t s j)
  · exact Finset.sum_congr rfl fun s _ => congrArg₂ (· * ·) (iblk1_at m c t r s) (iblk3_at m c t s j)

theorem flushed4 (c : Dev nD) (hr : RealArgs m c) (t : Fin cfg0.N) :
    (dats m 0 c).flushed 4 t = ((cfg0.win 4).blk t).view.read (Elt Ideal) (val4 m c) := by
  show (cfg0.win 4).cut (grid0.coords t) ((dats m 0 c).after 4 t) = _
  rw [after0_4]
  suffices h : ∀ j : S1x512x256.Idx, out0_4 (iblk m c 0 t) (iblk m c 1 t) (iblk m c 2 t) (iblk m c 3 t) j = val4 m c (((cfg0.win 4).blk t).view.emb j) from
    funext fun j => h j
  intro j
  have hj0 : (j 0).val < 1 := (j 0).isLt
  have hj1 : (j 1).val < 512 := (j 1).isLt
  have hj2 : (j 2).val < 256 := (j 2).isLt
  have e : ((cfg0.win 4).blk t).view.emb j = (ix3 (bAt t) (pAt t ⟨(j 1).val, hj1⟩) ⟨(j 2).val, hj2⟩ : S8x4096x256.Idx) := by
    funext a; apply Fin.ext
    match a with
    | ⟨0, _⟩ =>
      show cc0_transform_4 (grid0.coords t) 0 * 1 + 1 * (j 0).val = t.val % 8
      rw [tr4]; show (t.val % 8) * 1 + 1 * (j 0).val = t.val % 8; omega
    | ⟨1, _⟩ =>
      show cc0_transform_4 (grid0.coords t) 1 * 512 + 1 * (j 1).val = t.val / 8 * 512 + (j 1).val
      rw [tr4]; show (t.val / 8) * 512 + 1 * (j 1).val = t.val / 8 * 512 + (j 1).val; omega
    | ⟨2, _⟩ =>
      show cc0_transform_4 (grid0.coords t) 2 * 256 + 1 * (j 2).val = (j 2).val
      rw [tr4]; show 0 * 256 + 1 * (j 2).val = (j 2).val; omega
  refine Eq.trans ?_ (congrArg (val4 m c) e).symm
  refine (congrArg (out0_4 (iblk m c 0 t) (iblk m c 1 t) (iblk m c 2 t) (iblk m c 3 t)) ?_).trans
    ((block_at m c hr t ⟨(j 1).val, hj1⟩ ⟨(j 2).val, hj2⟩).trans rfl)
  funext a
  match a with
  | ⟨0, _⟩ => exact Fin.ext (show (j 0).val = 0 by omega)
  | ⟨1, _⟩ => rfl
  | ⟨2, _⟩ => rfl

theorem cover4 (i : S8x4096x256.Idx) : ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 256 := (i 2).isLt
  let t : Fin grid0.N := ⟨(i 1).val / 512 * 8 + (i 0).val, by rw [N_0]; omega⟩
  refine ⟨t, flush0_4 t, ?_⟩
  show i ∈ ((View.whole main_v71).slice ((cfg0.win 4).rect t)).set
  erw [View.set_slice_whole]
  refine (Pipeline.Window.mem_rect_iff (cfg0.win 4) t i (by rfl)).mpr fun a => ?_
  have hx : (cfg0.win 4).index t = ![t.val % 8, t.val / 8, 0] := tr4 t
  rw [hx]
  have ht : t.val = (i 1).val / 512 * 8 + (i 0).val := rfl
  match a with
  | ⟨0, _⟩ => exact show (t.val % 8) * 1 ≤ (i 0).val ∧ (i 0).val < (t.val % 8) * 1 + 1 by omega
  | ⟨1, _⟩ => exact show (t.val / 8) * 512 ≤ (i 1).val ∧ (i 1).val < (t.val / 8) * 512 + 512 by omega
  | ⟨2, _⟩ => exact show 0 * 256 ≤ (i 2).val ∧ (i 2).val < 0 * 256 + 256 by omega

theorem final4 (c : Dev nD) (hr : RealArgs m c) : (dats m 0 c).arrAt 4 cfg0.N = val4 m c :=
  (dats m 0 c).arrAt_eq_of_cover 4 (val4 m c) (fun t _ => flushed4 m c hr t) cover4

/-- The kernel's run ends with the result at the formula. -/
theorem run (hr : ∀ c : Dev nD, RealArgs m c) : θ_run defs (onTc (τ := τ) (main (F := Ideal))) ⟨m, fun _ => 0, ρ⟩ fun r => ∀ c : Dev nD,
      r.2.mem ((c : Thread nD τ).loc main_v71) = val4 m c :=
  (θ_run defs _ _).mono (fun _ h c => ((h c).1 4).trans (final4 m c (hr c))) (run_main m ρ)

end Cert.FourierIdeal.Hand

end
-- ==== Proof.FourierPre.lean ====
/- The precondition on the Fourier mixing's arguments, decoded: the inputs and the weights are real numbers. -/
module

public import proofs.«01_k».proof.Defs
public import proofs.«01_k».proof.Proof.AttnPre
public import proofs.«01_k».proof.Proof.FourierValue
public import proofs.«01_k».proof.Proof.Gen.Pre_finite_fourier
public import Idealize.ShloMosaic.Lib.ReduceAll

@[expose] public section

set_option maxRecDepth 16384

noncomputable section

namespace Cert.FourierIdeal.Hand

open Cert.FourierIdeal Idealize.ShloMosaic Idealize.ShloMosaic.TcCoe

/-- What the precondition says of a memory. -/
theorem real_of_pre (m : (ℓ : Loc nD τ sig) → Buf (Elt Ideal) ℓ) (h : Cert.Pre_FourierIdeal_finite_fourier m) (c : Dev nD) : RealArgs m c := by
  have e := congrFun (h c) (fun a => a.elim0)
  haveI : Subsingleton Cert.Pre_finite_fourier.S_.Idx := ⟨fun a b => funext fun i => i.elim0⟩
  unfold Cert.Pre_finite_fourier.fn at e
  dsimp only at e
  obtain ⟨e0, e1⟩ := Cert.KernelIdeal.Hand.andi_one _ _ e
  exact ⟨fun i => Cert.KernelIdeal.Hand.real_of_olt _ (Host.reduce_andi_all _ _ _ _ _ e0 i),
    fun i => Cert.KernelIdeal.Hand.real_of_olt _ (Host.reduce_andi_all _ _ _ _ _ e1 i)⟩

end Cert.FourierIdeal.Hand

end
-- ==== Proof.FourierRef.lean ====
/- The reference of the Fourier mixing read at one place of its result: the formula of `FourierSpec`. -/
module

public import proofs.«01_k».proof.Proof.FourierSpec
public import proofs.«01_k».proof.Proof.Gen.FourierReferenceIdeal.Read

@[expose] public section

set_option maxRecDepth 16384

noncomputable section

namespace Cert.FourierReferenceIdeal.Read

open Cert.FourierReferenceIdeal Idealize.ShloMosaic Cert.FourierSpec

variable (x0 : (⟨S32768x256, .f32⟩ : BufTy).Contents (Elt Ideal)) (x1 : (⟨S4x64x64, .f32⟩ : BufTy).Contents (Elt Ideal))

theorem v10_at (i j : Fin 64) : val_main_v10 (F := Ideal) (ix2 i j) = angC i.val j.val := by
  rfl

theorem v20_at (i j : Fin 4096) : val_main_v20 (F := Ideal) (ix2 i j) = angT i.val j.val := by
  rfl

theorem v0_at (b : Fin 8) (s : Fin 4096) (g : Fin 4) (e : Fin 64) :
    val_main_v0 (F := Ideal) x0 (ix4 b s g e) = x0 (ix2 (rowAt b s) ⟨g.val * 64 + e.val, by omega⟩) := by
  rw [val_main_v0_apply]
  refine congrArg x0 ?_
  funext a; apply Fin.ext
  match a with
  | ⟨0, _⟩ => show (((b.val * 4096 + s.val) * 4 + g.val) * 64 + e.val) / 256 = b.val * 4096 + s.val; omega
  | ⟨1, _⟩ => show (((b.val * 4096 + s.val) * 4 + g.val) * 64 + e.val) % 256 = g.val * 64 + e.val; omega

/-- The channels' transform, its real part. -/
theorem v22_at (b : Fin 8) (s : Fin 4096) (g : Fin 4) (k : Fin 64) : val_main_v22 (F := Ideal) x0 (ix4 b s g k)
    = ∑ e : Fin 64, x0 (ix2 (rowAt b s) ⟨g.val * 64 + e.val, by omega⟩) * Ideal.cos (angC e.val k.val) := by
  rw [val_main_v22_apply]
  refine Finset.sum_congr rfl fun e _ => congrArg₂ (· * ·) ?_ ?_
  · rw [← v0_at x0 b s g e]
    refine congrArg (val_main_v0 (F := Ideal) x0) ?_
    funext a; match a with | ⟨0, _⟩ => rfl | ⟨1, _⟩ => rfl | ⟨2, _⟩ => rfl | ⟨3, _⟩ => rfl
  · rw [val_main_v21_apply, ← v10_at]
    refine congrArg (fun i => Ideal.cos (val_main_v10 (F := Ideal) i)) ?_
    funext a; match a with | ⟨0, _⟩ => rfl | ⟨1, _⟩ => rfl

/-- The channels' transform, its imaginary part. -/
theorem v25_at (b : Fin 8) (s : Fin 4096) (g : Fin 4) (k : Fin 64) : val_main_v25 (F := Ideal) x0 (ix4 b s g k)
    = -∑ e : Fin 64, x0 (ix2 (rowAt b s) ⟨g.val * 64 + e.val, by omega⟩) * Ideal.sin (angC e.val k.val) := by
  rw [val_main_v25_apply, val_main_v24_apply]
  show -(_ : EReal) = _
  refine congrArg (fun y : EReal => -y) ?_
  refine Finset.sum_congr rfl fun e _ => congrArg₂ (· * ·) ?_ ?_
  · rw [← v0_at x0 b s g e]
    refine congrArg (val_main_v0 (F := Ideal) x0) ?_
    funext a; match a with | ⟨0, _⟩ => rfl | ⟨1, _⟩ => rfl | ⟨2, _⟩ => rfl | ⟨3, _⟩ => rfl
  · rw [val_main_v23_apply, ← v10_at]
    refine congrArg (fun i => Ideal.sin (val_main_v10 (F := Ideal) i)) ?_
    funext a; match a with | ⟨0, _⟩ => rfl | ⟨1, _⟩ => rfl

theorem v28_at (b : Fin 8) (t : Fin 4096) (g : Fin 4) (k : Fin 64) : val_main_v28 (F := Ideal) x0 (ix4 b t g k)
    = ∑ s : Fin 4096, (∑ e : Fin 64, x0 (ix2 (rowAt b s) ⟨g.val * 64 + e.val, by omega⟩) * Ideal.cos (angC e.val k.val))
      * Ideal.cos (angT t.val s.val) := by
  rw [val_main_v28_apply, val_main_v27_apply]
  refine Finset.sum_congr rfl fun s _ => congrArg₂ (· * ·) ?_ ?_
  · rw [← v22_at]
    refine congrArg (val_main_v22 (F := Ideal) x0) ?_
    funext a; match a with | ⟨0, _⟩ => rfl | ⟨1, _⟩ => rfl | ⟨2, _⟩ => rfl | ⟨3, _⟩ => rfl
  · rw [val_main_v26_apply, ← v20_at]
    refine congrArg (fun i => Ideal.cos (val_main_v20 (F := Ideal) i)) ?_
    funext a; match a with | ⟨0, _⟩ => rfl | ⟨1, _⟩ => rfl

theorem v31_at (b : Fin 8) (t : Fin 4096) (g : Fin 4) (k : Fin 64) : val_main_v31 (F := Ideal) x0 (ix4 b t g k)
    = ∑ s : Fin 4096, (-(∑ e : Fin 64, x0 (ix2 (rowAt b s) ⟨g.val * 64 + e.val, by omega⟩) * Ideal.sin (angC e.val k.val)))
      * Ideal.sin (angT t.val s.val) := by
  rw [val_main_v31_apply, val_main_v30_apply]
  refine Finset.sum_congr rfl fun s _ => congrArg₂ (· * ·) ?_ ?_
  · rw [← v25_at]
    refine congrArg (val_main_v25 (F := Ideal) x0) ?_
    funext a; match a with | ⟨0, _⟩ => rfl | ⟨1, _⟩ => rfl | ⟨2, _⟩ => rfl | ⟨3, _⟩ => rfl
  · rw [val_main_v29_apply, ← v20_at]
    refine congrArg (fun i => Ideal.sin (val_main_v20 (F := Ideal) i)) ?_
    funext a; match a with | ⟨0, _⟩ => rfl | ⟨1, _⟩ => rfl

theorem v38_at (b : Fin 8) (t : Fin 4096) (j : Fin 256) : val_main_v38 (F := Ideal) x0 x1 (ix3 b t j) = mixed x0 x1 b t j := by
  rw [val_main_v38_apply]
  show val_main_v37 (F := Ideal) x0 x1 (ix3 b t j) = _
  have e : idx_main_v36 (idx_main_v37 (ix3 b t j)) = ix4 (grp j) (plc j) b t := by
    funext a; apply Fin.ext
    match a with
    | ⟨0, _⟩ => show ((b.val * 4096 + t.val) * 256 + j.val) / 64 % 4 = j.val / 64; omega
    | ⟨1, _⟩ => show ((b.val * 4096 + t.val) * 256 + j.val) % 64 = j.val % 64; omega
    | ⟨2, _⟩ => show ((b.val * 4096 + t.val) * 256 + j.val) / 1048576 = b.val; omega
    | ⟨3, _⟩ => show ((b.val * 4096 + t.val) * 256 + j.val) / 256 % 4096 = t.val; omega
  rw [val_main_v37_apply, val_main_v36_apply, e, val_main_v35_apply]
  unfold mixed
  refine Finset.sum_congr rfl fun k _ => congrArg₂ (· * ·) (congrArg x1 ?_) ?_
  · funext a; match a with | ⟨0, _⟩ => rfl | ⟨1, _⟩ => rfl | ⟨2, _⟩ => rfl
  · have e' : ridx_main_v35 (ix4 (grp j) (plc j) b t) k = ix4 b t (grp j) k := by
      funext a; match a with | ⟨0, _⟩ => rfl | ⟨1, _⟩ => rfl | ⟨2, _⟩ => rfl | ⟨3, _⟩ => rfl
    rw [e', val_main_v34_apply, val_main_v32_apply, val_main_v33_apply, val_main_cst_2_apply, v28_at, v31_at]
    rfl

end Cert.FourierReferenceIdeal.Read

end
-- ==== Proof.FourierClaims.lean ====
/- The claims about the Fourier mixing: the frames of the kernel, of its idealization and of its reference, and the equality of
   the last two. -/
module

public import proofs.«01_k».proof.Defs
public import proofs.«01_k».proof.Proof.FourierPre
public import proofs.«01_k».proof.Proof.FourierRef
public import proofs.«01_k».proof.Proof.Gen.Fourier.Frame
public import proofs.«01_k».proof.Proof.Gen.FourierReferenceIdeal.Run
public import Idealize.ShloMosaic.Adequacy

@[expose] public section

set_option maxRecDepth 16384

noncomputable section

namespace Cert.Proof

open Idealize.ShloMosaic Idealize.SL.Sem Cert.FourierSpec

theorem frame_fourier : Cert.quiescent_Fourier (hFourier := Cert.Fourier.Gen.facts) := fun m ρ _ => Cert.Fourier.Gen.frame m ρ

theorem frame_fourier_ideal : Cert.quiescent_FourierIdeal (hFourierIdeal := Cert.FourierIdeal.Gen.facts) :=
  fun m ρ _ => Cert.FourierIdeal.Gen.frame m ρ

theorem frame_fourier_ideal_finite : Cert.quiescent_FourierIdeal_pre_finite_fourier (hFourierIdeal := Cert.FourierIdeal.Gen.facts)
    (hPre_finite_fourier := Cert.Pre_finite_fourier.Gen.facts) := fun m ρ _ => Cert.FourierIdeal.Gen.frame m ρ

theorem frame_fourier_reference : Cert.quiescent_FourierReferenceIdeal (hFourierReferenceIdeal := Cert.FourierReferenceIdeal.Gen.facts) :=
  fun m ρ _ => (θ_run Cert.FourierReferenceIdeal.defs _ _).mono (fun r h => ⟨fun c => (h c).2,
      Idealize.ShloMosaic.sem_eq_zero_of_no_sems (by decide) r.2⟩)
    (Cert.FourierReferenceIdeal.Value.run (F := Ideal) m ρ)

theorem frame_fourier_reference_finite : Cert.quiescent_FourierReferenceIdeal_pre_finite_fourier
    (hFourierReferenceIdeal := Cert.FourierReferenceIdeal.Gen.facts) (hPre_finite_fourier := Cert.Pre_finite_fourier.Gen.facts) :=
  fun m ρ _ => frame_fourier_reference m ρ trivial

section Values

variable (m : (ℓ : Loc Cert.FourierIdeal.nD Cert.FourierIdeal.τ Cert.FourierIdeal.sig) → Buf (Elt Ideal) ℓ) (c : Dev Cert.FourierIdeal.nD)

/-- With equal arguments the reference's result is the kernel's. -/
theorem fourier_values :
    Cert.FourierReferenceIdeal.Read.val_main_v38 (F := Ideal)
      (m ((c.tc : Thread Cert.FourierIdeal.nD Cert.FourierIdeal.τ).loc Cert.FourierIdeal.main_arg0))
      (m ((c.tc : Thread Cert.FourierIdeal.nD Cert.FourierIdeal.τ).loc Cert.FourierIdeal.main_arg1))
    = Cert.FourierIdeal.Hand.val4 m c := by
  funext j
  have hj0 : (j 0).val < 8 := (j 0).isLt
  have hj1 : (j 1).val < 4096 := (j 1).isLt
  have hj2 : (j 2).val < 256 := (j 2).isLt
  have e : j = ix3 ⟨(j 0).val, hj0⟩ ⟨(j 1).val, hj1⟩ ⟨(j 2).val, hj2⟩ := by
    funext a
    match a with
    | ⟨0, _⟩ => rfl
    | ⟨1, _⟩ => rfl
    | ⟨2, _⟩ => rfl
  rw [e]
  exact Cert.FourierReferenceIdeal.Read.v38_at _ _ _ _ _

end Values

theorem algebraic_fourier : Cert.algebraic_FourierIdeal_FourierReferenceIdeal_pre_finite_fourier
    (hFourierIdeal := Cert.FourierIdeal.Gen.facts) (hFourierReferenceIdeal := Cert.FourierReferenceIdeal.Gen.facts)
    (hPre_finite_fourier := Cert.Pre_finite_fourier.Gen.facts) := by
  intro m g m' g' hp hagree
  refine ⟨fun c => Cert.FourierIdeal.Hand.val4 m c, ?_, ?_⟩
  · exact θ_run_and (Cert.FourierIdeal.Hand.run m g (Cert.FourierIdeal.Hand.real_of_pre m hp)) (Cert.FourierIdeal.Gen.unchanged m g) |> (θ_run _ _ _).mono
      (fun _ h c => ⟨h.1 c, h.2 c⟩)
  · refine (θ_run Cert.FourierReferenceIdeal.defs _ _).mono (fun r h c => ⟨?_, (h c).2⟩) (Cert.FourierReferenceIdeal.Value.run (F := Ideal) m' g')
    obtain ⟨e0, e1⟩ := hagree c
    rw [(h c).1, Cert.FourierReferenceIdeal.Read.val_main_v38_eq, e0, e1]
    exact fourier_values m c

end Cert.Proof

end
-- ==== Proof.OutputIdealFrame.lean ====
/- The frame of the output projection's ideal program: what its six results and the counts it carries from one grid point
   to the next hold after each point, the body's triple at any point, the run, and the frame. At the first grid point the
   body clears the carried counts, at every later one it finds them as the point before left them. -/
module

public import proofs.«01_k».proof.Proof.Gen.OutputIdeal.Frame.RunB
public import Idealize.ShloMosaic.Lib.Claim

@[expose] public section

set_option maxRecDepth 16384

noncomputable section

namespace Cert.OutputIdeal.Hand

open Cert.OutputIdeal Cert.OutputIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point: the pieces it stores, with their triple. -/
def runA (hO : Ok m) (c : Dev nD) (t : Fin (cfgM m hO).N) (h0 : t.val % 144 = 0) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)

/-- The body's run at a later point, over the counts the point before left. -/
def runB (hO : Ok m) (c : Dev nD) (t : Fin (cfgM m hO).N) (h0 : ¬t.val % 144 = 0) (xs0 : Vec F S128x1 .f32) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) scM0_0 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) xs0

/-! The stores cover each result's block and the carried counts. -/

theorem coverA_10 (hO : Ok m) (c : Dev nD) (t : Fin (cfgM m hO).N) (h0 : t.val % 144 = 0) (y : S256x1024.Idx) :
    ∃ pc ∈ (runA m hO c t h0).1, y ∈ pc.1.set :=
  View.cover_of_tiledL (runA m hO c t h0).1 S256x1024.size (by sl_kernel_rfl) y

theorem coverA_11 (hO : Ok m) (c : Dev nD) (t : Fin (cfgM m hO).N) (h0 : t.val % 144 = 0) (y : S256x1024.Idx) :
    ∃ pc ∈ (runA m hO c t h0).2.1, y ∈ pc.1.set :=
  View.cover_of_tiledL (runA m hO c t h0).2.1 S256x1024.size (by sl_kernel_rfl) y

theorem coverA_12 (hO : Ok m) (c : Dev nD) (t : Fin (cfgM m hO).N) (h0 : t.val % 144 = 0) (y : S8x256.Idx) :
    ∃ pc ∈ (runA m hO c t h0).2.2.1, y ∈ pc.1.set :=
  View.cover_of_tiledL (runA m hO c t h0).2.2.1 S8x256.size (by sl_kernel_rfl) y

theorem coverA_13 (hO : Ok m) (c : Dev nD) (t : Fin (cfgM m hO).N) (h0 : t.val % 144 = 0) (y : S8x256.Idx) :
    ∃ pc ∈ (runA m hO c t h0).2.2.2.1, y ∈ pc.1.set :=
  View.cover_of_tiledL (runA m hO c t h0).2.2.2.1 S8x256.size (by sl_kernel_rfl) y

theorem coverA_14 (hO : Ok m) (c : Dev nD) (t : Fin (cfgM m hO).N) (h0 : t.val % 144 = 0) (y : S256x128.Idx) :
    ∃ pc ∈ (runA m hO c t h0).2.2.2.2.1, y ∈ pc.1.set :=
  View.cover_of_tiledL (runA m hO c t h0).2.2.2.2.1 S256x128.size (by sl_kernel_rfl) y

theorem coverA_15 (hO : Ok m) (c : Dev nD) (t : Fin (cfgM m hO).N) (h0 : t.val % 144 = 0) (y : S128x128.Idx) :
    ∃ pc ∈ (runA m hO c t h0).2.2.2.2.2.1, y ∈ pc.1.set :=
  View.cover_of_tiledL (runA m hO c t h0).2.2.2.2.2.1 S128x128.size (by sl_kernel_rfl) y

theorem coverA_S (hO : Ok m) (c : Dev nD) (t : Fin (cfgM m hO).N) (h0 : t.val % 144 = 0) (y : S128x1.Idx) :
    ∃ pc ∈ (runA m hO c t h0).2.2.2.2.2.2.1, y ∈ pc.1.set :=
  View.cover_of_tiledL (runA m hO c t h0).2.2.2.2.2.2.1 S128x1.size (by sl_kernel_rfl) y

theorem coverB_10 (hO : Ok m) (c : Dev nD) (t : Fin (cfgM m hO).N) (h0 : ¬t.val % 144 = 0) (xs0 : Vec F S128x1 .f32) (y : S256x1024.Idx) :
    ∃ pc ∈ (runB m hO c t h0 xs0).1, y ∈ pc.1.set :=
  View.cover_of_tiledL (runB m hO c t h0 xs0).1 S256x1024.size (by sl_kernel_rfl) y

theorem coverB_11 (hO : Ok m) (c : Dev nD) (t : Fin (cfgM m hO).N) (h0 : ¬t.val % 144 = 0) (xs0 : Vec F S128x1 .f32) (y : S256x1024.Idx) :
    ∃ pc ∈ (runB m hO c t h0 xs0).2.1, y ∈ pc.1.set :=
  View.cover_of_tiledL (runB m hO c t h0 xs0).2.1 S256x1024.size (by sl_kernel_rfl) y

theorem coverB_12 (hO : Ok m) (c : Dev nD) (t : Fin (cfgM m hO).N) (h0 : ¬t.val % 144 = 0) (xs0 : Vec F S128x1 .f32) (y : S8x256.Idx) :
    ∃ pc ∈ (runB m hO c t h0 xs0).2.2.1, y ∈ pc.1.set :=
  View.cover_of_tiledL (runB m hO c t h0 xs0).2.2.1 S8x256.size (by sl_kernel_rfl) y

theorem coverB_13 (hO : Ok m) (c : Dev nD) (t : Fin (cfgM m hO).N) (h0 : ¬t.val % 144 = 0) (xs0 : Vec F S128x1 .f32) (y : S8x256.Idx) :
    ∃ pc ∈ (runB m hO c t h0 xs0).2.2.2.1, y ∈ pc.1.set :=
  View.cover_of_tiledL (runB m hO c t h0 xs0).2.2.2.1 S8x256.size (by sl_kernel_rfl) y

theorem coverB_14 (hO : Ok m) (c : Dev nD) (t : Fin (cfgM m hO).N) (h0 : ¬t.val % 144 = 0) (xs0 : Vec F S128x1 .f32) (y : S256x128.Idx) :
    ∃ pc ∈ (runB m hO c t h0 xs0).2.2.2.2.1, y ∈ pc.1.set :=
  View.cover_of_tiledL (runB m hO c t h0 xs0).2.2.2.2.1 S256x128.size (by sl_kernel_rfl) y

theorem coverB_15 (hO : Ok m) (c : Dev nD) (t : Fin (cfgM m hO).N) (h0 : ¬t.val % 144 = 0) (xs0 : Vec F S128x1 .f32) (y : S128x128.Idx) :
    ∃ pc ∈ (runB m hO c t h0 xs0).2.2.2.2.2.1, y ∈ pc.1.set :=
  View.cover_of_tiledL (runB m hO c t h0 xs0).2.2.2.2.2.1 S128x128.size (by sl_kernel_rfl) y

theorem coverB_S (hO : Ok m) (c : Dev nD) (t : Fin (cfgM m hO).N) (h0 : ¬t.val % 144 = 0) (xs0 : Vec F S128x1 .f32) (y : S128x1.Idx) :
    ∃ pc ∈ (runB m hO c t h0 xs0).2.2.2.2.2.2.1, y ∈ pc.1.set :=
  View.cover_of_tiledL (runB m hO c t h0 xs0).2.2.2.2.2.2.1 S128x1.size (by sl_kernel_rfl) y

/-- What the results' blocks and the carried counts hold after the first point. -/
def outsA (hO : Ok m) (c : Dev nD) (t : Fin (cfgM m hO).N) (h0 : t.val % 144 = 0) : Vec F S256x1024 .f32 × Vec F S256x1024 .bf16 × Vec F S8x256 .i32 × Vec F S8x256 .i32 × Vec F S256x128 .f32 × Vec F S128x128 .f32 × Vec F S128x1 .f32 :=
  (VO0_10.read (Elt F) (VO0_10.writes (Elt F) VO0_10.junk (runA m hO c t h0).1),
    VO0_11.read (Elt F) (VO0_11.writes (Elt F) VO0_11.junk (runA m hO c t h0).2.1),
    VO0_12.read (Elt F) (VO0_12.writes (Elt F) VO0_12.junk (runA m hO c t h0).2.2.1),
    VO0_13.read (Elt F) (VO0_13.writes (Elt F) VO0_13.junk (runA m hO c t h0).2.2.2.1),
    VO0_14.read (Elt F) (VO0_14.writes (Elt F) VO0_14.junk (runA m hO c t h0).2.2.2.2.1),
    VO0_15.read (Elt F) (VO0_15.writes (Elt F) VO0_15.junk (runA m hO c t h0).2.2.2.2.2.1),
    VS0_0.read (Elt F) (VS0_0.writes (Elt F) VS0_0.junk (runA m hO c t h0).2.2.2.2.2.2.1))

/-- What the results' blocks and the carried counts hold after a later point. -/
def outsB (hO : Ok m) (c : Dev nD) (t : Fin (cfgM m hO).N) (h0 : ¬t.val % 144 = 0) (xs0 : Vec F S128x1 .f32) : Vec F S256x1024 .f32 × Vec F S256x1024 .bf16 × Vec F S8x256 .i32 × Vec F S8x256 .i32 × Vec F S256x128 .f32 × Vec F S128x128 .f32 × Vec F S128x1 .f32 :=
  (VO0_10.read (Elt F) (VO0_10.writes (Elt F) VO0_10.junk (runB m hO c t h0 xs0).1),
    VO0_11.read (Elt F) (VO0_11.writes (Elt F) VO0_11.junk (runB m hO c t h0 xs0).2.1),
    VO0_12.read (Elt F) (VO0_12.writes (Elt F) VO0_12.junk (runB m hO c t h0 xs0).2.2.1),
    VO0_13.read (Elt F) (VO0_13.writes (Elt F) VO0_13.junk (runB m hO c t h0 xs0).2.2.2.1),
    VO0_14.read (Elt F) (VO0_14.writes (Elt F) VO0_14.junk (runB m hO c t h0 xs0).2.2.2.2.1),
    VO0_15.read (Elt F) (VO0_15.writes (Elt F) VO0_15.junk (runB m hO c t h0 xs0).2.2.2.2.2.1),
    VS0_0.read (Elt F) (VS0_0.writes (Elt F) VS0_0.junk (runB m hO c t h0 xs0).2.2.2.2.2.2.1))

/-- What they hold after the point at each position. -/
def outsAt0 (hO : Ok m) (c : Dev nD) : (n : ℕ) → n < (cfgM m hO).N → Vec F S256x1024 .f32 × Vec F S256x1024 .bf16 × Vec F S8x256 .i32 × Vec F S8x256 .i32 × Vec F S256x128 .f32 × Vec F S128x128 .f32 × Vec F S128x1 .f32
  | 0, hn => outsA m hO c ⟨0, hn⟩ (Nat.zero_mod _)
  | n + 1, hn => if h0 : (n + 1) % 144 = 0 then outsA m hO c ⟨n + 1, hn⟩ h0
    else outsB m hO c ⟨n + 1, hn⟩ h0 (outsAt0 hO c n (Nat.lt_of_succ_lt hn)).2.2.2.2.2.2

theorem outsAt0_A (hO : Ok m) (c : Dev nD) (t : Fin (cfgM m hO).N) (h0 : t.val % 144 = 0) : outsAt0 m hO c t.val t.isLt = outsA m hO c t h0 := by
  obtain ⟨n, hn⟩ := t
  cases n with
  | zero => exact rfl
  | succ n => exact dif_pos h0

theorem outsAt0_B (hO : Ok m) (c : Dev nD) (t : Fin (cfgM m hO).N) (h0 : ¬t.val % 144 = 0) :
    outsAt0 m hO c t.val t.isLt = outsB m hO c t h0 (outsAt0 m hO c (t.val - 1) (Nat.lt_of_le_of_lt (Nat.sub_le _ _) t.isLt)).2.2.2.2.2.2 := by
  obtain ⟨n, hn⟩ := t
  cases n with
  | zero => exact absurd (Nat.zero_mod _) h0
  | succ n => exact dif_neg h0

/-- The invariant before a position: at the start every scratch at anything; afterwards the carried counts at what the point
    before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2.2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2.2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2.2.2.2)) ∗ (∃ r, prngReg c r)) ∗ Pipeline.ΦT pre0 (tbl m) c) := by
  cases n with
  | zero => exact absurd rfl hz
  | succ n => rfl

/-! ## The pipeline's proof data -/

/-- The pipeline's data on one core: the arrays as the region finds them, each input's buffer at its block, each result's at
    what the point leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => (outsAt0 m hO c t.val t.isLt).1
    | ⟨11, _⟩ => (outsAt0 m hO c t.val t.isLt).2.1
    | ⟨12, _⟩ => (outsAt0 m hO c t.val t.isLt).2.2.1
    | ⟨13, _⟩ => (outsAt0 m hO c t.val t.isLt).2.2.2.1
    | ⟨14, _⟩ => (outsAt0 m hO c t.val t.isLt).2.2.2.2.1
    | ⟨15, _⟩ => (outsAt0 m hO c t.val t.isLt).2.2.2.2.2.1
    | ⟨_ + 16, h⟩ => absurd h (Nat.not_lt.2 (Nat.le_add_left _ _))
  Φ t := PhiS m hO c t.val (Nat.le_of_lt_succ t.isLt)
  q _ := fullShare
  owed _ := 0

/-- The data's arrays are those the region finds. -/
theorem A_eq (hO : Ok m) (c : Dev nD) (w : Fin (cfgM m hO).W) : (dats m hO 0 c).A w = V m c (Pipeline.arrRef spec0 w) := by
  dsimp only [dats]

/-- The invariant at a point's start, at its position. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = (outsAt0 m hO c t.val t.isLt).1 := by dsimp only [dats]; try rfl
theorem after0_11 (hO : Ok m) (c : Dev nD) (t : Fin (cfgM m hO).N) : (dats m hO 0 c).after 11 t = (outsAt0 m hO c t.val t.isLt).2.1 := by dsimp only [dats]; try rfl
theorem after0_12 (hO : Ok m) (c : Dev nD) (t : Fin (cfgM m hO).N) : (dats m hO 0 c).after 12 t = (outsAt0 m hO c t.val t.isLt).2.2.1 := by dsimp only [dats]; try rfl
theorem after0_13 (hO : Ok m) (c : Dev nD) (t : Fin (cfgM m hO).N) : (dats m hO 0 c).after 13 t = (outsAt0 m hO c t.val t.isLt).2.2.2.1 := by dsimp only [dats]; try rfl
theorem after0_14 (hO : Ok m) (c : Dev nD) (t : Fin (cfgM m hO).N) : (dats m hO 0 c).after 14 t = (outsAt0 m hO c t.val t.isLt).2.2.2.2.1 := by dsimp only [dats]; try rfl
theorem after0_15 (hO : Ok m) (c : Dev nD) (t : Fin (cfgM m hO).N) : (dats m hO 0 c).after 15 t = (outsAt0 m hO c t.val t.isLt).2.2.2.2.2.1 := by dsimp only [dats]; try rfl

/-- Each input's buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-! ## The body obligation, at a generic point -/

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t))

set_option maxHeartbeats 12800000 in
/-- The body at any point: at the first the counts are found at anything, later as the point before left them; they are given
    back at what this point leaves. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15]
  rw [show (dats m hO 0 c).Φ t.succ = PhiS m hO c (t.val + 1) t.isLt from rfl, PhiS_succ, PhiT0_eq]
  have hN : t.val < 144 := lt_of_lt_of_eq t.isLt (show (cfgM m hO).N = 144 from N_0)
  by_cases h0 : t.val % 144 = 0
  · by_cases hz : t.val = 0
    · rw [PhiS_castSucc m hO c t, PhiS_zero m hO c _ _ hz, PhiT0_eq, PhiA0_eq]
      rw [outsAt0_A m hO c t h0]
      unfold outsA; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA m hO c t h0).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      isplitl [HT0]; · iexact HT0
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (coverA_S m hO c t h0)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverA_10 m hO c t h0)
      isplitl [H11]
      · unfold owns; iexists _; isplitr
        swap; · iexact H11
        ipureintro; exact View.read_writes_of_cover _ _ _ _ _ (coverA_11 m hO c t h0)
      isplitl [H12]
      · unfold owns; iexists _; isplitr
        swap; · iexact H12
        ipureintro; exact View.read_writes_of_cover _ _ _ _ _ (coverA_12 m hO c t h0)
      isplitl [H13]
      · unfold owns; iexists _; isplitr
        swap; · iexact H13
        ipureintro; exact View.read_writes_of_cover _ _ _ _ _ (coverA_13 m hO c t h0)
      isplitl [H14]
      · unfold owns; iexists _; isplitr
        swap; · iexact H14
        ipureintro; exact View.read_writes_of_cover _ _ _ _ _ (coverA_14 m hO c t h0)
      unfold owns; iexists _; isplitr
      swap; · iexact H15
      ipureintro; exact View.read_writes_of_cover _ _ _ _ _ (coverA_15 m hO c t h0)
    · exfalso; have hN : t.val < 144 := lt_of_lt_of_eq t.isLt (show (cfgM m hO).N = 144 from N_0); omega
  · by_cases hz : t.val = 0
    · exfalso; have hN : t.val < 144 := lt_of_lt_of_eq t.isLt (show (cfgM m hO).N = 144 from N_0); omega
    · rw [PhiS_castSucc m hO c t, PhiS_pos m hO c _ _ hz, PhiT0_eq]
      rw [outsAt0_B m hO c t h0]
      unfold outsB; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runB m hO c t h0 _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      isplitl [HT0]; · iexact HT0
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (coverB_S m hO c t h0 _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverB_10 m hO c t h0 _)
      isplitl [H11]
      · unfold owns; iexists _; isplitr
        swap; · iexact H11
        ipureintro; exact View.read_writes_of_cover _ _ _ _ _ (coverB_11 m hO c t h0 _)
      isplitl [H12]
      · unfold owns; iexists _; isplitr
        swap; · iexact H12
        ipureintro; exact View.read_writes_of_cover _ _ _ _ _ (coverB_12 m hO c t h0 _)
      isplitl [H13]
      · unfold owns; iexists _; isplitr
        swap; · iexact H13
        ipureintro; exact View.read_writes_of_cover _ _ _ _ _ (coverB_13 m hO c t h0 _)
      isplitl [H14]
      · unfold owns; iexists _; isplitr
        swap; · iexact H14
        ipureintro; exact View.read_writes_of_cover _ _ _ _ _ (coverB_14 m hO c t h0 _)
      unfold owns; iexists _; isplitr
      swap; · iexact H15
      ipureintro; exact View.read_writes_of_cover _ _ _ _ _ (coverB_15 m hO c t h0 _)

/-- The body at a point's slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands over is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives the scratch back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 144 := N_0; omega)

/-! ## The run and the frame -/

set_option backward.isDefEq.respectTransparency.types false in
/-- The run, with every semaphore counter at zero at its end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run: every array of the pipeline ends at what the data says, every other as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- The frame. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.OutputIdeal.Hand

end
-- ==== Proof.OutputIdealTable.lean ====
/- The output projection's table of groups: a constant of the program, its entry for the block of 256 rows n being n / 16, so every
   block of the modulation the grid reads lies inside its array. -/
module

public import proofs.«01_k».proof.Proof.OutputIdealFrame
public import Idealize.ShloMosaic.Lib.ValueIdxCore

@[expose] public section

set_option maxRecDepth 16384

noncomputable section

namespace Cert.OutputIdeal.Hand

open Cert.OutputIdeal Cert.OutputIdeal.Gen Idealize.ShloMosaic Idealize.ShloMosaic.TcCoe

variable {F : FTy → Type} [FloatOps F] (m : (ℓ : Loc nD τ sig) → Buf (Elt F) ℓ)

/-- The constant's entries, row by row. -/
theorem lit_val : ∀ n : Fin 144, (lit0 n).toNat = n.val / 16 := by decide +kernel

/-- The table when the grid starts is the constant. -/
theorem tbl_eq : tbl m 0 = fun i => lit0 (S144.rowMajor i) := by
  show StableHlo.after hostOps0 (fun b => m (0, b)) main_c = _
  after_results_simp <;> rfl

/-- The entry for the block of rows `n`. -/
theorem tbl_val (n : Fin 144) : BitVec.toNat (tbl m 0 (ValueIdx.ix1 n : S144.Idx)) = n.val / 16 := by
  rw [tbl_eq]
  have e : S144.rowMajor (ValueIdx.ix1 n : S144.Idx) = n := Fin.ext (Shape.rowMajor_val_one _)
  exact (congrArg (fun k : Fin 144 => (lit0 k).toNat) e).trans (lit_val n)

/-- The block of rows a grid point works on. -/
abbrev rowOf (i : grid0.Coords) : Fin 144 := ⟨(i 0).val, (i 0).isLt⟩

theorem word_at (i : grid0.Coords) :
    (tbl m).at 0 (Rect.unit (s := S144) ![(Scalar.indexCast (BitVec.ofNat 32 (i 0).val)).toNat] S1.size (k0_off1_inb i)) numel1_S1
      = tbl m 0 (ValueIdx.ix1 (rowOf i) : S144.Idx) := by
  unfold Pipeline.Prefetch.Contents.at
  have hb : (i 0).val < 144 := (i 0).isLt
  have key : ∀ (x : S144.Idx), (x 0).val = (i 0).val → x = (ValueIdx.ix1 (rowOf i) : S144.Idx) := fun x hx => by
    rw [ValueIdx.eq_ix1 x]; congr 1; exact Fin.ext hx
  refine congrArg (tbl m 0) (key _ ?_)
  show (Scalar.indexCast (BitVec.ofNat 32 (i 0).val)).toNat + 1 * _ = (i 0).val
  have h0 : ∀ x : Fin 1, x.val = 0 := fun x => by omega
  erw [h0]
  rw [show (Scalar.indexCast (BitVec.ofNat 32 (i 0).val)) = BitVec.ofNat 32 (i 0).val from rfl, BitVec.toNat_ofNat]
  omega

/-- Where the modulation's block sits at a grid point: at its group. -/
theorem tr5 (i : grid0.Coords) : cc0_transform_5 k0_off1_inb numel1_S1 (tbl m) i = ![(i 0).val / 16, 0, 0, 0] := by
  unfold cc0_transform_5; dsimp only; rw [word_at, tbl_val]; rfl

/-- The pipeline's side condition holds of the constant. -/
theorem ok : Ok m := by
  refine fun i => ⟨?_, .inl rfl⟩
  rw [tr5]
  have hb : (i 0).val < 144 := (i 0).isLt
  generalize (i 0).val = w at hb
  intro a
  fin_cases a <;> simp <;> omega

end Cert.OutputIdeal.Hand

end
-- ==== Proof.OutputSpec.lean ====
/- What the output projection computes, at one place: the three mixers' rows side by side times the projection, scaled by
   the modulation of their group of rows and added to the residual; and that residual over the root of its mean square,
   scaled and shifted by the modulation. -/
module

public import Idealize.ShloMosaic.PureOps.Ideal
public import Idealize.ShloMosaic.Lib.ValueIdxCore
public import Idealize.ShloMosaic.Lib.Pointwise

@[expose] public section

noncomputable section

namespace Cert.OutputSpec

open Idealize.ShloMosaic

/-- The group of 4096 rows a row lies in. -/
def groupOf (R : Fin 36864) : Fin 16 := ⟨R.val / 4096, by omega⟩

/-- One row of three arrays side by side. -/
def side {n : ℕ} (a : (⟨2, ![n, 512]⟩ : Shape).Idx → EReal) (p : (⟨2, ![n, 256]⟩ : Shape).Idx → EReal)
    (f : (⟨2, ![n, 256]⟩ : Shape).Idx → EReal) (r : Fin n) (k : Fin 1024) : EReal :=
  if h : k.val < 512 then a (ix2 r ⟨k.val, h⟩)
  else if h' : k.val < 768 then p (ix2 r ⟨k.val - 512, by omega⟩)
  else f (ix2 r ⟨k.val - 768, by omega⟩)

/-- Equal rows side by side are equal. -/
theorem side_eq {n n' : ℕ} {a : (⟨2, ![n, 512]⟩ : Shape).Idx → EReal} {p f : (⟨2, ![n, 256]⟩ : Shape).Idx → EReal}
    {a' : (⟨2, ![n', 512]⟩ : Shape).Idx → EReal} {p' f' : (⟨2, ![n', 256]⟩ : Shape).Idx → EReal} {r : Fin n} {r' : Fin n'}
    (ha : ∀ k, a (ix2 r k) = a' (ix2 r' k)) (hp : ∀ k, p (ix2 r k) = p' (ix2 r' k)) (hf : ∀ k, f (ix2 r k) = f' (ix2 r' k)) (k : Fin 1024) :
    side a p f r k = side a' p' f' r' k := by
  unfold side
  by_cases h1 : k.val < 512
  · rw [dif_pos h1, dif_pos h1]; exact ha _
  · rw [dif_neg h1, dif_neg h1]
    by_cases h2 : k.val < 768
    · rw [dif_pos h2, dif_pos h2]; exact hp _
    · rw [dif_neg h2, dif_neg h2]; exact hf _

variable (x : (⟨2, ![36864, 1024]⟩ : Shape).Idx → EReal) (a : (⟨2, ![36864, 512]⟩ : Shape).Idx → EReal)
variable (p : (⟨2, ![36864, 256]⟩ : Shape).Idx → EReal) (f : (⟨2, ![36864, 256]⟩ : Shape).Idx → EReal)
variable (w : (⟨2, ![1024, 1024]⟩ : Shape).Idx → EReal) (mods : (⟨4, ![16, 6, 1, 1024]⟩ : Shape).Idx → EReal)
variable (n : (⟨1, ![1024]⟩ : Shape).Idx → EReal)

/-- The residual after the mixers. -/
def resid (R : Fin 36864) (j : Fin 1024) : EReal :=
  x (ix2 R j) + mods (ix4 (groupOf R) 2 0 j) * ∑ k : Fin 1024, side a p f R k * w (ix2 k j)

/-- One over the root of a row's mean square. -/
def rootOf (R : Fin 36864) : EReal :=
  Ideal.rsqrt (Ideal.div (∑ k : Fin 1024, resid x a p f w mods R k * resid x a p f w mods R k) (Ideal.ofBits .f32 0x44800000#32)
    + Ideal.ofBits .f32 0x358637BD#32)

/-- The normalised and modulated residual. -/
def normed (R : Fin 36864) (k : Fin 1024) : EReal :=
  resid x a p f w mods R k * rootOf x a p f w mods R * n (ix1 k) * (1 + mods (ix4 (groupOf R) 4 0 k)) + mods (ix4 (groupOf R) 3 0 k)

end Cert.OutputSpec

end
-- ==== Proof.OutputBlock.lean ====
/- One block of the output projection, read at one place of each of its first two results. -/
module

public import proofs.«01_k».proof.Proof.Gen.OutputIdeal.Skeleton
public import proofs.«01_k».proof.Proof.OutputSpec
public import Idealize.ShloMosaic.Lib.Pointwise
public import Idealize.ShloMosaic.Lib.IdealHost

@[expose] public section

set_option maxRecDepth 16384

noncomputable section

namespace Cert.OutputIdeal.Hand

open Cert.OutputIdeal Cert.OutputIdeal.Gen Idealize.ShloMosaic Idealize.ShloMosaic.TcCoe Idealize.SL.Sem Cert.OutputSpec

theorem cat_at (a : FVec Ideal S256x512 .bf16) (p f : FVec Ideal S256x256 .bf16) (r : Fin 256) (k : Fin 1024) :
    concatenate S256x1024 1 [⟨S256x512, a⟩, ⟨S256x256, p⟩, ⟨S256x256, f⟩] concatenates_S256x512_S256x256_S256x256_S256x1024_d1 (ix2 r k) = side a p f r k := by
  unfold side
  pointwise
  by_cases h1 : k.val < 512
  · rw [dif_pos h1, dif_pos h1]
  · rw [dif_neg h1, dif_neg h1]
    by_cases h2 : k.val < 768
    · rw [dif_pos h2, dif_pos (show k.val - 512 < 256 by omega)]
    · rw [dif_neg h2, dif_neg (show ¬k.val - 512 < 256 by omega)]
      exact congrArg (fun q : Fin 256 => f (ix2 r q)) (Fin.ext (show k.val - 512 - 256 = k.val - 768 by omega))

/-- The block's residual. -/
def bResid (x : Vec Ideal S256x1024 .f32) (a : Vec Ideal S256x512 .bf16) (p f : Vec Ideal S256x256 .bf16) (g : Vec Ideal S1x1x1x1024 .f32)
    (w : Vec Ideal S1024x1024 .bf16) (r : Fin 256) (j : Fin 1024) : EReal :=
  x (ix2 r j) + g (ix4 0 0 0 j) * ∑ k : Fin 1024, side a p f r k * w (ix2 k j)

theorem mm_at (v : FVec Ideal S256x1024 .bf16) (x : FVec Ideal S256x1024 .f32) (g : FVec Ideal S1x1x1x1024 .f32)
    (w : FVec Ideal S1024x1024 .bf16) (r : Fin 256) (j : Fin 1024) :
    addf x (mulf (broadcastTo S256x1024 (shapeCast S1x1024 g shapeCasts_S1x1x1x1024_S1x1024) broadcasts_S1x1024_S256x1024) (matmul dot_S256x1024_S1024x1024_S256x1024_1_0_0_1_n_n none v w (constant S256x1024 .f32 0x00000000#32))) (ix2 r j) = x (ix2 r j) + g (ix4 0 0 0 j) * ∑ k : Fin 1024, v (ix2 r k) * w (ix2 k j) := by
  pointwise

theorem pay5_at (x : Vec Ideal S256x1024 .f32) (a : Vec Ideal S256x512 .bf16) (p f : Vec Ideal S256x256 .bf16) (g : Vec Ideal S1x1x1x1024 .f32)
    (w : Vec Ideal S1024x1024 .bf16) (r : Fin 256) (j : Fin 1024) : k0_pay5 (F := Ideal) a p f x g w (ix2 r j) = bResid x a p f g w r j := by
  unfold k0_pay5 bResid
  refine (mm_at _ x g w r j).trans ?_
  exact congrArg (fun s => x (ix2 r j) + g (ix4 0 0 0 j) * s) (Finset.sum_congr rfl fun k _ => congrArg (· * w (ix2 k j)) (cat_at a p f r k))

/-- The sums of squares of the block's rows. -/
theorem pay9_at (x : Vec Ideal S256x1024 .f32) (a : Vec Ideal S256x512 .bf16) (p f : Vec Ideal S256x256 .bf16) (g : Vec Ideal S1x1x1x1024 .f32)
    (w : Vec Ideal S1024x1024 .bf16) (r : Fin 256) :
    k0_pay9 (F := Ideal) a p f x g w (ix2 r 0) = ∑ k : Fin 1024, bResid x a p f g w r k * bResid x a p f g w r k := by
  refine Eq.trans (b := ∑ k : Fin 1024, k0_pay5 (F := Ideal) a p f x g w (ix2 r k) * k0_pay5 (F := Ideal) a p f x g w (ix2 r k)) ?_
    (Finset.sum_congr rfl fun k _ => by rw [pay5_at])
  unfold k0_pay9
  generalize k0_pay5 (F := Ideal) a p f x g w = P
  pointwise

theorem pay12_at (P : FVec Ideal S256x1024 .f32) (n : Vec Ideal S1x1024 .f32) (sc sh : Vec Ideal S1x1x1x1024 .f32) (q : FVec Ideal S256x1 .f32)
    (r : Fin 256) (k : Fin 1024) : k0_pay12 (F := Ideal) P (k0_pay6 n) (k0_pay7 sc) (k0_pay8 sh) q (k0_pay10 (F := Ideal)) (ix2 r k)
      = P (ix2 r k) * Ideal.rsqrt (Ideal.div (q (ix2 r 0)) (Ideal.ofBits .f32 0x44800000#32) + Ideal.ofBits .f32 0x358637BD#32)
        * n (ix2 0 k) * (1 + sc (ix4 0 0 0 k)) + sh (ix4 0 0 0 k) := by
  pointwise [k0_pay12, k0_pay11, k0_pay6, k0_pay7, k0_pay8, k0_pay10]

end Cert.OutputIdeal.Hand

end
-- ==== Proof.OutputOut.lean ====
/- What a grid point of the output projection leaves in the blocks of its first two results, at the first point and at the
   later ones alike. -/
module

public import proofs.«01_k».proof.Proof.OutputBlock
public import proofs.«01_k».proof.Proof.Gen.OutputIdeal.Frame.RunB
public import Idealize.ShloMosaic.Lib.Pipeline.Value
public import Idealize.ShloMosaic.Lib.Pipeline.ValueKit.Basic

@[expose] public section

set_option maxRecDepth 16384

noncomputable section

namespace Cert.OutputIdeal.Hand

open Cert.OutputIdeal Cert.OutputIdeal.Gen Idealize.ShloMosaic Idealize.ShloMosaic.TcCoe Idealize.SL.Sem Cert.OutputSpec

/-- One row of the block's modulation. -/
abbrev rowOf5 (x5 : Vec Ideal S1x6x1x1024 .f32) (b : Fin 6) : Vec Ideal S1x1x1x1024 .f32 := fun j => x5 (ix4 0 b 0 ⟨(j 3).val, (j 3).isLt⟩)

theorem ld_row (x5 : Vec Ideal S1x6x1x1024 .f32) (b : Fin 6) (inb) :
    View.ld x5 (Rect.unit (s := S1x6x1x1024) ![0, b.val, 0, 0] S1x1x1x1024.size inb) = rowOf5 x5 b := by
  have h0 : ∀ x : Fin 1, x.val = 0 := fun x => by omega
  refine funext fun j => congrArg x5 (funext fun a => Fin.ext ?_)
  match a with
  | ⟨0, _⟩ => show 0 + 1 * (j 0).val = 0; have := h0 (j 0); omega
  | ⟨1, _⟩ => show b.val + 1 * (j 1).val = b.val; have := h0 (j 1); omega
  | ⟨2, _⟩ => show 0 + 1 * (j 2).val = 0; have := h0 (j 2); omega
  | ⟨3, _⟩ => show 0 + 1 * (j 3).val = (j 3).val; omega

/-- The block's normalised rows. -/
abbrev bOut (x0 : Vec Ideal S256x1024 .f32) (x1 : Vec Ideal S256x512 .bf16) (x2 x3 : Vec Ideal S256x256 .bf16) (x4 : Vec Ideal S1024x1024 .bf16)
    (x5 : Vec Ideal S1x6x1x1024 .f32) (x6 : Vec Ideal S1x1024 .f32) : FVec Ideal S256x1024 .bf16 :=
  k0_pay12 (k0_pay5 x1 x2 x3 x0 (rowOf5 x5 2) x4) (k0_pay6 x6) (k0_pay7 (rowOf5 x5 4)) (k0_pay8 (rowOf5 x5 3))
    (k0_pay9 x1 x2 x3 x0 (rowOf5 x5 2) x4) (k0_pay10 (F := Ideal))

/-- The block's normalised rows, from rows of the modulation found equal. -/
theorem bOut_of (x0 : Vec Ideal S256x1024 .f32) (x1 : Vec Ideal S256x512 .bf16) (x2 x3 : Vec Ideal S256x256 .bf16) (x4 : Vec Ideal S1024x1024 .bf16)
    (x5 : Vec Ideal S1x6x1x1024 .f32) (x6 : Vec Ideal S1x1024 .f32) {g sc sh : Vec Ideal S1x1x1x1024 .f32}
    (hg : g = rowOf5 x5 2) (hsc : sc = rowOf5 x5 4) (hsh : sh = rowOf5 x5 3) :
    k0_pay12 (k0_pay5 x1 x2 x3 x0 g x4) (k0_pay6 x6) (k0_pay7 sc) (k0_pay8 sh) (k0_pay9 x1 x2 x3 x0 g x4) (k0_pay10 (F := Ideal))
      = bOut x0 x1 x2 x3 x4 x5 x6 := by
  subst hg hsc hsh
  rfl

theorem storedA_10 (c : Dev nD) (i : grid0.Coords) (arg2) (harg2) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (hc : cond0_0 i)
    (x0 : Vec Ideal S256x1024 .f32) (x1 : Vec Ideal S256x512 .bf16) (x2 x3 : Vec Ideal S256x256 .bf16) (x4 : Vec Ideal S1024x1024 .bf16) (x5 : Vec Ideal S1x6x1x1024 .f32)
    (x6 : Vec Ideal S1x1024 .f32) (x7 : Vec Ideal S1024x128 .f32) (x8 : Vec Ideal S1x128 .f32) (x9 : Vec Ideal S256x256 .bf16) (xt0) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 xt0).1 = k0_pay5 x1 x2 x3 x0 (rowOf5 x5 2) x4 := by
  have z2 : (![0, 0] : Fin 2 → ℕ) = 0 := by decide
  unfold kernelRun0_A
  dsimp only
  rw [View.canon_unit_zero z2]
  simp only [View.readAt_eq_ld, harg2.read_unread, harg3.read_unread, harg4.read_unread, harg5.read_unread, harg6.read_unread, harg7.read_unread, harg8.read_unread,
    View.ld_unit_zero (S := S256x1024) z2, View.ld_unit_zero (S := S256x512) z2, View.ld_unit_zero (S := S256x256) z2,
    View.ld_unit_zero (S := S1024x1024) z2, View.ld_unit_zero (S := S1x1024) z2]
  exact congrArg (fun g => k0_pay5 x1 x2 x3 x0 g x4) (ld_row x5 2 _)

theorem storedA_11 (c : Dev nD) (i : grid0.Coords) (arg2) (harg2) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (hc : cond0_0 i)
    (x0 : Vec Ideal S256x1024 .f32) (x1 : Vec Ideal S256x512 .bf16) (x2 x3 : Vec Ideal S256x256 .bf16) (x4 : Vec Ideal S1024x1024 .bf16) (x5 : Vec Ideal S1x6x1x1024 .f32)
    (x6 : Vec Ideal S1x1024 .f32) (x7 : Vec Ideal S1024x128 .f32) (x8 : Vec Ideal S1x128 .f32) (x9 : Vec Ideal S256x256 .bf16) (xt0) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 xt0).2.1 = bOut x0 x1 x2 x3 x4 x5 x6 := by
  have z2 : (![0, 0] : Fin 2 → ℕ) = 0 := by decide
  unfold kernelRun0_A
  dsimp only
  rw [View.canon_unit_zero z2]
  sl_unfold_words
  simp only [View.readAt_eq_ld, harg2.read_unread, harg3.read_unread, harg4.read_unread, harg5.read_unread, harg6.read_unread, harg7.read_unread, harg8.read_unread,
    View.ld_unit_zero (S := S256x1024) z2, View.ld_unit_zero (S := S256x512) z2, View.ld_unit_zero (S := S256x256) z2,
    View.ld_unit_zero (S := S1024x1024) z2, View.ld_unit_zero (S := S1x1024) z2]
  exact bOut_of x0 x1 x2 x3 x4 x5 x6 (ld_row x5 2 _) (ld_row x5 4 _) (ld_row x5 3 _)

theorem storedB_10 (c : Dev nD) (i : grid0.Coords) (arg2) (harg2) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (hc : ¬cond0_0 i)
    (x0 : Vec Ideal S256x1024 .f32) (x1 : Vec Ideal S256x512 .bf16) (x2 x3 : Vec Ideal S256x256 .bf16) (x4 : Vec Ideal S1024x1024 .bf16) (x5 : Vec Ideal S1x6x1x1024 .f32)
    (x6 : Vec Ideal S1x1024 .f32) (x7 : Vec Ideal S1024x128 .f32) (x8 : Vec Ideal S1x128 .f32) (x9 : Vec Ideal S256x256 .bf16) (xt0) (xs0) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 xt0 xs0).1 = k0_pay5 x1 x2 x3 x0 (rowOf5 x5 2) x4 := by
  have z2 : (![0, 0] : Fin 2 → ℕ) = 0 := by decide
  unfold kernelRun0_B
  dsimp only
  rw [View.canon_unit_zero z2]
  simp only [View.readAt_eq_ld, harg2.read_unread, harg3.read_unread, harg4.read_unread, harg5.read_unread, harg6.read_unread, harg7.read_unread, harg8.read_unread,
    View.ld_unit_zero (S := S256x1024) z2, View.ld_unit_zero (S := S256x512) z2, View.ld_unit_zero (S := S256x256) z2,
    View.ld_unit_zero (S := S1024x1024) z2, View.ld_unit_zero (S := S1x1024) z2]
  exact congrArg (fun g => k0_pay5 x1 x2 x3 x0 g x4) (ld_row x5 2 _)

theorem storedB_11 (c : Dev nD) (i : grid0.Coords) (arg2) (harg2) (arg3) (harg3) (arg4) (harg4) (arg5) (harg5) (arg6) (harg6) (arg7) (harg7) (arg8) (harg8) (arg9) (harg9) (arg10) (harg10) (arg11) (harg11) (arg12) (harg12) (arg13) (harg13) (arg14) (harg14) (arg15) (harg15) (arg16) (harg16) (arg17) (harg17) (arg18) (harg18) (hc : ¬cond0_0 i)
    (x0 : Vec Ideal S256x1024 .f32) (x1 : Vec Ideal S256x512 .bf16) (x2 x3 : Vec Ideal S256x256 .bf16) (x4 : Vec Ideal S1024x1024 .bf16) (x5 : Vec Ideal S1x6x1x1024 .f32)
    (x6 : Vec Ideal S1x1024 .f32) (x7 : Vec Ideal S1024x128 .f32) (x8 : Vec Ideal S1x128 .f32) (x9 : Vec Ideal S256x256 .bf16) (xt0) (xs0) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 x2 x3 x4 x5 x6 x7 x8 x9 xt0 xs0).2.1 = bOut x0 x1 x2 x3 x4 x5 x6 := by
  have z2 : (![0, 0] : Fin 2 → ℕ) = 0 := by decide
  unfold kernelRun0_B
  dsimp only
  rw [View.canon_unit_zero z2]
  sl_unfold_words
  simp only [View.readAt_eq_ld, harg2.read_unread, harg3.read_unread, harg4.read_unread, harg5.read_unread, harg6.read_unread, harg7.read_unread, harg8.read_unread,
    View.ld_unit_zero (S := S256x1024) z2, View.ld_unit_zero (S := S256x512) z2, View.ld_unit_zero (S := S256x256) z2,
    View.ld_unit_zero (S := S1024x1024) z2, View.ld_unit_zero (S := S1x1024) z2]
  exact bOut_of x0 x1 x2 x3 x4 x5 x6 (ld_row x5 2 _) (ld_row x5 4 _) (ld_row x5 3 _)

end Cert.OutputIdeal.Hand

end
-- ==== Proof.OutputValue.lean ====
/- What the output projection leaves in its first two results: at each row the formulas of `OutputSpec`. -/
module

public import proofs.«01_k».proof.Proof.OutputIdealTable
public import proofs.«01_k».proof.Proof.OutputOut

@[expose] public section

set_option maxRecDepth 16384

noncomputable section

namespace Cert.OutputIdeal.Hand

open Cert.OutputIdeal Cert.OutputIdeal.Gen Idealize.ShloMosaic Idealize.ShloMosaic.TcCoe Idealize.SL.Sem Cert.OutputSpec
open Idealize.ShloMosaic.Pipeline (Dat)

/-- A grid point's coordinate is its position. -/
theorem coord_val : ∀ t : Fin grid0.N, (grid0.coords t 0).val = t.val := by decide +kernel

variable (m : (ℓ : Loc nD τ sig) → Buf (Elt Ideal) ℓ) (ρ : Dev nD → PrngReg)

theorem lt144 (t : Fin grid0.N) : t.val < 144 := lt_of_lt_of_eq t.isLt N_0

/-- The row of the whole array that a row of a grid point's block is. -/
abbrev rowAt (t : Fin grid0.N) (r : Fin 256) : Fin 36864 := ⟨t.val * 256 + r.val, by have := lt144 t; omega⟩

/-! ## The blocks the body reads -/

theorem iblk0_at (c : Dev nD) (t : Fin grid0.N) (r : Fin 256) (k : Fin 1024) :
    iblk m (ok m) c 0 t (ix2 r k) = V m c main_arg0 (ix2 (rowAt t r) k) := by
  show V m c main_arg0 ((((cfgM m (ok m)).win 0).blk t).view.emb (ix2 r k)) = _
  refine congrArg (V m c main_arg0) ?_
  have hv := coord_val t
  funext a; apply Fin.ext
  match a with
  | ⟨0, _⟩ =>
    show (BitVec.ofNat 32 (grid0.coords t 0).val).toNat * 256 + 1 * r.val = t.val * 256 + r.val
    have := lt144 t
    rw [hv, BitVec.toNat_ofNat]; omega
  | ⟨1, _⟩ => show 0 * 1024 + 1 * k.val = k.val; omega

theorem iblk1_at (c : Dev nD) (t : Fin grid0.N) (r : Fin 256) (k : Fin 512) :
    iblk m (ok m) c 1 t (ix2 r k) = V m c main_arg1 (ix2 (rowAt t r) k) := by
  show V m c main_arg1 ((((cfgM m (ok m)).win 1).blk t).view.emb (ix2 r k)) = _
  refine congrArg (V m c main_arg1) ?_
  have hv := coord_val t
  funext a; apply Fin.ext
  match a with
  | ⟨0, _⟩ =>
    show (BitVec.ofNat 32 (grid0.coords t 0).val).toNat * 256 + 1 * r.val = t.val * 256 + r.val
    have := lt144 t
    rw [hv, BitVec.toNat_ofNat]; omega
  | ⟨1, _⟩ => show 0 * 512 + 1 * k.val = k.val; omega

theorem iblk2_at (c : Dev nD) (t : Fin grid0.N) (r : Fin 256) (k : Fin 256) :
    iblk m (ok m) c 2 t (ix2 r k) = V m c main_arg2 (ix2 (rowAt t r) k) := by
  show V m c main_arg2 ((((cfgM m (ok m)).win 2).blk t).view.emb (ix2 r k)) = _
  refine congrArg (V m c main_arg2) ?_
  have hv := coord_val t
  funext a; apply Fin.ext
  match a with
  | ⟨0, _⟩ =>
    show (BitVec.ofNat 32 (grid0.coords t 0).val).toNat * 256 + 1 * r.val = t.val * 256 + r.val
    have := lt144 t
    rw [hv, BitVec.toNat_ofNat]; omega
  | ⟨1, _⟩ => show 0 * 256 + 1 * k.val = k.val; omega

theorem iblk3_at (c : Dev nD) (t : Fin grid0.N) (r : Fin 256) (k : Fin 256) :
    iblk m (ok m) c 3 t (ix2 r k) = V m c main_arg3 (ix2 (rowAt t r) k) := by
  show V m c main_arg3 ((((cfgM m (ok m)).win 3).blk t).view.emb (ix2 r k)) = _
  refine congrArg (V m c main_arg3) ?_
  have hv := coord_val t
  funext a; apply Fin.ext
  match a with
  | ⟨0, _⟩ =>
    show (BitVec.ofNat 32 (grid0.coords t 0).val).toNat * 256 + 1 * r.val = t.val * 256 + r.val
    have := lt144 t
    rw [hv, BitVec.toNat_ofNat]; omega
  | ⟨1, _⟩ => show 0 * 256 + 1 * k.val = k.val; omega

theorem iblk4_at (c : Dev nD) (t : Fin grid0.N) (k : Fin 1024) (j : Fin 1024) : iblk m (ok m) c 4 t (ix2 k j) = V m c main_arg4 (ix2 k j) := by
  show V m c main_arg4 ((((cfgM m (ok m)).win 4).blk t).view.emb (ix2 k j)) = _
  refine congrArg (V m c main_arg4) ?_
  funext a; apply Fin.ext
  match a with
  | ⟨0, _⟩ => show 0 * 1024 + 1 * k.val = k.val; omega
  | ⟨1, _⟩ => show 0 * 1024 + 1 * j.val = j.val; omega

theorem iblk5_at (c : Dev nD) (t : Fin grid0.N) (r : Fin 256) (b : Fin 6) (k : Fin 1024) :
    iblk m (ok m) c 5 t (ix4 0 b 0 k) = V m c main_arg5 (ix4 (groupOf (rowAt t r)) b 0 k) := by
  show V m c main_arg5 ((((cfgM m (ok m)).win 5).blk t).view.emb (ix4 0 b 0 k)) = _
  refine congrArg (V m c main_arg5) ?_
  have e : cc0_transform_5 k0_off1_inb numel1_S1 (tbl m) (grid0.coords t) = ![t.val / 16, 0, 0, 0] := by rw [tr5, coord_val]
  funext a; apply Fin.ext
  match a with
  | ⟨0, _⟩ =>
    show cc0_transform_5 k0_off1_inb numel1_S1 (tbl m) (grid0.coords t) 0 * 1 + 1 * 0 = (t.val * 256 + r.val) / 4096
    rw [e]; simp; omega
  | ⟨1, _⟩ =>
    show cc0_transform_5 k0_off1_inb numel1_S1 (tbl m) (grid0.coords t) 1 * 6 + 1 * b.val = b.val
    rw [e]; simp
  | ⟨2, _⟩ =>
    show cc0_transform_5 k0_off1_inb numel1_S1 (tbl m) (grid0.coords t) 2 * 1 + 1 * 0 = 0
    rw [e]; simp
  | ⟨3, _⟩ =>
    show cc0_transform_5 k0_off1_inb numel1_S1 (tbl m) (grid0.coords t) 3 * 1024 + 1 * k.val = k.val
    rw [e]; simp

/-- The gains as the region finds them: the argument as one row. -/
theorem V_gain (c : Dev nD) (k : Fin 1024) : V m c main_v16 (ix2 0 k) = m ((c : Thread nD τ).loc main_arg6) (ix1 k) := by
  show StableHlo.after hostOps0 (fun b => m (c, b)) main_v16 (ix2 0 k) = _
  unfold hostOps0
  after_results_simp
  pointwise

theorem iblk6_at (c : Dev nD) (t : Fin grid0.N) (k : Fin 1024) : iblk m (ok m) c 6 t (ix2 0 k) = m ((c : Thread nD τ).loc main_arg6) (ix1 k) := by
  rw [← V_gain m c]
  show V m c main_v16 ((((cfgM m (ok m)).win 6).blk t).view.emb (ix2 0 k)) = _
  refine congrArg (V m c main_v16) ?_
  funext a; apply Fin.ext
  match a with
  | ⟨0, _⟩ => rfl
  | ⟨1, _⟩ => show 0 * 1024 + 1 * k.val = k.val; omega

/-! ## What the body leaves -/

/-- The residual after the mixers, of the arguments. -/
abbrev residOf (c : Dev nD) (R : Fin 36864) (j : Fin 1024) : EReal :=
  resid (V m c main_arg0) (V m c main_arg1) (V m c main_arg2) (V m c main_arg3) (V m c main_arg4) (V m c main_arg5) R j

/-- Its normalised rows. -/
abbrev normedOf (c : Dev nD) (R : Fin 36864) (k : Fin 1024) : EReal :=
  normed (V m c main_arg0) (V m c main_arg1) (V m c main_arg2) (V m c main_arg3) (V m c main_arg4) (V m c main_arg5)
    (m ((c : Thread nD τ).loc main_arg6)) R k

theorem side_at (c : Dev nD) (t : Fin grid0.N) (r : Fin 256) (k : Fin 1024) :
    side (iblk m (ok m) c 1 t) (iblk m (ok m) c 2 t) (iblk m (ok m) c 3 t) r k
      = side (V m c main_arg1) (V m c main_arg2) (V m c main_arg3) (rowAt t r) k :=
  side_eq (iblk1_at m c t r) (iblk2_at m c t r) (iblk3_at m c t r) k

theorem bResid_at (c : Dev nD) (t : Fin grid0.N) (r : Fin 256) (j : Fin 1024) :
    bResid (iblk m (ok m) c 0 t) (iblk m (ok m) c 1 t) (iblk m (ok m) c 2 t) (iblk m (ok m) c 3 t) (rowOf5 (iblk m (ok m) c 5 t) 2) (iblk m (ok m) c 4 t) r j
      = residOf m c (rowAt t r) j := by
  unfold bResid residOf resid
  refine congrArg₂ (· + ·) (iblk0_at m c t r j) (congrArg₂ (· * ·) (iblk5_at m c t r 2 j) ?_)
  exact Finset.sum_congr rfl fun k _ => congrArg₂ (· * ·) (side_at m c t r k) (iblk4_at m c t k j)

theorem first_at (c : Dev nD) (t : Fin grid0.N) (r : Fin 256) (j : Fin 1024) :
    k0_pay5 (F := Ideal) (iblk m (ok m) c 1 t) (iblk m (ok m) c 2 t) (iblk m (ok m) c 3 t) (iblk m (ok m) c 0 t) (rowOf5 (iblk m (ok m) c 5 t) 2) (iblk m (ok m) c 4 t) (ix2 r j)
      = residOf m c (rowAt t r) j :=
  (pay5_at _ _ _ _ _ _ r j).trans (bResid_at m c t r j)

theorem second_at (c : Dev nD) (t : Fin grid0.N) (r : Fin 256) (k : Fin 1024) :
    bOut (iblk m (ok m) c 0 t) (iblk m (ok m) c 1 t) (iblk m (ok m) c 2 t) (iblk m (ok m) c 3 t) (iblk m (ok m) c 4 t) (iblk m (ok m) c 5 t) (iblk m (ok m) c 6 t) (ix2 r k)
      = normedOf m c (rowAt t r) k := by
  refine (pay12_at _ _ _ _ _ r k).trans ?_
  unfold normedOf normed rootOf
  refine congrArg₂ (· + ·) (congrArg₂ (· * ·) (congrArg₂ (· * ·) (congrArg₂ (· * ·) (first_at m c t r k) ?_) (iblk6_at m c t k))
    (congrArg (1 + ·) (iblk5_at m c t r 4 k))) (iblk5_at m c t r 3 k)
  refine congrArg (fun s => Ideal.rsqrt (Ideal.div s (Ideal.ofBits .f32 0x44800000#32) + Ideal.ofBits .f32 0x358637BD#32)) ?_
  refine (pay9_at _ _ _ _ _ _ r).trans ?_
  exact Finset.sum_congr rfl fun k _ => congrArg₂ (· * ·) (bResid_at m c t r k) (bResid_at m c t r k)

theorem outs10_at (c : Dev nD) (t : Fin grid0.N) (r : Fin 256) (k : Fin 1024) :
    (outsAt0 m (ok m) c t.val t.isLt).1 (ix2 r k) = residOf m c (rowAt t r) k := by
  by_cases h0 : t.val % 144 = 0
  · rw [outsAt0_A m (ok m) c t h0]
    unfold outsA
    dsimp only
    rw [View.read_writes_eq_canon _ _ _ (coverA_10 m (ok m) c t h0)]
    unfold runA
    exact (congrFun (storedA_10 c _ _ _ _ _ _ _ _ _ _ _ _ _ _ _ _ _ _ _ _ _ _ _ _ _ _ _ _ _ _ _ _ _ _ _ _ _ _ _ _ _ _ _ _ _ _ _) _).trans (first_at m c t r k)
  · rw [outsAt0_B m (ok m) c t h0]
    unfold outsB
    dsimp only
    rw [View.read_writes_eq_canon _ _ _ (coverB_10 m (ok m) c t h0 _)]
    unfold runB
    exact (congrFun (storedB_10 c _ _ _ _ _ _ _ _ _ _ _ _ _ _ _ _ _ _ _ _ _ _ _ _ _ _ _ _ _ _ _ _ _ _ _ _ _ _ _ _ _ _ _ _ _ _ _ _) _).trans (first_at m c t r k)

theorem outs11_at (c : Dev nD) (t : Fin grid0.N) (r : Fin 256) (k : Fin 1024) :
    (outsAt0 m (ok m) c t.val t.isLt).2.1 (ix2 r k) = normedOf m c (rowAt t r) k := by
  by_cases h0 : t.val % 144 = 0
  · rw [outsAt0_A m (ok m) c t h0]
    unfold outsA
    dsimp only
    rw [View.read_writes_eq_canon _ _ _ (coverA_11 m (ok m) c t h0)]
    unfold runA
    exact (congrFun (storedA_11 c _ _ _ _ _ _ _ _ _ _ _ _ _ _ _ _ _ _ _ _ _ _ _ _ _ _ _ _ _ _ _ _ _ _ _ _ _ _ _ _ _ _ _ _ _ _ _) _).trans (second_at m c t r k)
  · rw [outsAt0_B m (ok m) c t h0]
    unfold outsB
    dsimp only
    rw [View.read_writes_eq_canon _ _ _ (coverB_11 m (ok m) c t h0 _)]
    unfold runB
    exact (congrFun (storedB_11 c _ _ _ _ _ _ _ _ _ _ _ _ _ _ _ _ _ _ _ _ _ _ _ _ _ _ _ _ _ _ _ _ _ _ _ _ _ _ _ _ _ _ _ _ _ _ _ _) _).trans (second_at m c t r k)

/-! ## The whole results -/

/-- The whole of the first result. -/
def val10 (c : Dev nD) : Buf (Elt Ideal) ((c : Thread nD τ).loc main_v17_0) := fun j =>
  residOf m c ⟨(j 0).val, (j 0).isLt⟩ ⟨(j 1).val, (j 1).isLt⟩

theorem flushed10 (c : Dev nD) (t : Fin (cfgM m (ok m)).N) :
    (dats m (ok m) 0 c).flushed 10 t = (((cfgM m (ok m)).win 10).blk t).view.read (Elt Ideal) (val10 m c) := by
  show ((cfgM m (ok m)).win 10).cut (grid0.coords t) ((dats m (ok m) 0 c).after 10 t) = _
  rw [after0_10]
  suffices h : ∀ j : S256x1024.Idx, (outsAt0 m (ok m) c t.val t.isLt).1 j = val10 m c ((((cfgM m (ok m)).win 10).blk t).view.emb j) from funext fun j => h j
  intro j
  have hj0 : (j 0).val < 256 := (j 0).isLt
  have hj1 : (j 1).val < 1024 := (j 1).isLt
  have e : (((cfgM m (ok m)).win 10).blk t).view.emb j = (ix2 (rowAt t ⟨(j 0).val, hj0⟩) ⟨(j 1).val, hj1⟩ : S36864x1024.Idx) := by
    have hv := coord_val t
    funext a; apply Fin.ext
    match a with
    | ⟨0, _⟩ =>
      show (BitVec.ofNat 32 (grid0.coords t 0).val).toNat * 256 + 1 * (j 0).val = t.val * 256 + (j 0).val
      have := lt144 t
      rw [hv, BitVec.toNat_ofNat]; omega
    | ⟨1, _⟩ => show 0 * 1024 + 1 * (j 1).val = (j 1).val; omega
  refine Eq.trans ?_ (congrArg (val10 m c) e).symm
  refine (congrArg (outsAt0 m (ok m) c t.val t.isLt).1 ?_).trans (outs10_at m c t ⟨(j 0).val, hj0⟩ ⟨(j 1).val, hj1⟩)
  funext a
  match a with
  | ⟨0, _⟩ => rfl
  | ⟨1, _⟩ => rfl

theorem index10 (t : Fin grid0.N) : ((cfgM m (ok m)).win 10).index t = ![t.val, 0] := by
  show ![(BitVec.ofNat 32 (grid0.coords t 0).val).toNat, 0] = _
  have := lt144 t
  rw [coord_val, BitVec.toNat_ofNat, Nat.mod_eq_of_lt (by omega)]

theorem cover10 (i : S36864x1024.Idx) :
    ∃ t : Fin (cfgM m (ok m)).N, ((cfgM m (ok m)).win 10).flush t = true ∧ i ∈ (((cfgM m (ok m)).win 10).blk t).view.set := by
  have hi0 : (i 0).val < 36864 := (i 0).isLt
  have hi1 : (i 1).val < 1024 := (i 1).isLt
  let t : Fin grid0.N := ⟨(i 0).val / 256, by rw [N_0]; omega⟩
  refine ⟨t, flush0_10 _ t, ?_⟩
  show i ∈ ((View.whole main_v17_0).slice (((cfgM m (ok m)).win 10).rect t)).set
  erw [View.set_slice_whole]
  refine (Pipeline.Window.mem_rect_iff ((cfgM m (ok m)).win 10) t i (by rfl)).mpr fun a => ?_
  rw [index10 m]
  match a with
  | ⟨0, _⟩ => exact show (i 0).val / 256 * 256 ≤ (i 0).val ∧ (i 0).val < (i 0).val / 256 * 256 + 256 by omega
  | ⟨1, _⟩ => exact show 0 * 1024 ≤ (i 1).val ∧ (i 1).val < 0 * 1024 + 1024 by omega

theorem final10 (c : Dev nD) : (dats m (ok m) 0 c).arrAt 10 (cfgM m (ok m)).N = val10 m c :=
  (dats m (ok m) 0 c).arrAt_eq_of_cover 10 (val10 m c) (fun t _ => flushed10 m c t) (cover10 m)

/-- The whole of the second result. -/
def val11 (c : Dev nD) : Buf (Elt Ideal) ((c : Thread nD τ).loc main_v17_1) := fun j =>
  normedOf m c ⟨(j 0).val, (j 0).isLt⟩ ⟨(j 1).val, (j 1).isLt⟩

theorem flushed11 (c : Dev nD) (t : Fin (cfgM m (ok m)).N) :
    (dats m (ok m) 0 c).flushed 11 t = (((cfgM m (ok m)).win 11).blk t).view.read (Elt Ideal) (val11 m c) := by
  show ((cfgM m (ok m)).win 11).cut (grid0.coords t) ((dats m (ok m) 0 c).after 11 t) = _
  rw [after0_11]
  suffices h : ∀ j : S256x1024.Idx, (outsAt0 m (ok m) c t.val t.isLt).2.1 j = val11 m c ((((cfgM m (ok m)).win 11).blk t).view.emb j) from funext fun j => h j
  intro j
  have hj0 : (j 0).val < 256 := (j 0).isLt
  have hj1 : (j 1).val < 1024 := (j 1).isLt
  have e : (((cfgM m (ok m)).win 11).blk t).view.emb j = (ix2 (rowAt t ⟨(j 0).val, hj0⟩) ⟨(j 1).val, hj1⟩ : S36864x1024.Idx) := by
    have hv := coord_val t
    funext a; apply Fin.ext
    match a with
    | ⟨0, _⟩ =>
      show (BitVec.ofNat 32 (grid0.coords t 0).val).toNat * 256 + 1 * (j 0).val = t.val * 256 + (j 0).val
      have := lt144 t
      rw [hv, BitVec.toNat_ofNat]; omega
    | ⟨1, _⟩ => show 0 * 1024 + 1 * (j 1).val = (j 1).val; omega
  refine Eq.trans ?_ (congrArg (val11 m c) e).symm
  refine (congrArg (outsAt0 m (ok m) c t.val t.isLt).2.1 ?_).trans (outs11_at m c t ⟨(j 0).val, hj0⟩ ⟨(j 1).val, hj1⟩)
  funext a
  match a with
  | ⟨0, _⟩ => rfl
  | ⟨1, _⟩ => rfl

theorem index11 (t : Fin grid0.N) : ((cfgM m (ok m)).win 11).index t = ![t.val, 0] := by
  show ![(BitVec.ofNat 32 (grid0.coords t 0).val).toNat, 0] = _
  have := lt144 t
  rw [coord_val, BitVec.toNat_ofNat, Nat.mod_eq_of_lt (by omega)]

theorem cover11 (i : S36864x1024.Idx) :
    ∃ t : Fin (cfgM m (ok m)).N, ((cfgM m (ok m)).win 11).flush t = true ∧ i ∈ (((cfgM m (ok m)).win 11).blk t).view.set := by
  have hi0 : (i 0).val < 36864 := (i 0).isLt
  have hi1 : (i 1).val < 1024 := (i 1).isLt
  let t : Fin grid0.N := ⟨(i 0).val / 256, by rw [N_0]; omega⟩
  refine ⟨t, flush0_11 _ t, ?_⟩
  show i ∈ ((View.whole main_v17_1).slice (((cfgM m (ok m)).win 11).rect t)).set
  erw [View.set_slice_whole]
  refine (Pipeline.Window.mem_rect_iff ((cfgM m (ok m)).win 11) t i (by rfl)).mpr fun a => ?_
  rw [index11 m]
  match a with
  | ⟨0, _⟩ => exact show (i 0).val / 256 * 256 ≤ (i 0).val ∧ (i 0).val < (i 0).val / 256 * 256 + 256 by omega
  | ⟨1, _⟩ => exact show 0 * 1024 ≤ (i 1).val ∧ (i 1).val < 0 * 1024 + 1024 by omega

theorem final11 (c : Dev nD) : (dats m (ok m) 0 c).arrAt 11 (cfgM m (ok m)).N = val11 m c :=
  (dats m (ok m) 0 c).arrAt_eq_of_cover 11 (val11 m c) (fun t _ => flushed11 m c t) (cover11 m)

/-- The run, read: each of the two results at its formula. -/
theorem run : θ_run defs (onTc (τ := τ) (main (F := Ideal))) ⟨m, fun _ => 0, ρ⟩ fun r => ∀ c : Dev nD,
      r.2.mem ((c : Thread nD τ).loc main_v17_0) = val10 m c ∧ r.2.mem ((c : Thread nD τ).loc main_v17_1) = val11 m c :=
  (θ_run defs _ _).mono (fun _ hr c => ⟨((hr c).1 10).trans (final10 m c), ((hr c).1 11).trans (final11 m c)⟩) (run_main m ρ (ok m))

end Cert.OutputIdeal.Hand

end
-- ==== Proof.OutputRef.lean ====
/- The reference of the output projection read at one place of each result: the formulas of `OutputSpec`. -/
module

public import proofs.«01_k».proof.Proof.OutputSpec
public import proofs.«01_k».proof.Proof.Gen.OutputReferenceIdeal.Read
public import Idealize.ShloMosaic.Lib.IdealHost

@[expose] public section

set_option maxRecDepth 16384

noncomputable section

namespace Cert.OutputReferenceIdeal.Read

open Cert.OutputReferenceIdeal Idealize.ShloMosaic Cert.OutputSpec

variable (x0 : (⟨S36864x1024, .f32⟩ : BufTy).Contents (Elt Ideal)) (x1 : (⟨S36864x512, .bf16⟩ : BufTy).Contents (Elt Ideal))
variable (x2 : (⟨S36864x256, .bf16⟩ : BufTy).Contents (Elt Ideal)) (x3 : (⟨S36864x256, .bf16⟩ : BufTy).Contents (Elt Ideal))
variable (x4 : (⟨S1024x1024, .bf16⟩ : BufTy).Contents (Elt Ideal)) (x5 : (⟨S16x6x1x1024, .f32⟩ : BufTy).Contents (Elt Ideal))
variable (x6 : (⟨S1024, .f32⟩ : BufTy).Contents (Elt Ideal))

/-- The row a row of a group is. -/
abbrev rowG (g : Fin 9) (s : Fin 4096) : Fin 36864 := ⟨g.val * 4096 + s.val, by omega⟩

theorem group_row (g : Fin 9) (s : Fin 4096) : groupOf (rowG g s) = ⟨g.val, by omega⟩ :=
  Fin.ext (show (g.val * 4096 + s.val) / 4096 = g.val by omega)

theorem v0_at (R : Fin 36864) (k : Fin 1024) : val_main_v0 (F := Ideal) x1 x2 x3 (ix2 R k) = side x1 x2 x3 R k := by
  unfold side val_main_v0
  pointwise
  by_cases h1 : k.val < 512
  · rw [dif_pos h1, dif_pos h1]
  · rw [dif_neg h1, dif_neg h1]
    by_cases h2 : k.val < 768
    · rw [dif_pos h2, dif_pos (show k.val - 512 < 256 by omega)]
    · rw [dif_neg h2, dif_neg (show ¬k.val - 512 < 256 by omega)]
      exact congrArg (fun q : Fin 256 => x3 (ix2 R q)) (Fin.ext (show k.val - 512 - 256 = k.val - 768 by omega))

theorem row_ix (g : Fin 9) (s : Fin 4096) (k : Fin 1024) : idx_main_v3 (ix3 g s k) = ix2 (rowG g s) k := by
  funext a
  match a with
  | ⟨0, _⟩ => exact Fin.ext (show ((g.val * 4096 + s.val) * 1024 + k.val) / 1024 = g.val * 4096 + s.val by omega)
  | ⟨1, _⟩ => exact Fin.ext (show ((g.val * 4096 + s.val) * 1024 + k.val) % 1024 = k.val by omega)

theorem v2_at (g : Fin 9) (s : Fin 4096) (k : Fin 1024) : val_main_v2 (F := Ideal) x1 x2 x3 (ix3 g s k) = side x1 x2 x3 (rowG g s) k := by
  rw [val_main_v2_apply, val_main_v1_apply]
  exact (congrArg (val_main_v0 (F := Ideal) x1 x2 x3) (row_ix g s k)).trans (v0_at x1 x2 x3 _ k)

theorem v5_at (g : Fin 9) (k : Fin 1024) : val_main_v5 (F := Ideal) x5 (ix3 g 0 k) = x5 (ix4 ⟨g.val, by omega⟩ 2 0 k) := by
  rw [val_main_v5_apply, val_main_v4_apply]
  refine congrArg x5 (funext fun a => ?_)
  match a with
  | ⟨0, _⟩ => exact Fin.ext (show ((g.val * 1 + 0) * 1024 + k.val) / 1024 = g.val by omega)
  | ⟨1, _⟩ => rfl
  | ⟨2, _⟩ => rfl
  | ⟨3, _⟩ => exact Fin.ext (show ((g.val * 1 + 0) * 1024 + k.val) % 1024 = k.val by omega)

theorem v25_at (g : Fin 9) (k : Fin 1024) : val_main_v25 (F := Ideal) x5 (ix3 g 0 k) = x5 (ix4 ⟨g.val, by omega⟩ 4 0 k) := by
  rw [val_main_v25_apply, val_main_v24_apply]
  refine congrArg x5 (funext fun a => ?_)
  match a with
  | ⟨0, _⟩ => exact Fin.ext (show ((g.val * 1 + 0) * 1024 + k.val) / 1024 = g.val by omega)
  | ⟨1, _⟩ => rfl
  | ⟨2, _⟩ => rfl
  | ⟨3, _⟩ => exact Fin.ext (show ((g.val * 1 + 0) * 1024 + k.val) % 1024 = k.val by omega)

theorem v31_at (g : Fin 9) (k : Fin 1024) : val_main_v31 (F := Ideal) x5 (ix3 g 0 k) = x5 (ix4 ⟨g.val, by omega⟩ 3 0 k) := by
  rw [val_main_v31_apply, val_main_v30_apply]
  refine congrArg x5 (funext fun a => ?_)
  match a with
  | ⟨0, _⟩ => exact Fin.ext (show ((g.val * 1 + 0) * 1024 + k.val) / 1024 = g.val by omega)
  | ⟨1, _⟩ => rfl
  | ⟨2, _⟩ => rfl
  | ⟨3, _⟩ => exact Fin.ext (show ((g.val * 1 + 0) * 1024 + k.val) % 1024 = k.val by omega)

theorem v10_at (g : Fin 9) (s : Fin 4096) (j : Fin 1024) :
    val_main_v10 (F := Ideal) x0 x1 x2 x3 x4 x5 (ix3 g s j) = resid x0 x1 x2 x3 x4 x5 (rowG g s) j := by
  have e8 : idx_main_v8 (ix3 g s j) = ix3 g 0 j := by funext a; match a with | ⟨0, _⟩ => rfl | ⟨1, _⟩ => rfl | ⟨2, _⟩ => rfl
  have el : ∀ k, lidx_main_v7 (ix3 g s j) k = ix3 g s k := fun k => by funext a; match a with | ⟨0, _⟩ => rfl | ⟨1, _⟩ => rfl | ⟨2, _⟩ => rfl
  have er : ∀ k, ridx_main_v7 (ix3 g s j) k = ix2 k j := fun k => by funext a; match a with | ⟨0, _⟩ => rfl | ⟨1, _⟩ => rfl
  have hs : val_main_v7 (F := Ideal) x1 x2 x3 x4 (ix3 g s j) = ∑ k : Fin 1024, side x1 x2 x3 (rowG g s) k * x4 (ix2 k j) := by
    rw [val_main_v7_apply]
    exact Finset.sum_congr rfl fun k _ => by rw [el, er, v2_at, val_main_v6_apply]; rfl
  rw [val_main_v10_apply, val_main_v9_apply, val_main_v8_apply, val_main_v3_apply, e8, hs, v5_at, row_ix]
  unfold resid
  rw [group_row]
  rfl

theorem v18_at (g : Fin 9) (s : Fin 4096) :
    val_main_v18 (F := Ideal) x0 x1 x2 x3 x4 x5 (ix3 g s 0) = rootOf x0 x1 x2 x3 x4 x5 (rowG g s) := by
  have e13 : idx_main_v13 (ix3 g s 0) = ix2 g s := by funext a; match a with | ⟨0, _⟩ => rfl | ⟨1, _⟩ => rfl
  have e12 : ∀ k, idx_main_v12 (ix2 g s) k = ix3 g s k := fun k => by funext a; match a with | ⟨0, _⟩ => rfl | ⟨1, _⟩ => rfl | ⟨2, _⟩ => rfl
  have c0 : ∀ i, val_main_cst (F := Ideal) i = (0 : EReal) := fun _ => Ideal.ofBits_zero .f32
  rw [val_main_v18_apply, val_main_v17_apply, val_main_v15_apply, val_main_v16_apply, val_main_v14_apply, val_main_v13_apply, val_main_v12_apply, e13, c0, zero_add]
  have hs : (∑ k : Fin 1024, val_main_v11 (F := Ideal) x0 x1 x2 x3 x4 x5 (idx_main_v12 (ix2 g s) k))
      = ∑ k : Fin 1024, resid x0 x1 x2 x3 x4 x5 (rowG g s) k * resid x0 x1 x2 x3 x4 x5 (rowG g s) k :=
    Finset.sum_congr rfl fun k _ => by rw [e12, val_main_v11_apply, v10_at]; rfl
  rw [hs]
  rfl

theorem v33_at (g : Fin 9) (s : Fin 4096) (k : Fin 1024) :
    val_main_v33 (F := Ideal) x0 x1 x2 x3 x4 x5 x6 (ix3 g s k) = normed x0 x1 x2 x3 x4 x5 x6 (rowG g s) k := by
  have e19 : idx_main_v19 (ix3 g s k) = ix3 g s 0 := by funext a; match a with | ⟨0, _⟩ => rfl | ⟨1, _⟩ => rfl | ⟨2, _⟩ => rfl
  have e21 : idx_main_v21 (idx_main_v22 (ix3 g s k)) = ix1 k := by funext a; match a with | ⟨0, _⟩ => rfl
  have e28 : idx_main_v28 (ix3 g s k) = ix3 g 0 k := by funext a; match a with | ⟨0, _⟩ => rfl | ⟨1, _⟩ => rfl | ⟨2, _⟩ => rfl
  have e32 : idx_main_v32 (ix3 g s k) = ix3 g 0 k := by funext a; match a with | ⟨0, _⟩ => rfl | ⟨1, _⟩ => rfl | ⟨2, _⟩ => rfl
  have c1 : ∀ i, val_main_cst_2 (F := Ideal) i = (1 : EReal) := fun _ => Ideal.ofBits_one_f32
  rw [val_main_v33_apply, val_main_v29_apply, val_main_v32_apply, val_main_v23_apply, val_main_v28_apply, val_main_v20_apply, val_main_v19_apply,
    val_main_v22_apply, val_main_v21_apply, e28, val_main_v27_apply, val_main_v26_apply, e32, e19, e21, c1, v10_at, v18_at, v25_at, v31_at]
  unfold normed
  rw [group_row]
  rfl

theorem split_ix (R : Fin 36864) (j : Fin 1024) :
    idx_main_v34 (ix2 R j) = ix3 (⟨R.val / 4096, by omega⟩ : Fin 9) (⟨R.val % 4096, by omega⟩ : Fin 4096) j := by
  funext a
  match a with
  | ⟨0, _⟩ => exact Fin.ext (show (R.val * 1024 + j.val) / 4194304 = R.val / 4096 by omega)
  | ⟨1, _⟩ => exact Fin.ext (show (R.val * 1024 + j.val) / 1024 % 4096 = R.val % 4096 by omega)
  | ⟨2, _⟩ => exact Fin.ext (show (R.val * 1024 + j.val) % 1024 = j.val by omega)

theorem row_split (R : Fin 36864) : rowG (⟨R.val / 4096, by omega⟩ : Fin 9) (⟨R.val % 4096, by omega⟩ : Fin 4096) = R :=
  Fin.ext (show R.val / 4096 * 4096 + R.val % 4096 = R.val by omega)

theorem v34_at (R : Fin 36864) (j : Fin 1024) : val_main_v34 (F := Ideal) x0 x1 x2 x3 x4 x5 (ix2 R j) = resid x0 x1 x2 x3 x4 x5 R j := by
  rw [val_main_v34_apply, split_ix, v10_at, row_split]

theorem v36_at (R : Fin 36864) (j : Fin 1024) : val_main_v36 (F := Ideal) x0 x1 x2 x3 x4 x5 x6 (ix2 R j) = normed x0 x1 x2 x3 x4 x5 x6 R j := by
  rw [val_main_v36_apply, val_main_v35_apply]
  exact (congrArg (val_main_v33 (F := Ideal) x0 x1 x2 x3 x4 x5 x6) (split_ix R j)).trans ((v33_at x0 x1 x2 x3 x4 x5 x6 _ _ j).trans (by rw [row_split]))

end Cert.OutputReferenceIdeal.Read

end
-- ==== Proof.OutputClaims.lean ====
/- The claims about the output projection: the frames of the kernel, of its idealization and of its reference, and the
   equality of the last two. -/
module

public import proofs.«01_k».proof.Defs
public import proofs.«01_k».proof.Proof.OutputTable
public import proofs.«01_k».proof.Proof.OutputValue
public import proofs.«01_k».proof.Proof.OutputRef
public import proofs.«01_k».proof.Proof.Gen.OutputReferenceIdeal.Run
public import Idealize.ShloMosaic.Adequacy

@[expose] public section

set_option maxRecDepth 16384

noncomputable section

namespace Cert.Proof

open Idealize.ShloMosaic Idealize.SL.Sem Cert.OutputSpec

theorem frame_output : Cert.quiescent_Output (hOutput := Cert.Output.Gen.facts) :=
  fun m ρ _ => Cert.Output.Hand.frame m ρ (Cert.Output.Hand.ok m)

theorem frame_output_ideal : Cert.quiescent_OutputIdeal (hOutputIdeal := Cert.OutputIdeal.Gen.facts) :=
  fun m ρ _ => Cert.OutputIdeal.Hand.frame m ρ (Cert.OutputIdeal.Hand.ok m)

theorem frame_output_reference : Cert.quiescent_OutputReferenceIdeal (hOutputReferenceIdeal := Cert.OutputReferenceIdeal.Gen.facts) :=
  fun m ρ _ => (θ_run Cert.OutputReferenceIdeal.defs _ _).mono (fun r h => ⟨fun c => (h c).2.2,
      Idealize.ShloMosaic.sem_eq_zero_of_no_sems (by decide) r.2⟩)
    (Cert.OutputReferenceIdeal.Value.run (F := Ideal) m ρ)

section Values

variable (m : (ℓ : Loc Cert.OutputIdeal.nD Cert.OutputIdeal.τ Cert.OutputIdeal.sig) → Buf (Elt Ideal) ℓ) (c : Dev Cert.OutputIdeal.nD)

/-- With equal arguments the reference's first result is the kernel's. -/
theorem output_values10 :
    Cert.OutputReferenceIdeal.Read.val_main_v34 (F := Ideal)
      (m ((c.tc : Thread Cert.OutputIdeal.nD Cert.OutputIdeal.τ).loc Cert.OutputIdeal.main_arg0))
      (m ((c.tc : Thread Cert.OutputIdeal.nD Cert.OutputIdeal.τ).loc Cert.OutputIdeal.main_arg1))
      (m ((c.tc : Thread Cert.OutputIdeal.nD Cert.OutputIdeal.τ).loc Cert.OutputIdeal.main_arg2))
      (m ((c.tc : Thread Cert.OutputIdeal.nD Cert.OutputIdeal.τ).loc Cert.OutputIdeal.main_arg3))
      (m ((c.tc : Thread Cert.OutputIdeal.nD Cert.OutputIdeal.τ).loc Cert.OutputIdeal.main_arg4))
      (m ((c.tc : Thread Cert.OutputIdeal.nD Cert.OutputIdeal.τ).loc Cert.OutputIdeal.main_arg5))
    = Cert.OutputIdeal.Hand.val10 m c := by
  funext j
  have hj0 : (j 0).val < 36864 := (j 0).isLt
  have hj1 : (j 1).val < 1024 := (j 1).isLt
  have e : j = ix2 ⟨(j 0).val, hj0⟩ ⟨(j 1).val, hj1⟩ := by
    funext a
    match a with
    | ⟨0, _⟩ => rfl
    | ⟨1, _⟩ => rfl
  rw [e]
  exact Cert.OutputReferenceIdeal.Read.v34_at _ _ _ _ _ _ _ _

/-- With equal arguments the reference's second result is the kernel's. -/
theorem output_values11 :
    Cert.OutputReferenceIdeal.Read.val_main_v36 (F := Ideal)
      (m ((c.tc : Thread Cert.OutputIdeal.nD Cert.OutputIdeal.τ).loc Cert.OutputIdeal.main_arg0))
      (m ((c.tc : Thread Cert.OutputIdeal.nD Cert.OutputIdeal.τ).loc Cert.OutputIdeal.main_arg1))
      (m ((c.tc : Thread Cert.OutputIdeal.nD Cert.OutputIdeal.τ).loc Cert.OutputIdeal.main_arg2))
      (m ((c.tc : Thread Cert.OutputIdeal.nD Cert.OutputIdeal.τ).loc Cert.OutputIdeal.main_arg3))
      (m ((c.tc : Thread Cert.OutputIdeal.nD Cert.OutputIdeal.τ).loc Cert.OutputIdeal.main_arg4))
      (m ((c.tc : Thread Cert.OutputIdeal.nD Cert.OutputIdeal.τ).loc Cert.OutputIdeal.main_arg5))
      (m ((c.tc : Thread Cert.OutputIdeal.nD Cert.OutputIdeal.τ).loc Cert.OutputIdeal.main_arg6))
    = Cert.OutputIdeal.Hand.val11 m c := by
  funext j
  have hj0 : (j 0).val < 36864 := (j 0).isLt
  have hj1 : (j 1).val < 1024 := (j 1).isLt
  have e : j = ix2 ⟨(j 0).val, hj0⟩ ⟨(j 1).val, hj1⟩ := by
    funext a
    match a with
    | ⟨0, _⟩ => rfl
    | ⟨1, _⟩ => rfl
  rw [e]
  exact Cert.OutputReferenceIdeal.Read.v36_at _ _ _ _ _ _ _ _ _

end Values

theorem algebraic_output : Cert.algebraic_OutputIdeal_OutputReferenceIdeal (hOutputIdeal := Cert.OutputIdeal.Gen.facts)
    (hOutputReferenceIdeal := Cert.OutputReferenceIdeal.Gen.facts) := by
  intro m g m' g' hp hagree
  refine ⟨fun c => Cert.OutputIdeal.Hand.val10 m c, fun c => Cert.OutputIdeal.Hand.val11 m c, ?_, ?_⟩
  · exact θ_run_and (Cert.OutputIdeal.Hand.run m g) (Cert.OutputIdeal.Hand.unchanged m g (Cert.OutputIdeal.Hand.ok m)) |> (θ_run _ _ _).mono
      (fun _ h c => ⟨(h.1 c).1, (h.1 c).2, h.2 c⟩)
  · refine (θ_run Cert.OutputReferenceIdeal.defs _ _).mono (fun r h c => ⟨?_, ?_, (h c).2.2⟩) (Cert.OutputReferenceIdeal.Value.run (F := Ideal) m' g')
    all_goals obtain ⟨e0, e1, e2, e3, e4, e5, e6, e7, e8⟩ := hagree c
    · rw [(h c).1, Cert.OutputReferenceIdeal.Read.val_main_v34_eq, e0, e1, e2, e3, e4, e5]
      exact output_values10 m c
    · rw [(h c).2.1, Cert.OutputReferenceIdeal.Read.val_main_v36_eq, e0, e1, e2, e3, e4, e5, e6]
      exact output_values11 m c

end Cert.Proof

end
-- ==== Proof.lean ====
module

public import proofs.«01_k».proof.Defs
public import proofs.«01_k».proof.Proof.ExpertsClaims
public import proofs.«01_k».proof.Proof.AttnClaims
public import proofs.«01_k».proof.Proof.MixerClaims
public import proofs.«01_k».proof.Proof.CombineClaims
public import proofs.«01_k».proof.Proof.PrepareClaims
public import proofs.«01_k».proof.Proof.ModulationClaims
public import proofs.«01_k».proof.Proof.FourierClaims
public import proofs.«01_k».proof.Proof.OutputClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts, Cert.MixerIn.Gen.facts,
    Cert.MixerInIdeal.Gen.facts, Cert.MixerInReferenceIdeal.Gen.facts,
    Cert.Combine.Gen.facts, Cert.CombineIdeal.Gen.facts, Cert.CombineReferenceIdeal.Gen.facts,
    Cert.Prepare.Gen.facts, Cert.PrepareIdeal.Gen.facts, Cert.PrepareReferenceIdeal.Gen.facts,
    Cert.Modulation.Gen.facts, Cert.ModulationIdeal.Gen.facts, Cert.ModulationReferenceIdeal.Gen.facts,
    Cert.Fourier.Gen.facts, Cert.FourierIdeal.Gen.facts, Cert.FourierReferenceIdeal.Gen.facts,
    Cert.Output.Gen.facts, Cert.OutputIdeal.Gen.facts, Cert.OutputReferenceIdeal.Gen.facts,
    Cert.Pre_finite_values.Gen.facts, Cert.Pre_expert_range.Gen.facts, Cert.Pre_finite_rows.Gen.facts, Cert.Pre_finite_modulation.Gen.facts,
    Cert.Pre_finite_fourier.Gen.facts,
    frame_attention, frame_attention_ideal, frame_attention_ideal_finite, frame_attention_reference, frame_attention_reference_finite,
    frame_experts, frame_experts_ideal, frame_experts_reference, frame_experts_reference_range,
    frame_mixer, frame_mixer_ideal, frame_mixer_reference,
    frame_combine, frame_combine_ideal, frame_combine_reference,
    frame_prepare, frame_prepare_ideal, frame_prepare_ideal_finite, frame_prepare_reference, frame_prepare_reference_finite,
    frame_modulation, frame_modulation_ideal, frame_modulation_ideal_finite, frame_modulation_reference, frame_modulation_reference_finite,
    frame_fourier, frame_fourier_ideal, frame_fourier_ideal_finite, frame_fourier_reference, frame_fourier_reference_finite,
    frame_output, frame_output_ideal, frame_output_reference,
    trivial, algebraic_attention, trivial, algebraic_experts, trivial, algebraic_mixer, trivial, algebraic_combine,
    trivial, algebraic_prepare, trivial, algebraic_modulation, trivial, algebraic_fourier, trivial, algebraic_output⟩

end Cert.Proof

end
